-- ==== Defs.lean ====
def Pre_Kernel [hPre_rows_named : Cert.Pre_rows_named.Facts] (m : (ℓ : Loc Cert.Kernel.nD Cert.Kernel.τ Cert.Kernel.sig) → Buf (Elt Bits) ℓ) : Prop :=
  ∀ c : Dev Cert.Kernel.nD,
    (Cert.Pre_rows_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_rows_named : Cert.Pre_rows_named.Facts] (m : (ℓ : Loc Cert.KernelIdeal.nD Cert.KernelIdeal.τ Cert.KernelIdeal.sig) → Buf (Elt Ideal) ℓ) : Prop :=
  ∀ c : Dev Cert.KernelIdeal.nD,
    (Cert.Pre_rows_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_named [hPre_rows_named : Cert.Pre_rows_named.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleIdeal_all_points [hPre_all_points : Cert.Pre_all_points.Facts] (m : (ℓ : Loc Cert.SampleIdeal.nD Cert.SampleIdeal.τ Cert.SampleIdeal.sig) → Buf (Elt Ideal) ℓ) : Prop :=
  ∀ c : Dev Cert.SampleIdeal.nD,
    (Cert.Pre_all_points.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1))) = (fun _ => 1#1)

def Pre_SampleReferenceIdeal (m : (ℓ : Loc Cert.SampleReferenceIdeal.nD Cert.SampleReferenceIdeal.τ Cert.SampleReferenceIdeal.sig) → Buf (Elt Ideal) ℓ) : Prop :=
  True

def Pre_SampleReferenceIdeal_all_points [hPre_all_points : Cert.Pre_all_points.Facts] (m : (ℓ : Loc Cert.SampleReferenceIdeal.nD Cert.SampleReferenceIdeal.τ Cert.SampleReferenceIdeal.sig) → Buf (Elt Ideal) ℓ) : Prop :=
  ∀ c : Dev Cert.SampleReferenceIdeal.nD,
    (Cert.Pre_all_points.fn (F := Ideal) (m ((c.tc : Thread Cert.SampleReferenceIdeal.nD Cert.SampleReferenceIdeal.τ).loc Cert.SampleReferenceIdeal.main_arg0)) (m ((c.tc : Thread Cert.SampleReferenceIdeal.nD Cert.SampleReferenceIdeal.τ).loc Cert.SampleReferenceIdeal.main_arg1))) = (fun _ => 1#1)

def Pre_Layers (m : (ℓ : Loc Cert.Layers.nD Cert.Layers.τ Cert.Layers.sig) → Buf (Elt Bits) ℓ) : Prop :=
  True

def Pre_LayersIdeal (m : (ℓ : Loc Cert.LayersIdeal.nD Cert.LayersIdeal.τ Cert.LayersIdeal.sig) → Buf (Elt Ideal) ℓ) : Prop :=
  True

def Pre_LayersIdeal_finite_values [hPre_finite_values : Cert.Pre_finite_values.Facts] (m : (ℓ : Loc Cert.LayersIdeal.nD Cert.LayersIdeal.τ Cert.LayersIdeal.sig) → Buf (Elt Ideal) ℓ) : Prop :=
  ∀ c : Dev Cert.LayersIdeal.nD,
    (Cert.Pre_finite_values.fn (F := Ideal) (m ((c.tc : Thread Cert.LayersIdeal.nD Cert.LayersIdeal.τ).loc Cert.LayersIdeal.main_arg0)) (m ((c.tc : Thread Cert.LayersIdeal.nD Cert.LayersIdeal.τ).loc Cert.LayersIdeal.main_arg1)) (m ((c.tc : Thread Cert.LayersIdeal.nD Cert.LayersIdeal.τ).loc Cert.LayersIdeal.main_arg2)) (m ((c.tc : Thread Cert.LayersIdeal.nD Cert.LayersIdeal.τ).loc Cert.LayersIdeal.main_arg3)) (m ((c.tc : Thread Cert.LayersIdeal.nD Cert.LayersIdeal.τ).loc Cert.LayersIdeal.main_arg4)) (m ((c.tc : Thread Cert.LayersIdeal.nD Cert.LayersIdeal.τ).loc Cert.LayersIdeal.main_arg5)) (m ((c.tc : Thread Cert.LayersIdeal.nD Cert.LayersIdeal.τ).loc Cert.LayersIdeal.main_arg6)) (m ((c.tc : Thread Cert.LayersIdeal.nD Cert.LayersIdeal.τ).loc Cert.LayersIdeal.main_arg7)) (m ((c.tc : Thread Cert.LayersIdeal.nD Cert.LayersIdeal.τ).loc Cert.LayersIdeal.main_arg8)) (m ((c.tc : Thread Cert.LayersIdeal.nD Cert.LayersIdeal.τ).loc Cert.LayersIdeal.main_arg9)) (m ((c.tc : Thread Cert.LayersIdeal.nD Cert.LayersIdeal.τ).loc Cert.LayersIdeal.main_arg10))) = (fun _ => 1#1)

def Pre_LayersReferenceIdeal (m : (ℓ : Loc Cert.LayersReferenceIdeal.nD Cert.LayersReferenceIdeal.τ Cert.LayersReferenceIdeal.sig) → Buf (Elt Ideal) ℓ) : Prop :=
  True

def Pre_LayersReferenceIdeal_finite_values [hPre_finite_values : Cert.Pre_finite_values.Facts] (m : (ℓ : Loc Cert.LayersReferenceIdeal.nD Cert.LayersReferenceIdeal.τ Cert.LayersReferenceIdeal.sig) → Buf (Elt Ideal) ℓ) : Prop :=
  ∀ c : Dev Cert.LayersReferenceIdeal.nD,
    (Cert.Pre_finite_values.fn (F := Ideal) (m ((c.tc : Thread Cert.LayersReferenceIdeal.nD Cert.LayersReferenceIdeal.τ).loc Cert.LayersReferenceIdeal.main_arg0)) (m ((c.tc : Thread Cert.LayersReferenceIdeal.nD Cert.LayersReferenceIdeal.τ).loc Cert.LayersReferenceIdeal.main_arg1)) (m ((c.tc : Thread Cert.LayersReferenceIdeal.nD Cert.LayersReferenceIdeal.τ).loc Cert.LayersReferenceIdeal.main_arg2)) (m ((c.tc : Thread Cert.LayersReferenceIdeal.nD Cert.LayersReferenceIdeal.τ).loc Cert.LayersReferenceIdeal.main_arg3)) (m ((c.tc : Thread Cert.LayersReferenceIdeal.nD Cert.LayersReferenceIdeal.τ).loc Cert.LayersReferenceIdeal.main_arg4)) (m ((c.tc : Thread Cert.LayersReferenceIdeal.nD Cert.LayersReferenceIdeal.τ).loc Cert.LayersReferenceIdeal.main_arg5)) (m ((c.tc : Thread Cert.LayersReferenceIdeal.nD Cert.LayersReferenceIdeal.τ).loc Cert.LayersReferenceIdeal.main_arg6)) (m ((c.tc : Thread Cert.LayersReferenceIdeal.nD Cert.LayersReferenceIdeal.τ).loc Cert.LayersReferenceIdeal.main_arg7)) (m ((c.tc : Thread Cert.LayersReferenceIdeal.nD Cert.LayersReferenceIdeal.τ).loc Cert.LayersReferenceIdeal.main_arg8)) (m ((c.tc : Thread Cert.LayersReferenceIdeal.nD Cert.LayersReferenceIdeal.τ).loc Cert.LayersReferenceIdeal.main_arg9)) (m ((c.tc : Thread Cert.LayersReferenceIdeal.nD Cert.LayersReferenceIdeal.τ).loc Cert.LayersReferenceIdeal.main_arg10))) = (fun _ => 1#1)

def Pre_Nearest (m : (ℓ : Loc Cert.Nearest.nD Cert.Nearest.τ Cert.Nearest.sig) → Buf (Elt Bits) ℓ) : Prop :=
  True

def Pre_NearestIdeal (m : (ℓ : Loc Cert.NearestIdeal.nD Cert.NearestIdeal.τ Cert.NearestIdeal.sig) → Buf (Elt Ideal) ℓ) : Prop :=
  True

def Pre_NearestIdeal_finite_points [hPre_finite_points : Cert.Pre_finite_points.Facts] (m : (ℓ : Loc Cert.NearestIdeal.nD Cert.NearestIdeal.τ Cert.NearestIdeal.sig) → Buf (Elt Ideal) ℓ) : Prop :=
  ∀ c : Dev Cert.NearestIdeal.nD,
    (Cert.Pre_finite_points.fn (F := Ideal) (m ((c.tc : Thread Cert.NearestIdeal.nD Cert.NearestIdeal.τ).loc Cert.NearestIdeal.main_arg0)) (m ((c.tc : Thread Cert.NearestIdeal.nD Cert.NearestIdeal.τ).loc Cert.NearestIdeal.main_arg1)) (m ((c.tc : Thread Cert.NearestIdeal.nD Cert.NearestIdeal.τ).loc Cert.NearestIdeal.main_arg2))) = (fun _ => 1#1)

def Pre_NearestReferenceIdeal (m : (ℓ : Loc Cert.NearestReferenceIdeal.nD Cert.NearestReferenceIdeal.τ Cert.NearestReferenceIdeal.sig) → Buf (Elt Ideal) ℓ) : Prop :=
  True

def Pre_NearestReferenceIdeal_finite_points [hPre_finite_points : Cert.Pre_finite_points.Facts] (m : (ℓ : Loc Cert.NearestReferenceIdeal.nD Cert.NearestReferenceIdeal.τ Cert.NearestReferenceIdeal.sig) → Buf (Elt Ideal) ℓ) : Prop :=
  ∀ c : Dev Cert.NearestReferenceIdeal.nD,
    (Cert.Pre_finite_points.fn (F := Ideal) (m ((c.tc : Thread Cert.NearestReferenceIdeal.nD Cert.NearestReferenceIdeal.τ).loc Cert.NearestReferenceIdeal.main_arg0)) (m ((c.tc : Thread Cert.NearestReferenceIdeal.nD Cert.NearestReferenceIdeal.τ).loc Cert.NearestReferenceIdeal.main_arg1)) (m ((c.tc : Thread Cert.NearestReferenceIdeal.nD Cert.NearestReferenceIdeal.τ).loc Cert.NearestReferenceIdeal.main_arg2))) = (fun _ => 1#1)

def quiescent_Kernel [hKernel : Cert.Kernel.Facts] [hPre_rows_named : Cert.Pre_rows_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_rows_named : Cert.Pre_rows_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_rows_named [hReferenceIdeal : Cert.ReferenceIdeal.Facts] [hPre_rows_named : Cert.Pre_rows_named.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_named m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1))
      ∧ r.2.sem = fun _ => 0)

def quiescent_SampleIdeal_pre_all_points [hSampleIdeal : Cert.SampleIdeal.Facts] [hPre_all_points : Cert.Pre_all_points.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal_all_points m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1))
      ∧ r.2.sem = fun _ => 0)

def quiescent_SampleReferenceIdeal_pre_all_points [hSampleReferenceIdeal : Cert.SampleReferenceIdeal.Facts] [hPre_all_points : Cert.Pre_all_points.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal_all_points m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1))
      ∧ r.2.sem = fun _ => 0)

def quiescent_Layers [hLayers : Cert.Layers.Facts] : Prop :=
  ∀ (m : (ℓ : Loc Cert.Layers.nD Cert.Layers.τ Cert.Layers.sig) → Buf (Elt Bits) ℓ) (g : Dev Cert.Layers.nD → PrngReg), Pre_Layers m →
    θ_run (Cert.Layers.defs (F := Bits)) (onTc (τ := Cert.Layers.τ) (Cert.Layers.main (F := Bits))) ⟨m, fun _ => 0, g⟩ (fun r => (∀ c : Dev Cert.Layers.nD,
      r.2.mem ((c.tc : Thread Cert.Layers.nD Cert.Layers.τ).loc Cert.Layers.main_arg0) = m ((c.tc : Thread Cert.Layers.nD Cert.Layers.τ).loc Cert.Layers.main_arg0)
      ∧ r.2.mem ((c.tc : Thread Cert.Layers.nD Cert.Layers.τ).loc Cert.Layers.main_arg1) = m ((c.tc : Thread Cert.Layers.nD Cert.Layers.τ).loc Cert.Layers.main_arg1)
      ∧ r.2.mem ((c.tc : Thread Cert.Layers.nD Cert.Layers.τ).loc Cert.Layers.main_arg2) = m ((c.tc : Thread Cert.Layers.nD Cert.Layers.τ).loc Cert.Layers.main_arg2)
      ∧ r.2.mem ((c.tc : Thread Cert.Layers.nD Cert.Layers.τ).loc Cert.Layers.main_arg3) = m ((c.tc : Thread Cert.Layers.nD Cert.Layers.τ).loc Cert.Layers.main_arg3)
      ∧ r.2.mem ((c.tc : Thread Cert.Layers.nD Cert.Layers.τ).loc Cert.Layers.main_arg4) = m ((c.tc : Thread Cert.Layers.nD Cert.Layers.τ).loc Cert.Layers.main_arg4)
      ∧ r.2.mem ((c.tc : Thread Cert.Layers.nD Cert.Layers.τ).loc Cert.Layers.main_arg5) = m ((c.tc : Thread Cert.Layers.nD Cert.Layers.τ).loc Cert.Layers.main_arg5)
      ∧ r.2.mem ((c.tc : Thread Cert.Layers.nD Cert.Layers.τ).loc Cert.Layers.main_arg6) = m ((c.tc : Thread Cert.Layers.nD Cert.Layers.τ).loc Cert.Layers.main_arg6)
      ∧ r.2.mem ((c.tc : Thread Cert.Layers.nD Cert.Layers.τ).loc Cert.Layers.main_arg7) = m ((c.tc : Thread Cert.Layers.nD Cert.Layers.τ).loc Cert.Layers.main_arg7)
      ∧ r.2.mem ((c.tc : Thread Cert.Layers.nD Cert.Layers.τ).loc Cert.Layers.main_arg8) = m ((c.tc : Thread Cert.Layers.nD Cert.Layers.τ).loc Cert.Layers.main_arg8)
      ∧ r.2.mem ((c.tc : Thread Cert.Layers.nD Cert.Layers.τ).loc Cert.Layers.main_arg9) = m ((c.tc : Thread Cert.Layers.nD Cert.Layers.τ).loc Cert.Layers.main_arg9)
      ∧ r.2.mem ((c.tc : Thread Cert.Layers.nD Cert.Layers.τ).loc Cert.Layers.main_arg10) = m ((c.tc : Thread Cert.Layers.nD Cert.Layers.τ).loc Cert.Layers.main_arg10))
      ∧ r.2.sem = fun _ => 0)

def quiescent_LayersIdeal [hLayersIdeal : Cert.LayersIdeal.Facts] : Prop :=
  ∀ (m : (ℓ : Loc Cert.LayersIdeal.nD Cert.LayersIdeal.τ Cert.LayersIdeal.sig) → Buf (Elt Ideal) ℓ) (g : Dev Cert.LayersIdeal.nD → PrngReg), Pre_LayersIdeal m →
    θ_run (Cert.LayersIdeal.defs (F := Ideal)) (onTc (τ := Cert.LayersIdeal.τ) (Cert.LayersIdeal.main (F := Ideal))) ⟨m, fun _ => 0, g⟩ (fun r => (∀ c : Dev Cert.LayersIdeal.nD,
      r.2.mem ((c.tc : Thread Cert.LayersIdeal.nD Cert.LayersIdeal.τ).loc Cert.LayersIdeal.main_arg0) = m ((c.tc : Thread Cert.LayersIdeal.nD Cert.LayersIdeal.τ).loc Cert.LayersIdeal.main_arg0)
      ∧ r.2.mem ((c.tc : Thread Cert.LayersIdeal.nD Cert.LayersIdeal.τ).loc Cert.LayersIdeal.main_arg1) = m ((c.tc : Thread Cert.LayersIdeal.nD Cert.LayersIdeal.τ).loc Cert.LayersIdeal.main_arg1)
      ∧ r.2.mem ((c.tc : Thread Cert.LayersIdeal.nD Cert.LayersIdeal.τ).loc Cert.LayersIdeal.main_arg2) = m ((c.tc : Thread Cert.LayersIdeal.nD Cert.LayersIdeal.τ).loc Cert.LayersIdeal.main_arg2)
      ∧ r.2.mem ((c.tc : Thread Cert.LayersIdeal.nD Cert.LayersIdeal.τ).loc Cert.LayersIdeal.main_arg3) = m ((c.tc : Thread Cert.LayersIdeal.nD Cert.LayersIdeal.τ).loc Cert.LayersIdeal.main_arg3)
      ∧ r.2.mem ((c.tc : Thread Cert.LayersIdeal.nD Cert.LayersIdeal.τ).loc Cert.LayersIdeal.main_arg4) = m ((c.tc : Thread Cert.LayersIdeal.nD Cert.LayersIdeal.τ).loc Cert.LayersIdeal.main_arg4)
      ∧ r.2.mem ((c.tc : Thread Cert.LayersIdeal.nD Cert.LayersIdeal.τ).loc Cert.LayersIdeal.main_arg5) = m ((c.tc : Thread Cert.LayersIdeal.nD Cert.LayersIdeal.τ).loc Cert.LayersIdeal.main_arg5)
      ∧ r.2.mem ((c.tc : Thread Cert.LayersIdeal.nD Cert.LayersIdeal.τ).loc Cert.LayersIdeal.main_arg6) = m ((c.tc : Thread Cert.LayersIdeal.nD Cert.LayersIdeal.τ).loc Cert.LayersIdeal.main_arg6)
      ∧ r.2.mem ((c.tc : Thread Cert.LayersIdeal.nD Cert.LayersIdeal.τ).loc Cert.LayersIdeal.main_arg7) = m ((c.tc : Thread Cert.LayersIdeal.nD Cert.LayersIdeal.τ).loc Cert.LayersIdeal.main_arg7)
      ∧ r.2.mem ((c.tc : Thread Cert.LayersIdeal.nD Cert.LayersIdeal.τ).loc Cert.LayersIdeal.main_arg8) = m ((c.tc : Thread Cert.LayersIdeal.nD Cert.LayersIdeal.τ).loc Cert.LayersIdeal.main_arg8)
      ∧ r.2.mem ((c.tc : Thread Cert.LayersIdeal.nD Cert.LayersIdeal.τ).loc Cert.LayersIdeal.main_arg9) = m ((c.tc : Thread Cert.LayersIdeal.nD Cert.LayersIdeal.τ).loc Cert.LayersIdeal.main_arg9)
      ∧ r.2.mem ((c.tc : Thread Cert.LayersIdeal.nD Cert.LayersIdeal.τ).loc Cert.LayersIdeal.main_arg10) = m ((c.tc : Thread Cert.LayersIdeal.nD Cert.LayersIdeal.τ).loc Cert.LayersIdeal.main_arg10))
      ∧ r.2.sem = fun _ => 0)

def quiescent_LayersIdeal_pre_finite_values [hLayersIdeal : Cert.LayersIdeal.Facts] [hPre_finite_values : Cert.Pre_finite_values.Facts] : Prop :=
  ∀ (m : (ℓ : Loc Cert.LayersIdeal.nD Cert.LayersIdeal.τ Cert.LayersIdeal.sig) → Buf (Elt Ideal) ℓ) (g : Dev Cert.LayersIdeal.nD → PrngReg), Pre_LayersIdeal_finite_values m →
    θ_run (Cert.LayersIdeal.defs (F := Ideal)) (onTc (τ := Cert.LayersIdeal.τ) (Cert.LayersIdeal.main (F := Ideal))) ⟨m, fun _ => 0, g⟩ (fun r => (∀ c : Dev Cert.LayersIdeal.nD,
      r.2.mem ((c.tc : Thread Cert.LayersIdeal.nD Cert.LayersIdeal.τ).loc Cert.LayersIdeal.main_arg0) = m ((c.tc : Thread Cert.LayersIdeal.nD Cert.LayersIdeal.τ).loc Cert.LayersIdeal.main_arg0)
      ∧ r.2.mem ((c.tc : Thread Cert.LayersIdeal.nD Cert.LayersIdeal.τ).loc Cert.LayersIdeal.main_arg1) = m ((c.tc : Thread Cert.LayersIdeal.nD Cert.LayersIdeal.τ).loc Cert.LayersIdeal.main_arg1)
      ∧ r.2.mem ((c.tc : Thread Cert.LayersIdeal.nD Cert.LayersIdeal.τ).loc Cert.LayersIdeal.main_arg2) = m ((c.tc : Thread Cert.LayersIdeal.nD Cert.LayersIdeal.τ).loc Cert.LayersIdeal.main_arg2)
      ∧ r.2.mem ((c.tc : Thread Cert.LayersIdeal.nD Cert.LayersIdeal.τ).loc Cert.LayersIdeal.main_arg3) = m ((c.tc : Thread Cert.LayersIdeal.nD Cert.LayersIdeal.τ).loc Cert.LayersIdeal.main_arg3)
      ∧ r.2.mem ((c.tc : Thread Cert.LayersIdeal.nD Cert.LayersIdeal.τ).loc Cert.LayersIdeal.main_arg4) = m ((c.tc : Thread Cert.LayersIdeal.nD Cert.LayersIdeal.τ).loc Cert.LayersIdeal.main_arg4)
      ∧ r.2.mem ((c.tc : Thread Cert.LayersIdeal.nD Cert.LayersIdeal.τ).loc Cert.LayersIdeal.main_arg5) = m ((c.tc : Thread Cert.LayersIdeal.nD Cert.LayersIdeal.τ).loc Cert.LayersIdeal.main_arg5)
      ∧ r.2.mem ((c.tc : Thread Cert.LayersIdeal.nD Cert.LayersIdeal.τ).loc Cert.LayersIdeal.main_arg6) = m ((c.tc : Thread Cert.LayersIdeal.nD Cert.LayersIdeal.τ).loc Cert.LayersIdeal.main_arg6)
      ∧ r.2.mem ((c.tc : Thread Cert.LayersIdeal.nD Cert.LayersIdeal.τ).loc Cert.LayersIdeal.main_arg7) = m ((c.tc : Thread Cert.LayersIdeal.nD Cert.LayersIdeal.τ).loc Cert.LayersIdeal.main_arg7)
      ∧ r.2.mem ((c.tc : Thread Cert.LayersIdeal.nD Cert.LayersIdeal.τ).loc Cert.LayersIdeal.main_arg8) = m ((c.tc : Thread Cert.LayersIdeal.nD Cert.LayersIdeal.τ).loc Cert.LayersIdeal.main_arg8)
      ∧ r.2.mem ((c.tc : Thread Cert.LayersIdeal.nD Cert.LayersIdeal.τ).loc Cert.LayersIdeal.main_arg9) = m ((c.tc : Thread Cert.LayersIdeal.nD Cert.LayersIdeal.τ).loc Cert.LayersIdeal.main_arg9)
      ∧ r.2.mem ((c.tc : Thread Cert.LayersIdeal.nD Cert.LayersIdeal.τ).loc Cert.LayersIdeal.main_arg10) = m ((c.tc : Thread Cert.LayersIdeal.nD Cert.LayersIdeal.τ).loc Cert.LayersIdeal.main_arg10))
      ∧ r.2.sem = fun _ => 0)

def quiescent_LayersReferenceIdeal [hLayersReferenceIdeal : Cert.LayersReferenceIdeal.Facts] : Prop :=
  ∀ (m : (ℓ : Loc Cert.LayersReferenceIdeal.nD Cert.LayersReferenceIdeal.τ Cert.LayersReferenceIdeal.sig) → Buf (Elt Ideal) ℓ) (g : Dev Cert.LayersReferenceIdeal.nD → PrngReg), Pre_LayersReferenceIdeal m →
    θ_run (Cert.LayersReferenceIdeal.defs (F := Ideal)) (onTc (τ := Cert.LayersReferenceIdeal.τ) (Cert.LayersReferenceIdeal.main (F := Ideal))) ⟨m, fun _ => 0, g⟩ (fun r => (∀ c : Dev Cert.LayersReferenceIdeal.nD,
      r.2.mem ((c.tc : Thread Cert.LayersReferenceIdeal.nD Cert.LayersReferenceIdeal.τ).loc Cert.LayersReferenceIdeal.main_arg0) = m ((c.tc : Thread Cert.LayersReferenceIdeal.nD Cert.LayersReferenceIdeal.τ).loc Cert.LayersReferenceIdeal.main_arg0)
      ∧ r.2.mem ((c.tc : Thread Cert.LayersReferenceIdeal.nD Cert.LayersReferenceIdeal.τ).loc Cert.LayersReferenceIdeal.main_arg1) = m ((c.tc : Thread Cert.LayersReferenceIdeal.nD Cert.LayersReferenceIdeal.τ).loc Cert.LayersReferenceIdeal.main_arg1)
      ∧ r.2.mem ((c.tc : Thread Cert.LayersReferenceIdeal.nD Cert.LayersReferenceIdeal.τ).loc Cert.LayersReferenceIdeal.main_arg2) = m ((c.tc : Thread Cert.LayersReferenceIdeal.nD Cert.LayersReferenceIdeal.τ).loc Cert.LayersReferenceIdeal.main_arg2)
      ∧ r.2.mem ((c.tc : Thread Cert.LayersReferenceIdeal.nD Cert.LayersReferenceIdeal.τ).loc Cert.LayersReferenceIdeal.main_arg3) = m ((c.tc : Thread Cert.LayersReferenceIdeal.nD Cert.LayersReferenceIdeal.τ).loc Cert.LayersReferenceIdeal.main_arg3)
      ∧ r.2.mem ((c.tc : Thread Cert.LayersReferenceIdeal.nD Cert.LayersReferenceIdeal.τ).loc Cert.LayersReferenceIdeal.main_arg4) = m ((c.tc : Thread Cert.LayersReferenceIdeal.nD Cert.LayersReferenceIdeal.τ).loc Cert.LayersReferenceIdeal.main_arg4)
      ∧ r.2.mem ((c.tc : Thread Cert.LayersReferenceIdeal.nD Cert.LayersReferenceIdeal.τ).loc Cert.LayersReferenceIdeal.main_arg5) = m ((c.tc : Thread Cert.LayersReferenceIdeal.nD Cert.LayersReferenceIdeal.τ).loc Cert.LayersReferenceIdeal.main_arg5)
      ∧ r.2.mem ((c.tc : Thread Cert.LayersReferenceIdeal.nD Cert.LayersReferenceIdeal.τ).loc Cert.LayersReferenceIdeal.main_arg6) = m ((c.tc : Thread Cert.LayersReferenceIdeal.nD Cert.LayersReferenceIdeal.τ).loc Cert.LayersReferenceIdeal.main_arg6)
      ∧ r.2.mem ((c.tc : Thread Cert.LayersReferenceIdeal.nD Cert.LayersReferenceIdeal.τ).loc Cert.LayersReferenceIdeal.main_arg7) = m ((c.tc : Thread Cert.LayersReferenceIdeal.nD Cert.LayersReferenceIdeal.τ).loc Cert.LayersReferenceIdeal.main_arg7)
      ∧ r.2.mem ((c.tc : Thread Cert.LayersReferenceIdeal.nD Cert.LayersReferenceIdeal.τ).loc Cert.LayersReferenceIdeal.main_arg8) = m ((c.tc : Thread Cert.LayersReferenceIdeal.nD Cert.LayersReferenceIdeal.τ).loc Cert.LayersReferenceIdeal.main_arg8)
      ∧ r.2.mem ((c.tc : Thread Cert.LayersReferenceIdeal.nD Cert.LayersReferenceIdeal.τ).loc Cert.LayersReferenceIdeal.main_arg9) = m ((c.tc : Thread Cert.LayersReferenceIdeal.nD Cert.LayersReferenceIdeal.τ).loc Cert.LayersReferenceIdeal.main_arg9)
      ∧ r.2.mem ((c.tc : Thread Cert.LayersReferenceIdeal.nD Cert.LayersReferenceIdeal.τ).loc Cert.LayersReferenceIdeal.main_arg10) = m ((c.tc : Thread Cert.LayersReferenceIdeal.nD Cert.LayersReferenceIdeal.τ).loc Cert.LayersReferenceIdeal.main_arg10))
      ∧ r.2.sem = fun _ => 0)

def quiescent_LayersReferenceIdeal_pre_finite_values [hLayersReferenceIdeal : Cert.LayersReferenceIdeal.Facts] [hPre_finite_values : Cert.Pre_finite_values.Facts] : Prop :=
  ∀ (m : (ℓ : Loc Cert.LayersReferenceIdeal.nD Cert.LayersReferenceIdeal.τ Cert.LayersReferenceIdeal.sig) → Buf (Elt Ideal) ℓ) (g : Dev Cert.LayersReferenceIdeal.nD → PrngReg), Pre_LayersReferenceIdeal_finite_values m →
    θ_run (Cert.LayersReferenceIdeal.defs (F := Ideal)) (onTc (τ := Cert.LayersReferenceIdeal.τ) (Cert.LayersReferenceIdeal.main (F := Ideal))) ⟨m, fun _ => 0, g⟩ (fun r => (∀ c : Dev Cert.LayersReferenceIdeal.nD,
      r.2.mem ((c.tc : Thread Cert.LayersReferenceIdeal.nD Cert.LayersReferenceIdeal.τ).loc Cert.LayersReferenceIdeal.main_arg0) = m ((c.tc : Thread Cert.LayersReferenceIdeal.nD Cert.LayersReferenceIdeal.τ).loc Cert.LayersReferenceIdeal.main_arg0)
      ∧ r.2.mem ((c.tc : Thread Cert.LayersReferenceIdeal.nD Cert.LayersReferenceIdeal.τ).loc Cert.LayersReferenceIdeal.main_arg1) = m ((c.tc : Thread Cert.LayersReferenceIdeal.nD Cert.LayersReferenceIdeal.τ).loc Cert.LayersReferenceIdeal.main_arg1)
      ∧ r.2.mem ((c.tc : Thread Cert.LayersReferenceIdeal.nD Cert.LayersReferenceIdeal.τ).loc Cert.LayersReferenceIdeal.main_arg2) = m ((c.tc : Thread Cert.LayersReferenceIdeal.nD Cert.LayersReferenceIdeal.τ).loc Cert.LayersReferenceIdeal.main_arg2)
      ∧ r.2.mem ((c.tc : Thread Cert.LayersReferenceIdeal.nD Cert.LayersReferenceIdeal.τ).loc Cert.LayersReferenceIdeal.main_arg3) = m ((c.tc : Thread Cert.LayersReferenceIdeal.nD Cert.LayersReferenceIdeal.τ).loc Cert.LayersReferenceIdeal.main_arg3)
      ∧ r.2.mem ((c.tc : Thread Cert.LayersReferenceIdeal.nD Cert.LayersReferenceIdeal.τ).loc Cert.LayersReferenceIdeal.main_arg4) = m ((c.tc : Thread Cert.LayersReferenceIdeal.nD Cert.LayersReferenceIdeal.τ).loc Cert.LayersReferenceIdeal.main_arg4)
      ∧ r.2.mem ((c.tc : Thread Cert.LayersReferenceIdeal.nD Cert.LayersReferenceIdeal.τ).loc Cert.LayersReferenceIdeal.main_arg5) = m ((c.tc : Thread Cert.LayersReferenceIdeal.nD Cert.LayersReferenceIdeal.τ).loc Cert.LayersReferenceIdeal.main_arg5)
      ∧ r.2.mem ((c.tc : Thread Cert.LayersReferenceIdeal.nD Cert.LayersReferenceIdeal.τ).loc Cert.LayersReferenceIdeal.main_arg6) = m ((c.tc : Thread Cert.LayersReferenceIdeal.nD Cert.LayersReferenceIdeal.τ).loc Cert.LayersReferenceIdeal.main_arg6)
      ∧ r.2.mem ((c.tc : Thread Cert.LayersReferenceIdeal.nD Cert.LayersReferenceIdeal.τ).loc Cert.LayersReferenceIdeal.main_arg7) = m ((c.tc : Thread Cert.LayersReferenceIdeal.nD Cert.LayersReferenceIdeal.τ).loc Cert.LayersReferenceIdeal.main_arg7)
      ∧ r.2.mem ((c.tc : Thread Cert.LayersReferenceIdeal.nD Cert.LayersReferenceIdeal.τ).loc Cert.LayersReferenceIdeal.main_arg8) = m ((c.tc : Thread Cert.LayersReferenceIdeal.nD Cert.LayersReferenceIdeal.τ).loc Cert.LayersReferenceIdeal.main_arg8)
      ∧ r.2.mem ((c.tc : Thread Cert.LayersReferenceIdeal.nD Cert.LayersReferenceIdeal.τ).loc Cert.LayersReferenceIdeal.main_arg9) = m ((c.tc : Thread Cert.LayersReferenceIdeal.nD Cert.LayersReferenceIdeal.τ).loc Cert.LayersReferenceIdeal.main_arg9)
      ∧ r.2.mem ((c.tc : Thread Cert.LayersReferenceIdeal.nD Cert.LayersReferenceIdeal.τ).loc Cert.LayersReferenceIdeal.main_arg10) = m ((c.tc : Thread Cert.LayersReferenceIdeal.nD Cert.LayersReferenceIdeal.τ).loc Cert.LayersReferenceIdeal.main_arg10))
      ∧ r.2.sem = fun _ => 0)

def quiescent_Nearest [hNearest : Cert.Nearest.Facts] : Prop :=
  ∀ (m : (ℓ : Loc Cert.Nearest.nD Cert.Nearest.τ Cert.Nearest.sig) → Buf (Elt Bits) ℓ) (g : Dev Cert.Nearest.nD → PrngReg), Pre_Nearest m →
    θ_run (Cert.Nearest.defs (F := Bits)) (onTc (τ := Cert.Nearest.τ) (Cert.Nearest.main (F := Bits))) ⟨m, fun _ => 0, g⟩ (fun r => (∀ c : Dev Cert.Nearest.nD,
      r.2.mem ((c.tc : Thread Cert.Nearest.nD Cert.Nearest.τ).loc Cert.Nearest.main_arg0) = m ((c.tc : Thread Cert.Nearest.nD Cert.Nearest.τ).loc Cert.Nearest.main_arg0)
      ∧ r.2.mem ((c.tc : Thread Cert.Nearest.nD Cert.Nearest.τ).loc Cert.Nearest.main_arg1) = m ((c.tc : Thread Cert.Nearest.nD Cert.Nearest.τ).loc Cert.Nearest.main_arg1)
      ∧ r.2.mem ((c.tc : Thread Cert.Nearest.nD Cert.Nearest.τ).loc Cert.Nearest.main_arg2) = m ((c.tc : Thread Cert.Nearest.nD Cert.Nearest.τ).loc Cert.Nearest.main_arg2))
      ∧ r.2.sem = fun _ => 0)

def quiescent_NearestIdeal [hNearestIdeal : Cert.NearestIdeal.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
      ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1)
      ∧ r.2.mem ((c.tc : Thread Cert.NearestIdeal.nD Cert.NearestIdeal.τ).loc Cert.NearestIdeal.main_arg2) = m ((c.tc : Thread Cert.NearestIdeal.nD Cert.NearestIdeal.τ).loc Cert.NearestIdeal.main_arg2))
      ∧ r.2.sem = fun _ => 0)

def quiescent_NearestIdeal_pre_finite_points [hNearestIdeal : Cert.NearestIdeal.Facts] [hPre_finite_points : Cert.Pre_finite_points.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal_finite_points m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
      ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1)
      ∧ r.2.mem ((c.tc : Thread Cert.NearestIdeal.nD Cert.NearestIdeal.τ).loc Cert.NearestIdeal.main_arg2) = m ((c.tc : Thread Cert.NearestIdeal.nD Cert.NearestIdeal.τ).loc Cert.NearestIdeal.main_arg2))
      ∧ r.2.sem = fun _ => 0)

def quiescent_NearestReferenceIdeal [hNearestReferenceIdeal : Cert.NearestReferenceIdeal.Facts] : Prop :=
  ∀ (m : (ℓ : Loc Cert.NearestReferenceIdeal.nD Cert.NearestReferenceIdeal.τ Cert.NearestReferenceIdeal.sig) → Buf (Elt Ideal) ℓ) (g : Dev Cert.NearestReferenceIdeal.nD → PrngReg), Pre_NearestReferenceIdeal m →
    θ_run (Cert.NearestReferenceIdeal.defs (F := Ideal)) (onTc (τ := Cert.NearestReferenceIdeal.τ) (Cert.NearestReferenceIdeal.main (F := Ideal))) ⟨m, fun _ => 0, g⟩ (fun r => (∀ c : Dev Cert.NearestReferenceIdeal.nD,
      r.2.mem ((c.tc : Thread Cert.NearestReferenceIdeal.nD Cert.NearestReferenceIdeal.τ).loc Cert.NearestReferenceIdeal.main_arg0) = m ((c.tc : Thread Cert.NearestReferenceIdeal.nD Cert.NearestReferenceIdeal.τ).loc Cert.NearestReferenceIdeal.main_arg0)
      ∧ r.2.mem ((c.tc : Thread Cert.NearestReferenceIdeal.nD Cert.NearestReferenceIdeal.τ).loc Cert.NearestReferenceIdeal.main_arg1) = m ((c.tc : Thread Cert.NearestReferenceIdeal.nD Cert.NearestReferenceIdeal.τ).loc Cert.NearestReferenceIdeal.main_arg1)
      ∧ r.2.mem ((c.tc : Thread Cert.NearestReferenceIdeal.nD Cert.NearestReferenceIdeal.τ).loc Cert.NearestReferenceIdeal.main_arg2) = m ((c.tc : Thread Cert.NearestReferenceIdeal.nD Cert.NearestReferenceIdeal.τ).loc Cert.NearestReferenceIdeal.main_arg2))
      ∧ r.2.sem = fun _ => 0)

def quiescent_NearestReferenceIdeal_pre_finite_points [hNearestReferenceIdeal : Cert.NearestReferenceIdeal.Facts] [hPre_finite_points : Cert.Pre_finite_points.Facts] : Prop :=
  ∀ (m : (ℓ : Loc Cert.NearestReferenceIdeal.nD Cert.NearestReferenceIdeal.τ Cert.NearestReferenceIdeal.sig) → Buf (Elt Ideal) ℓ) (g : Dev Cert.NearestReferenceIdeal.nD → PrngReg), Pre_NearestReferenceIdeal_finite_points m →
    θ_run (Cert.NearestReferenceIdeal.defs (F := Ideal)) (onTc (τ := Cert.NearestReferenceIdeal.τ) (Cert.NearestReferenceIdeal.main (F := Ideal))) ⟨m, fun _ => 0, g⟩ (fun r => (∀ c : Dev Cert.NearestReferenceIdeal.nD,
      r.2.mem ((c.tc : Thread Cert.NearestReferenceIdeal.nD Cert.NearestReferenceIdeal.τ).loc Cert.NearestReferenceIdeal.main_arg0) = m ((c.tc : Thread Cert.NearestReferenceIdeal.nD Cert.NearestReferenceIdeal.τ).loc Cert.NearestReferenceIdeal.main_arg0)
      ∧ r.2.mem ((c.tc : Thread Cert.NearestReferenceIdeal.nD Cert.NearestReferenceIdeal.τ).loc Cert.NearestReferenceIdeal.main_arg1) = m ((c.tc : Thread Cert.NearestReferenceIdeal.nD Cert.NearestReferenceIdeal.τ).loc Cert.NearestReferenceIdeal.main_arg1)
      ∧ r.2.mem ((c.tc : Thread Cert.NearestReferenceIdeal.nD Cert.NearestReferenceIdeal.τ).loc Cert.NearestReferenceIdeal.main_arg2) = m ((c.tc : Thread Cert.NearestReferenceIdeal.nD Cert.NearestReferenceIdeal.τ).loc Cert.NearestReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_named : Cert.Pre_rows_named.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Sample_SampleIdeal : Prop :=
  True

def algebraic_SampleIdeal_SampleReferenceIdeal_pre_all_points [hSampleIdeal : Cert.SampleIdeal.Facts] [hSampleReferenceIdeal : Cert.SampleReferenceIdeal.Facts] [hPre_all_points : Cert.Pre_all_points.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleIdeal_all_points m →
    (∀ c : Dev Cert.SampleIdeal.nD,
      m' ((c.tc : Thread Cert.SampleReferenceIdeal.nD Cert.SampleReferenceIdeal.τ).loc Cert.SampleReferenceIdeal.main_arg0) = m ((c.tc : Thread Cert.SampleIdeal.nD Cert.SampleIdeal.τ).loc Cert.SampleIdeal.main_arg0)
      ∧ m' ((c.tc : Thread Cert.SampleReferenceIdeal.nD Cert.SampleReferenceIdeal.τ).loc Cert.SampleReferenceIdeal.main_arg1) = m ((c.tc : Thread Cert.SampleIdeal.nD Cert.SampleIdeal.τ).loc Cert.SampleIdeal.main_arg1)) →
    ∃ (v0 : (c : Dev Cert.SampleIdeal.nD) → Buf (Elt Ideal) ((c.tc : Thread Cert.SampleIdeal.nD Cert.SampleIdeal.τ).loc Cert.SampleIdeal.main_v0_0)) (v1 : (c : Dev Cert.SampleIdeal.nD) → Buf (Elt Ideal) ((c.tc : Thread Cert.SampleIdeal.nD Cert.SampleIdeal.τ).loc Cert.SampleIdeal.main_v3)) (v2 : (c : Dev Cert.SampleIdeal.nD) → Buf (Elt Ideal) ((c.tc : Thread Cert.SampleIdeal.nD Cert.SampleIdeal.τ).loc Cert.SampleIdeal.main_v4)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v0_0) = v0 c
          ∧ r.2.mem ((c.tc : Thread Cert.SampleIdeal.nD Cert.SampleIdeal.τ).loc Cert.SampleIdeal.main_v3) = v1 c
          ∧ r.2.mem ((c.tc : Thread Cert.SampleIdeal.nD Cert.SampleIdeal.τ).loc Cert.SampleIdeal.main_v4) = v2 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v4_5) = v0 c
          ∧ r.2.mem ((c.tc : Thread Cert.SampleReferenceIdeal.nD Cert.SampleReferenceIdeal.τ).loc Cert.SampleReferenceIdeal.main_v7) = v1 c
          ∧ r.2.mem ((c.tc : Thread Cert.SampleReferenceIdeal.nD Cert.SampleReferenceIdeal.τ).loc Cert.SampleReferenceIdeal.main_v8) = v2 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1))

def preserves_Layers_LayersIdeal : Prop :=
  True

def algebraic_LayersIdeal_LayersReferenceIdeal_pre_finite_values [hLayersIdeal : Cert.LayersIdeal.Facts] [hLayersReferenceIdeal : Cert.LayersReferenceIdeal.Facts] [hPre_finite_values : Cert.Pre_finite_values.Facts] : Prop :=
  ∀ (m : (ℓ : Loc Cert.LayersIdeal.nD Cert.LayersIdeal.τ Cert.LayersIdeal.sig) → Buf (Elt Ideal) ℓ) (g : Dev Cert.LayersIdeal.nD → PrngReg)
    (m' : (ℓ : Loc Cert.LayersReferenceIdeal.nD Cert.LayersReferenceIdeal.τ Cert.LayersReferenceIdeal.sig) → Buf (Elt Ideal) ℓ) (g' : Dev Cert.LayersReferenceIdeal.nD → PrngReg), Pre_LayersIdeal_finite_values m →
    (∀ c : Dev Cert.LayersIdeal.nD,
      m' ((c.tc : Thread Cert.LayersReferenceIdeal.nD Cert.LayersReferenceIdeal.τ).loc Cert.LayersReferenceIdeal.main_arg0) = m ((c.tc : Thread Cert.LayersIdeal.nD Cert.LayersIdeal.τ).loc Cert.LayersIdeal.main_arg0)
      ∧ m' ((c.tc : Thread Cert.LayersReferenceIdeal.nD Cert.LayersReferenceIdeal.τ).loc Cert.LayersReferenceIdeal.main_arg1) = m ((c.tc : Thread Cert.LayersIdeal.nD Cert.LayersIdeal.τ).loc Cert.LayersIdeal.main_arg1)
      ∧ m' ((c.tc : Thread Cert.LayersReferenceIdeal.nD Cert.LayersReferenceIdeal.τ).loc Cert.LayersReferenceIdeal.main_arg2) = m ((c.tc : Thread Cert.LayersIdeal.nD Cert.LayersIdeal.τ).loc Cert.LayersIdeal.main_arg2)
      ∧ m' ((c.tc : Thread Cert.LayersReferenceIdeal.nD Cert.LayersReferenceIdeal.τ).loc Cert.LayersReferenceIdeal.main_arg3) = m ((c.tc : Thread Cert.LayersIdeal.nD Cert.LayersIdeal.τ).loc Cert.LayersIdeal.main_arg3)
      ∧ m' ((c.tc : Thread Cert.LayersReferenceIdeal.nD Cert.LayersReferenceIdeal.τ).loc Cert.LayersReferenceIdeal.main_arg4) = m ((c.tc : Thread Cert.LayersIdeal.nD Cert.LayersIdeal.τ).loc Cert.LayersIdeal.main_arg4)
      ∧ m' ((c.tc : Thread Cert.LayersReferenceIdeal.nD Cert.LayersReferenceIdeal.τ).loc Cert.LayersReferenceIdeal.main_arg5) = m ((c.tc : Thread Cert.LayersIdeal.nD Cert.LayersIdeal.τ).loc Cert.LayersIdeal.main_arg5)
      ∧ m' ((c.tc : Thread Cert.LayersReferenceIdeal.nD Cert.LayersReferenceIdeal.τ).loc Cert.LayersReferenceIdeal.main_arg6) = m ((c.tc : Thread Cert.LayersIdeal.nD Cert.LayersIdeal.τ).loc Cert.LayersIdeal.main_arg6)
      ∧ m' ((c.tc : Thread Cert.LayersReferenceIdeal.nD Cert.LayersReferenceIdeal.τ).loc Cert.LayersReferenceIdeal.main_arg7) = m ((c.tc : Thread Cert.LayersIdeal.nD Cert.LayersIdeal.τ).loc Cert.LayersIdeal.main_arg7)
      ∧ m' ((c.tc : Thread Cert.LayersReferenceIdeal.nD Cert.LayersReferenceIdeal.τ).loc Cert.LayersReferenceIdeal.main_arg8) = m ((c.tc : Thread Cert.LayersIdeal.nD Cert.LayersIdeal.τ).loc Cert.LayersIdeal.main_arg8)
      ∧ m' ((c.tc : Thread Cert.LayersReferenceIdeal.nD Cert.LayersReferenceIdeal.τ).loc Cert.LayersReferenceIdeal.main_arg9) = m ((c.tc : Thread Cert.LayersIdeal.nD Cert.LayersIdeal.τ).loc Cert.LayersIdeal.main_arg9)
      ∧ m' ((c.tc : Thread Cert.LayersReferenceIdeal.nD Cert.LayersReferenceIdeal.τ).loc Cert.LayersReferenceIdeal.main_arg10) = m ((c.tc : Thread Cert.LayersIdeal.nD Cert.LayersIdeal.τ).loc Cert.LayersIdeal.main_arg10)) →
    ∃ (v0 : (c : Dev Cert.LayersIdeal.nD) → Buf (Elt Ideal) ((c.tc : Thread Cert.LayersIdeal.nD Cert.LayersIdeal.τ).loc Cert.LayersIdeal.main_v58)),
      θ_run (Cert.LayersIdeal.defs (F := Ideal)) (onTc (τ := Cert.LayersIdeal.τ) (Cert.LayersIdeal.main (F := Ideal))) ⟨m, fun _ => 0, g⟩ (fun r => ∀ c : Dev Cert.LayersIdeal.nD,
          r.2.mem ((c.tc : Thread Cert.LayersIdeal.nD Cert.LayersIdeal.τ).loc Cert.LayersIdeal.main_v58) = v0 c
          ∧ r.2.mem ((c.tc : Thread Cert.LayersIdeal.nD Cert.LayersIdeal.τ).loc Cert.LayersIdeal.main_arg0) = m ((c.tc : Thread Cert.LayersIdeal.nD Cert.LayersIdeal.τ).loc Cert.LayersIdeal.main_arg0)
          ∧ r.2.mem ((c.tc : Thread Cert.LayersIdeal.nD Cert.LayersIdeal.τ).loc Cert.LayersIdeal.main_arg1) = m ((c.tc : Thread Cert.LayersIdeal.nD Cert.LayersIdeal.τ).loc Cert.LayersIdeal.main_arg1)
          ∧ r.2.mem ((c.tc : Thread Cert.LayersIdeal.nD Cert.LayersIdeal.τ).loc Cert.LayersIdeal.main_arg2) = m ((c.tc : Thread Cert.LayersIdeal.nD Cert.LayersIdeal.τ).loc Cert.LayersIdeal.main_arg2)
          ∧ r.2.mem ((c.tc : Thread Cert.LayersIdeal.nD Cert.LayersIdeal.τ).loc Cert.LayersIdeal.main_arg3) = m ((c.tc : Thread Cert.LayersIdeal.nD Cert.LayersIdeal.τ).loc Cert.LayersIdeal.main_arg3)
          ∧ r.2.mem ((c.tc : Thread Cert.LayersIdeal.nD Cert.LayersIdeal.τ).loc Cert.LayersIdeal.main_arg4) = m ((c.tc : Thread Cert.LayersIdeal.nD Cert.LayersIdeal.τ).loc Cert.LayersIdeal.main_arg4)
          ∧ r.2.mem ((c.tc : Thread Cert.LayersIdeal.nD Cert.LayersIdeal.τ).loc Cert.LayersIdeal.main_arg5) = m ((c.tc : Thread Cert.LayersIdeal.nD Cert.LayersIdeal.τ).loc Cert.LayersIdeal.main_arg5)
          ∧ r.2.mem ((c.tc : Thread Cert.LayersIdeal.nD Cert.LayersIdeal.τ).loc Cert.LayersIdeal.main_arg6) = m ((c.tc : Thread Cert.LayersIdeal.nD Cert.LayersIdeal.τ).loc Cert.LayersIdeal.main_arg6)
          ∧ r.2.mem ((c.tc : Thread Cert.LayersIdeal.nD Cert.LayersIdeal.τ).loc Cert.LayersIdeal.main_arg7) = m ((c.tc : Thread Cert.LayersIdeal.nD Cert.LayersIdeal.τ).loc Cert.LayersIdeal.main_arg7)
          ∧ r.2.mem ((c.tc : Thread Cert.LayersIdeal.nD Cert.LayersIdeal.τ).loc Cert.LayersIdeal.main_arg8) = m ((c.tc : Thread Cert.LayersIdeal.nD Cert.LayersIdeal.τ).loc Cert.LayersIdeal.main_arg8)
          ∧ r.2.mem ((c.tc : Thread Cert.LayersIdeal.nD Cert.LayersIdeal.τ).loc Cert.LayersIdeal.main_arg9) = m ((c.tc : Thread Cert.LayersIdeal.nD Cert.LayersIdeal.τ).loc Cert.LayersIdeal.main_arg9)
          ∧ r.2.mem ((c.tc : Thread Cert.LayersIdeal.nD Cert.LayersIdeal.τ).loc Cert.LayersIdeal.main_arg10) = m ((c.tc : Thread Cert.LayersIdeal.nD Cert.LayersIdeal.τ).loc Cert.LayersIdeal.main_arg10))
      ∧ θ_run (Cert.LayersReferenceIdeal.defs (F := Ideal)) (onTc (τ := Cert.LayersReferenceIdeal.τ) (Cert.LayersReferenceIdeal.main (F := Ideal))) ⟨m', fun _ => 0, g'⟩ (fun r => ∀ c : Dev Cert.LayersReferenceIdeal.nD,
          r.2.mem ((c.tc : Thread Cert.LayersReferenceIdeal.nD Cert.LayersReferenceIdeal.τ).loc Cert.LayersReferenceIdeal.main_v74) = v0 c
          ∧ r.2.mem ((c.tc : Thread Cert.LayersReferenceIdeal.nD Cert.LayersReferenceIdeal.τ).loc Cert.LayersReferenceIdeal.main_arg0) = m' ((c.tc : Thread Cert.LayersReferenceIdeal.nD Cert.LayersReferenceIdeal.τ).loc Cert.LayersReferenceIdeal.main_arg0)
          ∧ r.2.mem ((c.tc : Thread Cert.LayersReferenceIdeal.nD Cert.LayersReferenceIdeal.τ).loc Cert.LayersReferenceIdeal.main_arg1) = m' ((c.tc : Thread Cert.LayersReferenceIdeal.nD Cert.LayersReferenceIdeal.τ).loc Cert.LayersReferenceIdeal.main_arg1)
          ∧ r.2.mem ((c.tc : Thread Cert.LayersReferenceIdeal.nD Cert.LayersReferenceIdeal.τ).loc Cert.LayersReferenceIdeal.main_arg2) = m' ((c.tc : Thread Cert.LayersReferenceIdeal.nD Cert.LayersReferenceIdeal.τ).loc Cert.LayersReferenceIdeal.main_arg2)
          ∧ r.2.mem ((c.tc : Thread Cert.LayersReferenceIdeal.nD Cert.LayersReferenceIdeal.τ).loc Cert.LayersReferenceIdeal.main_arg3) = m' ((c.tc : Thread Cert.LayersReferenceIdeal.nD Cert.LayersReferenceIdeal.τ).loc Cert.LayersReferenceIdeal.main_arg3)
          ∧ r.2.mem ((c.tc : Thread Cert.LayersReferenceIdeal.nD Cert.LayersReferenceIdeal.τ).loc Cert.LayersReferenceIdeal.main_arg4) = m' ((c.tc : Thread Cert.LayersReferenceIdeal.nD Cert.LayersReferenceIdeal.τ).loc Cert.LayersReferenceIdeal.main_arg4)
          ∧ r.2.mem ((c.tc : Thread Cert.LayersReferenceIdeal.nD Cert.LayersReferenceIdeal.τ).loc Cert.LayersReferenceIdeal.main_arg5) = m' ((c.tc : Thread Cert.LayersReferenceIdeal.nD Cert.LayersReferenceIdeal.τ).loc Cert.LayersReferenceIdeal.main_arg5)
          ∧ r.2.mem ((c.tc : Thread Cert.LayersReferenceIdeal.nD Cert.LayersReferenceIdeal.τ).loc Cert.LayersReferenceIdeal.main_arg6) = m' ((c.tc : Thread Cert.LayersReferenceIdeal.nD Cert.LayersReferenceIdeal.τ).loc Cert.LayersReferenceIdeal.main_arg6)
          ∧ r.2.mem ((c.tc : Thread Cert.LayersReferenceIdeal.nD Cert.LayersReferenceIdeal.τ).loc Cert.LayersReferenceIdeal.main_arg7) = m' ((c.tc : Thread Cert.LayersReferenceIdeal.nD Cert.LayersReferenceIdeal.τ).loc Cert.LayersReferenceIdeal.main_arg7)
          ∧ r.2.mem ((c.tc : Thread Cert.LayersReferenceIdeal.nD Cert.LayersReferenceIdeal.τ).loc Cert.LayersReferenceIdeal.main_arg8) = m' ((c.tc : Thread Cert.LayersReferenceIdeal.nD Cert.LayersReferenceIdeal.τ).loc Cert.LayersReferenceIdeal.main_arg8)
          ∧ r.2.mem ((c.tc : Thread Cert.LayersReferenceIdeal.nD Cert.LayersReferenceIdeal.τ).loc Cert.LayersReferenceIdeal.main_arg9) = m' ((c.tc : Thread Cert.LayersReferenceIdeal.nD Cert.LayersReferenceIdeal.τ).loc Cert.LayersReferenceIdeal.main_arg9)
          ∧ r.2.mem ((c.tc : Thread Cert.LayersReferenceIdeal.nD Cert.LayersReferenceIdeal.τ).loc Cert.LayersReferenceIdeal.main_arg10) = m' ((c.tc : Thread Cert.LayersReferenceIdeal.nD Cert.LayersReferenceIdeal.τ).loc Cert.LayersReferenceIdeal.main_arg10))

def preserves_Nearest_NearestIdeal : Prop :=
  True

def algebraic_NearestIdeal_NearestReferenceIdeal_pre_finite_points [hNearestIdeal : Cert.NearestIdeal.Facts] [hNearestReferenceIdeal : Cert.NearestReferenceIdeal.Facts] [hPre_finite_points : Cert.Pre_finite_points.Facts] : Prop :=
  ∀ (m : (ℓ : Loc Cert.NearestIdeal.nD Cert.NearestIdeal.τ Cert.NearestIdeal.sig) → Buf (Elt Ideal) ℓ) (g : Dev Cert.NearestIdeal.nD → PrngReg)
    (m' : (ℓ : Loc Cert.NearestReferenceIdeal.nD Cert.NearestReferenceIdeal.τ Cert.NearestReferenceIdeal.sig) → Buf (Elt Ideal) ℓ) (g' : Dev Cert.NearestReferenceIdeal.nD → PrngReg), Pre_NearestIdeal_finite_points m →
    (∀ c : Dev Cert.NearestIdeal.nD,
      m' ((c.tc : Thread Cert.NearestReferenceIdeal.nD Cert.NearestReferenceIdeal.τ).loc Cert.NearestReferenceIdeal.main_arg0) = m ((c.tc : Thread Cert.NearestIdeal.nD Cert.NearestIdeal.τ).loc Cert.NearestIdeal.main_arg0)
      ∧ m' ((c.tc : Thread Cert.NearestReferenceIdeal.nD Cert.NearestReferenceIdeal.τ).loc Cert.NearestReferenceIdeal.main_arg1) = m ((c.tc : Thread Cert.NearestIdeal.nD Cert.NearestIdeal.τ).loc Cert.NearestIdeal.main_arg1)
      ∧ m' ((c.tc : Thread Cert.NearestReferenceIdeal.nD Cert.NearestReferenceIdeal.τ).loc Cert.NearestReferenceIdeal.main_arg2) = m ((c.tc : Thread Cert.NearestIdeal.nD Cert.NearestIdeal.τ).loc Cert.NearestIdeal.main_arg2)) →
    ∃ (v0 : (c : Dev Cert.NearestIdeal.nD) → Buf (Elt Ideal) ((c.tc : Thread Cert.NearestIdeal.nD Cert.NearestIdeal.τ).loc Cert.NearestIdeal.main_v1)),
      θ_run (Cert.NearestIdeal.defs (F := Ideal)) (onTc (τ := Cert.NearestIdeal.τ) (Cert.NearestIdeal.main (F := Ideal))) ⟨m, fun _ => 0, g⟩ (fun r => ∀ c : Dev Cert.NearestIdeal.nD,
          r.2.mem ((c.tc : Thread Cert.NearestIdeal.nD Cert.NearestIdeal.τ).loc Cert.NearestIdeal.main_v1) = v0 c
          ∧ r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
          ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1)
          ∧ r.2.mem ((c.tc : Thread Cert.NearestIdeal.nD Cert.NearestIdeal.τ).loc Cert.NearestIdeal.main_arg2) = m ((c.tc : Thread Cert.NearestIdeal.nD Cert.NearestIdeal.τ).loc Cert.NearestIdeal.main_arg2))
      ∧ θ_run (Cert.NearestReferenceIdeal.defs (F := Ideal)) (onTc (τ := Cert.NearestReferenceIdeal.τ) (Cert.NearestReferenceIdeal.main (F := Ideal))) ⟨m', fun _ => 0, g'⟩ (fun r => ∀ c : Dev Cert.NearestReferenceIdeal.nD,
          r.2.mem ((c.tc : Thread Cert.NearestReferenceIdeal.nD Cert.NearestReferenceIdeal.τ).loc Cert.NearestReferenceIdeal.main_indices) = v0 c
          ∧ r.2.mem ((c.tc : Thread Cert.NearestReferenceIdeal.nD Cert.NearestReferenceIdeal.τ).loc Cert.NearestReferenceIdeal.main_arg0) = m' ((c.tc : Thread Cert.NearestReferenceIdeal.nD Cert.NearestReferenceIdeal.τ).loc Cert.NearestReferenceIdeal.main_arg0)
          ∧ r.2.mem ((c.tc : Thread Cert.NearestReferenceIdeal.nD Cert.NearestReferenceIdeal.τ).loc Cert.NearestReferenceIdeal.main_arg1) = m' ((c.tc : Thread Cert.NearestReferenceIdeal.nD Cert.NearestReferenceIdeal.τ).loc Cert.NearestReferenceIdeal.main_arg1)
          ∧ r.2.mem ((c.tc : Thread Cert.NearestReferenceIdeal.nD Cert.NearestReferenceIdeal.τ).loc Cert.NearestReferenceIdeal.main_arg2) = m' ((c.tc : Thread Cert.NearestReferenceIdeal.nD Cert.NearestReferenceIdeal.τ).loc Cert.NearestReferenceIdeal.main_arg2))

def Claim : Prop :=
  ∃ (hKernel : Cert.Kernel.Facts) (hKernelIdeal : Cert.KernelIdeal.Facts) (hReferenceIdeal : Cert.ReferenceIdeal.Facts) (hSample : Cert.Sample.Facts) (hSampleIdeal : Cert.SampleIdeal.Facts) (hSampleReferenceIdeal : Cert.SampleReferenceIdeal.Facts) (hLayers : Cert.Layers.Facts) (hLayersIdeal : Cert.LayersIdeal.Facts) (hLayersReferenceIdeal : Cert.LayersReferenceIdeal.Facts) (hNearest : Cert.Nearest.Facts) (hNearestIdeal : Cert.NearestIdeal.Facts) (hNearestReferenceIdeal : Cert.NearestReferenceIdeal.Facts) (hPre_rows_named : Cert.Pre_rows_named.Facts) (hPre_all_points : Cert.Pre_all_points.Facts) (hPre_finite_values : Cert.Pre_finite_values.Facts) (hPre_finite_points : Cert.Pre_finite_points.Facts),
    quiescent_Kernel (hKernel := hKernel) (hPre_rows_named := hPre_rows_named)
    ∧ quiescent_KernelIdeal (hKernelIdeal := hKernelIdeal) (hPre_rows_named := hPre_rows_named)
    ∧ quiescent_ReferenceIdeal (hReferenceIdeal := hReferenceIdeal)
    ∧ quiescent_ReferenceIdeal_pre_rows_named (hReferenceIdeal := hReferenceIdeal) (hPre_rows_named := hPre_rows_named)
    ∧ quiescent_Sample (hSample := hSample)
    ∧ quiescent_SampleIdeal (hSampleIdeal := hSampleIdeal)
    ∧ quiescent_SampleIdeal_pre_all_points (hSampleIdeal := hSampleIdeal) (hPre_all_points := hPre_all_points)
    ∧ quiescent_SampleReferenceIdeal (hSampleReferenceIdeal := hSampleReferenceIdeal)
    ∧ quiescent_SampleReferenceIdeal_pre_all_points (hSampleReferenceIdeal := hSampleReferenceIdeal) (hPre_all_points := hPre_all_points)
    ∧ quiescent_Layers (hLayers := hLayers)
    ∧ quiescent_LayersIdeal (hLayersIdeal := hLayersIdeal)
    ∧ quiescent_LayersIdeal_pre_finite_values (hLayersIdeal := hLayersIdeal) (hPre_finite_values := hPre_finite_values)
    ∧ quiescent_LayersReferenceIdeal (hLayersReferenceIdeal := hLayersReferenceIdeal)
    ∧ quiescent_LayersReferenceIdeal_pre_finite_values (hLayersReferenceIdeal := hLayersReferenceIdeal) (hPre_finite_values := hPre_finite_values)
    ∧ quiescent_Nearest (hNearest := hNearest)
    ∧ quiescent_NearestIdeal (hNearestIdeal := hNearestIdeal)
    ∧ quiescent_NearestIdeal_pre_finite_points (hNearestIdeal := hNearestIdeal) (hPre_finite_points := hPre_finite_points)
    ∧ quiescent_NearestReferenceIdeal (hNearestReferenceIdeal := hNearestReferenceIdeal)
    ∧ quiescent_NearestReferenceIdeal_pre_finite_points (hNearestReferenceIdeal := hNearestReferenceIdeal) (hPre_finite_points := hPre_finite_points)
    ∧ preserves_Kernel_KernelIdeal
    ∧ algebraic_KernelIdeal_ReferenceIdeal (hKernelIdeal := hKernelIdeal) (hReferenceIdeal := hReferenceIdeal) (hPre_rows_named := hPre_rows_named)
    ∧ preserves_Sample_SampleIdeal
    ∧ algebraic_SampleIdeal_SampleReferenceIdeal_pre_all_points (hSampleIdeal := hSampleIdeal) (hSampleReferenceIdeal := hSampleReferenceIdeal) (hPre_all_points := hPre_all_points)
    ∧ preserves_Layers_LayersIdeal
    ∧ algebraic_LayersIdeal_LayersReferenceIdeal_pre_finite_values (hLayersIdeal := hLayersIdeal) (hLayersReferenceIdeal := hLayersReferenceIdeal) (hPre_finite_values := hPre_finite_values)
    ∧ preserves_Nearest_NearestIdeal
    ∧ algebraic_NearestIdeal_NearestReferenceIdeal_pre_finite_points (hNearestIdeal := hNearestIdeal) (hNearestReferenceIdeal := hNearestReferenceIdeal) (hPre_finite_points := hPre_finite_points)
-- ==== Pre_all_points.lean ====
abbrev S4x2x8192 : Shape := ⟨3, ![4, 2, 8192]⟩
abbrev S4x1x8192 : Shape := ⟨3, ![4, 1, 8192]⟩
abbrev S_ : Shape := ⟨0, ![]⟩

class Facts : Prop where
  reducesTo_S4x1x8192_S_d0_1_2 : S4x1x8192.ReducesTo [0, 1, 2] S_
  h_S_ : 0 < S_.numel

variable [Facts]

def fn {F : FTy → Type} [FloatOps F] (main_arg0 : FVec F S4x2x8192 .f32) (main_arg1 : IVec S4x1x8192 1) : IVec S_ 1 :=
  let main_c : IVec S_ 1 := constantI S_ 1 1#1
  let main_v0 : IVec S_ 1 := (fun x v => Host.reduce IntOp.andi x v reducesTo_S4x1x8192_S_d0_1_2 h_S_) main_arg1 main_c
  main_v0
-- ==== Pre_finite_points.lean ====
abbrev S4x2x1024 : Shape := ⟨3, ![4, 2, 1024]⟩
abbrev S4x2x8192 : Shape := ⟨3, ![4, 2, 8192]⟩
abbrev S4x1x8192 : Shape := ⟨3, ![4, 1, 8192]⟩
abbrev S_ : Shape := ⟨0, ![]⟩

class Facts : Prop where
  bcast_S_S4x2x1024 : S_.BroadcastsInDim S4x2x1024 (![] : Fin 0 → Fin S4x2x1024.rank)
  reducesTo_S4x2x1024_S_d0_1_2 : S4x2x1024.ReducesTo [0, 1, 2] S_
  h_S_ : 0 < S_.numel
  bcast_S_S4x2x8192 : S_.BroadcastsInDim S4x2x8192 (![] : Fin 0 → Fin S4x2x8192.rank)
  reducesTo_S4x2x8192_S_d0_1_2 : S4x2x8192.ReducesTo [0, 1, 2] S_
  reducesTo_S4x1x8192_S_d0_1_2 : S4x1x8192.ReducesTo [0, 1, 2] S_

variable [Facts]

def fn {F : FTy → Type} [FloatOps F] (main_arg0 : FVec F S4x2x1024 .f32) (main_arg1 : FVec F S4x2x8192 .f32) (main_arg2 : IVec S4x1x8192 1) : IVec S_ 1 :=
  let main_v0 : FVec F S4x2x1024 .f32 := Host.absf main_arg0
  let main_cst : FVec F S_ .f32 := constant S_ .f32 0x7F800000#32
  let main_v1 : FVec F S4x2x1024 .f32 := broadcastInDim S4x2x1024 ![] bcast_S_S4x2x1024 main_cst
  let main_v2 : IVec S4x2x1024 1 := cmpf .olt main_v0 main_v1
  let main_c : IVec S_ 1 := constantI S_ 1 1#1
  let main_v3 : IVec S_ 1 := (fun x v => Host.reduce IntOp.andi x v reducesTo_S4x2x1024_S_d0_1_2 h_S_) main_v2 main_c
  let main_v4 : FVec F S4x2x8192 .f32 := Host.absf main_arg1
  let main_cst_0 : FVec F S_ .f32 := constant S_ .f32 0x7F800000#32
  let main_v5 : FVec F S4x2x8192 .f32 := broadcastInDim S4x2x8192 ![] bcast_S_S4x2x8192 main_cst_0
  let main_v6 : IVec S4x2x8192 1 := cmpf .olt main_v4 main_v5
  let main_c_1 : IVec S_ 1 := constantI S_ 1 1#1
  let main_v7 : IVec S_ 1 := (fun x v => Host.reduce IntOp.andi x v reducesTo_S4x2x8192_S_d0_1_2 h_S_) main_v6 main_c_1
  let main_v8 : IVec S_ 1 := andi main_v3 main_v7
  let main_c_2 : IVec S_ 1 := constantI S_ 1 1#1
  let main_v9 : IVec S_ 1 := (fun x v => Host.reduce IntOp.andi x v reducesTo_S4x1x8192_S_d0_1_2 h_S_) main_arg2 main_c_2
  let main_v10 : IVec S_ 1 := andi main_v8 main_v9
  main_v10
-- ==== Pre_finite_values.lean ====
abbrev S65536x64 : Shape := ⟨2, ![65536, 64]⟩
abbrev S4096x64 : Shape := ⟨2, ![4096, 64]⟩
abbrev S64x128 : Shape := ⟨2, ![64, 128]⟩
abbrev S64 : Shape := ⟨1, ![64]⟩
abbrev S64x64 : Shape := ⟨2, ![64, 64]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64x64 .f32) (main_arg9 : FVec F S64 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S64x64 .f32 := Host.absf main_arg8
  let main_cst_14 : FVec F S_ .f32 := constant S_ .f32 0x7F800000#32
  let main_v33 : FVec F S64x64 .f32 := broadcastInDim S64x64 ![] bcast_S_S64x64 main_cst_14
  let main_v34 : IVec S64x64 1 := cmpf .olt main_v32 main_v33
  let main_c_15 : IVec S_ 1 := constantI S_ 1 1#1
  let main_v35 : IVec S_ 1 := (fun x v => Host.reduce IntOp.andi x v reducesTo_S64x64_S_d0_1 h_S_) main_v34 main_c_15
  let main_v36 : FVec F S64 .f32 := Host.absf main_arg9
  let main_cst_16 : FVec F S_ .f32 := constant S_ .f32 0x7F800000#32
  let main_v37 : FVec F S64 .f32 := broadcastInDim S64 ![] bcast_S_S64 main_cst_16
  let main_v38 : IVec S64 1 := cmpf .olt main_v36 main_v37
  let main_c_17 : IVec S_ 1 := constantI S_ 1 1#1
  let main_v39 : IVec S_ 1 := (fun x v => Host.reduce IntOp.andi x v reducesTo_S64_S_d0 h_S_) main_v38 main_c_17
  let main_v40 : IVec S_ 1 := andi main_v3 main_v7
  let main_v41 : IVec S_ 1 := andi main_v40 main_v11
  let main_v42 : IVec S_ 1 := andi main_v41 main_v15
  let main_v43 : IVec S_ 1 := andi main_v42 main_v19
  let main_v44 : IVec S_ 1 := andi main_v43 main_v23
  let main_v45 : IVec S_ 1 := andi main_v44 main_v27
  let main_v46 : IVec S_ 1 := andi main_v45 main_v31
  let main_v47 : IVec S_ 1 := andi main_v46 main_v35
  let main_v48 : IVec S_ 1 := andi main_v47 main_v39
  main_v48

def fn_part1 {F : FTy → Type} [FloatOps F] (main_arg4 : FVec F S64 .f32) (main_arg5 : FVec F S64x64 .f32) (main_arg6 : FVec F S64 .f32) (main_arg7 : FVec F S64 .f32) (main_arg8 : FVec F S64x64 .f32) (main_arg9 : FVec F S64 .f32) (main_v3 : IVec S_ 1) (main_v7 : IVec S_ 1) (main_v11 : IVec S_ 1) (main_v15 : IVec S_ 1) : IVec S_ 1 :=
  let main_v16 : FVec F S64 .f32 := Host.absf main_arg4
  let main_cst_6 : FVec F S_ .f32 := constant S_ .f32 0x7F800000#32
  let main_v17 : FVec F S64 .f32 := broadcastInDim S64 ![] bcast_S_S64 main_cst_6
  let main_v18 : IVec S64 1 := cmpf .olt main_v16 main_v17
  let main_c_7 : IVec S_ 1 := constantI S_ 1 1#1
  let main_v19 : IVec S_ 1 := (fun x v => Host.reduce IntOp.andi x v reducesTo_S64_S_d0 h_S_) main_v18 main_c_7
  let main_v20 : FVec F S64x64 .f32 := Host.absf main_arg5
  let main_cst_8 : FVec F S_ .f32 := constant S_ .f32 0x7F800000#32
  let main_v21 : FVec F S64x64 .f32 := broadcastInDim S64x64 ![] bcast_S_S64x64 main_cst_8
  let main_v22 : IVec S64x64 1 := cmpf .olt main_v20 main_v21
  let main_c_9 : IVec S_ 1 := constantI S_ 1 1#1
  let main_v23 : IVec S_ 1 := (fun x v => Host.reduce IntOp.andi x v reducesTo_S64x64_S_d0_1 h_S_) main_v22 main_c_9
  let main_v24 : FVec F S64 .f32 := Host.absf main_arg6
  let main_cst_10 : FVec F S_ .f32 := constant S_ .f32 0x7F800000#32
  let main_v25 : FVec F S64 .f32 := broadcastInDim S64 ![] bcast_S_S64 main_cst_10
  let main_v26 : IVec S64 1 := cmpf .olt main_v24 main_v25
  let main_c_11 : IVec S_ 1 := constantI S_ 1 1#1
  let main_v27 : IVec S_ 1 := (fun x v => Host.reduce IntOp.andi x v reducesTo_S64_S_d0 h_S_) main_v26 main_c_11
  let main_v28 : FVec F S64 .f32 := Host.absf main_arg7
  let main_cst_12 : FVec F S_ .f32 := constant S_ .f32 0x7F800000#32
  let main_v29 : FVec F S64 .f32 := broadcastInDim S64 ![] bcast_S_S64 main_cst_12
  let main_v30 : IVec S64 1 := cmpf .olt main_v28 main_v29
  let main_c_13 : IVec S_ 1 := constantI S_ 1 1#1
  let main_v31 : IVec S_ 1 := (fun x v => Host.reduce IntOp.andi x v reducesTo_S64_S_d0 h_S_) main_v30 main_c_13
  fn_part2 (F := F) main_arg8 main_arg9 main_v3 main_v7 main_v11 main_v15 main_v19 main_v23 main_v27 main_v31

def fn {F : FTy → Type} [FloatOps F] (main_arg0 : FVec F S65536x64 .f32) (main_arg1 : FVec F S4096x64 .f32) (main_arg2 : FVec F S64x128 .f32) (main_arg3 : FVec F S64 .f32) (main_arg4 : FVec F S64 .f32) (main_arg5 : FVec F S64x64 .f32) (main_arg6 : FVec F S64 .f32) (main_arg7 : FVec F S64 .f32) (main_arg8 : FVec F S64x64 .f32) (main_arg9 : FVec F S64 .f32) (main_arg10 : FVec F S64 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : FVec F S64x128 .f32 := Host.absf main_arg2
  let main_cst_2 : FVec F S_ .f32 := constant S_ .f32 0x7F800000#32
  let main_v9 : FVec F S64x128 .f32 := broadcastInDim S64x128 ![] bcast_S_S64x128 main_cst_2
  let main_v10 : IVec S64x128 1 := cmpf .olt main_v8 main_v9
  let main_c_3 : IVec S_ 1 := constantI S_ 1 1#1
  let main_v11 : IVec S_ 1 := (fun x v => Host.reduce IntOp.andi x v reducesTo_S64x128_S_d0_1 h_S_) main_v10 main_c_3
  let main_v12 : FVec F S64 .f32 := Host.absf main_arg3
  let main_cst_4 : FVec F S_ .f32 := constant S_ .f32 0x7F800000#32
  let main_v13 : FVec F S64 .f32 := broadcastInDim S64 ![] bcast_S_S64 main_cst_4
  let main_v14 : IVec S64 1 := cmpf .olt main_v12 main_v13
  let main_c_5 : IVec S_ 1 := constantI S_ 1 1#1
  let main_v15 : IVec S_ 1 := (fun x v => Host.reduce IntOp.andi x v reducesTo_S64_S_d0 h_S_) main_v14 main_c_5
  fn_part1 (F := F) main_arg4 main_arg5 main_arg6 main_arg7 main_arg8 main_arg9 main_v3 main_v7 main_v11 main_v15
-- ==== Pre_rows_named.lean ====
abbrev S4x64x8192 : Shape := ⟨3, ![4, 64, 8192]⟩
abbrev S4x1024 : Shape := ⟨2, ![4, 1024]⟩
abbrev S4x1024x16 : Shape := ⟨3, ![4, 1024, 16]⟩
abbrev S_ : Shape := ⟨0, ![]⟩

class Facts : Prop where
  bcast_S_S4x1024 : S_.BroadcastsInDim S4x1024 (![] : Fin 0 → Fin S4x1024.rank)
  reducesTo_S4x1024_S_d0_1 : S4x1024.ReducesTo [0, 1] S_
  h_S_ : 0 < S_.numel
  bcast_S_S4x1024x16 : S_.BroadcastsInDim S4x1024x16 (![] : Fin 0 → Fin S4x1024x16.rank)
  reducesTo_S4x1024x16_S_d0_1_2 : S4x1024x16.ReducesTo [0, 1, 2] S_

variable [Facts]

def fn {F : FTy → Type} [FloatOps F] (main_arg0 : FVec F S4x64x8192 .f32) (main_arg1 : IVec S4x1024 32) (main_arg2 : IVec S4x1024x16 32) : IVec S_ 1 :=
  let main_c : IVec S_ 32 := constantI S_ 32 0#32
  let main_v0 : IVec S4x1024 32 := broadcastInDim S4x1024 ![] bcast_S_S4x1024 main_c
  let main_v1 : IVec S4x1024 1 := cmpi .sge main_arg1 main_v0
  let main_c_0 : IVec S_ 32 := constantI S_ 32 8192#32
  let main_v2 : IVec S4x1024 32 := broadcastInDim S4x1024 ![] bcast_S_S4x1024 main_c_0
  let main_v3 : IVec S4x1024 1 := cmpi .slt main_arg1 main_v2
  let main_v4 : IVec S4x1024 1 := andi main_v1 main_v3
  let main_c_1 : IVec S_ 1 := constantI S_ 1 1#1
  let main_v5 : IVec S_ 1 := (fun x v => Host.reduce IntOp.andi x v reducesTo_S4x1024_S_d0_1 h_S_) main_v4 main_c_1
  let main_c_2 : IVec S_ 32 := constantI S_ 32 0#32
  let main_v6 : IVec S4x1024x16 32 := broadcastInDim S4x1024x16 ![] bcast_S_S4x1024x16 main_c_2
  let main_v7 : IVec S4x1024x16 1 := cmpi .sge main_arg2 main_v6
  let main_c_3 : IVec S_ 32 := constantI S_ 32 8192#32
  let main_v8 : IVec S4x1024x16 32 := broadcastInDim S4x1024x16 ![] bcast_S_S4x1024x16 main_c_3
  let main_v9 : IVec S4x1024x16 1 := cmpi .slt main_arg2 main_v8
  let main_v10 : IVec S4x1024x16 1 := andi main_v7 main_v9
  let main_c_4 : IVec S_ 1 := constantI S_ 1 1#1
  let main_v11 : IVec S_ 1 := (fun x v => Host.reduce IntOp.andi x v reducesTo_S4x1024x16_S_d0_1_2 h_S_) main_v10 main_c_4
  let main_v12 : IVec S_ 1 := andi main_v5 main_v11
  main_v12
-- ==== Kernel.lean ====
abbrev S4x64x8192 : Shape := ⟨3, ![4, 64, 8192]⟩
abbrev S4x1024 : Shape := ⟨2, ![4, 1024]⟩
abbrev S4x1024x16 : Shape := ⟨3, ![4, 1024, 16]⟩
abbrev S4 : Shape := ⟨1, ![4]⟩
abbrev S_ : Shape := ⟨0, ![]⟩
abbrev S4x1x1 : Shape := ⟨3, ![4, 1, 1]⟩
abbrev S65536 : Shape := ⟨1, ![65536]⟩
abbrev S4x1 : Shape := ⟨2, ![4, 1]⟩
abbrev S4096 : Shape := ⟨1, ![4096]⟩
abbrev S69632 : Shape := ⟨1, ![69632]⟩
abbrev S32x17x128 : Shape := ⟨3, ![32, 17, 128]⟩
abbrev S4x8192x64 : Shape := ⟨3, ![4, 8192, 64]⟩
abbrev S32768x64 : Shape := ⟨2, ![32768, 64]⟩
abbrev S32768x128 : Shape := ⟨2, ![32768, 128]⟩
abbrev S69632x128 : Shape := ⟨2, ![69632, 128]⟩
abbrev S17x128 : Shape := ⟨2, ![17, 128]⟩
abbrev S128x128 : Shape := ⟨2, ![128, 128]⟩
abbrev S1x17x128 : Shape := ⟨3, ![1, 17, 128]⟩
abbrev S1x128 : Shape := ⟨2, ![1, 128]⟩
abbrev S128 : Shape := ⟨1, ![128]⟩
abbrev S65536x64 : Shape := ⟨2, ![65536, 64]⟩
abbrev S4096x64 : Shape := ⟨2, ![4096, 64]⟩

abbrev nBuf : Table → Nat
  | .hbm => 25
  | .local .scVector .vmem => 2
  | _ => 0

abbrev bufTy : (tb : Table) → Fin (nBuf tb) → BufTy
  | .hbm, ⟨0, _⟩ => ⟨S4x64x8192, .f32⟩
  | .hbm, ⟨1, _⟩ => ⟨S4x1024, .i32⟩
  | .hbm, ⟨2, _⟩ => ⟨S4x1024x16, .i32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4, .i32⟩
  | .hbm, ⟨7, _⟩ => ⟨S4x1x1, .i32⟩
  | .hbm, ⟨8, _⟩ => ⟨S4x1024x16, .i32⟩
  | .hbm, ⟨9, _⟩ => ⟨S4x1024x16, .i32⟩
  | .hbm, ⟨10, _⟩ => ⟨S65536, .i32⟩
  | .hbm, ⟨11, _⟩ => ⟨S4x1, .i32⟩
  | .hbm, ⟨12, _⟩ => ⟨S4x1024, .i32⟩
  | .hbm, ⟨13, _⟩ => ⟨S4x1024, .i32⟩
  | .hbm, ⟨14, _⟩ => ⟨S4096, .i32⟩
  | .hbm, ⟨15, _⟩ => ⟨S69632, .i32⟩
  | .hbm, ⟨16, _⟩ => ⟨S32x17x128, .i32⟩
  | .hbm, ⟨17, _⟩ => ⟨S4x8192x64, .f32⟩
  | .hbm, ⟨18, _⟩ => ⟨S32768x64, .f32⟩
  | .hbm, ⟨19, _⟩ => ⟨S_, .f32⟩
  | .hbm, ⟨20, _⟩ => ⟨S32768x64, .f32⟩
  | .hbm, ⟨21, _⟩ => ⟨S32768x128, .f32⟩
  | .hbm, ⟨22, _⟩ => ⟨S69632x128, .f32⟩
  | .hbm, ⟨23, _⟩ => ⟨S65536x64, .f32⟩
  | .hbm, ⟨24, _⟩ => ⟨S4096x64, .f32⟩
  | .local .scVector .vmem, ⟨0, _⟩ => ⟨S17x128, .i32⟩
  | .local .scVector .vmem, ⟨1, _⟩ => ⟨S128x128, .f32⟩
  | _, _ => ⟨S4x64x8192, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v16_scv : Ref sig .scVector := ⟨.hbm, 21, rfl⟩
abbrev main_v12_scv : Ref sig .scVector := ⟨.hbm, 16, rfl⟩
abbrev main_v17_scv : Ref sig .scVector := ⟨.hbm, 22, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_137_r0 : BitVec 32 := 0#32
  let c0_i32_138_r0 : BitVec 32 := 0#32
  ![v1.toNat, 0, 0]
def k0_off2 (i : grid0.Coords) (c0_i32_7 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2176_i32 : BitVec 32 := 2176#32
  let v8 : BitVec 32 := Scalar.muli v1 c2176_i32
  let v9 : BitVec 32 := Scalar.addi v8 c0_i32_7
  let c0_i32_137_r1 : BitVec 32 := 0#32
  ![v9.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x64x8192 : Shape := ⟨3, ![4, 64, 8192]⟩
abbrev S4x1024 : Shape := ⟨2, ![4, 1024]⟩
abbrev S4x1024x16 : Shape := ⟨3, ![4, 1024, 16]⟩
abbrev S4x8192x64 : Shape := ⟨3, ![4, 8192, 64]⟩
abbrev S4x16384 : Shape := ⟨2, ![4, 16384]⟩
abbrev S4x16384x1 : Shape := ⟨3, ![4, 16384, 1]⟩
abbrev S_ : Shape := ⟨0, ![]⟩
abbrev S1 : Shape := ⟨1, ![1]⟩
abbrev S1x1x1 : Shape := ⟨3, ![1, 1, 1]⟩
abbrev S4x16384x64 : Shape := ⟨3, ![4, 16384, 64]⟩
abbrev S4x1024x1 : Shape := ⟨3, ![4, 1024, 1]⟩
abbrev S4x1024x64 : Shape := ⟨3, ![4, 1024, 64]⟩
abbrev S65536x64 : Shape := ⟨2, ![65536, 64]⟩
abbrev S4096x64 : Shape := ⟨2, ![4096, 64]⟩

abbrev nBuf : Space → Nat
  | .hbm => 53
  | .vmem => 0
  | .smem => 0
  | _ => 0

abbrev bufTy : (tb : Table) → Fin (tcTables nBuf tb) → BufTy
  | .hbm, ⟨0, _⟩ => ⟨S4x64x8192, .f32⟩
  | .hbm, ⟨1, _⟩ => ⟨S4x1024, .i32⟩
  | .hbm, ⟨2, _⟩ => ⟨S4x1024x16, .i32⟩
  | .hbm, ⟨3, _⟩ => ⟨S4x8192x64, .f32⟩
  | .hbm, ⟨4, _⟩ => ⟨S4x16384, .i32⟩
  | .hbm, ⟨5, _⟩ => ⟨S4x16384x1, .i32⟩
  | .hbm, ⟨6, _⟩ => ⟨S_, .i32⟩
  | .hbm, ⟨7, _⟩ => ⟨S4x16384x1, .i32⟩
  | .hbm, ⟨8, _⟩ => ⟨S4x16384x1, .i1⟩
  | .hbm, ⟨9, _⟩ => ⟨S_, .i32⟩
  | .hbm, ⟨10, _⟩ => ⟨S4x16384x1, .i32⟩
  | .hbm, ⟨11, _⟩ => ⟨S4x16384x1, .i32⟩
  | .hbm, ⟨12, _⟩ => ⟨S4x16384x1, .i32⟩
  | .hbm, ⟨13, _⟩ => ⟨S1, .i32⟩
  | .hbm, ⟨14, _⟩ => ⟨S_, .i32⟩
  | .hbm, ⟨15, _⟩ => ⟨S4x16384x1, .i32⟩
  | .hbm, ⟨16, _⟩ => ⟨S4x16384x1, .i1⟩
  | .hbm, ⟨17, _⟩ => ⟨S1x1x1, .i32⟩
  | .hbm, ⟨18, _⟩ => ⟨S4x16384x1, .i32⟩
  | .hbm, ⟨19, _⟩ => ⟨S4x16384x1, .i1⟩
  | .hbm, ⟨20, _⟩ => ⟨S4x16384x1, .i1⟩
  | .hbm, ⟨21, _⟩ => ⟨S_, .i1⟩
  | .hbm, ⟨22, _⟩ => ⟨S4x16384, .i1⟩
  | .hbm, ⟨23, _⟩ => ⟨S4x16384x64, .f32⟩
  | .hbm, ⟨24, _⟩ => ⟨S4x16384x64, .i1⟩
  | .hbm, ⟨25, _⟩ => ⟨S_, .f32⟩
  | .hbm, ⟨26, _⟩ => ⟨S4x16384x64, .f32⟩
  | .hbm, ⟨27, _⟩ => ⟨S4x16384x64, .f32⟩
  | .hbm, ⟨28, _⟩ => ⟨S4x1024x1, .i32⟩
  | .hbm, ⟨29, _⟩ => ⟨S_, .i32⟩
  | .hbm, ⟨30, _⟩ => ⟨S4x1024x1, .i32⟩
  | .hbm, ⟨31, _⟩ => ⟨S4x1024x1, .i1⟩
  | .hbm, ⟨32, _⟩ => ⟨S_, .i32⟩
  | .hbm, ⟨33, _⟩ => ⟨S4x1024x1, .i32⟩
  | .hbm, ⟨34, _⟩ => ⟨S4x1024x1, .i32⟩
  | .hbm, ⟨35, _⟩ => ⟨S4x1024x1, .i32⟩
  | .hbm, ⟨36, _⟩ => ⟨S1, .i32⟩
  | .hbm, ⟨37, _⟩ => ⟨S_, .i32⟩
  | .hbm, ⟨38, _⟩ => ⟨S4x1024x1, .i32⟩
  | .hbm, ⟨39, _⟩ => ⟨S4x1024x1, .i1⟩
  | .hbm, ⟨40, _⟩ => ⟨S1x1x1, .i32⟩
  | .hbm, ⟨41, _⟩ => ⟨S4x1024x1, .i32⟩
  | .hbm, ⟨42, _⟩ => ⟨S4x1024x1, .i1⟩
  | .hbm, ⟨43, _⟩ => ⟨S4x1024x1, .i1⟩
  | .hbm, ⟨44, _⟩ => ⟨S_, .i1⟩
  | .hbm, ⟨45, _⟩ => ⟨S4x1024, .i1⟩
  | .hbm, ⟨46, _⟩ => ⟨S4x1024x64, .f32⟩
  | .hbm, ⟨47, _⟩ => ⟨S4x1024x64, .i1⟩
  | .hbm, ⟨48, _⟩ => ⟨S_, .f32⟩
  | .hbm, ⟨49, _⟩ => ⟨S4x1024x64, .f32⟩
  | .hbm, ⟨50, _⟩ => ⟨S4x1024x64, .f32⟩
  | .hbm, ⟨51, _⟩ => ⟨S65536x64, .f32⟩
  | .hbm, ⟨52, _⟩ => ⟨S4096x64, .f32⟩
  | _, _ => ⟨S4x64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_c_2 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_c_3 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v3 : Ref sig .tc := ⟨.hbm, 27, rfl⟩
abbrev main_v4 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_c_2 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_c_3 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_cst : Ref sig .tc := ⟨.hbm, 48, rfl⟩
abbrev main_call1_v14 : Ref sig .tc := ⟨.hbm, 49, rfl⟩
abbrev main_v5 : Ref sig .tc := ⟨.hbm, 50, rfl⟩
abbrev main_v6 : Ref sig .tc := ⟨.hbm, 51, rfl⟩
abbrev main_v7 : Ref sig .tc := ⟨.hbm, 52, rfl⟩

abbrev nD : Nat := 1
abbrev τ : Topo := Topo.v7x

variable {F : FTy → Type} [FloatOps F]
-- ==== Sample.lean ====
abbrev S4x2x8192 : Shape := ⟨3, ![4, 2, 8192]⟩
abbrev S4x1x8192 : Shape := ⟨3, ![4, 1, 8192]⟩
abbrev S4x1024 : Shape := ⟨2, ![4, 1024]⟩
abbrev S4x8192 : Shape := ⟨2, ![4, 8192]⟩
abbrev S4 : Shape := ⟨1, ![4]⟩
abbrev S4x1 : Shape := ⟨2, ![4, 1]⟩
abbrev S4x1x1024 : Shape := ⟨3, ![4, 1, 1024]⟩
abbrev S4x2x1024 : Shape := ⟨3, ![4, 2, 1024]⟩
abbrev S_ : Shape := ⟨0, ![]⟩

abbrev nBuf : Space → Nat
  | .hbm => 10
  | .vmem => 4
  | .smem => 0
  | _ => 0

abbrev bufTy : (tb : Table) → Fin (tcTables nBuf tb) → BufTy
  | .hbm, ⟨0, _⟩ => ⟨S4x2x8192, .f32⟩
  | .hbm, ⟨1, _⟩ => ⟨S4x1x8192, .i1⟩
  | .hbm, ⟨2, _⟩ => ⟨S4x1024, .i32⟩
  | .hbm, ⟨3, _⟩ => ⟨S4x1024, .f32⟩
  | .hbm, ⟨4, _⟩ => ⟨S4x1024, .f32⟩
  | .hbm, ⟨5, _⟩ => ⟨S4x1x1024, .f32⟩
  | .hbm, ⟨6, _⟩ => ⟨S4x1x1024, .f32⟩
  | .hbm, ⟨7, _⟩ => ⟨S4x2x1024, .f32⟩
  | .hbm, ⟨8, _⟩ => ⟨S_, .i1⟩
  | .hbm, ⟨9, _⟩ => ⟨S4x1x1024, .i1⟩
  | .local _ .vmem, ⟨0, _⟩ => ⟨S4x2x8192, .f32⟩
  | .local _ .vmem, ⟨1, _⟩ => ⟨S4x1024, .i32⟩
  | .local _ .vmem, ⟨2, _⟩ => ⟨S4x1024, .f32⟩
  | .local _ .vmem, ⟨3, _⟩ => ⟨S4x1024, .f32⟩
  | _, _ => ⟨S4x2x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32_6 : BitVec 32 := 0#32
  let c1024_i32 : BitVec 32 := 1024#32
  let v20 : BitVec 32 := Scalar.addi c0_i32_6 c1024_i32
  let c1_i32 : BitVec 32 := 1#32
  ⟨c0_i32_6, v20, c1_i32⟩
abbrev stage0_0 : Fin 1 → Memref sig .tc .vmem S4x2x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== SampleReferenceIdeal.lean ====
abbrev S4x2x8192 : Shape := ⟨3, ![4, 2, 8192]⟩
abbrev S4x1x8192 : Shape := ⟨3, ![4, 1, 8192]⟩
abbrev S4x8192x2 : Shape := ⟨3, ![4, 8192, 2]⟩
abbrev S4x8192 : Shape := ⟨2, ![4, 8192]⟩
abbrev S_ : Shape := ⟨0, ![]⟩
abbrev S4x1024 : Shape := ⟨2, ![4, 1024]⟩
abbrev S4 : Shape := ⟨1, ![4]⟩
abbrev S1 : Shape := ⟨1, ![1]⟩
abbrev S4x1x1 : Shape := ⟨3, ![4, 1, 1]⟩
abbrev S1x1x1 : Shape := ⟨3, ![1, 1, 1]⟩
abbrev S4x1 : Shape := ⟨2, ![4, 1]⟩
abbrev S4x1x2 : Shape := ⟨3, ![4, 1, 2]⟩
abbrev S4x1x1024 : Shape := ⟨3, ![4, 1, 1024]⟩
abbrev S4x2x1024 : Shape := ⟨3, ![4, 2, 1024]⟩
abbrev S4x2x1024x1 : Shape := ⟨4, ![4, 2, 1024, 1]⟩
abbrev S1x1x1x1 : Shape := ⟨4, ![1, 1, 1, 1]⟩

abbrev nBuf : Space → Nat
  | .hbm => 98
  | .vmem => 0
  | .smem => 0
  | _ => 0

abbrev bufTy : (tb : Table) → Fin (tcTables nBuf tb) → BufTy
  | .hbm, ⟨0, _⟩ => ⟨S4x2x8192, .f32⟩
  | .hbm, ⟨1, _⟩ => ⟨S4x1x8192, .i1⟩
  | .hbm, ⟨2, _⟩ => ⟨S4x8192x2, .f32⟩
  | .hbm, ⟨3, _⟩ => ⟨S4x8192, .i1⟩
  | .hbm, ⟨4, _⟩ => ⟨S_, .f32⟩
  | .hbm, ⟨5, _⟩ => ⟨S_, .f32⟩
  | .hbm, ⟨6, _⟩ => ⟨S4x8192, .f32⟩
  | .hbm, ⟨7, _⟩ => ⟨S4x8192, .f32⟩
  | .hbm, ⟨8, _⟩ => ⟨S4x8192, .f32⟩
  | .hbm, ⟨9, _⟩ => ⟨S_, .i32⟩
  | .hbm, ⟨10, _⟩ => ⟨S4x1024, .i32⟩
  | .hbm, ⟨11, _⟩ => ⟨S_, .i32⟩
  | .hbm, ⟨12, _⟩ => ⟨S_, .i32⟩
  | .hbm, ⟨13, _⟩ => ⟨S4x8192x2, .f32⟩
  | .hbm, ⟨14, _⟩ => ⟨S4x8192, .i1⟩
  | .hbm, ⟨15, _⟩ => ⟨S_, .i32⟩
  | .hbm, ⟨16, _⟩ => ⟨S_, .i32⟩
  | .hbm, ⟨17, _⟩ => ⟨S4x8192, .f32⟩
  | .hbm, ⟨18, _⟩ => ⟨S4x1024, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S4x8192, .i32⟩
  | .hbm, ⟨24, _⟩ => ⟨S_, .f32⟩
  | .hbm, ⟨25, _⟩ => ⟨S_, .i32⟩
  | .hbm, ⟨26, _⟩ => ⟨S4, .f32⟩
  | .hbm, ⟨27, _⟩ => ⟨S4, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S1, .i32⟩
  | .hbm, ⟨35, _⟩ => ⟨S4x1024, .i32⟩
  | .hbm, ⟨36, _⟩ => ⟨S4x1x1, .i32⟩
  | .hbm, ⟨37, _⟩ => ⟨S_, .i32⟩
  | .hbm, ⟨38, _⟩ => ⟨S4x1x1, .i32⟩
  | .hbm, ⟨39, _⟩ => ⟨S4x1x1, .i1⟩
  | .hbm, ⟨40, _⟩ => ⟨S_, .i32⟩
  | .hbm, ⟨41, _⟩ => ⟨S4x1x1, .i32⟩
  | .hbm, ⟨42, _⟩ => ⟨S4x1x1, .i32⟩
  | .hbm, ⟨43, _⟩ => ⟨S4x1x1, .i32⟩
  | .hbm, ⟨44, _⟩ => ⟨S1, .i32⟩
  | .hbm, ⟨45, _⟩ => ⟨S_, .i32⟩
  | .hbm, ⟨46, _⟩ => ⟨S4x1x1, .i32⟩
  | .hbm, ⟨47, _⟩ => ⟨S4x1x1, .i1⟩
  | .hbm, ⟨48, _⟩ => ⟨S1x1x1, .i32⟩
  | .hbm, ⟨49, _⟩ => ⟨S4x1x1, .i32⟩
  | .hbm, ⟨50, _⟩ => ⟨S4x1x1, .i1⟩
  | .hbm, ⟨51, _⟩ => ⟨S4x1x1, .i1⟩
  | .hbm, ⟨52, _⟩ => ⟨S_, .i1⟩
  | .hbm, ⟨53, _⟩ => ⟨S4x1, .i1⟩
  | .hbm, ⟨54, _⟩ => ⟨S4x1x2, .f32⟩
  | .hbm, ⟨55, _⟩ => ⟨S4x1x2, .i1⟩
  | .hbm, ⟨56, _⟩ => ⟨S_, .f32⟩
  | .hbm, ⟨57, _⟩ => ⟨S4x1x2, .f32⟩
  | .hbm, ⟨58, _⟩ => ⟨S4x1x2, .f32⟩
  | .hbm, ⟨59, _⟩ => ⟨S4x8192x2, .f32⟩
  | .hbm, ⟨60, _⟩ => ⟨S4x8192x2, .f32⟩
  | .hbm, ⟨61, _⟩ => ⟨S4x8192x2, .f32⟩
  | .hbm, ⟨62, _⟩ => ⟨S_, .f32⟩
  | .hbm, ⟨63, _⟩ => ⟨S4x8192, .f32⟩
  | .hbm, ⟨64, _⟩ => ⟨S_, .f32⟩
  | .hbm, ⟨65, _⟩ => ⟨S_, .f32⟩
  | .hbm, ⟨66, _⟩ => ⟨S4x8192, .f32⟩
  | .hbm, ⟨67, _⟩ => ⟨S4x8192, .f32⟩
  | .hbm, ⟨68, _⟩ => ⟨S4x8192, .f32⟩
  | .hbm, ⟨69, _⟩ => ⟨S4x8192, .f32⟩
  | .hbm, ⟨70, _⟩ => ⟨S_, .i32⟩
  | .hbm, ⟨71, _⟩ => ⟨S_, .i32⟩
  | .hbm, ⟨72, _⟩ => ⟨S4x1x1024, .i32⟩
  | .hbm, ⟨73, _⟩ => ⟨S4x2x1024, .i32⟩
  | .hbm, ⟨74, _⟩ => ⟨S_, .i32⟩
  | .hbm, ⟨75, _⟩ => ⟨S4x2x1024, .i32⟩
  | .hbm, ⟨76, _⟩ => ⟨S4x2x1024, .i1⟩
  | .hbm, ⟨77, _⟩ => ⟨S_, .i32⟩
  | .hbm, ⟨78, _⟩ => ⟨S4x2x1024, .i32⟩
  | .hbm, ⟨79, _⟩ => ⟨S4x2x1024, .i32⟩
  | .hbm, ⟨80, _⟩ => ⟨S4x2x1024, .i32⟩
  | .hbm, ⟨81, _⟩ => ⟨S4x2x1024x1, .i32⟩
  | .hbm, ⟨82, _⟩ => ⟨S1, .i32⟩
  | .hbm, ⟨83, _⟩ => ⟨S_, .i32⟩
  | .hbm, ⟨84, _⟩ => ⟨S4x2x1024x1, .i32⟩
  | .hbm, ⟨85, _⟩ => ⟨S4x2x1024x1, .i1⟩
  | .hbm, ⟨86, _⟩ => ⟨S1x1x1x1, .i32⟩
  | .hbm, ⟨87, _⟩ => ⟨S4x2x1024x1, .i32⟩
  | .hbm, ⟨88, _⟩ => ⟨S4x2x1024x1, .i1⟩
  | .hbm, ⟨89, _⟩ => ⟨S4x2x1024x1, .i1⟩
  | .hbm, ⟨90, _⟩ => ⟨S_, .i1⟩
  | .hbm, ⟨91, _⟩ => ⟨S4x2x1024, .i1⟩
  | .hbm, ⟨92, _⟩ => ⟨S4x2x1024, .f32⟩
  | .hbm, ⟨93, _⟩ => ⟨S_, .f32⟩
  | .hbm, ⟨94, _⟩ => ⟨S4x2x1024, .f32⟩
  | .hbm, ⟨95, _⟩ => ⟨S4x2x1024, .f32⟩
  | .hbm, ⟨96, _⟩ => ⟨S_, .i1⟩
  | .hbm, ⟨97, _⟩ => ⟨S4x1x1024, .i1⟩
  | _, _ => ⟨S4x2x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_c_1 : Ref sig .tc := ⟨.hbm, 11, rfl⟩
abbrev main_c_2 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev main_v4_5 : Ref sig .tc := ⟨.hbm, 18, rfl⟩
abbrev main_while0c_c_9 : Ref sig .tc := ⟨.hbm, 19, rfl⟩
abbrev main_while0c_v9 : Ref sig .tc := ⟨.hbm, 20, rfl⟩
abbrev main_while0b_c_9 : Ref sig .tc := ⟨.hbm, 21, rfl⟩
abbrev main_while0b_v9 : Ref sig .tc := ⟨.hbm, 22, rfl⟩
abbrev main_while0b_call1_v0 : Ref sig .tc := ⟨.hbm, 23, rfl⟩
abbrev main_while0b_call1_cst : Ref sig .tc := ⟨.hbm, 24, rfl⟩
abbrev main_while0b_call1_c : Ref sig .tc := ⟨.hbm, 25, rfl⟩
abbrev main_while0b_call1_v1_0 : Ref sig .tc := ⟨.hbm, 26, rfl⟩
abbrev main_while0b_v10 : Ref sig .tc := ⟨.hbm, 27, rfl⟩
abbrev main_while0b_c_10 : Ref sig .tc := ⟨.hbm, 28, rfl⟩
abbrev main_while0b_v11 : Ref sig .tc := ⟨.hbm, 29, rfl⟩
abbrev main_while0b_c_11 : Ref sig .tc := ⟨.hbm, 30, rfl⟩
abbrev main_while0b_v12 : Ref sig .tc := ⟨.hbm, 31, rfl⟩
abbrev main_while0b_v13 : Ref sig .tc := ⟨.hbm, 32, rfl⟩
abbrev main_while0b_v14 : Ref sig .tc := ⟨.hbm, 33, rfl⟩
abbrev main_while0b_v15 : Ref sig .tc := ⟨.hbm, 34, rfl⟩
abbrev main_while0b_v16 : Ref sig .tc := ⟨.hbm, 35, rfl⟩
abbrev main_while0b_v17 : Ref sig .tc := ⟨.hbm, 36, rfl⟩
abbrev main_while0b_call2_c : Ref sig .tc := ⟨.hbm, 37, rfl⟩
abbrev main_while0b_call2_v0 : Ref sig .tc := ⟨.hbm, 38, rfl⟩
abbrev main_while0b_call2_v1 : Ref sig .tc := ⟨.hbm, 39, rfl⟩
abbrev main_while0b_call2_c_0 : Ref sig .tc := ⟨.hbm, 40, rfl⟩
abbrev main_while0b_call2_v2 : Ref sig .tc := ⟨.hbm, 41, rfl⟩
abbrev main_while0b_call2_v3 : Ref sig .tc := ⟨.hbm, 42, rfl⟩
abbrev main_while0b_call2_v4 : Ref sig .tc := ⟨.hbm, 43, rfl⟩
abbrev main_while0b_call2_c_1 : Ref sig .tc := ⟨.hbm, 44, rfl⟩
abbrev main_while0b_call2_c_2 : Ref sig .tc := ⟨.hbm, 45, rfl⟩
abbrev main_while0b_call2_v5 : Ref sig .tc := ⟨.hbm, 46, rfl⟩
abbrev main_while0b_call2_v6 : Ref sig .tc := ⟨.hbm, 47, rfl⟩
abbrev main_while0b_call2_v7 : Ref sig .tc := ⟨.hbm, 48, rfl⟩
abbrev main_while0b_call2_v8 : Ref sig .tc := ⟨.hbm, 49, rfl⟩
abbrev main_while0b_call2_v9 : Ref sig .tc := ⟨.hbm, 50, rfl⟩
abbrev main_while0b_call2_v10 : Ref sig .tc := ⟨.hbm, 51, rfl⟩
abbrev main_while0b_call2_c_3 : Ref sig .tc := ⟨.hbm, 52, rfl⟩
abbrev main_while0b_call2_v11 : Ref sig .tc := ⟨.hbm, 53, rfl⟩
abbrev main_while0b_call2_v12 : Ref sig .tc := ⟨.hbm, 54, rfl⟩
abbrev main_while0b_call2_v13 : Ref sig .tc := ⟨.hbm, 55, rfl⟩
abbrev main_while0b_call2_cst : Ref sig .tc := ⟨.hbm, 56, rfl⟩
abbrev main_while0b_call2_v14 : Ref sig .tc := ⟨.hbm, 57, rfl⟩
abbrev main_while0b_v18 : Ref sig .tc := ⟨.hbm, 58, rfl⟩
abbrev main_while0b_v19 : Ref sig .tc := ⟨.hbm, 59, rfl⟩
abbrev main_while0b_v20 : Ref sig .tc := ⟨.hbm, 60, rfl⟩
abbrev main_while0b_v21 : Ref sig .tc := ⟨.hbm, 61, rfl⟩
abbrev main_while0b_cst_12 : Ref sig .tc := ⟨.hbm, 62, rfl⟩
abbrev main_while0b_v22 : Ref sig .tc := ⟨.hbm, 63, rfl⟩
abbrev main_while0b_cst_13 : Ref sig .tc := ⟨.hbm, 64, rfl⟩
abbrev main_while0b_call3_v0 : Ref sig .tc := ⟨.hbm, 65, rfl⟩
abbrev main_while0b_call3_v1 : Ref sig .tc := ⟨.hbm, 66, rfl⟩
abbrev main_while0b_v23 : Ref sig .tc := ⟨.hbm, 67, rfl⟩
abbrev main_while0b_v24 : Ref sig .tc := ⟨.hbm, 68, rfl⟩
abbrev main_while0b_v25 : Ref sig .tc := ⟨.hbm, 69, rfl⟩
abbrev main_while0b_c_14 : Ref sig .tc := ⟨.hbm, 70, rfl⟩
abbrev main_while0b_v26 : Ref sig .tc := ⟨.hbm, 71, rfl⟩
abbrev main_v5 : Ref sig .tc := ⟨.hbm, 72, rfl⟩
abbrev main_v6 : Ref sig .tc := ⟨.hbm, 73, rfl⟩
abbrev main_call4_c : Ref sig .tc := ⟨.hbm, 74, rfl⟩
abbrev main_call4_v0 : Ref sig .tc := ⟨.hbm, 75, rfl⟩
abbrev main_call4_v1 : Ref sig .tc := ⟨.hbm, 76, rfl⟩
abbrev main_call4_c_0 : Ref sig .tc := ⟨.hbm, 77, rfl⟩
abbrev main_call4_v2 : Ref sig .tc := ⟨.hbm, 78, rfl⟩
abbrev main_call4_v3 : Ref sig .tc := ⟨.hbm, 79, rfl⟩
abbrev main_call4_v4 : Ref sig .tc := ⟨.hbm, 80, rfl⟩
abbrev main_call4_v5 : Ref sig .tc := ⟨.hbm, 81, rfl⟩
abbrev main_call4_c_1 : Ref sig .tc := ⟨.hbm, 82, rfl⟩
abbrev main_call4_c_2 : Ref sig .tc := ⟨.hbm, 83, rfl⟩
abbrev main_call4_v6 : Ref sig .tc := ⟨.hbm, 84, rfl⟩
abbrev main_call4_v7 : Ref sig .tc := ⟨.hbm, 85, rfl⟩
abbrev main_call4_v8 : Ref sig .tc := ⟨.hbm, 86, rfl⟩
abbrev main_call4_v9 : Ref sig .tc := ⟨.hbm, 87, rfl⟩
abbrev main_call4_v10 : Ref sig .tc := ⟨.hbm, 88, rfl⟩
abbrev main_call4_v11 : Ref sig .tc := ⟨.hbm, 89, rfl⟩
abbrev main_call4_c_3 : Ref sig .tc := ⟨.hbm, 90, rfl⟩
abbrev main_call4_v12 : Ref sig .tc := ⟨.hbm, 91, rfl⟩
abbrev main_call4_v13 : Ref sig .tc := ⟨.hbm, 92, rfl⟩
abbrev main_call4_cst : Ref sig .tc := ⟨.hbm, 93, rfl⟩
abbrev main_call4_v14 : Ref sig .tc := ⟨.hbm, 94, rfl⟩
abbrev main_v7 : Ref sig .tc := ⟨.hbm, 95, rfl⟩
abbrev main_c_3 : Ref sig .tc := ⟨.hbm, 96, rfl⟩
abbrev main_v8 : Ref sig .tc := ⟨.hbm, 97, rfl⟩

abbrev nD : Nat := 1
abbrev τ : Topo := Topo.v7x

variable {F : FTy → Type} [FloatOps F]

abbrev main_while0_count : Scf.Loop 32 := ⟨0#32, 1024#32, 1#32⟩
-- ==== Layers.lean ====
abbrev S65536x64 : Shape := ⟨2, ![65536, 64]⟩
abbrev S4096x64 : Shape := ⟨2, ![4096, 64]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S8192x64 : Shape := ⟨2, ![8192, 64]⟩
abbrev S512x64 : Shape := ⟨2, ![512, 64]⟩
abbrev S512x16x64 : Shape := ⟨3, ![512, 16, 64]⟩
abbrev S512x1x64 : Shape := ⟨3, ![512, 1, 64]⟩
abbrev S_ : Shape := ⟨0, ![]⟩
abbrev S4x1024x64 : Shape := ⟨3, ![4, 1024, 64]⟩
abbrev S4x64x1024 : Shape := ⟨3, ![4, 64, 1024]⟩

abbrev nBuf : Space → Nat
  | .hbm => 89
  | .vmem => 34
  | .smem => 0
  | _ => 0

abbrev bufTy : (tb : Table) → Fin (tcTables nBuf tb) → BufTy
  | .hbm, ⟨0, _⟩ => ⟨S65536x64, .f32⟩
  | .hbm, ⟨1, _⟩ => ⟨S4096x64, .f32⟩
  | .hbm, ⟨2, _⟩ => ⟨S64x128, .f32⟩
  | .hbm, ⟨3, _⟩ => ⟨S64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S1x64, .f32⟩
  | .hbm, ⟨23, _⟩ => ⟨S65536x64, .f32⟩
  | .hbm, ⟨24, _⟩ => ⟨S4096x64, .f32⟩
  | .hbm, ⟨25, _⟩ => ⟨S1x64, .f32⟩
  | .hbm, ⟨26, _⟩ => ⟨S1x64, .f32⟩
  | .hbm, ⟨27, _⟩ => ⟨S1x64, .f32⟩
  | .hbm, ⟨28, _⟩ => ⟨S1x64, .f32⟩
  | .hbm, ⟨29, _⟩ => ⟨S_, .f32⟩
  | .hbm, ⟨30, _⟩ => ⟨S1x64, .f32⟩
  | .hbm, ⟨31, _⟩ => ⟨S1x64, .f32⟩
  | .hbm, ⟨32, _⟩ => ⟨S_, .f32⟩
  | .hbm, ⟨33, _⟩ => ⟨S1x64, .f32⟩
  | .hbm, ⟨34, _⟩ => ⟨S1x64, .f32⟩
  | .hbm, ⟨35, _⟩ => ⟨S1x64, .f32⟩
  | .hbm, ⟨36, _⟩ => ⟨S1x64, .f32⟩
  | .hbm, ⟨37, _⟩ => ⟨S_, .f32⟩
  | .hbm, ⟨38, _⟩ => ⟨S1x64, .f32⟩
  | .hbm, ⟨39, _⟩ => ⟨S1x64, .f32⟩
  | .hbm, ⟨40, _⟩ => ⟨S_, .f32⟩
  | .hbm, ⟨41, _⟩ => ⟨S1x64, .f32⟩
  | .hbm, ⟨42, _⟩ => ⟨S1x64, .f32⟩
  | .hbm, ⟨43, _⟩ => ⟨S1x64, .f32⟩
  | .hbm, ⟨44, _⟩ => ⟨S1x64, .f32⟩
  | .hbm, ⟨45, _⟩ => ⟨S1x64, .f32⟩
  | .hbm, ⟨46, _⟩ => ⟨S1x64, .f32⟩
  | .hbm, ⟨47, _⟩ => ⟨S_, .f32⟩
  | .hbm, ⟨48, _⟩ => ⟨S1x64, .f32⟩
  | .hbm, ⟨49, _⟩ => ⟨S1x64, .f32⟩
  | .hbm, ⟨50, _⟩ => ⟨S_, .f32⟩
  | .hbm, ⟨51, _⟩ => ⟨S1x64, .f32⟩
  | .hbm, ⟨52, _⟩ => ⟨S1x64, .f32⟩
  | .hbm, ⟨53, _⟩ => ⟨S1x64, .f32⟩
  | .hbm, ⟨54, _⟩ => ⟨S1x64, .f32⟩
  | .hbm, ⟨55, _⟩ => ⟨S_, .f32⟩
  | .hbm, ⟨56, _⟩ => ⟨S1x64, .f32⟩
  | .hbm, ⟨57, _⟩ => ⟨S1x64, .f32⟩
  | .hbm, ⟨58, _⟩ => ⟨S_, .f32⟩
  | .hbm, ⟨59, _⟩ => ⟨S1x64, .f32⟩
  | .hbm, ⟨60, _⟩ => ⟨S1x64, .f32⟩
  | .hbm, ⟨61, _⟩ => ⟨S1x64, .f32⟩
  | .hbm, ⟨62, _⟩ => ⟨S1x64, .f32⟩
  | .hbm, ⟨63, _⟩ => ⟨S1x64, .f32⟩
  | .hbm, ⟨64, _⟩ => ⟨S1x64, .f32⟩
  | .hbm, ⟨65, _⟩ => ⟨S65536x64, .f32⟩
  | .hbm, ⟨66, _⟩ => ⟨S1x64, .f32⟩
  | .hbm, ⟨67, _⟩ => ⟨S1x64, .f32⟩
  | .hbm, ⟨68, _⟩ => ⟨S_, .f32⟩
  | .hbm, ⟨69, _⟩ => ⟨S1x64, .f32⟩
  | .hbm, ⟨70, _⟩ => ⟨S1x64, .f32⟩
  | .hbm, ⟨71, _⟩ => ⟨S_, .f32⟩
  | .hbm, ⟨72, _⟩ => ⟨S1x64, .f32⟩
  | .hbm, ⟨73, _⟩ => ⟨S1x64, .f32⟩
  | .hbm, ⟨74, _⟩ => ⟨S1x64, .f32⟩
  | .hbm, ⟨75, _⟩ => ⟨S1x64, .f32⟩
  | .hbm, ⟨76, _⟩ => ⟨S_, .f32⟩
  | .hbm, ⟨77, _⟩ => ⟨S1x64, .f32⟩
  | .hbm, ⟨78, _⟩ => ⟨S1x64, .f32⟩
  | .hbm, ⟨79, _⟩ => ⟨S_, .f32⟩
  | .hbm, ⟨80, _⟩ => ⟨S1x64, .f32⟩
  | .hbm, ⟨81, _⟩ => ⟨S1x64, .f32⟩
  | .hbm, ⟨82, _⟩ => ⟨S1x64, .f32⟩
  | .hbm, ⟨83, _⟩ => ⟨S1x64, .f32⟩
  | .hbm, ⟨84, _⟩ => ⟨S1x64, .f32⟩
  | .hbm, ⟨85, _⟩ => ⟨S1x64, .f32⟩
  | .hbm, ⟨86, _⟩ => ⟨S4096x64, .f32⟩
  | .hbm, ⟨87, _⟩ => ⟨S4x1024x64, .f32⟩
  | .hbm, ⟨88, _⟩ => ⟨S4x64x1024, .f32⟩
  | .local _ .vmem, ⟨0, _⟩ => ⟨S8192x64, .f32⟩
  | .local _ .vmem, ⟨1, _⟩ => ⟨S8192x64, .f32⟩
  | .local _ .vmem, ⟨2, _⟩ => ⟨S512x64, .f32⟩
  | .local _ .vmem, ⟨3, _⟩ => ⟨S512x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S8192x64, .f32⟩
  | .local _ .vmem, ⟨8, _⟩ => ⟨S8192x64, .f32⟩
  | .local _ .vmem, ⟨9, _⟩ => ⟨S512x64, .f32⟩
  | .local _ .vmem, ⟨10, _⟩ => ⟨S512x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S8192x64, .f32⟩
  | .local _ .vmem, ⟨16, _⟩ => ⟨S8192x64, .f32⟩
  | .local _ .vmem, ⟨17, _⟩ => ⟨S64x64, .f32⟩
  | .local _ .vmem, ⟨18, _⟩ => ⟨S1x64, .f32⟩
  | .local _ .vmem, ⟨19, _⟩ => ⟨S1x64, .f32⟩
  | .local _ .vmem, ⟨20, _⟩ => ⟨S8192x64, .f32⟩
  | .local _ .vmem, ⟨21, _⟩ => ⟨S8192x64, .f32⟩
  | .local _ .vmem, ⟨22, _⟩ => ⟨S1x64, .f32⟩
  | .local _ .vmem, ⟨23, _⟩ => ⟨S1x64, .f32⟩
  | .local _ .vmem, ⟨24, _⟩ => ⟨S8192x64, .f32⟩
  | .local _ .vmem, ⟨25, _⟩ => ⟨S8192x64, .f32⟩
  | .local _ .vmem, ⟨26, _⟩ => ⟨S512x64, .f32⟩
  | .local _ .vmem, ⟨27, _⟩ => ⟨S512x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S512x64, .f32⟩
  | .local _ .vmem, ⟨33, _⟩ => ⟨S512x64, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev main_v12_3 : Ref sig .tc := ⟨.hbm, 26, rfl⟩
abbrev main_v12_4 : Ref sig .tc := ⟨.hbm, 27, rfl⟩
abbrev main_v12_5 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_cst_0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41_0 : Ref sig .tc := ⟨.hbm, 65, rfl⟩
abbrev main_v41_1 : Ref sig .tc := ⟨.hbm, 66, rfl⟩
abbrev main_v41_2 : Ref sig .tc := ⟨.hbm, 67, rfl⟩
abbrev main_cst_7 : Ref sig .tc := ⟨.hbm, 68, rfl⟩
abbrev main_v42 : Ref sig .tc := ⟨.hbm, 69, rfl⟩
abbrev main_v43 : Ref sig .tc := ⟨.hbm, 70, rfl⟩
abbrev main_cst_8 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_9 : Ref sig .tc := ⟨.hbm, 76, rfl⟩
abbrev main_v48 : Ref sig .tc := ⟨.hbm, 77, rfl⟩
abbrev main_v49 : Ref sig .tc := ⟨.hbm, 78, rfl⟩
abbrev main_cst_10 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg6_0 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem4_1 : DmaSem sig := 21
abbrev cc1_sem5_0 : DmaSem sig := 22
abbrev cc1_sem6_0 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8192x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]
-- ==== LayersReferenceIdeal.lean ====
abbrev S65536x64 : Shape := ⟨2, ![65536, 64]⟩
abbrev S4096x64 : Shape := ⟨2, ![4096, 64]⟩
abbrev S64x128 : Shape := ⟨2, ![64, 128]⟩
abbrev S64 : Shape := ⟨1, ![64]⟩
abbrev S64x64 : Shape := ⟨2, ![64, 64]⟩
abbrev S4x1024x16x64 : Shape := ⟨4, ![4, 1024, 16, 64]⟩
abbrev S4x64x1024x16 : Shape := ⟨4, ![4, 64, 1024, 16]⟩
abbrev S4x1024x64 : Shape := ⟨3, ![4, 1024, 64]⟩
abbrev S4x64x1024 : Shape := ⟨3, ![4, 64, 1024]⟩
abbrev S4x64x1024x1 : Shape := ⟨4, ![4, 64, 1024, 1]⟩
abbrev S4x128x1024x16 : Shape := ⟨4, ![4, 128, 1024, 16]⟩
abbrev S_ : Shape := ⟨0, ![]⟩
abbrev S1x64x1x1 : Shape := ⟨4, ![1, 64, 1, 1]⟩
abbrev S1x64x1 : Shape := ⟨3, ![1, 64, 1]⟩

abbrev nBuf : Space → Nat
  | .hbm => 189
  | .vmem => 0
  | .smem => 0
  | _ => 0

abbrev hbmTy0_0 (i : Nat) : BufTy := match i % 128 with
  | 0 => ⟨S65536x64, .f32⟩
  | 1 => ⟨S4096x64, .f32⟩
  | 2 => ⟨S64x128, .f32⟩
  | 3 => ⟨S64, .f32⟩
  | 4 => ⟨S64, .f32⟩
  | 5 => ⟨S64x64, .f32⟩
  | 6 => ⟨S64, .f32⟩
  | 7 => ⟨S64, .f32⟩
  | 8 => ⟨S64x64, .f32⟩
  | 9 => ⟨S64, .f32⟩
  | 10 => ⟨S64, .f32⟩
  | 11 => ⟨S4x1024x16x64, .f32⟩
  | 12 => ⟨S4x64x1024x16, .f32⟩
  | 13 => ⟨S4x1024x64, .f32⟩
  | 14 => ⟨S4x64x1024, .f32⟩
  | 15 => ⟨S4x64x1024x1, .f32⟩
  | 16 => ⟨S4x64x1024x16, .f32⟩
  | 17 => ⟨S4x128x1024x16, .f32⟩
  | 18 => ⟨S4x1024x16x64, .f32⟩
  | 19 => ⟨S4x64x1024x16, .f32⟩
  | 20 => ⟨S_, .f32⟩
  | 21 => ⟨S64, .f32⟩
  | 22 => ⟨S1x64x1x1, .f32⟩
  | 23 => ⟨S_, .f32⟩
  | 24 => ⟨S1x64x1x1, .f32⟩
  | 25 => ⟨S1x64x1x1, .f32⟩
  | 26 => ⟨S_, .i32⟩
  | 27 => ⟨S_, .f32⟩
  | 28 => ⟨S64, .f32⟩
  | 29 => ⟨S1x64x1x1, .f32⟩
  | 30 => ⟨S_, .f32⟩
  | 31 => ⟨S1x64x1x1, .f32⟩
  | 32 => ⟨S1x64x1x1, .f32⟩
  | 33 => ⟨S4x64x1024x16, .f32⟩
  | 34 => ⟨S4x64x1024x16, .f32⟩
  | 35 => ⟨S4x64x1024x16, .f32⟩
  | 36 => ⟨S_, .f32⟩
  | 37 => ⟨S_, .f32⟩
  | 38 => ⟨S_, .f32⟩
  | 39 => ⟨S_, .f32⟩
  | 40 => ⟨S64, .f32⟩
  | 41 => ⟨S1x64x1x1, .f32⟩
  | 42 => ⟨S1x64x1x1, .f32⟩
  | 43 => ⟨S1x64x1x1, .f32⟩
  | 44 => ⟨S_, .f32⟩
  | 45 => ⟨S_, .i1⟩
  | 46 => ⟨S_, .f32⟩
  | 47 => ⟨S_, .f32⟩
  | 48 => ⟨S1x64x1x1, .f32⟩
  | 49 => ⟨S1x64x1x1, .f32⟩
  | 50 => ⟨S4x64x1024x16, .f32⟩
  | 51 => ⟨S4x64x1024x16, .f32⟩
  | 52 => ⟨S_, .f32⟩
  | 53 => ⟨S1x64x1x1, .f32⟩
  | 54 => ⟨S1x64x1x1, .f32⟩
  | 55 => ⟨S1x64x1x1, .f32⟩
  | 56 => ⟨S4x64x1024x16, .f32⟩
  | 57 => ⟨S4x64x1024x16, .f32⟩
  | 58 => ⟨S1x64x1x1, .f32⟩
  | 59 => ⟨S4x64x1024x16, .f32⟩
  | 60 => ⟨S4x64x1024x16, .f32⟩
  | 61 => ⟨S1x64x1x1, .f32⟩
  | 62 => ⟨S4x64x1024x16, .f32⟩
  | 63 => ⟨S4x64x1024x16, .f32⟩
  | 64 => ⟨S_, .f32⟩
  | 65 => ⟨S4x64x1024x16, .f32⟩
  | 66 => ⟨S4x64x1024x16, .f32⟩
  | 67 => ⟨S4x1024x16x64, .f32⟩
  | 68 => ⟨S4x64x1024x16, .f32⟩
  | 69 => ⟨S_, .f32⟩
  | 70 => ⟨S64, .f32⟩
  | 71 => ⟨S1x64x1x1, .f32⟩
  | 72 => ⟨S_, .f32⟩
  | 73 => ⟨S1x64x1x1, .f32⟩
  | 74 => ⟨S1x64x1x1, .f32⟩
  | 75 => ⟨S_, .i32⟩
  | 76 => ⟨S_, .f32⟩
  | 77 => ⟨S64, .f32⟩
  | 78 => ⟨S1x64x1x1, .f32⟩
  | 79 => ⟨S_, .f32⟩
  | 80 => ⟨S1x64x1x1, .f32⟩
  | 81 => ⟨S1x64x1x1, .f32⟩
  | 82 => ⟨S4x64x1024x16, .f32⟩
  | 83 => ⟨S4x64x1024x16, .f32⟩
  | 84 => ⟨S4x64x1024x16, .f32⟩
  | 85 => ⟨S_, .f32⟩
  | 86 => ⟨S_, .f32⟩
  | 87 => ⟨S_, .f32⟩
  | 88 => ⟨S_, .f32⟩
  | 89 => ⟨S64, .f32⟩
  | 90 => ⟨S1x64x1x1, .f32⟩
  | 91 => ⟨S1x64x1x1, .f32⟩
  | 92 => ⟨S1x64x1x1, .f32⟩
  | 93 => ⟨S_, .f32⟩
  | 94 => ⟨S_, .i1⟩
  | 95 => ⟨S_, .f32⟩
  | 96 => ⟨S_, .f32⟩
  | 97 => ⟨S1x64x1x1, .f32⟩
  | 98 => ⟨S1x64x1x1, .f32⟩
  | 99 => ⟨S4x64x1024x16, .f32⟩
  | 100 => ⟨S4x64x1024x16, .f32⟩
  | 101 => ⟨S_, .f32⟩
  | 102 => ⟨S1x64x1x1, .f32⟩
  | 103 => ⟨S1x64x1x1, .f32⟩
  | 104 => ⟨S1x64x1x1, .f32⟩
  | 105 => ⟨S4x64x1024x16, .f32⟩
  | 106 => ⟨S4x64x1024x16, .f32⟩
  | 107 => ⟨S1x64x1x1, .f32⟩
  | 108 => ⟨S4x64x1024x16, .f32⟩
  | 109 => ⟨S4x64x1024x16, .f32⟩
  | 110 => ⟨S1x64x1x1, .f32⟩
  | 111 => ⟨S4x64x1024x16, .f32⟩
  | 112 => ⟨S4x64x1024x16, .f32⟩
  | 113 => ⟨S_, .f32⟩
  | 114 => ⟨S4x64x1024, .f32⟩
  | 115 => ⟨S_, .f32⟩
  | 116 => ⟨S4x64x1024, .i1⟩
  | 117 => ⟨S_, .f32⟩
  | 118 => ⟨S4x64x1024, .f32⟩
  | 119 => ⟨S4x64x1024, .f32⟩
  | 120 => ⟨S_, .f32⟩
  | 121 => ⟨S4x64x1024, .f32⟩
  | 122 => ⟨S4x64x1024, .i1⟩
  | 123 => ⟨S_, .f32⟩
  | 124 => ⟨S4x64x1024, .f32⟩
  | 125 => ⟨S4x64x1024, .f32⟩
  | 126 => ⟨S_, .f32⟩
  | 127 => ⟨S4x64x1024, .f32⟩
  | _ => ⟨S65536x64, .f32⟩

abbrev hbmTy0_1 (i : Nat) : BufTy := match i % 128 with
  | 0 => ⟨S4x64x1024, .i1⟩
  | 1 => ⟨S_, .f32⟩
  | 2 => ⟨S4x64x1024, .f32⟩
  | 3 => ⟨S4x64x1024, .f32⟩
  | 4 => ⟨S_, .f32⟩
  | 5 => ⟨S4x64x1024, .f32⟩
  | 6 => ⟨S4x64x1024, .i1⟩
  | 7 => ⟨S_, .f32⟩
  | 8 => ⟨S_, .f32⟩
  | 9 => ⟨S4x64x1024, .f32⟩
  | 10 => ⟨S4x64x1024, .f32⟩
  | 11 => ⟨S4x1024x64, .f32⟩
  | 12 => ⟨S4x64x1024, .f32⟩
  | 13 => ⟨S_, .f32⟩
  | 14 => ⟨S64, .f32⟩
  | 15 => ⟨S1x64x1, .f32⟩
  | 16 => ⟨S_, .f32⟩
  | 17 => ⟨S1x64x1, .f32⟩
  | 18 => ⟨S1x64x1, .f32⟩
  | 19 => ⟨S_, .i32⟩
  | 20 => ⟨S_, .f32⟩
  | 21 => ⟨S64, .f32⟩
  | 22 => ⟨S1x64x1, .f32⟩
  | 23 => ⟨S_, .f32⟩
  | 24 => ⟨S1x64x1, .f32⟩
  | 25 => ⟨S1x64x1, .f32⟩
  | 26 => ⟨S4x64x1024, .f32⟩
  | 27 => ⟨S4x64x1024, .f32⟩
  | 28 => ⟨S4x64x1024, .f32⟩
  | 29 => ⟨S_, .f32⟩
  | 30 => ⟨S_, .f32⟩
  | 31 => ⟨S_, .f32⟩
  | 32 => ⟨S_, .f32⟩
  | 33 => ⟨S64, .f32⟩
  | 34 => ⟨S1x64x1, .f32⟩
  | 35 => ⟨S1x64x1, .f32⟩
  | 36 => ⟨S1x64x1, .f32⟩
  | 37 => ⟨S_, .f32⟩
  | 38 => ⟨S_, .i1⟩
  | 39 => ⟨S_, .f32⟩
  | 40 => ⟨S_, .f32⟩
  | 41 => ⟨S1x64x1, .f32⟩
  | 42 => ⟨S1x64x1, .f32⟩
  | 43 => ⟨S4x64x1024, .f32⟩
  | 44 => ⟨S4x64x1024, .f32⟩
  | 45 => ⟨S_, .f32⟩
  | 46 => ⟨S1x64x1, .f32⟩
  | 47 => ⟨S1x64x1, .f32⟩
  | 48 => ⟨S1x64x1, .f32⟩
  | 49 => ⟨S4x64x1024, .f32⟩
  | 50 => ⟨S4x64x1024, .f32⟩
  | 51 => ⟨S1x64x1, .f32⟩
  | 52 => ⟨S4x64x1024, .f32⟩
  | 53 => ⟨S4x64x1024, .f32⟩
  | 54 => ⟨S1x64x1, .f32⟩
  | 55 => ⟨S4x64x1024, .f32⟩
  | 56 => ⟨S4x64x1024, .f32⟩
  | 57 => ⟨S4x64x1024, .f32⟩
  | 58 => ⟨S_, .f32⟩
  | 59 => ⟨S4x64x1024, .f32⟩
  | 60 => ⟨S4x64x1024, .f32⟩
  | _ => ⟨S65536x64, .f32⟩

abbrev hbmTy (i : Nat) : BufTy := match i / 128 with
  | 0 => hbmTy0_0 i
  | 1 => hbmTy0_1 i
  | _ => ⟨S65536x64, .f32⟩

abbrev bufTy : (tb : Table) → Fin (tcTables nBuf tb) → BufTy
  | .hbm, ⟨i, _⟩ => hbmTy i
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_cst_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_cst_1 : Ref sig .tc := ⟨.hbm, 37, rfl⟩
abbrev main_call0_v8 : Ref sig .tc := ⟨.hbm, 38, rfl⟩
abbrev main_call0_cst_2 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_cst_3 : Ref sig .tc := ⟨.hbm, 44, rfl⟩
abbrev main_call0_v13 : Ref sig .tc := ⟨.hbm, 45, rfl⟩
abbrev main_call0_cst_4 : Ref sig .tc := ⟨.hbm, 46, rfl⟩
abbrev main_call0_call0_v0 : Ref sig .tc := ⟨.hbm, 47, rfl⟩
abbrev main_call0_call0_v1 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_cst_1 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_call1_cst : Ref sig .tc := ⟨.hbm, 64, rfl⟩
abbrev main_call1_v0 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_cst_2 : Ref sig .tc := ⟨.hbm, 69, rfl⟩
abbrev main_v30 : Ref sig .tc := ⟨.hbm, 70, rfl⟩
abbrev main_v31 : Ref sig .tc := ⟨.hbm, 71, rfl⟩
abbrev main_cst_3 : Ref sig .tc := ⟨.hbm, 72, rfl⟩
abbrev main_v32 : Ref sig .tc := ⟨.hbm, 73, rfl⟩
abbrev main_v33 : Ref sig .tc := ⟨.hbm, 74, rfl⟩
abbrev main_c_4 : Ref sig .tc := ⟨.hbm, 75, rfl⟩
abbrev main_call2_cst : Ref sig .tc := ⟨.hbm, 76, rfl⟩
abbrev main_call2_v0 : Ref sig .tc := ⟨.hbm, 77, rfl⟩
abbrev main_call2_v1 : Ref sig .tc := ⟨.hbm, 78, rfl⟩
abbrev main_call2_cst_0 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_v6 : Ref sig .tc := ⟨.hbm, 84, rfl⟩
abbrev main_call2_v7 : Ref sig .tc := ⟨.hbm, 85, rfl⟩
abbrev main_call2_cst_1 : Ref sig .tc := ⟨.hbm, 86, rfl⟩
abbrev main_call2_v8 : Ref sig .tc := ⟨.hbm, 87, rfl⟩
abbrev main_call2_cst_2 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_v12 : Ref sig .tc := ⟨.hbm, 92, rfl⟩
abbrev main_call2_cst_3 : Ref sig .tc := ⟨.hbm, 93, rfl⟩
abbrev main_call2_v13 : Ref sig .tc := ⟨.hbm, 94, rfl⟩
abbrev main_call2_cst_4 : Ref sig .tc := ⟨.hbm, 95, rfl⟩
abbrev main_call2_call0_v0 : Ref sig .tc := ⟨.hbm, 96, rfl⟩
abbrev main_call2_call0_v1 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_cst_5 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_cst_6 : Ref sig .tc := ⟨.hbm, 113, rfl⟩
abbrev main_v48 : Ref sig .tc := ⟨.hbm, 114, rfl⟩
abbrev main_cst_7 : Ref sig .tc := ⟨.hbm, 115, rfl⟩
abbrev main_call3_v0 : Ref sig .tc := ⟨.hbm, 116, rfl⟩
abbrev main_call3_v1 : Ref sig .tc := ⟨.hbm, 117, rfl⟩
abbrev main_call3_call0_v0 : Ref sig .tc := ⟨.hbm, 118, rfl⟩
abbrev main_call3_v2 : Ref sig .tc := ⟨.hbm, 119, rfl⟩
abbrev main_call3_cst : Ref sig .tc := ⟨.hbm, 120, rfl⟩
abbrev main_call3_v3 : Ref sig .tc := ⟨.hbm, 121, rfl⟩
abbrev main_call3_v4 : Ref sig .tc := ⟨.hbm, 122, rfl⟩
abbrev main_call3_cst_0 : Ref sig .tc := ⟨.hbm, 123, rfl⟩
abbrev main_call3_call1_v0 : Ref sig .tc := ⟨.hbm, 124, rfl⟩
abbrev main_call3_v5 : Ref sig .tc := ⟨.hbm, 125, rfl⟩
abbrev main_call3_cst_1 : Ref sig .tc := ⟨.hbm, 126, rfl⟩
abbrev main_call3_v6 : Ref sig .tc := ⟨.hbm, 127, rfl⟩
abbrev main_call3_v7 : Ref sig .tc := ⟨.hbm, 128, rfl⟩
abbrev main_call3_cst_2 : Ref sig .tc := ⟨.hbm, 129, rfl⟩
abbrev main_call3_call2_v0 : Ref sig .tc := ⟨.hbm, 130, rfl⟩
abbrev main_v49 : Ref sig .tc := ⟨.hbm, 131, rfl⟩
abbrev main_cst_8 : Ref sig .tc := ⟨.hbm, 132, rfl⟩
abbrev main_v50 : Ref sig .tc := ⟨.hbm, 133, rfl⟩
abbrev main_v51 : Ref sig .tc := ⟨.hbm, 134, rfl⟩
abbrev main_cst_9 : Ref sig .tc := ⟨.hbm, 135, rfl⟩
abbrev main_call4_v0 : Ref sig .tc := ⟨.hbm, 136, rfl⟩
abbrev main_call4_v1 : Ref sig .tc := ⟨.hbm, 137, rfl⟩
abbrev main_v52 : Ref sig .tc := ⟨.hbm, 138, rfl⟩
abbrev main_v53 : Ref sig .tc := ⟨.hbm, 139, rfl⟩
abbrev main_v54 : Ref sig .tc := ⟨.hbm, 140, rfl⟩
abbrev main_cst_10 : Ref sig .tc := ⟨.hbm, 141, rfl⟩
abbrev main_v55 : Ref sig .tc := ⟨.hbm, 142, rfl⟩
abbrev main_v56 : Ref sig .tc := ⟨.hbm, 143, rfl⟩
abbrev main_cst_11 : Ref sig .tc := ⟨.hbm, 144, rfl⟩
abbrev main_v57 : Ref sig .tc := ⟨.hbm, 145, rfl⟩
abbrev main_v58 : Ref sig .tc := ⟨.hbm, 146, rfl⟩
abbrev main_c_12 : Ref sig .tc := ⟨.hbm, 147, rfl⟩
abbrev main_call5_cst : Ref sig .tc := ⟨.hbm, 148, rfl⟩
abbrev main_call5_v0 : Ref sig .tc := ⟨.hbm, 149, rfl⟩
abbrev main_call5_v1 : Ref sig .tc := ⟨.hbm, 150, rfl⟩
abbrev main_call5_cst_0 : Ref sig .tc := ⟨.hbm, 151, rfl⟩
abbrev main_call5_v2 : Ref sig .tc := ⟨.hbm, 152, rfl⟩
abbrev main_call5_v3 : Ref sig .tc := ⟨.hbm, 153, rfl⟩
abbrev main_call5_v4 : Ref sig .tc := ⟨.hbm, 154, rfl⟩
abbrev main_call5_v5 : Ref sig .tc := ⟨.hbm, 155, rfl⟩
abbrev main_call5_v6 : Ref sig .tc := ⟨.hbm, 156, rfl⟩
abbrev main_call5_v7 : Ref sig .tc := ⟨.hbm, 157, rfl⟩
abbrev main_call5_cst_1 : Ref sig .tc := ⟨.hbm, 158, rfl⟩
abbrev main_call5_v8 : Ref sig .tc := ⟨.hbm, 159, rfl⟩
abbrev main_call5_cst_2 : Ref sig .tc := ⟨.hbm, 160, rfl⟩
abbrev main_call5_v9 : Ref sig .tc := ⟨.hbm, 161, rfl⟩
abbrev main_call5_v10 : Ref sig .tc := ⟨.hbm, 162, rfl⟩
abbrev main_call5_v11 : Ref sig .tc := ⟨.hbm, 163, rfl⟩
abbrev main_call5_v12 : Ref sig .tc := ⟨.hbm, 164, rfl⟩
abbrev main_call5_cst_3 : Ref sig .tc := ⟨.hbm, 165, rfl⟩
abbrev main_call5_v13 : Ref sig .tc := ⟨.hbm, 166, rfl⟩
abbrev main_call5_cst_4 : Ref sig .tc := ⟨.hbm, 167, rfl⟩
abbrev main_call5_call0_v0 : Ref sig .tc := ⟨.hbm, 168, rfl⟩
abbrev main_call5_call0_v1 : Ref sig .tc := ⟨.hbm, 169, rfl⟩
abbrev main_v59 : Ref sig .tc := ⟨.hbm, 170, rfl⟩
abbrev main_v60 : Ref sig .tc := ⟨.hbm, 171, rfl⟩
abbrev main_v61 : Ref sig .tc := ⟨.hbm, 172, rfl⟩
abbrev main_cst_13 : Ref sig .tc := ⟨.hbm, 173, rfl⟩
abbrev main_v62 : Ref sig .tc := ⟨.hbm, 174, rfl⟩
abbrev main_v63 : Ref sig .tc := ⟨.hbm, 175, rfl⟩
abbrev main_v64 : Ref sig .tc := ⟨.hbm, 176, rfl⟩
abbrev main_v65 : Ref sig .tc := ⟨.hbm, 177, rfl⟩
abbrev main_v66 : Ref sig .tc := ⟨.hbm, 178, rfl⟩
abbrev main_v67 : Ref sig .tc := ⟨.hbm, 179, rfl⟩
abbrev main_v68 : Ref sig .tc := ⟨.hbm, 180, rfl⟩
abbrev main_v69 : Ref sig .tc := ⟨.hbm, 181, rfl⟩
abbrev main_v70 : Ref sig .tc := ⟨.hbm, 182, rfl⟩
abbrev main_v71 : Ref sig .tc := ⟨.hbm, 183, rfl⟩
abbrev main_v72 : Ref sig .tc := ⟨.hbm, 184, rfl⟩
abbrev main_v73 : Ref sig .tc := ⟨.hbm, 185, rfl⟩
abbrev main_call6_cst : Ref sig .tc := ⟨.hbm, 186, rfl⟩
abbrev main_call6_v0 : Ref sig .tc := ⟨.hbm, 187, rfl⟩
abbrev main_v74 : Ref sig .tc := ⟨.hbm, 188, rfl⟩

abbrev nD : Nat := 1
abbrev τ : Topo := Topo.v7x

variable {F : FTy → Type} [FloatOps F]
-- ==== Nearest.lean ====
abbrev S4x2x1024 : Shape := ⟨3, ![4, 2, 1024]⟩
abbrev S4x2x8192 : Shape := ⟨3, ![4, 2, 8192]⟩
abbrev S4x1x8192 : Shape := ⟨3, ![4, 1, 8192]⟩
abbrev S4x1024x2 : Shape := ⟨3, ![4, 1024, 2]⟩
abbrev S4x1024x16 : Shape := ⟨3, ![4, 1024, 16]⟩
abbrev S1x128x2 : Shape := ⟨3, ![1, 128, 2]⟩
abbrev S1x2x8192 : Shape := ⟨3, ![1, 2, 8192]⟩
abbrev S1x128x16 : Shape := ⟨3, ![1, 128, 16]⟩
abbrev S1x128x1 : Shape := ⟨3, ![1, 128, 1]⟩
abbrev S128x1 : Shape := ⟨2, ![128, 1]⟩
abbrev S1x1x8192 : Shape := ⟨3, ![1, 1, 8192]⟩
abbrev S1x8192 : Shape := ⟨2, ![1, 8192]⟩
abbrev S128x2 : Shape := ⟨2, ![128, 2]⟩
abbrev S2x8192 : Shape := ⟨2, ![2, 8192]⟩
abbrev S128x8192 : Shape := ⟨2, ![128, 8192]⟩
abbrev S128 : Shape := ⟨1, ![128]⟩

abbrev nBuf : Space → Nat
  | .hbm => 5
  | .vmem => 6
  | .smem => 0
  | _ => 0

abbrev bufTy : (tb : Table) → Fin (tcTables nBuf tb) → BufTy
  | .hbm, ⟨0, _⟩ => ⟨S4x2x1024, .f32⟩
  | .hbm, ⟨1, _⟩ => ⟨S4x2x8192, .f32⟩
  | .hbm, ⟨2, _⟩ => ⟨S4x1x8192, .i1⟩
  | .hbm, ⟨3, _⟩ => ⟨S4x1024x2, .f32⟩
  | .hbm, ⟨4, _⟩ => ⟨S4x1024x16, .i32⟩
  | .local _ .vmem, ⟨0, _⟩ => ⟨S1x128x2, .f32⟩
  | .local _ .vmem, ⟨1, _⟩ => ⟨S1x128x2, .f32⟩
  | .local _ .vmem, ⟨2, _⟩ => ⟨S1x2x8192, .f32⟩
  | .local _ .vmem, ⟨3, _⟩ => ⟨S1x2x8192, .f32⟩
  | .local _ .vmem, ⟨4, _⟩ => ⟨S1x128x16, .i32⟩
  | .local _ .vmem, ⟨5, _⟩ => ⟨S1x128x16, .i32⟩
  | _, _ => ⟨S4x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NearestReferenceIdeal.lean ====
abbrev S4x2x1024 : Shape := ⟨3, ![4, 2, 1024]⟩
abbrev S4x2x8192 : Shape := ⟨3, ![4, 2, 8192]⟩
abbrev S4x1x8192 : Shape := ⟨3, ![4, 1, 8192]⟩
abbrev S4x1024x2 : Shape := ⟨3, ![4, 1024, 2]⟩
abbrev S4x8192x2 : Shape := ⟨3, ![4, 8192, 2]⟩
abbrev S_ : Shape := ⟨0, ![]⟩
abbrev S4x1024 : Shape := ⟨2, ![4, 1024]⟩
abbrev S4x1024x1 : Shape := ⟨3, ![4, 1024, 1]⟩
abbrev S4x8192 : Shape := ⟨2, ![4, 8192]⟩
abbrev S4x1024x8192 : Shape := ⟨3, ![4, 1024, 8192]⟩
abbrev S4x1024x16 : Shape := ⟨3, ![4, 1024, 16]⟩

abbrev nBuf : Space → Nat
  | .hbm => 31
  | .vmem => 0
  | .smem => 0
  | _ => 0

abbrev bufTy : (tb : Table) → Fin (tcTables nBuf tb) → BufTy
  | .hbm, ⟨0, _⟩ => ⟨S4x2x1024, .f32⟩
  | .hbm, ⟨1, _⟩ => ⟨S4x2x8192, .f32⟩
  | .hbm, ⟨2, _⟩ => ⟨S4x1x8192, .i1⟩
  | .hbm, ⟨3, _⟩ => ⟨S4x1024x2, .f32⟩
  | .hbm, ⟨4, _⟩ => ⟨S4x8192x2, .f32⟩
  | .hbm, ⟨5, _⟩ => ⟨S4x1024x2, .f32⟩
  | .hbm, ⟨6, _⟩ => ⟨S_, .f32⟩
  | .hbm, ⟨7, _⟩ => ⟨S4x1024, .f32⟩
  | .hbm, ⟨8, _⟩ => ⟨S4x1024x1, .f32⟩
  | .hbm, ⟨9, _⟩ => ⟨S4x8192x2, .f32⟩
  | .hbm, ⟨10, _⟩ => ⟨S_, .f32⟩
  | .hbm, ⟨11, _⟩ => ⟨S4x8192, .f32⟩
  | .hbm, ⟨12, _⟩ => ⟨S4x1x8192, .f32⟩
  | .hbm, ⟨13, _⟩ => ⟨S4x1024x8192, .f32⟩
  | .hbm, ⟨14, _⟩ => ⟨S4x1024x8192, .f32⟩
  | .hbm, ⟨15, _⟩ => ⟨S4x1024x8192, .f32⟩
  | .hbm, ⟨16, _⟩ => ⟨S4x1024x8192, .f32⟩
  | .hbm, ⟨17, _⟩ => ⟨S_, .f32⟩
  | .hbm, ⟨18, _⟩ => ⟨S4x1024x8192, .f32⟩
  | .hbm, ⟨19, _⟩ => ⟨S4x1024x8192, .f32⟩
  | .hbm, ⟨20, _⟩ => ⟨S4x1024x8192, .f32⟩
  | .hbm, ⟨21, _⟩ => ⟨S4x8192, .i1⟩
  | .hbm, ⟨22, _⟩ => ⟨S4x1x8192, .i1⟩
  | .hbm, ⟨23, _⟩ => ⟨S_, .f32⟩
  | .hbm, ⟨24, _⟩ => ⟨S_, .f32⟩
  | .hbm, ⟨25, _⟩ => ⟨S4x1024x8192, .i1⟩
  | .hbm, ⟨26, _⟩ => ⟨S4x1024x8192, .f32⟩
  | .hbm, ⟨27, _⟩ => ⟨S4x1024x8192, .f32⟩
  | .hbm, ⟨28, _⟩ => ⟨S4x1024x8192, .f32⟩
  | .hbm, ⟨29, _⟩ => ⟨S4x1024x16, .f32⟩
  | .hbm, ⟨30, _⟩ => ⟨S4x1024x16, .i32⟩
  | _, _ => ⟨S4x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_v18 : Ref sig .tc := ⟨.hbm, 28, rfl⟩
abbrev main_values : Ref sig .tc := ⟨.hbm, 29, rfl⟩
abbrev main_indices : Ref sig .tc := ⟨.hbm, 30, rfl⟩

abbrev nD : Nat := 1
abbrev τ : Topo := Topo.v7x

variable {F : FTy → Type} [FloatOps F]
-- ==== Proof.Body.lean ====
/-
  The task of the gather as a program: the fetch of the worker's list of rows, then one chunk after another, each the
  indirect gather of 128 rows of the table, its wait, and the copy of the gathered rows to their block of the result.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Gather

open Cert.KernelIdeal Cert.KernelIdeal.Gen
open Idealize.ShloMosaic Idealize.SL.Sem

local notation "tV" => (Memref.whole Cert.KernelIdeal.main_v16_scv : Memref Cert.KernelIdeal.sig Kind.scVector Space.hbm Cert.KernelIdeal.S32768x128 EltTy.f32)
local notation "iV" => (Memref.whole Cert.KernelIdeal.main_v12_scv : Memref Cert.KernelIdeal.sig Kind.scVector Space.hbm Cert.KernelIdeal.S32x17x128 EltTy.i32)
local notation "oV" => (Memref.whole Cert.KernelIdeal.main_v17_scv : Memref Cert.KernelIdeal.sig Kind.scVector Space.hbm Cert.KernelIdeal.S69632x128 EltTy.f32)
local notation "sV" => (Memref.whole Cert.KernelIdeal.cc0_scratch0 : Memref Cert.KernelIdeal.sig Kind.scVector Space.vmem Cert.KernelIdeal.S17x128 EltTy.i32)
local notation "rV" => (Memref.whole Cert.KernelIdeal.cc0_scratch1 : Memref Cert.KernelIdeal.sig Kind.scVector Space.vmem Cert.KernelIdeal.S128x128 EltTy.f32)

variable {F : FTy → Type} [FloatOps F]

/-- The semaphore of chunk `r`'s copy out. -/
abbrev oSem (r : Fin 17) : DmaSems sig S_ := SemArray.consecutive (r.val + 2) S_ (by have := r.isLt; simp [show S_.numel = 1 from rfl]; omega)

theorem lst_inb (r : Fin 17) : ∀ a, (![r.val, 0] : Fin 2 → ℕ) a + S1x128.size a ≤ S17x128.size a := by revert r; decide

/-- The worker's row of the index array. -/
abbrev iRowK (L : grid0.Coords) : Memref sig .scVector .hbm S17x128 .i32 :=
  ((iV).slice (Rect.unit (s := S32x17x128) (k0_off1 L) S1x17x128.size (k0_off1_inb L)) (fun _ => rfl)).squeeze S17x128 squeezes_S1x17x128_S17x128
/-- Row `r` of the fetched lists. -/
abbrev lst (r : Fin 17) : Memref sig .scVector .vmem S128 .i32 :=
  ((sV).slice (Rect.unit (s := S17x128) ![r.val, 0] S1x128.size (lst_inb r)) (fun _ => rfl)).squeeze S128 squeezes_S1x128_S128
/-- All of the table. -/
abbrev tAllK : Memref sig .scVector .hbm S32768x128 .f32 :=
  (tV).slice (Rect.unit (s := S32768x128) ![0, 0] S32768x128.size inb_S32768x128_S32768x128_0_0) (fun _ => rfl)
/-- Block `r` of the worker's part of the result. -/
abbrev oBlkK (L : grid0.Coords) (r : Fin 17) : Memref sig .scVector .hbm S128x128 .f32 :=
  (oV).slice (Rect.unit (s := S69632x128) (k0_off2 L (BitVec.ofNat 32 (128 * r.val))) S128x128.size (k0_off2_inb L r)) (fun _ => rfl)

/-- The fetch of the worker's lists. -/
def fetch (L : grid0.Coords) : Prog (TpuEff nD τ sig (Elt F) Λ₀ (.scVector ((L 0).castLE hcore0) ((L 1).castLE hsub0))) PUnit := do
  Prog.lift (.enqueueDma (iRowK L) (.here sV) (.dma cc0_scoped0.sem) ((View.wordExact_bits rfl).reshape _ _) (Memref.isWhole_whole _).wordExact ⟨Or.inl rfl, trivial⟩)
  Prog.lift (.waitDma2 cc0_scoped0.sem (iRowK L) sV ((View.wordExact_bits rfl).reshape _ _) (Memref.isWhole_whole _).wordExact)

/-- One chunk: the gather, its wait, the copy out, its wait. -/
def chunk (L : grid0.Coords) (r : Fin 17) : Prog (TpuEff nD τ sig (Elt F) Λ₀ (.scVector ((L 0).castLE hcore0) ((L 1).castLE hsub0))) PUnit := do
  SparseCore.enqueueIndirectGather rfl tAllK rV gathers_S32768x128_S128x128 (lst r) rfl cc0_scratch2.sem (View.wordExact_bits rfl) rfl (Or.inl rfl)
  SparseCore.waitIndirectGather cc0_scratch2.sem tAllK rV (View.wordExact_bits rfl) (Memref.isWhole_whole _).wordExact
  Prog.lift (.enqueueDma rV (.here (oBlkK L r)) (.dma (oSem r).sem) (Memref.isWhole_whole _).wordExact (View.wordExact_bits rfl) ⟨Or.inl rfl, trivial⟩)
  Prog.lift (.waitDma2 (oSem r).sem rV (oBlkK L r) (Memref.isWhole_whole _).wordExact (View.wordExact_bits rfl))

/-- The chunks of a list, in order. -/
def chunks (L : grid0.Coords) : List (Fin 17) → Prog (TpuEff nD τ sig (Elt F) Λ₀ (.scVector ((L 0).castLE hcore0) ((L 1).castLE hsub0))) PUnit
  | [] => pure ⟨⟩
  | r :: rs => do chunk L r; chunks L rs

set_option maxRecDepth 65536 in
/-- The printed task is the fetch followed by the seventeen chunks. -/
theorem body_eq (L : grid0.Coords) :
    cc0__sc_gather_body (F := F) L tV (Memref.isWhole_whole _) iV (Memref.isWhole_whole _) oV (Memref.isWhole_whole _)
        sV (Memref.isWhole_whole _) rV (Memref.isWhole_whole _) cc0_scratch2 cc0_scoped0 cc0_scoped1 cc0_scoped2 cc0_scoped3 cc0_scoped4 cc0_scoped5
        cc0_scoped6 cc0_scoped7 cc0_scoped8 cc0_scoped9 cc0_scoped10 cc0_scoped11 cc0_scoped12 cc0_scoped13 cc0_scoped14 cc0_scoped15 cc0_scoped16 cc0_scoped17
      = (do fetch L; chunks L [0, 1, 2, 3, 4, 5, 6, 7, 8, 9, 10, 11, 12, 13, 14, 15, 16]) := rfl

end Cert.Proof.Gather

end
-- ==== Proof.Value.lean ====
/-
  What the gather computes, by coordinates: row `x` of the result is the row of the table that the index array names at
  worker `x / 2176`, chunk `x / 128 % 17`, place `x % 128`. And the one step of a chunk: the block the copy out writes
  holds exactly those rows.
-/
module

public import proofs.«01_k».proof.Proof.Body
public import Idealize.ShloMosaic.Lib.Exec.Geometry
public import Idealize.ShloMosaic.Lib.ValueIdxCore
public import Idealize.ShloMosaic.Lib.ValueIdxCoords
public import Idealize.ShloMosaic.Lib.ValueLayoutCasts
public import Idealize.ShloMosaic.Lib.Routing.Ops
public import Idealize.ShloMosaic.Lib.Pipeline.Value
public import Idealize.ShloMosaic.Lib.Pipeline.ValueKit.Geometry

@[expose] public section

noncomputable section

namespace Cert.Proof.Gather

open Cert.KernelIdeal Cert.KernelIdeal.Gen
open Idealize.ShloMosaic Idealize.SL.Sem
open Idealize.ShloMosaic.ValueIdx

local notation "rV" => (Memref.whole Cert.KernelIdeal.cc0_scratch1 : Memref Cert.KernelIdeal.sig Kind.scVector Space.vmem Cert.KernelIdeal.S128x128 EltTy.f32)

variable {F : FTy → Type} [FloatOps F]

/-- The table's row a word names. -/
def rowOf (v : BitVec 32) : Fin 32768 := ⟨v.toNat % 32768, Nat.mod_lt _ (by decide)⟩

/-- The place in the index array of row `n` of the result. -/
def slot (n : Fin 69632) : S32x17x128.Idx :=
  ix3 (⟨n.val / 2176, by omega⟩ : Fin 32) (⟨n.val / 128 % 17, Nat.mod_lt _ (by decide)⟩ : Fin 17) (⟨n.val % 128, Nat.mod_lt _ (by decide)⟩ : Fin 128)

/-- The gathered rows: row `n` is the table's row that the index array names for `n`. -/
def gath (T : S32768x128.Idx → Elt F .f32) (I : S32x17x128.Idx → BitVec 32) : S69632x128.Idx → Elt F .f32 :=
  fun x => T (ix2 (rowOf (I (slot (x 0)))) (x 1))

/-- The worker's number. -/
def wid (L : grid0.Coords) : Fin 32 := ⟨2 * (L 1).val + (L 0).val, by
  have h0 : (L 0).val < 2 := (L 0).isLt
  have h1 : (L 1).val < 16 := (L 1).isLt
  omega⟩

/-- Where the worker's lists sit in the index array. -/
theorem iRowK_emb (L : grid0.Coords) (j : S17x128.Idx) : (iRowK L).view.emb j = (ix3 (wid L) (j 0) (j 1) : S32x17x128.Idx) := by
  have h : ((iRowK L).view.emb j : S32x17x128.Idx)
      = ((Rect.unit (s := S32x17x128) (k0_off1 L) S1x17x128.size (k0_off1_inb L)).emb (Shape.reshapeEquiv squeezes_S1x17x128_S17x128.numel_eq j)) := rfl
  have hr : Shape.reshapeEquiv squeezes_S1x17x128_S17x128.numel_eq j = (ix3 (0 : Fin 1) (j 0) (j 1) : S1x17x128.Idx) := by
    refine Shape.reshapeEquiv_eq_of_rowMajor _ ?_
    rw [Shape.rowMajor_val_three, Shape.rowMajor_val_two]
    simp
  rw [h, hr]
  funext a
  refine Fin.ext ?_
  rw [ValueKit.rect_emb_unit_val]
  refine (congrArg (· + _) (congrFun (k0_off1_eq L) a)).trans ?_
  match a with
  | 0 => simp [wid]
  | 1 => simp
  | 2 => simp

/-- Where row `r` of the fetched lists sits. -/
theorem lst_emb (r : Fin 17) (j : S128.Idx) : (lst r).view.emb j = (ix2 r (j 0) : S17x128.Idx) := by
  have h : ((lst r).view.emb j : S17x128.Idx)
      = ((Rect.unit (s := S17x128) ![r.val, 0] S1x128.size (lst_inb r)).emb (Shape.reshapeEquiv squeezes_S1x128_S128.numel_eq j)) := rfl
  have hr : Shape.reshapeEquiv squeezes_S1x128_S128.numel_eq j = (ix2 (0 : Fin 1) (j 0) : S1x128.Idx) := by
    refine Shape.reshapeEquiv_eq_of_rowMajor _ ?_
    rw [Shape.rowMajor_val_two, Shape.rowMajor_val_one]
    simp
  rw [h, hr]
  funext a
  refine Fin.ext ?_
  rw [ValueKit.rect_emb_unit_val]
  match a with
  | 0 => simp
  | 1 => simp

/-- All of the table is the table. -/
theorem tAllK_emb (j : S32768x128.Idx) : (tAllK).view.emb j = j := by
  have h : ((tAllK).view.emb j : S32768x128.Idx)
      = (Rect.unit (s := S32768x128) ![0, 0] S32768x128.size inb_S32768x128_S32768x128_0_0).emb j := rfl
  rw [h]
  funext a
  refine Fin.ext ?_
  rw [ValueKit.rect_emb_unit_val]
  match a with
  | 0 => simp
  | 1 => simp

/-- The row of the result that place `k` of the worker's chunk `r` fills. -/
def outRow (L : grid0.Coords) (r : Fin 17) (k : Fin 128) : Fin 69632 := ⟨2176 * (wid L).val + 128 * r.val + k.val, by
  have := (wid L).isLt; have := r.isLt; have := k.isLt; omega⟩

/-- Where the worker's chunk `r` sits in the result. -/
theorem oBlkK_emb (L : grid0.Coords) (r : Fin 17) (j : S128x128.Idx) : (oBlkK L r).view.emb j = (ix2 (outRow L r (j 0)) (j 1) : S69632x128.Idx) := by
  have h : ((oBlkK L r).view.emb j : S69632x128.Idx)
      = (Rect.unit (s := S69632x128) (k0_off2 L (BitVec.ofNat 32 (128 * r.val))) S128x128.size (k0_off2_inb L r)).emb j := rfl
  rw [h]
  funext a
  refine Fin.ext ?_
  rw [ValueKit.rect_emb_unit_val]
  refine (congrArg (· + _) (congrFun (k0_off2_eq L r) a)).trans ?_
  match a with
  | 0 => simp [outRow, wid]; omega
  | 1 => simp

/-- The place in the index array of a row of a worker's chunk. -/
theorem slot_outRow (L : grid0.Coords) (r : Fin 17) (k : Fin 128) : slot (outRow L r k) = ix3 (wid L) r k := by
  have := (wid L).isLt; have := r.isLt; have := k.isLt
  unfold slot outRow
  congr 1 <;> refine Fin.ext ?_ <;> simp only <;> omega

/-- The worker's lists as fetched. -/
abbrev lists (L : grid0.Coords) (I : S32x17x128.Idx → BitVec 32) : S17x128.Idx → BitVec 32 := (iRowK L).view.read (Elt F) I

theorem lists_apply (L : grid0.Coords) (I : S32x17x128.Idx → BitVec 32) (j : S17x128.Idx) : lists (F := F) L I j = I (ix3 (wid L) (j 0) (j 1)) := by
  show (iRowK L).view.read (Elt F) I j = _
  rw [View.read_apply, iRowK_emb]; rfl

theorem lst_read (L : grid0.Coords) (I : S32x17x128.Idx → BitVec 32) (r : Fin 17) (j : S128.Idx) :
    ((lst r).view.read (Elt F) (lists (F := F) L I) j : BitVec 32) = I (ix3 (wid L) r (j 0)) := by
  rw [View.read_apply, lst_emb]
  exact lists_apply L I _

/-- The rows a chunk gathers, at index `j`. -/
theorem payload_apply (T : S32768x128.Idx → Elt F .f32) (I : S32x17x128.Idx → BitVec 32) (L : grid0.Coords) (r : Fin 17)
    (hin : ∀ x, ((lst r).view.read (Elt F) (lists (F := F) L I) x : BitVec 32).toNat < S32768x128.size gathers_S32768x128_S128x128.axis) (j : S128x128.Idx) :
    SparseCore.gatherPayload (F := F) (e := .f32) gathers_S32768x128_S128x128 ((tAllK).view.read (Elt F) T) (SparseCore.rows ((lst r).view.read (Elt F) (lists (F := F) L I)) rfl hin) j
      = gath T I ((oBlkK L r).view.emb j) := by
  rw [oBlkK_emb]
  unfold SparseCore.gatherPayload gath
  rw [View.read_apply, tAllK_emb]
  show T _ = T _
  congr 1
  funext a
  match a with
  | 0 =>
    refine Fin.ext ?_
    have e := Shape.Gathers.idx_axis gathers_S32768x128_S128x128 (SparseCore.rows ((lst r).view.read (Elt F) (lists (F := F) L I)) rfl hin) j
    refine (congrArg Fin.val e).trans ?_
    have hlt : (I (ix3 (wid L) r (j 0))).toNat < 32768 := by
      have := hin (ix1 (j 0))
      rw [lst_read] at this
      exact this
    show ((lst r).view.read (Elt F) (lists (F := F) L I) _ : BitVec 32).toNat = (I (slot (outRow L r (j 0)))).toNat % 32768
    refine Eq.trans ?_ (congrArg (fun v : BitVec 32 => v.toNat % 32768) (congrArg I (slot_outRow L r (j 0)))).symm
    refine Eq.trans ?_ (Nat.mod_eq_of_lt hlt).symm
    refine congrArg BitVec.toNat ((lst_read L I r _).trans ?_)
    exact congrArg (fun k : Fin 128 => I (ix3 (wid L) r k)) (congrFun (Routing.symm1 (N := 128) _) 0)
  | 1 =>
    refine Fin.ext ?_
    exact Shape.Gathers.idx_of_ne gathers_S32768x128_S128x128 _ j 1 (by decide)

/-- The row buffer, written with the gathered rows and read back, is the gathered rows. -/
theorem rows_read (T : S32768x128.Idx → Elt F .f32) (I : S32x17x128.Idx → BitVec 32) (L : grid0.Coords) (r : Fin 17)
    (hin : ∀ x, ((lst r).view.read (Elt F) (lists (F := F) L I) x : BitVec 32).toNat < S32768x128.size gathers_S32768x128_S128x128.axis)
    (fr : S128x128.Idx → Elt F .f32) (j : S128x128.Idx) :
    (rV).view.read (Elt F) (View.write (Elt F) (rV).view fr
        (SparseCore.gatherPayload (F := F) (e := .f32) gathers_S32768x128_S128x128 ((tAllK).view.read (Elt F) T) (SparseCore.rows ((lst r).view.read (Elt F) (lists (F := F) L I)) rfl hin)) Finset.univ) j
      = gath T I ((oBlkK L r).view.emb j) := by
  rw [View.write_whole_univ]
  simp only [Memref.view_whole, View.read_whole]
  exact payload_apply T I L r hin j

/-- After a chunk's copy out its block of the result holds the gathered rows. -/
theorem block_value (T : S32768x128.Idx → Elt F .f32) (I : S32x17x128.Idx → BitVec 32) (L : grid0.Coords) (r : Fin 17)
    (fo : S69632x128.Idx → Elt F .f32) (w : S128x128.Idx → Elt F .f32) (hw : ∀ j, w j = gath T I ((oBlkK L r).view.emb j)) :
    ∀ i ∈ (oBlkK L r).view.set, (oBlkK L r).view.writes (Elt F) fo [⟨Rect.whole S128x128, w⟩] i = gath T I i := by
  intro i hi
  obtain ⟨j, -, rfl⟩ := Finset.mem_map.mp hi
  rw [← View.write_univ_eq_writes_whole, View.write_emb_of_mem _ _ (Finset.mem_univ _)]
  exact hw j

end Cert.Proof.Gather

end
-- ==== Proof.Tile.lean ====
/-
  One task of the gather, on a vector subcore: it reads its row of the index array, a share of the table, and leaves each
  of its seventeen blocks of the result holding the gathered rows. The chunks go by induction over their list.
-/
module

public import proofs.«01_k».proof.Proof.Value

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

local notation "sV" => (Memref.whole Cert.KernelIdeal.cc0_scratch0 : Memref Cert.KernelIdeal.sig Kind.scVector Space.vmem Cert.KernelIdeal.S17x128 EltTy.i32)
local notation "rV" => (Memref.whole Cert.KernelIdeal.cc0_scratch1 : Memref Cert.KernelIdeal.sig Kind.scVector Space.vmem Cert.KernelIdeal.S128x128 EltTy.f32)

abbrev tLoc (d : Dev nD) : Loc nD τ sig := (SparseCore.T d).loc main_v16
abbrev iLoc (d : Dev nD) : Loc nD τ sig := (SparseCore.T d).loc main_v12
abbrev oLoc (d : Dev nD) : Loc nD τ sig := (SparseCore.T d).loc main_v17

variable [FloatOps F]
variable (d : Dev nD) (L : grid0.Coords)

abbrev cV (L : grid0.Coords) : Fin τ.nSC := (L 0).castLE hcore0
abbrev jV (L : grid0.Coords) : Fin τ.nSub := (L 1).castLE hsub0

/-- The subcore's thread. -/
abbrev thr : Thread nD τ := V d (cV L) (jV L)

/-- The cell of the gathers' semaphore, and the cell of chunk `r`'s copy out. -/
abbrev gCell : GSem nD τ sig := (thr d L, .dma cc0_scratch2.sem)
abbrev oCell (r : Fin 17) : GSem nD τ sig := (thr d L, .dma (oSem r).sem)

/-- Block `r` of the task's part of the result, at contents `f`. -/
abbrev oPts (r : Fin 17) (f : Buf (Elt F) (oLoc d)) : sProp 𝕄 := (oBlkK L r).view.loc (thr d L) ↦[(oBlkK L r).view.set]{fullShare} f

/-- What is left over of a thread's waits once it has waited on its own transfers only. -/
abbrev owed (O : CellTallies nD τ sig (HIx 1)) (W : Waits sig (HIx 1)) : sProp 𝕄 :=
  iprop(∃ W', ⌜∀ p ∈ W', p ∈ W ∨ p.2 = none⌝ ∗ owes (thr d L) O W')

omit [FloatOps F] in
/-- The rows of the row buffer are credited, together, what the buffer is. -/
theorem hN_row (h : S32768x128.Gathers 0 S128x128) : ∑ j, ((rV).slice (S128x128.rowRect h.axis' j) (S128x128.stride_rowRect h.axis' j)).view.dmaCredit
      = (rV).view.dmaCredit := by
  have e0 : (rV).view.dmaCredit = 524288 := by decide
  have e1 : RefSig.bitCredit (S128x128.rowShape h.axis') .f32 = 4096 := by revert h; decide
  have e : ∀ j : Fin (S128x128.size h.axis'), ((rV).slice (S128x128.rowRect h.axis' j) (S128x128.stride_rowRect h.axis' j)).view.dmaCredit = 4096 := fun j => e1
  rw [Finset.sum_congr rfl fun j _ => e j, Finset.sum_const, e0, Finset.card_univ, Fintype.card_fin]
  show 128 * 4096 = 524288
  norm_num

set_option maxHeartbeats 4000000 in
/-- One chunk: the rows its list names are gathered, and copied to its block of the result. -/
theorem wp_chunk (r : Fin 17) (q : PosShare TreeShare) (T : Buf (Elt F) (tLoc d)) (I : Buf (Elt F) (iLoc d))
    (hin : ∀ x, ((lst r).view.read (Elt F) (lists (F := F) L I) x : BitVec 32).toNat < S32768x128.size gathers_S32768x128_S128x128.axis)
    (fo : Buf (Elt F) (oLoc d)) (O : CellTallies nD τ sig (HIx 1)) (W : Waits sig (HIx 1)) (hO : ∀ g, O g none = 0) :
    iprop(levAts (K (F := F)).L (K (F := F)).lev
        ∗ ((tAllK).view.loc (thr d L) ↦[(tAllK).view.set]{q} T)
        ∗ ((thr d L).loc cc0_scratch0 ↦{fullShare} lists (F := F) L I)
        ∗ (∃ f, (thr d L).loc cc0_scratch1 ↦{fullShare} f)
        ∗ semVal (gCell d L) 0 ∗ semVal (oCell d L r) 0
        ∗ oPts d L r fo ∗ owed d L O W)
      ⊢ wp frame (wpE (defs₀ (F := F)) 𝒱₀ (thr d L) none) Set.univ (chunk L r)
          fun _ => iprop(((tAllK).view.loc (thr d L) ↦[(tAllK).view.set]{q} T)
            ∗ ((thr d L).loc cc0_scratch0 ↦{fullShare} lists (F := F) L I)
            ∗ (∃ f, (thr d L).loc cc0_scratch1 ↦{fullShare} f)
            ∗ semVal (gCell d L) 0 ∗ semVal (oCell d L r) 0
            ∗ oPts d L r (gath T I) ∗ owed d L O W) := by
  unfold chunk
  iintro ⟨#Hlv, Ht, Hs, ⟨%fr, Hr⟩, HsemG, HsemO, Ho, %W', %hW', HO⟩
  ihave Hmw := (show levAts (K (F := F)).L (K (F := F)).lev ⊢ Transfers.MayWaits (thr d L) (default : HIx 1) O from
    (K (F := F)).mayWaits_none (thr := thr d L) hO) $$ Hlv
  have hrs : (rV).view.set = Finset.univ := View.set_whole _
  ihave Hr' := (Entails.of_eq (show ((thr d L).loc cc0_scratch1 ↦{fullShare} fr : sProp 𝕄)
      = (rV).view.loc (thr d L) ↦[(rV).view.set]{fullShare} fr by rw [hrs])) $$ Hr
  ihave Hss := (pointsTo_split_subset (q := fullShare) (ℓ := (thr d L).loc cc0_scratch0) (f := lists (F := F) L I) (S := Finset.univ) (Finset.subset_univ (lst r).view.set)).1 $$ Hs
  icases Hss with ⟨Hsl, Hsr⟩
  iapply (SparseCore.wp_indirectGatherLocal countersEmb 𝒱₀ (thr d L) none (hg := gathers_S32768x128_S128x128) (default : HIx 1)
      (rV).view.dmaCredit (hN_row _) (by decide) hin) $$ [Ht Hr' Hsl HsemG]
  · isplitl [Ht]; · iexact Ht
    isplitl [Hr']; · iexact Hr'
    isplitl [Hsl]; · iexact Hsl
    iexact HsemG
  iintro Hfl
  sl_exec
  iapply (Transfers.wp_waitLocalO countersEmb 𝒱₀ (thr d L) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Ht, Hsl⟩, HsemG, HO⟩
  ihave Hs := (pointsTo_split_subset (q := fullShare) (ℓ := (thr d L).loc cc0_scratch0) (f := lists (F := F) L I) (S := Finset.univ) (Finset.subset_univ (lst r).view.set)).2 $$ [Hsl Hsr]
  · isplitl [Hsl] <;> iassumption
  ihave Hr3 := (Entails.of_eq (show ((rV).view.loc (thr d L) ↦[(rV).view.set]{fullShare} _ : sProp 𝕄)
      = (rV).view.loc (thr d L) ↦{fullShare} _ by rw [hrs])) $$ Hr'
  sl_exec
  sl_step
  isplitl [Ht]; · iexact Ht
  isplitl [Hs]; · iexact Hs
  isplitl [Hr3]; · iexists _; iexact Hr3
  isplitl [HsemG]; · iexact HsemG
  isplitl [HsemO]; · iexact HsemO
  isplitl [Ho]
  · iapply (Entails.of_eq (pointsTo_congr (block_value T I L r fo _ (fun j => rows_read T I L r hin fr j)))); iexact Ho
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

/-- The chunks of a list: each block whose number is in the list ends holding the gathered rows, the others keep theirs. -/
theorem wp_chunks (q : PosShare TreeShare) (T : Buf (Elt F) (tLoc d)) (I : Buf (Elt F) (iLoc d))
    (hin : ∀ r x, ((lst r).view.read (Elt F) (lists (F := F) L I) x : BitVec 32).toNat < S32768x128.size gathers_S32768x128_S128x128.axis)
    (O : CellTallies nD τ sig (HIx 1)) (W : Waits sig (HIx 1)) (hO : ∀ g, O g none = 0) :
    ∀ (rs : List (Fin 17)) (c : Fin 17 → Buf (Elt F) (oLoc d)),
    iprop(levAts (K (F := F)).L (K (F := F)).lev
        ∗ ((tAllK).view.loc (thr d L) ↦[(tAllK).view.set]{q} T)
        ∗ ((thr d L).loc cc0_scratch0 ↦{fullShare} lists (F := F) L I)
        ∗ (∃ f, (thr d L).loc cc0_scratch1 ↦{fullShare} f)
        ∗ semVal (gCell d L) 0 ∗ (bigSep Finset.univ fun r => semVal (oCell d L r) 0)
        ∗ (bigSep Finset.univ fun r => oPts d L r (c r)) ∗ owed d L O W)
      ⊢ wp frame (wpE (defs₀ (F := F)) 𝒱₀ (thr d L) none) Set.univ (chunks L rs)
          fun _ => iprop(((tAllK).view.loc (thr d L) ↦[(tAllK).view.set]{q} T)
            ∗ ((thr d L).loc cc0_scratch0 ↦{fullShare} lists (F := F) L I)
            ∗ (∃ f, (thr d L).loc cc0_scratch1 ↦{fullShare} f)
            ∗ semVal (gCell d L) 0 ∗ (bigSep Finset.univ fun r => semVal (oCell d L r) 0)
            ∗ (bigSep Finset.univ fun r => oPts d L r (if r ∈ rs then gath T I else c r)) ∗ owed d L O W)
  | [], c => by
    simp only [chunks, List.not_mem_nil, if_false]
    iintro ⟨-, H⟩
    sl_step
    iexact H
  | r :: rs, c => by
    simp only [chunks, wp_bind]
    iintro ⟨#Hlv, Ht, Hs, Hr, HsemG, HsemO, Ho, HO⟩
    ihave HsemO := (bigSep_univ_update (Φ := fun r => (semVal (oCell d L r) 0 : sProp 𝕄)) (Ψ := fun r => semVal (oCell d L r) 0) r (fun _ _ => rfl)) $$ HsemO
    icases HsemO with ⟨HsemO, HsemOs⟩
    ihave Ho := (bigSep_univ_update (Φ := fun r => oPts d L r (c r)) (Ψ := fun r' => oPts d L r' (Function.update c r (gath T I) r')) r
      (fun j hj => by rw [Function.update_of_ne hj])) $$ Ho
    icases Ho with ⟨Ho, Hos⟩
    iapply (wp_wand_r frame _ Set.univ)
    isplitl [Ht Hs Hr HsemG HsemO Ho HO]
    · iapply (wp_chunk d L r q T I (hin r) (c r) O W hO)
      isplitr; · iexact Hlv
      isplitl [Ht]; · iexact Ht
      isplitl [Hs]; · iexact Hs
      isplitl [Hr]; · iexact Hr
      isplitl [HsemG]; · iexact HsemG
      isplitl [HsemO]; · iexact HsemO
      isplitl [Ho]; · iexact Ho
      iexact HO
    iintro %_ ⟨Ht, Hs, Hr, HsemG, HsemO, Ho, HO⟩
    ihave HsemO := HsemOs $$ HsemO
    ihave Ho := Hos $$ [Ho]
    · rw [Function.update_self]; iexact Ho
    have hpost : (fun r' => oPts d L r' (if r' ∈ r :: rs then gath T I else c r'))
        = fun r' => oPts d L r' (if r' ∈ rs then gath T I else Function.update c r (gath T I) r') := by
      funext r'
      congr 1
      by_cases h1 : r' ∈ rs
      · simp [h1]
      · by_cases h2 : r' = r
        · subst h2; simp
        · simp [h1, h2]
    rw [hpost]
    iapply (wp_chunks q T I hin O W hO rs (Function.update c r (gath T I)))
    isplitr; · iexact Hlv
    isplitl [Ht]; · iexact Ht
    isplitl [Hs]; · iexact Hs
    isplitl [Hr]; · iexact Hr
    isplitl [HsemG]; · iexact HsemG
    isplitl [HsemO]; · iexact HsemO
    isplitl [Ho]; · iexact Ho
    iexact HO

/-- The cell of the fetch of the lists. -/
abbrev fCell : GSem nD τ sig := (thr d L, .dma cc0_scoped0.sem)

/-- The worker's row of the index array. -/
abbrev iPts (I : Buf (Elt F) (iLoc d)) : sProp 𝕄 := (iRowK L).view.loc (thr d L) ↦[(iRowK L).view.set]{fullShare} I

set_option maxHeartbeats 4000000 in
/-- The fetch leaves the worker's lists in its list buffer. -/
theorem wp_fetch (I : Buf (Elt F) (iLoc d)) (O : CellTallies nD τ sig (HIx 1)) (W : Waits sig (HIx 1)) (hO : ∀ g, O g none = 0) :
    iprop(levAts (K (F := F)).L (K (F := F)).lev ∗ iPts d L I ∗ (∃ f, (thr d L).loc cc0_scratch0 ↦{fullShare} f) ∗ semVal (fCell d L) 0
        ∗ owed d L O W)
      ⊢ wp frame (wpE (defs₀ (F := F)) 𝒱₀ (thr d L) none) Set.univ (fetch L)
          fun _ => iprop(iPts d L I ∗ ((thr d L).loc cc0_scratch0 ↦{fullShare} lists (F := F) L I) ∗ semVal (fCell d L) 0 ∗ owed d L O W) := by
  unfold fetch
  iintro ⟨#Hlv, Hi, ⟨%fs, Hs⟩, HsemF, %W', %hW', HO⟩
  ihave Hmw := (show levAts (K (F := F)).L (K (F := F)).lev ⊢ Transfers.MayWaits (thr d L) (default : HIx 1) O from
    (K (F := F)).mayWaits_none (thr := thr d L) hO) $$ Hlv
  ihave Hs' := (Entails.of_eq (show ((thr d L).loc cc0_scratch0 ↦{fullShare} fs : sProp 𝕄) = (sV).view.loc (thr d L) ↦{fullShare} fs from rfl)) $$ Hs
  sl_exec
  sl_step
  isplitl [Hi]; · iexact Hi
  isplitl [Hs']
  · iapply (Entails.of_eq (congrArg (fun f => ((thr d L).loc cc0_scratch0 ↦{fullShare} f : sProp 𝕄)) (View.write_whole_univ (Val := Elt F) cc0_scratch0 fs (lists (F := F) L I)))); iexact Hs'
  isplitl [HsemF]; · iexact HsemF
  iexists _; isplitr
  swap; · iexact HO
  ipureintro; intro p hp
  rcases Finset.mem_insert.mp hp with hp | hp; · exact .inr (hp ▸ rfl)
  exact hW' p hp

end Cert.Proof.Gather

end
-- ==== Proof.Task.lean ====
/-
  The whole task of a vector subcore, from the scratch and the semaphores it is handed, and the obligation of the launch
  that it meets.
-/
module

public import proofs.«01_k».proof.Proof.Tile

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "tV" => (Memref.whole Cert.KernelIdeal.main_v16_scv : Memref Cert.KernelIdeal.sig Kind.scVector Space.hbm Cert.KernelIdeal.S32768x128 EltTy.f32)
local notation "iV" => (Memref.whole Cert.KernelIdeal.main_v12_scv : Memref Cert.KernelIdeal.sig Kind.scVector Space.hbm Cert.KernelIdeal.S32x17x128 EltTy.i32)
local notation "oV" => (Memref.whole Cert.KernelIdeal.main_v17_scv : Memref Cert.KernelIdeal.sig Kind.scVector Space.hbm Cert.KernelIdeal.S69632x128 EltTy.f32)
local notation "sV" => (Memref.whole Cert.KernelIdeal.cc0_scratch0 : Memref Cert.KernelIdeal.sig Kind.scVector Space.vmem Cert.KernelIdeal.S17x128 EltTy.i32)
local notation "rV" => (Memref.whole Cert.KernelIdeal.cc0_scratch1 : Memref Cert.KernelIdeal.sig Kind.scVector Space.vmem Cert.KernelIdeal.S128x128 EltTy.f32)

/-! ## The subcore's own semaphores and buffers -/

section Own

variable (d : Dev nD) (L : grid0.Coords)

theorem oSem_ne (r : Fin 17) : (SemLoc.dma (oSem r).sem : SemLoc sig) ≠ .dma cc0_scratch2.sem ∧ (SemLoc.dma (oSem r).sem : SemLoc sig) ≠ .dma cc0_scoped0.sem := by
  revert r; decide
theorem oSem_inj : ∀ r r' : Fin 17, (SemLoc.dma (oSem r).sem : SemLoc sig) = .dma (oSem r').sem → r = r' := by decide
theorem oSem_scoped : ∀ r : Fin 17, (SemLoc.dma (oSem r).sem : SemLoc sig).isScoped .scVector = true := by decide

/-- The subcore's own semaphores besides those the task uses. -/
abbrev restCells : Finset (GSem nD τ sig) :=
  (((ownCells (thr d L)).erase (gCell d L)).erase (fCell d L)) \ (Finset.univ : Finset (Fin 17)).image (oCell d L)

/-- The subcore's own semaphores: the gathers', the fetch's, one for each copy out, and the rest. -/
theorem ownSems0_V :
    (ownSems0 (thr d L) : sProp 𝕄)
      = iprop(semVal (gCell d L) 0 ∗ semVal (fCell d L) 0 ∗ (bigSep Finset.univ fun r => semVal (oCell d L r) 0)
          ∗ bigSep (restCells d L) fun g => semVal g 0) := by
  unfold SparseCore.Cfg.ownSems0
  rw [SparseCore.bigSep_erase' ((mem_ownCells (g := gCell d L)).mpr ⟨rfl, by
      show (SemLoc.dma cc0_scratch2.sem : SemLoc sig).isScoped .scVector = true; decide⟩),
    SparseCore.bigSep_erase' (Finset.mem_erase.mpr ⟨fun e => absurd (congrArg Prod.snd e) (show (SemLoc.dma cc0_scoped0.sem : SemLoc sig) ≠ .dma cc0_scratch2.sem by decide),
      (mem_ownCells (g := fCell d L)).mpr ⟨rfl, by show (SemLoc.dma cc0_scoped0.sem : SemLoc sig).isScoped .scVector = true; decide⟩⟩),
    SparseCore.bigSep_sdiff_split' (t := (Finset.univ : Finset (Fin 17)).image (oCell d L)) (fun x hx => by
      obtain ⟨r, -, rfl⟩ := Finset.mem_image.mp hx
      exact Finset.mem_erase.mpr ⟨fun e => (oSem_ne r).2 (congrArg Prod.snd e), Finset.mem_erase.mpr ⟨fun e => (oSem_ne r).1 (congrArg Prod.snd e),
        (mem_ownCells (g := oCell d L r)).mpr ⟨rfl, oSem_scoped r⟩⟩⟩),
    SparseCore.bigSep_image_of_injOn (fun r _ r' _ e => oSem_inj r r' (congrArg Prod.snd e))]

/-- The list buffer and the row buffer are among the subcore's own. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

theorem set_tAllK : (tAllK).view.set = Finset.univ := by
  refine Finset.eq_univ_iff_forall.mpr fun x => ?_
  have e : (tAllK).view.emb x = x := tAllK_emb x
  exact e ▸ Finset.mem_map_of_mem _ (Finset.mem_univ _)

end Own

/-! ## What a task is handed -/

/-- The coordinates of a worker. -/
def LC (c : Fin 2) (s : Fin 16) : grid0.Coords :=
  fun | 0 => c | 1 => s | ⟨_ + 2, h⟩ => absurd h (Nat.not_lt.2 (Nat.le_add_left _ _))

/-- A worker's share of the table. -/
abbrev tq (L : grid0.Coords) : PosShare TreeShare := ShareLeaves.leaf 5 fullShare (wid L)

/-- A task's part of the operands: its row of the index array, its share of the table, its blocks of the result. -/
def piece (T : (d : Dev nD) → Buf (Elt F) (tLoc d)) (I : (d : Dev nD) → Buf (Elt F) (iLoc d)) (d : Dev nD) (L : grid0.Coords) (f : Buf (Elt F) (oLoc d)) : sProp 𝕄 :=
  iprop(iPts d L (I d) ∗ (tLoc d ↦{tq L} T d) ∗ bigSep Finset.univ fun r => oPts d L r f)

instance piece_storable (T : (d : Dev nD) → Buf (Elt F) (tLoc d)) (I : (d : Dev nD) → Buf (Elt F) (iLoc d)) (d : Dev nD) (L : grid0.Coords) (f : Buf (Elt F) (oLoc d)) :
    BI.Storable (upEmb : UEmb _ 𝕄) (piece T I d L f) := by unfold piece; infer_instance

variable [FloatOps F]

variable (T : (d : Dev nD) → Buf (Elt F) (tLoc d)) (I : (d : Dev nD) → Buf (Elt F) (iLoc d)) (f₀ : (d : Dev nD) → Buf (Elt F) (oLoc d))

/-- Every word of the index array names a row of the table. -/
def InRows (I : (d : Dev nD) → Buf (Elt F) (iLoc d)) : Prop := ∀ (d : Dev nD) (j : S32x17x128.Idx), (I d j : BitVec 32).toNat < 32768

theorem inRows_lst {I : (d : Dev nD) → Buf (Elt F) (iLoc d)} (hI : InRows I) (d : Dev nD) (L : grid0.Coords) (r : Fin 17) (x : S128.Idx) :
    ((lst r).view.read (Elt F) (lists (F := F) L (I d)) x : BitVec 32).toNat < S32768x128.size gathers_S32768x128_S128x128.axis :=
  lt_of_eq_of_lt (congrArg BitVec.toNat (lst_read (F := F) L (I d) r x)) (hI d _)

variable (d : Dev nD) (L : grid0.Coords)

set_option maxHeartbeats 4000000 in
/-- The task of a vector subcore: from its piece of the operands to the same piece, its blocks of the result holding the
    gathered rows. -/
theorem tile_body (hF : (K (F := F)).Facts) (hI : InRows I) (O : CellTallies nD τ sig (HIx 1)) (W : Waits sig (HIx 1)) (hO : ∀ g, O g none = 0) :
    iprop(levAts (K (F := F)).L (K (F := F)).lev ∗ emp
        ∗ piece T I d L (f₀ d)
        ∗ scopedBufs (thr d L) ∗ scopedSems0 (thr d L) ∗ owes (thr d L) O W)
      ⊢ wp frame (wpE (defs₀ (F := F)) 𝒱₀ (thr d L) none) Set.univ
          (cc0__sc_gather_body L tV (Memref.isWhole_whole _) iV (Memref.isWhole_whole _) oV (Memref.isWhole_whole _)
            sV (Memref.isWhole_whole _) rV (Memref.isWhole_whole _) cc0_scratch2 cc0_scoped0 cc0_scoped1 cc0_scoped2 cc0_scoped3 cc0_scoped4 cc0_scoped5
            cc0_scoped6 cc0_scoped7 cc0_scoped8 cc0_scoped9 cc0_scoped10 cc0_scoped11 cc0_scoped12 cc0_scoped13 cc0_scoped14 cc0_scoped15 cc0_scoped16 cc0_scoped17)
          fun _ => iprop(piece T I d L (gath (T d) (I d))
            ∗ scopedBufs (thr d L) ∗ scopedSems0 (thr d L)
            ∗ ∃ W', ⌜∀ p ∈ W', p ∈ W ∨ p.2 = none⌝ ∗ owes (thr d L) O W') := by
  unfold piece
  rw [body_eq, wp_bind]
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨Hs, Hr, Hbufs⟩, ⟨HsemG, HsemF, HsemO, Hsems⟩, HO⟩
  iapply (wp_wand_r frame _ Set.univ)
  isplitl [Hi Hs HsemF HO]
  · iapply (wp_fetch d L (I d) O W hO)
    isplitr; · iexact Hlv
    isplitl [Hi]; · iexact Hi
    isplitl [Hs]; · iexact Hs
    isplitl [HsemF]; · iexact HsemF
    iexists W
    isplitr; · ipureintro; exact fun p hp => .inl hp
    iexact HO
  iintro %_ ⟨Hi, Hs, HsemF, HO⟩
  iapply (wp_wand_r frame _ Set.univ)
  isplitl [Ht Hs Hr HsemG HsemO Ho HO]
  · iapply (wp_chunks d L (tq L) (T d) (I d) (inRows_lst hI d L) O W hO [0, 1, 2, 3, 4, 5, 6, 7, 8, 9, 10, 11, 12, 13, 14, 15, 16] (fun _ => f₀ d))
    isplitr; · iexact Hlv
    isplitl [Ht]; · rw [set_tAllK]; iexact Ht
    isplitl [Hs]; · iexact Hs
    isplitl [Hr]; · iexact Hr
    isplitl [HsemG]; · iexact HsemG
    isplitl [HsemO]; · iexact HsemO
    isplitl [Ho]; · iexact Ho
    iexact HO
  iintro %_ ⟨Ht, Hs, Hr, HsemG, HsemO, Ho, HO⟩
  have hall : ∀ r : Fin 17, r ∈ ([0, 1, 2, 3, 4, 5, 6, 7, 8, 9, 10, 11, 12, 13, 14, 15, 16] : List (Fin 17)) := by decide
  simp only [hall, if_true]
  isplitl [Hi Ht Ho]
  · isplitl [Hi]; · iexact Hi
    isplitl [Ht]; · rw [set_tAllK]; iexact Ht
    iexact Ho
  isplitl [Hs Hr Hbufs]
  · isplitl [Hs]; · iexists _; iexact Hs
    isplitl [Hr]; · iexact Hr
    iexact Hbufs
  isplitl [HsemG HsemF HsemO Hsems]
  · isplitl [HsemG]; · iexact HsemG
    isplitl [HsemF]; · iexact HsemF
    isplitl [HsemO]; · iexact HsemO
    iexact Hsems
  iexact HO

/-! ## The obligation -/

omit [FloatOps F] in
theorem nCore_zero : (K (F := F)).nCore 0 = 2 := rfl
omit [FloatOps F] in
theorem nSub_zero : (K (F := F)).nSub 0 = 16 := rfl

/-- The number of a SparseCore, and of a vector subcore. -/
def cNo (n : ℕ) : Fin 2 := Fin.ofNat 2 n
/-- The number of a vector subcore. -/
def sNo (n : ℕ) : Fin 16 := Fin.ofNat 16 n

omit [FloatOps F] in
theorem cNo_val (c : Fin 2) : cNo c.val = c := Fin.ofNat_val_eq_self c
omit [FloatOps F] in
theorem sNo_val (s : Fin 16) : sNo s.val = s := Fin.ofNat_val_eq_self s

/-- A task's piece before the call. -/
def goP (d : Dev nD) (L : grid0.Coords) : sProp 𝕄 := piece T I d L (f₀ d)
/-- A task's piece after the call. -/
def tdP (d : Dev nD) (L : grid0.Coords) : sProp 𝕄 := piece T I d L (gath (T d) (I d))
/-- The pieces of a SparseCore's tasks before the call. -/
def stP (d : Dev nD) (c : Fin 2) : sProp 𝕄 := bigSep Finset.univ fun i : Fin 16 => goP T I f₀ d (LC c i)
/-- The pieces of a SparseCore's tasks after the call. -/
def dnP (d : Dev nD) (c : Fin 2) : sProp 𝕄 := bigSep Finset.univ fun i : Fin 16 => tdP T I d (LC c i)

instance goP_storable (d : Dev nD) (L : grid0.Coords) : BI.Storable (upEmb : UEmb _ 𝕄) (goP T I f₀ d L) := piece_storable _ _ _ _ _
instance tdP_storable (d : Dev nD) (L : grid0.Coords) : BI.Storable (upEmb : UEmb _ 𝕄) (tdP T I d L) := piece_storable _ _ _ _ _
instance stP_storable (d : Dev nD) (c : Fin 2) : BI.Storable (upEmb : UEmb _ 𝕄) (stP T I f₀ d c) := by unfold stP; infer_instance
instance dnP_storable (d : Dev nD) (c : Fin 2) : BI.Storable (upEmb : UEmb _ 𝕄) (dnP T I d c) := by unfold dnP; infer_instance

/-- What the call hands each SparseCore and each task, and what they bring back. -/
def P : (K (F := F)).Pay (nD := nD) (Val := Elt F) (Name := ℕ) (U := UU) where
  st := fun _ d c => stP T I f₀ d (cNo c.val)
  dn := fun _ d c => dnP T I d (cNo c.val)
  go := fun _ d c i => goP T I f₀ d (LC (cNo c.val) (sNo i.val))
  td := fun _ d c i => tdP T I d (LC (cNo c.val) (sNo i.val))
  x := fun _ _ => iprop(emp)

instance P_storable : (P (F := F) T I f₀).IsStorable where
  st _ d c := stP_storable T I f₀ d (cNo c.val)
  dn _ d c := dnP_storable T I d (cNo c.val)
  go _ d c i := goP_storable T I f₀ d (LC (cNo c.val) (sNo i.val))
  td _ d c i := tdP_storable T I d (LC (cNo c.val) (sNo i.val))

theorem defs₀_vector (c : Fin τ.nSC) (s : Fin τ.nSub) :
    defs₀ (F := F) (.scVector c s) 0 ()
      = SparseCore.onTile hcore0 hsub0 (fun c s => cc0__sc_gather_body (LC c s)
          tV (Memref.isWhole_whole _) iV (Memref.isWhole_whole _) oV (Memref.isWhole_whole _)
            sV (Memref.isWhole_whole _) rV (Memref.isWhole_whole _) cc0_scratch2 cc0_scoped0 cc0_scoped1 cc0_scoped2 cc0_scoped3 cc0_scoped4 cc0_scoped5
            cc0_scoped6 cc0_scoped7 cc0_scoped8 cc0_scoped9 cc0_scoped10 cc0_scoped11 cc0_scoped12 cc0_scoped13 cc0_scoped14 cc0_scoped15 cc0_scoped16 cc0_scoped17) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task meets what the call asks of it. -/
theorem tileObl (hF : (K (F := F)).Facts) (hI : InRows I) : (K (F := F)).TileObl (D (F := F)) 𝒱 (P T I f₀) v₀ 0 := by
  intro d c i O W hO _ _
  simp only [show (P T I f₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hL : (LC ⟨_, hci.1⟩ ⟨_, hci.2⟩ : grid0.Coords) = LC (cNo c.val) (sNo i.val) := congrArg₂ LC (cNo_val ⟨_, hci.1⟩).symm (sNo_val ⟨_, hci.2⟩).symm
  show iprop(levAts (K (F := F)).L (K (F := F)).lev ∗ emp ∗ goP T I f₀ d (LC (cNo c.val) (sNo i.val)) ∗ _) ⊢ wp _ _ _ _ fun _ => iprop(tdP T I d (LC (cNo c.val) (sNo i.val)) ∗ _)
  rw [← hL]
  exact (tile_body T I f₀ d (LC ⟨_, hci.1⟩ ⟨_, hci.2⟩) hF hI O W hO).trans (wp_mono frame _ _ fun _ => obl_post)

/-- A SparseCore's part of the operands is its tasks' pieces. -/
theorem vecSplit : (K (F := F)).VecSplit' (P T I f₀) 0 := by
  intro d c
  have e₁ : stP T I f₀ d (cNo c.val) = bigSep Finset.univ fun i : Fin ((K (F := F)).nSub 0) => goP T I f₀ d (LC (cNo c.val) (sNo i.val)) :=
    bigSep_congr fun i _ => by rw [sNo_val]
  have e₂ : dnP T I d (cNo c.val) = bigSep Finset.univ fun i : Fin ((K (F := F)).nSub 0) => tdP T I d (LC (cNo c.val) (sNo i.val)) :=
    bigSep_congr fun i _ => by rw [sNo_val]
  show stP T I f₀ d (cNo c.val) ⊢ |={Set.univ}=> iprop(
      (bigSep Finset.univ fun i : Fin ((K (F := F)).nSub 0) => goP T I f₀ d (LC (cNo c.val) (sNo i.val)))
      ∗ ((bigSep Finset.univ fun i : Fin ((K (F := F)).nSub 0) => tdP T I d (LC (cNo c.val) (sNo i.val)))
          -∗ dnP T I d (cNo c.val)))
  rw [e₁, e₂]
  iintro H; imodintro
  isplitl [H]; · iexact H
  iintro H; iexact H

end Cert.Proof.Gather

end
-- ==== Proof.Deal.lean ====
/-
  How the operands are dealt to the thirty-two workers: the index array by its leading coordinate, the result by blocks of
  128 rows, the table by shares of the right to read it.
-/
module

public import proofs.«01_k».proof.Proof.Task

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## The workers, numbered -/

/-- The workers, by SparseCore and vector subcore, are thirty-two. -/
def workers : Fin 2 × Fin 16 ≃ Fin 32 where
  toFun p := wid (LC p.1 p.2)
  invFun w := (⟨w.val % 2, Nat.mod_lt _ (by decide)⟩, ⟨w.val / 2, by omega⟩)
  left_inv p := by
    obtain ⟨c, s⟩ := p
    have hc := c.isLt
    refine Prod.ext (Fin.ext ?_) (Fin.ext ?_)
    · show (2 * s.val + c.val) % 2 = c.val; omega
    · show (2 * s.val + c.val) / 2 = s.val; omega
  right_inv w := by
    refine Fin.ext ?_
    show 2 * (w.val / 2) + w.val % 2 = w.val
    omega

theorem workers_apply (c : Fin 2) (s : Fin 16) : workers (c, s) = wid (LC c s) := rfl

/-- What each of thirty-two holds, by SparseCore and vector subcore. -/
theorem bigSep_workers (Φ : Fin 32 → sProp 𝕄) :
    bigSep Finset.univ Φ = bigSep Finset.univ fun c : Fin 2 => bigSep Finset.univ fun s : Fin 16 => Φ (wid (LC c s)) := by
  rw [bigSep_univ_equiv workers, bigSep_univ_prod]
  rfl

/-! ## The index array -/

/-- The places of worker `w` in the index array. -/
def iSet (w : Fin 32) : Finset S32x17x128.Idx := Finset.univ.filter fun x => (x 0).val = w.val

theorem mem_iSet {w : Fin 32} {x : S32x17x128.Idx} : x ∈ iSet w ↔ x 0 = w := by
  unfold iSet
  exact ⟨fun h => Fin.ext (Finset.mem_filter.mp h).2, fun h => Finset.mem_filter.mpr ⟨Finset.mem_univ _, congrArg Fin.val h⟩⟩

theorem set_iRowK (L : grid0.Coords) : (iRowK L).view.set = iSet (wid L) := by
  ext x
  rw [mem_iSet]
  constructor
  · intro h
    obtain ⟨j, -, rfl⟩ := Finset.mem_map.mp h
    exact congrFun (iRowK_emb L j) 0
  · intro h
    refine Finset.mem_map.mpr ⟨(ix2 (x 1) (x 2) : S17x128.Idx), Finset.mem_univ _, ?_⟩
    refine (iRowK_emb L _).trans ?_
    rw [← h]
    funext a
    match a with
    | 0 => rfl
    | 1 => rfl
    | 2 => rfl

theorem iSet_disjoint : ∀ i ∈ (Finset.univ : Finset (Fin 32)), ∀ j ∈ (Finset.univ : Finset (Fin 32)), i ≠ j → Disjoint (iSet i) (iSet j) :=
  fun i _ j _ h => Finset.disjoint_left.mpr fun _ hx hy => h ((mem_iSet.mp hx).symm.trans (mem_iSet.mp hy))

theorem iSet_cover : (Finset.univ : Finset (Fin 32)).biUnion iSet = Finset.univ :=
  Finset.eq_univ_iff_forall.mpr fun x => Finset.mem_biUnion.mpr ⟨x 0, Finset.mem_univ _, mem_iSet.mpr rfl⟩

/-- The index array is the workers' rows of it. -/
theorem iPts_deal (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet iSet_disjoint, iSet_cover]

/-! ## The result -/

/-- The places of worker `p.1`'s chunk `p.2` in the result. -/
def oSet (p : Fin 32 × Fin 17) : Finset S69632x128.Idx := Finset.univ.filter fun x => (x 0).val / 128 = 17 * p.1.val + p.2.val

theorem mem_oSet {p : Fin 32 × Fin 17} {x : S69632x128.Idx} : x ∈ oSet p ↔ (x 0).val / 128 = 17 * p.1.val + p.2.val := by
  unfold oSet
  exact ⟨fun h => (Finset.mem_filter.mp h).2, fun h => Finset.mem_filter.mpr ⟨Finset.mem_univ _, h⟩⟩

theorem set_oBlkK (L : grid0.Coords) (r : Fin 17) : (oBlkK L r).view.set = oSet (wid L, r) := by
  ext x
  rw [mem_oSet]
  constructor
  · intro h
    obtain ⟨j, -, rfl⟩ := Finset.mem_map.mp h
    refine (congrArg (fun n : Fin 69632 => n.val / 128) (congrFun (oBlkK_emb L r j) 0)).trans ?_
    have hj : (j 0).val < 128 := (j 0).isLt
    show (2176 * (wid L).val + 128 * r.val + (j 0).val) / 128 = 17 * (wid L).val + r.val
    omega
  · intro h
    refine Finset.mem_map.mpr ⟨(ix2 (⟨(x 0).val % 128, Nat.mod_lt _ (by decide)⟩ : Fin 128) (x 1) : S128x128.Idx), Finset.mem_univ _, ?_⟩
    refine (oBlkK_emb L r _).trans ?_
    funext a
    match a with
    | 0 =>
      refine Fin.ext ?_
      show 2176 * (wid L).val + 128 * r.val + (x 0).val % 128 = (x 0).val
      have h' : (x 0).val / 128 = 17 * (wid L).val + r.val := h
      omega
    | 1 => rfl

theorem oSet_disjoint : ∀ i ∈ (Finset.univ : Finset (Fin 32 × Fin 17)), ∀ j ∈ (Finset.univ : Finset (Fin 32 × Fin 17)), i ≠ j → Disjoint (oSet i) (oSet j) := by
  intro i _ j _ h
  refine Finset.disjoint_left.mpr fun x hx hy => h ?_
  have h1 := mem_oSet.mp hx
  have h2 := mem_oSet.mp hy
  have hi := i.2.isLt; have hj := j.2.isLt
  exact Prod.ext (Fin.ext (by omega)) (Fin.ext (by omega))

theorem oSet_cover : (Finset.univ : Finset (Fin 32 × Fin 17)).biUnion oSet = Finset.univ := by
  refine Finset.eq_univ_iff_forall.mpr fun x => ?_
  have hx : (x 0).val < 69632 := (x 0).isLt
  refine Finset.mem_biUnion.mpr ⟨(⟨(x 0).val / 2176, by omega⟩, ⟨(x 0).val / 128 % 17, Nat.mod_lt _ (by decide)⟩), Finset.mem_univ _,
    mem_oSet.mpr ?_⟩
  show (x 0).val / 128 = 17 * ((x 0).val / 2176) + (x 0).val / 128 % 17
  omega

/-- The result is the workers' chunks of it. -/
theorem oPts_deal (d : Dev nD) (f : Buf (Elt F) (oLoc d)) :
    (oLoc d ↦{fullShare} f : sProp 𝕄)
      = bigSep Finset.univ fun w : Fin 32 => bigSep Finset.univ fun r : Fin 17 => oLoc d ↦[oSet (w, r)]{fullShare} f := by
  rw [← bigSep_univ_prod (fun p : Fin 32 × Fin 17 => (oLoc d ↦[oSet p]{fullShare} f : sProp 𝕄)),
    ← pointsTo_biUnion Finset.univ (ℓ := oLoc d) oSet oSet_disjoint, oSet_cover]

/-! ## The table -/

/-- The table is the workers' shares of it. -/
theorem tPts_deal (d : Dev nD) (f : Buf (Elt F) (tLoc d)) :
    (tLoc d ↦{fullShare} f : sProp 𝕄) = bigSep Finset.univ fun w : Fin 32 => tLoc d ↦{ShareLeaves.leaf 5 fullShare w} f :=
  ShareLeaves.pointsTo_leaves Finset.univ f 5 fullShare

/-! ## All of it -/

variable [FloatOps F]
variable (T : (d : Dev nD) → Buf (Elt F) (tLoc d)) (I : (d : Dev nD) → Buf (Elt F) (iLoc d)) (d : Dev nD)

omit [FloatOps F] in
theorem piece_eq (L : grid0.Coords) (f : Buf (Elt F) (oLoc d)) :
    piece T I d L f = iprop((iLoc d ↦[iSet (wid L)]{fullShare} I d) ∗ (tLoc d ↦{ShareLeaves.leaf 5 fullShare (wid L)} T d)
      ∗ bigSep Finset.univ fun r : Fin 17 => oLoc d ↦[oSet (wid L, r)]{fullShare} f) := by
  unfold piece
  have e : (bigSep Finset.univ fun r : Fin 17 => (oPts d L r f : sProp 𝕄)) = bigSep Finset.univ fun r : Fin 17 => oLoc d ↦[oSet (wid L, r)]{fullShare} f :=
    bigSep_congr fun r _ => by
      show ((oBlkK L r).view.loc (thr d L) ↦[(oBlkK L r).view.set]{fullShare} f : sProp 𝕄) = _
      rw [set_oBlkK]
  rw [e]
  show iprop(((iRowK L).view.loc (thr d L) ↦[(iRowK L).view.set]{fullShare} I d) ∗ _) = _
  rw [set_iRowK]

omit [FloatOps F] in
/-- The three operands, whole, are the workers' pieces. -/
theorem deal (f : Buf (Elt F) (oLoc d)) :
    (bigSep Finset.univ fun c : Fin 2 => bigSep Finset.univ fun s : Fin 16 => piece T I d (LC c s) f)
      = iprop((iLoc d ↦{fullShare} I d) ∗ (tLoc d ↦{fullShare} T d) ∗ (oLoc d ↦{fullShare} f)) := by
  rw [iPts_deal, tPts_deal, oPts_deal, ← bigSep_sep', ← bigSep_sep', bigSep_workers]
  exact bigSep_congr fun c _ => bigSep_congr fun s _ => piece_eq T I d (LC c s) f

/-- What the SparseCores hold, by their numbers. -/
theorem bigSep_cores (Φ : Fin 2 → sProp 𝕄) :
    (bigSep Finset.univ fun c : Fin ((K (F := F)).nCore 0) => Φ (cNo c.val)) = bigSep Finset.univ Φ :=
  bigSep_congr fun c _ => congrArg Φ (cNo_val c)

variable (f₀ : (d : Dev nD) → Buf (Elt F) (oLoc d))

/-- What the call takes from the TensorCore. -/
theorem st_eq :
    (bigSep Finset.univ fun c : Fin ((K (F := F)).nCore 0) => (P T I f₀).st 0 d c)
      = iprop((iLoc d ↦{fullShare} I d) ∗ (tLoc d ↦{fullShare} T d) ∗ (oLoc d ↦{fullShare} f₀ d)) :=
  (bigSep_cores (stP T I f₀ d)).trans (deal T I d (f₀ d))

/-- What the call gives back. -/
theorem dn_eq :
    (bigSep Finset.univ fun c : Fin ((K (F := F)).nCore 0) => (P T I f₀).dn 0 d c)
      = iprop((iLoc d ↦{fullShare} I d) ∗ (tLoc d ↦{fullShare} T d) ∗ (oLoc d ↦{fullShare} gath (T d) (I d))) :=
  (bigSep_cores (dnP T I d)).trans (deal T I d (gath (T d) (I d)))

end Cert.Proof.Gather

end
-- ==== Proof.Launch.lean ====
/-
  The program's run: the host operations that lay out the table and the index array, the gather on the SparseCores, and the
  two slices of its result; for any float values.
-/
module

public import proofs.«01_k».proof.Proof.Deal
public import Idealize.ShloMosaic.Lib.Pipeline.Frame
public import Idealize.ShloMosaic.Lib.StableHlo.RunRead

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

/-! ## The host operations -/

/-- The operations before the gather. -/
def ops₁ : List (HloOp τ sig (Elt F)) :=
  [StableHlo.nullary main_v0 (iotaInDim S4 32 0),
   StableHlo.nullary main_c (constantI S_ 32 8192#32),
   StableHlo.unary main_c main_v1 (broadcastInDim S4 ![] bcast_S_S4 : (⟨S_, .i32⟩ : BufTy).Contents (Elt F) → (⟨S4, .i32⟩ : BufTy).Contents (Elt F)),
   StableHlo.binary main_v0 main_v1 main_v2 (muli : (⟨S4, .i32⟩ : BufTy).Contents (Elt F) → (⟨S4, .i32⟩ : BufTy).Contents (Elt F) → (⟨S4, .i32⟩ : BufTy).Contents (Elt F)),
   StableHlo.unary main_v2 main_v3 (broadcastInDim S4x1x1 ![0] bcast_S4_S4x1x1_0 : (⟨S4, .i32⟩ : BufTy).Contents (Elt F) → (⟨S4x1x1, .i32⟩ : BufTy).Contents (Elt F)),
   StableHlo.unary main_v3 main_v4 (broadcastInDim S4x1024x16 ![0, 1, 2] bcast_S4x1x1_S4x1024x16_0_1_2 : (⟨S4x1x1, .i32⟩ : BufTy).Contents (Elt F) → (⟨S4x1024x16, .i32⟩ : BufTy).Contents (Elt F)),
   StableHlo.binary main_arg2 main_v4 main_v5 (addi : (⟨S4x1024x16, .i32⟩ : BufTy).Contents (Elt F) → (⟨S4x1024x16, .i32⟩ : BufTy).Contents (Elt F) → (⟨S4x1024x16, .i32⟩ : BufTy).Contents (Elt F)),
   StableHlo.reshape main_v5 main_v6 (rfl : (.i32 : EltTy) = .i32) shapeCasts_S4x1024x16_S65536,
   StableHlo.unary main_v2 main_v7 (broadcastInDim S4x1 ![0] bcast_S4_S4x1_0 : (⟨S4, .i32⟩ : BufTy).Contents (Elt F) → (⟨S4x1, .i32⟩ : BufTy).Contents (Elt F)),
   StableHlo.unary main_v7 main_v8 (broadcastInDim S4x1024 ![0, 1] bcast_S4x1_S4x1024_0_1 : (⟨S4x1, .i32⟩ : BufTy).Contents (Elt F) → (⟨S4x1024, .i32⟩ : BufTy).Contents (Elt F)),
   StableHlo.binary main_arg1 main_v8 main_v9 (addi : (⟨S4x1024, .i32⟩ : BufTy).Contents (Elt F) → (⟨S4x1024, .i32⟩ : BufTy).Contents (Elt F) → (⟨S4x1024, .i32⟩ : BufTy).Contents (Elt F)),
   StableHlo.reshape main_v9 main_v10 (rfl : (.i32 : EltTy) = .i32) shapeCasts_S4x1024_S4096,
   StableHlo.binary main_v6 main_v10 main_v11 ((fun a b => concatenate S69632 0 [⟨S65536, a⟩, ⟨S4096, b⟩] concatenates_S65536_S4096_S69632_d0) : (⟨S65536, .i32⟩ : BufTy).Contents (Elt F) → (⟨S4096, .i32⟩ : BufTy).Contents (Elt F) → (⟨S69632, .i32⟩ : BufTy).Contents (Elt F)),
   StableHlo.reshape main_v11 main_v12 (rfl : (.i32 : EltTy) = .i32) shapeCasts_S69632_S32x17x128,
   StableHlo.unary main_arg0 main_v13 ((transpose S4x8192x64 [0, 2, 1] · transposes_S4x64x8192_S4x8192x64_0_2_1) : (⟨S4x64x8192, .f32⟩ : BufTy).Contents (Elt F) → (⟨S4x8192x64, .f32⟩ : BufTy).Contents (Elt F)),
   StableHlo.reshape main_v13 main_v14 (rfl : (.f32 : EltTy) = .f32) shapeCasts_S4x8192x64_S32768x64,
   StableHlo.nullary main_cst (constant S_ .f32 0x00000000#32),
   StableHlo.unary main_cst main_v15 (broadcastInDim S32768x64 ![] bcast_S_S32768x64 : (⟨S_, .f32⟩ : BufTy).Contents (Elt F) → (⟨S32768x64, .f32⟩ : BufTy).Contents (Elt F)),
   StableHlo.binary main_v14 main_v15 main_v16 ((fun a b => concatenate S32768x128 1 [⟨S32768x64, a⟩, ⟨S32768x64, b⟩] concatenates_S32768x64_S32768x64_S32768x128_d1) : (⟨S32768x64, .f32⟩ : BufTy).Contents (Elt F) → (⟨S32768x64, .f32⟩ : BufTy).Contents (Elt F) → (⟨S32768x128, .f32⟩ : BufTy).Contents (Elt F))]

/-- The operations after it. -/
def ops₂ : List (HloOp τ sig (Elt F)) :=
  [StableHlo.unary main_v17 main_v18 ((extractStridedSlice S65536x64 ![0, 0] · slices_S69632x128_S65536x64_0_0) : (⟨S69632x128, .f32⟩ : BufTy).Contents (Elt F) → (⟨S65536x64, .f32⟩ : BufTy).Contents (Elt F)),
   StableHlo.unary main_v17 main_v19 ((extractStridedSlice S4096x64 ![65536, 0] · slices_S69632x128_S4096x64_65536_0) : (⟨S69632x128, .f32⟩ : BufTy).Contents (Elt F) → (⟨S4096x64, .f32⟩ : BufTy).Contents (Elt F))]

/-- @main is the operations, the gather, the operations. -/
theorem main_eq (d : Dev nD) : main (F := F) d = (StableHlo.seq ops₁ >>= fun _ => (sc (F := F)).run d 0 >>= fun _ => StableHlo.seq ops₂) := rfl

variable (m : (ℓ : Loc nD τ sig) → Buf (Elt F) ℓ) (ρ : Dev nD → PrngReg)

/-- The buffer that the result of the gather is written to. -/
abbrev oRef : DevRef τ sig := Proc.tc.devRef main_v17
abbrev iRef : DevRef τ sig := Proc.tc.devRef main_v12
abbrev tRef : DevRef τ sig := Proc.tc.devRef main_v16

/-- A device's buffers before the gather. -/
def V₁ (d : Dev nD) : Valuation τ sig (Elt F) := StableHlo.after ops₁ fun b => m (d, b)
/-- The table, the index array, and what the result's buffer held. -/
def tab (d : Dev nD) : Buf (Elt F) (tLoc d) := V₁ m d tRef
def idx (d : Dev nD) : Buf (Elt F) (iLoc d) := V₁ m d iRef
def out₀ (d : Dev nD) : Buf (Elt F) (oLoc d) := V₁ m d oRef
/-- A device's buffers after the gather. -/
def V₂ (d : Dev nD) : Valuation τ sig (Elt F) := Function.update (V₁ m d) oRef (gath (tab m d) (idx m d))
/-- A device's buffers at the end. -/
def V₃ (d : Dev nD) : Valuation τ sig (Elt F) := StableHlo.after ops₂ (V₂ m d)

/-! ## The launch element of the ghost state -/

def u₀ : UU := (initOf (K (F := F)).hsCells (K (F := F)).hsToks, 1)

theorem emp_all {J : Type} (s : Finset J) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P (tab m) (idx m) (out₀ m)).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emp_all]; iempintro
  rw [show (bigSep Finset.univ fun thr : Thread nD τ => bigSep Finset.univ fun q : Fin 1 => (P (F := F) (tab m) (idx m) (out₀ m)).x q thr) = bigSep Finset.univ fun _ => iprop(emp) from
    bigSep_congr fun _ _ => bigSep_univ_of_subsingleton (0 : Fin 1), emp_all]
  iempintro

/-! ## @main on the TensorCore -/

/-- The gather's operands among a device's buffers. -/
def operands : Finset (DevRef τ sig) := {iRef, tRef, oRef}

theorem operands_sub : operands ⊆ Pipeline.ucRefs τ sig := by decide

theorem held_operands (d : Dev nD) (W : Valuation τ sig (Elt F)) :
    (StableHlo.held (d.tc : Thread nD τ) operands W : sProp 𝕄)
      = iprop((iLoc d ↦{fullShare} W iRef) ∗ (tLoc d ↦{fullShare} W tRef) ∗ (oLoc d ↦{fullShare} W oRef)) := by
  unfold StableHlo.held operands
  rw [SparseCore.bigSep_insert' (by decide), SparseCore.bigSep_insert' (by decide), bigSep_singleton]

theorem V₂_i (d : Dev nD) : V₂ m d iRef = idx m d := Function.update_of_ne (by decide) _ _
theorem V₂_t (d : Dev nD) : V₂ m d tRef = tab m d := Function.update_of_ne (by decide) _ _
theorem V₂_o (d : Dev nD) : V₂ m d oRef = gath (tab m d) (idx m d) := Function.update_self ..

theorem held_rest (d : Dev nD) :
    (StableHlo.held (d.tc : Thread nD τ) (Pipeline.ucRefs τ sig \ operands) (V₁ m d) : sProp 𝕄)
      = StableHlo.held (d.tc : Thread nD τ) (Pipeline.ucRefs τ sig \ operands) (V₂ m d) :=
  StableHlo.held_congr _ fun b hb => (Function.update_of_ne (fun h => (Finset.mem_sdiff.mp hb).2 (by rw [h]; decide)) _ _).symm

theorem ops₁_sub : ∀ op ∈ (ops₁ : List (HloOp τ sig (Elt F))), op.bufs ⊆ Pipeline.ucRefs τ sig := fun op h =>
  Pipeline.sub_ucRefs op ((List.forall_iff_forall_mem (p := fun op : HloOp τ sig (Elt F) => op.bufs ⊆ StableHlo.tcRefs τ sig)).mp (by
    simp only [ops₁, List.Forall, StableHlo.nullary_bufs_sub, StableHlo.unary_bufs_sub, StableHlo.binary_bufs_sub, StableHlo.reshape_bufs_sub, and_self]) op h)
theorem ops₂_sub : ∀ op ∈ (ops₂ : List (HloOp τ sig (Elt F))), op.bufs ⊆ Pipeline.ucRefs τ sig := fun op h =>
  Pipeline.sub_ucRefs op ((List.forall_iff_forall_mem (p := fun op : HloOp τ sig (Elt F) => op.bufs ⊆ StableHlo.tcRefs τ sig)).mp (by
    simp only [ops₂, List.Forall, StableHlo.unary_bufs_sub, and_self]) op h)
theorem ops₁_fresh : ∀ op ∈ (ops₁ : List (HloOp τ sig (Elt F))), op.fresh = ∅ :=
  (List.forall_iff_forall_mem (p := fun op : HloOp τ sig (Elt F) => op.fresh = ∅)).mp ⟨rfl, rfl, rfl, rfl, rfl, rfl, rfl, rfl, rfl, rfl, rfl, rfl, rfl, rfl, rfl, rfl, rfl, rfl, rfl⟩
theorem ops₂_fresh : ∀ op ∈ (ops₂ : List (HloOp τ sig (Elt F))), op.fresh = ∅ :=
  (List.forall_iff_forall_mem (p := fun op : HloOp τ sig (Elt F) => op.fresh = ∅)).mp ⟨rfl, rfl⟩

/-- What @main leaves: every buffer of the device, at its last contents. -/
abbrev FIN (d : Dev nD) : sProp 𝕄 := StableHlo.held (d.tc : Thread nD τ) (Pipeline.ucRefs τ sig) (V₃ m d)

theorem hmain (κ : GSem nD τ sig → ℕ) (d : Dev nD) :
    iprop((K (F := F)).ctx EH (P (tab m) (idx m) (out₀ m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄)
        = StableHlo.held (d.tc : Thread nD τ) (Pipeline.ucRefs τ sig) (fun b => m (d, b))
      from Pipeline.unscopedBufs_held d (fun b => m (d, b)), main_eq]
  iintro ⟨#Hctx, Hst, ⟨Hb, Hh, Hts, -⟩, -⟩
  iapply (StableHlo.wp_seq 𝒱 none Set.univ d (Pipeline.ucRefs τ sig) _ ops₁ ops₁_sub ops₁_fresh _) $$ [Hb Hh]
  · isplitl [Hb]; · iexact Hb
    iexact Hh
  iintro ⟨Hb, Hh⟩
  ihave Hh := (Entails.of_eq (show (StableHlo.held (d.tc : Thread nD τ) (Pipeline.ucRefs τ sig) (StableHlo.after ops₁ fun b => m (d, b)) : sProp 𝕄)
      = iprop(StableHlo.held (d.tc : Thread nD τ) operands (V₁ m d) ∗ StableHlo.held (d.tc : Thread nD τ) (Pipeline.ucRefs τ sig \ operands) (V₁ m d))
    from StableHlo.held_sub_split _ operands_sub _)) $$ Hh
  icases Hh with ⟨Hop, Hrest⟩
  rw [wp_bind]
  iapply ((K (F := F)).wp_run (D (F := F)) 𝒱 (EH := EH) (P := P (tab m) (idx m) (out₀ m)) κ d 0) $$ [Hst Hop Hrest Hb Hts]
  isplitr; · iexact Hctx
  isplitl [Hst]; · iexact Hst
  isplitl [Hop]
  · iapply (Entails.of_eq ((held_operands d (V₁ m d)).trans (st_eq (tab m) (idx m) d (out₀ m)).symm)); iexact Hop
  iintro ⟨Hst, Hdn⟩
  ihave Hop := (Entails.of_eq ((dn_eq (tab m) (idx m) d (out₀ m)).trans (show _ = StableHlo.held (d.tc : Thread nD τ) operands (V₂ m d) by
    rw [held_operands, V₂_i, V₂_t, V₂_o]))) $$ Hdn
  ihave Hrest := (Entails.of_eq (held_rest m d)) $$ Hrest
  ihave Hh := (Entails.of_eq (StableHlo.held_sub_split (d.tc : Thread nD τ) operands_sub (V₂ m d)).symm) $$ [Hop Hrest]
  · isplitl [Hop]; · iexact Hop
    iexact Hrest
  rw [← bind_pure (StableHlo.seq (ops₂ (F := F)))]
  iapply (StableHlo.wp_seq 𝒱 none Set.univ d (Pipeline.ucRefs τ sig) _ ops₂ ops₂_sub ops₂_fresh _) $$ [Hb Hh]
  · isplitl [Hb]; · iexact Hb
    iexact Hh
  iintro ⟨Hb, Hh⟩
  rw [wp_pure]
  imodintro
  isplitl [Hst]; · iexact Hst
  isplitl [Hh]; · iexact Hh
  isplitl [Hb] <;> iassumption

/-! ## The end -/

def fq (d : Dev nD) (s' : Phys nD τ sig (Elt F)) : Prop := ∀ b ∈ Pipeline.ucRefs τ sig, s'.mem.mem (d, b) = V₃ m d b

theorem hfin (d : Dev nD) (s' : Phys nD τ sig (Elt F)) : iprop(FIN m d ∗ SI s') ⊢ (⌜fq m d s'⌝ : sProp 𝕄) := by
  have key : ∀ b ∈ Pipeline.ucRefs τ sig, iprop(FIN m d ∗ SI s') ⊢ (⌜s'.mem.mem (d, b) = V₃ m d b⌝ : sProp 𝕄) := by
    intro b hb
    have hb1 : ({b} : Finset (DevRef τ sig)) ⊆ Pipeline.ucRefs τ sig := Finset.singleton_subset_iff.mpr hb
    unfold FIN
    rw [StableHlo.held_sub_split (d.tc : Thread nD τ) hb1]
    rw [show (StableHlo.held (d.tc : Thread nD τ) {b} (V₃ m d) : sProp 𝕄) = ((d, b) : Loc nD τ sig) ↦{fullShare} V₃ m d b from bigSep_singleton ..]
    iintro ⟨⟨Hb, -⟩, HSI⟩
    ihave H := (SI_pointsTo_agree (st := s') (ℓ := ((d, b) : Loc nD τ sig)) (I := Finset.univ) (q := fullShare) (f := V₃ m d b)) $$ [HSI Hb]
    · isplitl [HSI] <;> iassumption
    icases H with %h
    ipureintro; exact funext fun i => h i (Finset.mem_univ i)
  exact (forall_intro fun b => forall_intro fun hb => key b hb).trans ((forall_mono fun b => pure_forall.2).trans pure_forall.2)

/-- What the run establishes. -/
def QC : PUnit × MemSt nD τ sig (Elt F) → Prop := fun r => (∀ (d : Dev nD) (b : DevRef τ sig), b ∈ Pipeline.ucRefs τ sig → r.2.mem (d, b) = V₃ m d b) ∧ r.2.sem = fun _ => 0

/-- The program's run: every buffer ends at its last contents, every counter at zero. -/
theorem run_main [∀ e, Nonempty (Elt F e)] (hI : InRows (idx m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tab m) (idx m) (out₀ m)) (A := ∅) facts v₀
    (fun q hq => match q with | 0 => nomatch hq)
    (fun q _ => match q with | 0 => tileObl (tab m) (idx m) (out₀ m) facts hI)
    (fun q _ => match q with | 0 => SparseCore.Cfg.VecSplit.of_plain (vecSplit (tab m) (idx m) (out₀ m)))
    m ρ main (fun _ => iprop(emp)) (FIN m) (u₀ (F := F)) (sep_elim_left.trans (hu₀ m)) (hmain m ρ) (fq m) (hfin m) (QC m) (fun _ h hz => ⟨fun d b hb => h d b hb, hz⟩)

end Cert.Proof.Gather

end
-- ==== Proof.Read.lean ====
/-
  What the host operations lay out, by coordinates: the index array's words and the table's rows.
-/
module

public import proofs.«01_k».proof.Proof.Launch
public import Idealize.ShloMosaic.Lib.StableHlo.ReadAt
public import Idealize.ShloMosaic.Lib.StableHlo.Predicate
public import Idealize.ShloMosaic.Lib.ReduceAll

@[expose] public section

noncomputable section

namespace Cert.Proof.Gather

open Cert.KernelIdeal Cert.KernelIdeal.Gen
open Idealize.ShloMosaic hiding ix1 ix2 ix3
open Idealize.SL.Sem
open Idealize.ShloMosaic.ValueIdx

variable {F : FTy → Type} [FloatOps F]
variable (m : (ℓ : Loc nD τ sig) → Buf (Elt F) ℓ)

/-- The features, the centroids' indices and the neighbours' indices. -/
abbrev feat (d : Dev nD) : S4x64x8192.Idx → Elt F .f32 := m ((d.tc : Thread nD τ).loc main_arg0)
abbrev cix (d : Dev nD) : S4x1024.Idx → BitVec 32 := m ((d.tc : Thread nD τ).loc main_arg1)
abbrev nix (d : Dev nD) : S4x1024x16.Idx → BitVec 32 := m ((d.tc : Thread nD τ).loc main_arg2)

/-- The first row of a batch in the table, as a word. -/
def base (b : Fin 4) : BitVec 32 := BitVec.ofNat 32 b.val * 8192#32

theorem idx_eq (d : Dev nD) : idx m d = shapeCast S32x17x128 (concatenate S69632 0
      [⟨S65536, shapeCast S65536 (addi (nix m d) (broadcastInDim S4x1024x16 ![0, 1, 2] bcast_S4x1x1_S4x1024x16_0_1_2 (broadcastInDim S4x1x1 ![0] bcast_S4_S4x1x1_0 (muli (iotaInDim S4 32 0) (broadcastInDim S4 ![] bcast_S_S4 (constantI S_ 32 8192#32)))))) shapeCasts_S4x1024x16_S65536⟩,
       ⟨S4096, shapeCast S4096 (addi (cix m d) (broadcastInDim S4x1024 ![0, 1] bcast_S4x1_S4x1024_0_1 (broadcastInDim S4x1 ![0] bcast_S4_S4x1_0 (muli (iotaInDim S4 32 0) (broadcastInDim S4 ![] bcast_S_S4 (constantI S_ 32 8192#32)))))) shapeCasts_S4x1024_S4096⟩]
      concatenates_S65536_S4096_S69632_d0) shapeCasts_S69632_S32x17x128 := by
  unfold idx V₁ ops₁
  after_reads_simp
  rfl

theorem tab_eq (d : Dev nD) : tab m d = concatenate S32768x128 1
      [⟨S32768x64, shapeCast S32768x64 (transpose S4x8192x64 [0, 2, 1] (feat m d) transposes_S4x64x8192_S4x8192x64_0_2_1) shapeCasts_S4x8192x64_S32768x64⟩,
       ⟨S32768x64, broadcastInDim S32768x64 ![] bcast_S_S32768x64 (constant S_ .f32 0x00000000#32)⟩]
      concatenates_S32768x64_S32768x64_S32768x128_d1 := by
  unfold tab V₁ ops₁
  after_reads_simp
  rfl

/-- The offsets of the batches, broadcast over the neighbours. -/
theorem offs3_apply (b : Fin 4) (q : Fin 1024) (k : Fin 16) :
    broadcastInDim S4x1024x16 ![0, 1, 2] bcast_S4x1x1_S4x1024x16_0_1_2 (broadcastInDim S4x1x1 ![0] bcast_S4_S4x1x1_0 (muli (iotaInDim S4 32 0) (broadcastInDim S4 ![] bcast_S_S4 (constantI S_ 32 8192#32)))) (ix3 b q k) = base b := by
  rw [broadcastInDim_apply _ _ _ _ (ix3 b (0 : Fin 1) (0 : Fin 1) : S4x1x1.Idx) (by intro a; match a with | 0 => rfl | 1 => rfl | 2 => rfl),
    broadcastInDim_apply _ _ _ _ (ix1 b : S4.Idx) (by intro a; match a with | 0 => rfl)]
  rfl

theorem offs2_apply (b : Fin 4) (q : Fin 1024) :
    broadcastInDim S4x1024 ![0, 1] bcast_S4x1_S4x1024_0_1 (broadcastInDim S4x1 ![0] bcast_S4_S4x1_0 (muli (iotaInDim S4 32 0) (broadcastInDim S4 ![] bcast_S_S4 (constantI S_ 32 8192#32)))) (ix2 b q) = base b := by
  rw [broadcastInDim_apply _ _ _ _ (ix2 b (0 : Fin 1) : S4x1.Idx) (by intro a; match a with | 0 => rfl | 1 => rfl),
    broadcastInDim_apply _ _ _ _ (ix1 b : S4.Idx) (by intro a; match a with | 0 => rfl)]
  rfl

/-- The place `n` of the index array, in one line. -/
theorem idx_slot (d : Dev nD) (n : Fin 69632) : idx m d (slot n) = concatenate S69632 0
      [⟨S65536, shapeCast S65536 (addi (nix m d) (broadcastInDim S4x1024x16 ![0, 1, 2] bcast_S4x1x1_S4x1024x16_0_1_2 (broadcastInDim S4x1x1 ![0] bcast_S4_S4x1x1_0 (muli (iotaInDim S4 32 0) (broadcastInDim S4 ![] bcast_S_S4 (constantI S_ 32 8192#32)))))) shapeCasts_S4x1024x16_S65536⟩,
       ⟨S4096, shapeCast S4096 (addi (cix m d) (broadcastInDim S4x1024 ![0, 1] bcast_S4x1_S4x1024_0_1 (broadcastInDim S4x1 ![0] bcast_S4_S4x1_0 (muli (iotaInDim S4 32 0) (broadcastInDim S4 ![] bcast_S_S4 (constantI S_ 32 8192#32)))))) shapeCasts_S4x1024_S4096⟩]
      concatenates_S65536_S4096_S69632_d0 (ix1 n : S69632.Idx) := by
  rw [idx_eq]
  refine shapeCast_apply _ _ _ (ix1 n : S69632.Idx) ?_
  rw [Shape.rowMajor_val_one, Shape.rowMajor_val_three]
  have e : ((ix1 n : S69632.Idx) 0).val = n.val := rfl
  have h0 : (slot n 0).val = n.val / 2176 := rfl
  have h1 : (slot n 1).val = n.val / 128 % 17 := rfl
  have h2 : (slot n 2).val = n.val % 128 := rfl
  rw [e, h0, h1, h2]
  simp
  omega

/-- The word that names a neighbour's row. -/
theorem idx_neighbour (d : Dev nD) (b : Fin 4) (q : Fin 1024) (k : Fin 16) (n : Fin 69632) (hn : n.val = (b.val * 1024 + q.val) * 16 + k.val) :
    idx m d (slot n) = nix m d (ix3 b q k) + base b := by
  have hb := b.isLt; have hq := q.isLt; have hk := k.isLt
  rw [idx_slot, concatenate_pair_apply_left (t := S69632) (s₁ := S65536) (s₂ := S4096) 0 _ _ concatenates_S65536_S4096_S69632_d0 (ix1 n) rfl (ix1 (⟨n.val, by omega⟩ : Fin 65536))
      (by intro a; match a with | 0 => rfl),
    shapeCast_apply _ _ _ (ix3 b q k : S4x1024x16.Idx) (by
      rw [Shape.rowMajor_val_one, Shape.rowMajor_val_three]
      simp; omega)]
  show nix m d (ix3 b q k) + _ = _
  rw [offs3_apply]

/-- The word that names a centroid's row. -/
theorem idx_centroid (d : Dev nD) (b : Fin 4) (q : Fin 1024) (n : Fin 69632) (hn : n.val = 65536 + (b.val * 1024 + q.val)) :
    idx m d (slot n) = cix m d (ix2 b q) + base b := by
  have hb := b.isLt; have hq := q.isLt
  rw [idx_slot, concatenate_pair_apply_right (t := S69632) (s₁ := S65536) (s₂ := S4096) 0 _ _ concatenates_S65536_S4096_S69632_d0 (ix1 n) rfl rfl (ix1 (⟨n.val - 65536, by omega⟩ : Fin 4096))
      (by intro a ha; match a with | 0 => exact absurd rfl ha) (show n.val - 65536 + 65536 = n.val by omega),
    shapeCast_apply _ _ _ (ix2 b q : S4x1024.Idx) (by
      rw [Shape.rowMajor_val_one, Shape.rowMajor_val_two]
      simp; omega)]
  show cix m d (ix2 b q) + _ = _
  rw [offs2_apply]

/-- A row of the table: a point's features. -/
theorem tab_apply (d : Dev nD) (b : Fin 4) (p : Fin 8192) (k : Fin 64) (r : Fin 32768) (c : Fin 128) (hr : r.val = b.val * 8192 + p.val) (hc : c.val = k.val) :
    tab m d (ix2 r c) = feat m d (ix3 b k p) := by
  have hb := b.isLt; have hp := p.isLt
  rw [tab_eq, concatenate_pair_apply_left (t := S32768x128) (s₁ := S32768x64) (s₂ := S32768x64) 1 _ _ concatenates_S32768x64_S32768x64_S32768x128_d1 (ix2 r c) rfl (ix2 r k)
      (by intro a; match a with | 0 => rfl | 1 => exact hc.symm),
    shapeCast_apply _ _ _ (ix3 b p k : S4x8192x64.Idx) (by
      rw [Shape.rowMajor_val_two, Shape.rowMajor_val_three]
      simp; omega)]
  exact transpose_apply _ _ _ _ (ix3 b k p) (by intro a; match a with | 0 => rfl | 1 => rfl | 2 => rfl)

/-- What the index arguments are asked: each names a point. -/
def Named (d : Dev nD) : Prop := (∀ b q, (cix m d (ix2 b q)).toNat < 8192) ∧ ∀ b q k, (nix m d (ix3 b q k)).toNat < 8192

theorem toNat_base (b : Fin 4) (v : BitVec 32) (hv : v.toNat < 8192) : (v + base b).toNat = b.val * 8192 + v.toNat := by
  have hb := b.isLt
  have e : (base b).toNat = b.val * 8192 := by
    unfold base
    rw [BitVec.toNat_mul, BitVec.toNat_ofNat, BitVec.toNat_ofNat]
    omega
  rw [BitVec.toNat_add, e]
  omega

/-- Where every index names a point, every word of the index array names a row of the table. -/
theorem inRows_idx (h : ∀ d, Named m d) : InRows (idx m) := by
  intro d j
  obtain ⟨n, rfl⟩ : ∃ n, j = slot n := by
    have h0 : (j 0).val < 32 := (j 0).isLt
    have h1 : (j 1).val < 17 := (j 1).isLt
    have h2 : (j 2).val < 128 := (j 2).isLt
    refine ⟨⟨2176 * (j 0).val + 128 * (j 1).val + (j 2).val, by omega⟩, ?_⟩
    funext a
    refine Fin.ext ?_
    match a with
    | 0 => simp [slot]; omega
    | 1 => simp [slot]; omega
    | 2 => simp [slot]; omega
  have hn := n.isLt
  by_cases hlt : n.val < 65536
  · have hb : n.val / 16384 < 4 := by omega
    rw [idx_neighbour m d ⟨n.val / 16384, hb⟩ ⟨n.val / 16 % 1024, Nat.mod_lt _ (by decide)⟩ ⟨n.val % 16, Nat.mod_lt _ (by decide)⟩ n (by simp only; omega),
      toNat_base _ _ ((h d).2 _ _ _)]
    have := (h d).2 ⟨n.val / 16384, hb⟩ ⟨n.val / 16 % 1024, Nat.mod_lt _ (by decide)⟩ ⟨n.val % 16, Nat.mod_lt _ (by decide)⟩
    simp only; omega
  · have hb : (n.val - 65536) / 1024 < 4 := by omega
    rw [idx_centroid m d ⟨(n.val - 65536) / 1024, hb⟩ ⟨(n.val - 65536) % 1024, Nat.mod_lt _ (by decide)⟩ n (by simp only; omega),
      toNat_base _ _ ((h d).1 _ _)]
    have := (h d).1 ⟨(n.val - 65536) / 1024, hb⟩ ⟨(n.val - 65536) % 1024, Nat.mod_lt _ (by decide)⟩
    simp only; omega

/-! ## The two results -/

theorem rowOf_val (b : Fin 4) (v : BitVec 32) (hv : v.toNat < 8192) : (rowOf (v + base b)).val = b.val * 8192 + v.toNat := by
  have hb := b.isLt
  unfold rowOf
  simp only [toNat_base b v hv]
  omega

theorem gath_at (T : S32768x128.Idx → Elt F .f32) (I : S32x17x128.Idx → BitVec 32) (n : Fin 69632) (c : Fin 128) :
    gath T I (ix2 n c) = T (ix2 (rowOf (I (slot n))) c) := rfl

/-- The first result: a neighbour's features. -/
theorem out_neighbour (d : Dev nD) (h : Named m d) (b : Fin 4) (q : Fin 1024) (k : Fin 16) (c : Fin 64) (n : Fin 65536) (hn : n.val = (b.val * 1024 + q.val) * 16 + k.val) :
    V₃ m d (Proc.tc.devRef main_v18) (ix2 n c : S65536x64.Idx) = feat m d (ix3 b c ⟨(nix m d (ix3 b q k)).toNat, h.2 b q k⟩) := by
  have hnl := n.isLt
  have e : V₃ m d (Proc.tc.devRef main_v18) = extractStridedSlice S65536x64 ![0, 0] (gath (tab m d) (idx m d)) slices_S69632x128_S65536x64_0_0 := by
    unfold V₃ ops₂
    after_reads_simp
    rw [V₂_o]
  rw [e, extractStridedSlice_apply _ _ _ _ (ix2 (⟨n.val, by omega⟩ : Fin 69632) (⟨c.val, by omega⟩ : Fin 128)) (by intro a; match a with | 0 => simp | 1 => simp)]
  rw [gath_at]
  rw [idx_neighbour m d b q k _ hn]
  exact tab_apply m d b ⟨_, h.2 b q k⟩ c _ _ (rowOf_val b _ (h.2 b q k)) rfl

/-- The second result: a centroid's features. -/
theorem out_centroid (d : Dev nD) (h : Named m d) (b : Fin 4) (q : Fin 1024) (c : Fin 64) (n : Fin 4096) (hn : n.val = b.val * 1024 + q.val) :
    V₃ m d (Proc.tc.devRef main_v19) (ix2 n c : S4096x64.Idx) = feat m d (ix3 b c ⟨(cix m d (ix2 b q)).toNat, h.1 b q⟩) := by
  have hnl := n.isLt
  have e : V₃ m d (Proc.tc.devRef main_v19) = extractStridedSlice S4096x64 ![65536, 0] (gath (tab m d) (idx m d)) slices_S69632x128_S4096x64_65536_0 := by
    unfold V₃ ops₂
    after_reads_simp
    rw [V₂_o]
  rw [e, extractStridedSlice_apply _ _ _ _ (ix2 (⟨65536 + n.val, by omega⟩ : Fin 69632) (⟨c.val, by omega⟩ : Fin 128)) (by intro a; match a with | 0 => simp | 1 => simp)]
  rw [gath_at]
  rw [idx_centroid m d b q _ (by simp only; omega)]
  exact tab_apply m d b ⟨_, h.1 b q⟩ c _ _ (rowOf_val b _ (h.1 b q)) rfl

/-! ## The arguments -/

theorem V₃_arg0 (d : Dev nD) : V₃ m d (Proc.tc.devRef main_arg0) = m ((d.tc : Thread nD τ).loc main_arg0) := by
  unfold V₃ ops₂
  after_reads_simp
  rw [V₂, Function.update_of_ne (by decide)]
  unfold V₁ ops₁
  after_reads_simp
theorem V₃_arg1 (d : Dev nD) : V₃ m d (Proc.tc.devRef main_arg1) = m ((d.tc : Thread nD τ).loc main_arg1) := by
  unfold V₃ ops₂
  after_reads_simp
  rw [V₂, Function.update_of_ne (by decide)]
  unfold V₁ ops₁
  after_reads_simp
theorem V₃_arg2 (d : Dev nD) : V₃ m d (Proc.tc.devRef main_arg2) = m ((d.tc : Thread nD τ).loc main_arg2) := by
  unfold V₃ ops₂
  after_reads_simp
  rw [V₂, Function.update_of_ne (by decide)]
  unfold V₁ ops₁
  after_reads_simp

end Cert.Proof.Gather

end
-- ==== Proof.Ref.lean ====
/-
  The reference, by coordinates: where every index names a point, each result row is that point's features.
-/
module

public import proofs.«01_k».proof.Proof.Gen.ReferenceIdeal.Run
public import Idealize.ShloMosaic.Lib.ValueIdxCore
public import Idealize.ShloMosaic.Lib.ValueIdxCoords
public import Idealize.ShloMosaic.Lib.Pipeline.Value
public import Idealize.ShloMosaic.Lib.StableHlo.Predicate
public import Idealize.ShloMosaic.Lib.ReduceAll

@[expose] public section

noncomputable section

namespace Cert.Proof.Along

open Idealize.ShloMosaic
open Idealize.ShloMosaic.ValueIdx

variable {F : FTy → Type} [FloatOps F]

/-! ## The index words -/

/-- A word below 8192 is not negative, so the wrap of negative indices leaves it. -/
theorem wrap_eq {s : Shape} (I z k : IVec s 32) (hz : ∀ j, z j = 0#32) (h : ∀ j, (I j).toNat < 8192) :
    select (cmpi .slt I z) (addi I k) I = I := by
  funext j
  have hj := h j
  have e : ¬ IntOp.cmpi .slt (I j) (z j) = 1#1 := by
    rw [hz, StableHlo.Predicate.slt_iff_toNat (by omega) (by decide)]
    exact Nat.not_lt_zero _
  show (if IntOp.cmpi .slt (I j) (z j) = 1#1 then _ else I j) = I j
  rw [if_neg e]

/-- And it is in range. -/
theorem range_eq {s : Shape} (I z u : IVec s 32) (hz : ∀ j, z j = 0#32) (hu : ∀ j, u j = 8191#32) (h : ∀ j, (I j).toNat < 8192) (j : s.Idx) :
    andi (cmpi .sge I z) (cmpi .sle I u) j = 1#1 := by
  have hj := h j
  have e0 : IntOp.cmpi .sge (I j) (z j) = 1#1 := by
    rw [hz, StableHlo.Predicate.sge_iff_toNat (by omega) (by decide)]
    exact Nat.zero_le _
  have e1 : IntOp.cmpi .sle (I j) (u j) = 1#1 := by
    rw [hu, StableHlo.Predicate.sle_iff_toNat (by omega) (by decide)]
    show (I j).toNat ≤ 8191
    omega
  show IntOp.andi (IntOp.cmpi .sge (I j) (z j)) (IntOp.cmpi .sle (I j) (u j)) = 1#1
  rw [e0, e1]
  decide

/-- A choice by an all-ones mask, broadcast. -/
theorem select_ones {s t : Shape} {α : Type} (dims : Fin s.rank → Fin t.rank) (hd : s.BroadcastsInDim t dims) (M : IVec s 1) (hM : ∀ j, M j = 1#1)
    (X Y : t.Idx → α) : select (broadcastInDim t dims hd M) X Y = X := funext fun _ => if_pos (hM _)

/-! ## The gather along the points -/

/-- The dimension numbers of a gather of `N` points' rows of `C` numbers in each of four batches. -/
abbrev along (N C : Nat) (wf : GatherDims.WF ⟨3, ![4, 8192, C]⟩ ⟨3, ![4, N, 1]⟩ ⟨3, ![4, N, C]⟩ [2] [1] [0] [1] [0] 2 ![1, 1, C]) :
    GatherDims ⟨3, ![4, 8192, C]⟩ ⟨3, ![4, N, 1]⟩ ⟨3, ![4, N, C]⟩ where
  offsetDims := [2]
  collapsedSliceDims := [1]
  operandBatchingDims := [0]
  startIndicesBatchingDims := [0]
  startIndexMap := [1]
  indexVectorDim := 2
  sliceSizes := ![1, 1, C]
  wf := wf

/-- That gather at an index whose word names a point. -/
theorem along_apply {α : Type} (N C : Nat) (wf : GatherDims.WF ⟨3, ![4, 8192, C]⟩ ⟨3, ![4, N, 1]⟩ ⟨3, ![4, N, C]⟩ [2] [1] [0] [1] [0] 2 ![1, 1, C])
    (x : (⟨3, ![4, 8192, C]⟩ : Shape).Idx → α) (I : IVec ⟨3, ![4, N, 1]⟩ 32) (b : Fin 4) (n : Fin N) (c : Fin C)
    (h : (I (ix3 b n (0 : Fin 1))).toNat < 8192) :
    Host.gather (along N C wf) x I (ix3 b n c) = x (ix3 b ⟨(I (ix3 b n (0 : Fin 1))).toNat, h⟩ c) := by
  unfold Host.gather
  refine congrArg x (funext fun a => Fin.ext ?_)
  show (along N C wf).start (ix3 b n c) I a + (along N C wf).batchCoord (ix3 b n c) a + (along N C wf).offCoord (ix3 b n c) a = _
  have ha : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases ha with rfl | rfl | rfl
  · have hb : (0 : Fin 3) ∈ (along N C wf).operandBatchingDims := List.mem_singleton.mpr rfl
    have hk : (0 : Fin 3) ∉ (along N C wf).sKept := fun q => ((GatherDims.mem_sKept _ _).mp q).2 hb
    have e1 := (along N C wf).start_batching (ix3 b n c) I 0 hb
    have e2 := (along N C wf).offCoord_eq_zero (ix3 b n c) 0 hk
    refine (congrArg₂ (· + ·) (congrArg (· + _) e1) e2).trans ?_
    rw [Nat.zero_add, Nat.add_zero]
    unfold GatherDims.batchCoord
    rw [dif_pos hb]
    rfl
  · have hb : (1 : Fin 3) ∉ (along N C wf).operandBatchingDims := fun q => absurd (List.mem_singleton.mp q) (by decide : ¬ (1 : Fin 3) = 0)
    have hk : (1 : Fin 3) ∉ (along N C wf).sKept := fun q => ((GatherDims.mem_sKept _ _).mp q).1 (List.mem_singleton.mpr rfl)
    have hm : (1 : Fin 3) ∈ (along N C wf).startIndexMap := List.mem_singleton.mpr rfl
    have e1 := (along N C wf).batchCoord_eq_zero (ix3 b n c) 1 hb
    have e2 := (along N C wf).offCoord_eq_zero (ix3 b n c) 1 hk
    refine (congrArg₂ (· + ·) (congrArg (_ + ·) e1) e2).trans ?_
    rw [Nat.add_zero]
    unfold GatherDims.start
    rw [dif_pos hm]
    have hs : (along N C wf).siIdx (ix3 b n c) ⟨List.idxOf (1 : Fin 3) (along N C wf).startIndexMap, List.idxOf_lt_length_iff.2 hm⟩ = ix3 b n (0 : Fin 1) := by
      funext a'
      refine Fin.ext ?_
      match a' with
      | ⟨0, _⟩ => rfl
      | ⟨1, _⟩ => rfl
      | ⟨2, _⟩ => rfl
    rw [hs, StableHlo.Predicate.toInt_eq_toNat_of_lt (by omega), Int.toNat_natCast]
    show min _ (8192 - 1) = (I (ix3 b n (0 : Fin 1))).toNat
    omega
  · have hb : (2 : Fin 3) ∉ (along N C wf).operandBatchingDims := fun q => absurd (List.mem_singleton.mp q) (by decide : ¬ (2 : Fin 3) = 0)
    have hm : (2 : Fin 3) ∉ (along N C wf).startIndexMap := fun q => absurd (List.mem_singleton.mp q) (by decide : ¬ (2 : Fin 3) = 1)
    have hk : (2 : Fin 3) ∈ (along N C wf).sKept := (GatherDims.mem_sKept _ _).mpr ⟨fun q => absurd (List.mem_singleton.mp q) (by decide : ¬ (2 : Fin 3) = 1), hb⟩
    have e1 := (along N C wf).batchCoord_eq_zero (ix3 b n c) 2 hb
    have e2 : (along N C wf).start (ix3 b n c) I 2 = 0 := dif_neg hm
    refine (congrArg (· + _) (congrArg₂ (· + ·) e2 e1)).trans ?_
    rw [Nat.add_zero, Nat.zero_add]
    unfold GatherDims.offCoord
    rw [dif_pos hk]
    rfl

open Cert.ReferenceIdeal Cert.ReferenceIdeal.Gen Idealize.ShloMosaic.TcCoe Idealize.SL.Sem

/-! ## The reference's two results -/

/-- The features of the points that the words `I` name, as the reference takes them: a wrap, a range check, a gather. -/
def take16384 (x : (⟨S4x64x8192, .f32⟩ : BufTy).Contents (Elt F)) (I : (⟨S4x16384x1, .i32⟩ : BufTy).Contents (Elt F)) : (⟨S65536x64, .f32⟩ : BufTy).Contents (Elt F) :=
  shapeCast _ (select (broadcastInDim S4x16384x64 ![0, 1] bcast_S4x16384_S4x16384x64_0_1 (Host.reduce IntOp.andi (andi (cmpi .sge (select (cmpi .slt I (broadcastInDim S4x16384x1 ![] bcast_S_S4x16384x1 (constantI S_ 32 0#32))) (addi I (broadcastInDim S4x16384x1 ![] bcast_S_S4x16384x1 (constantI S_ 32 8192#32))) I) (broadcastInDim S4x16384x1 ![] bcast_S_S4x16384x1 (constantI S_ 32 0#32))) (cmpi .sle (select (cmpi .slt I (broadcastInDim S4x16384x1 ![] bcast_S_S4x16384x1 (constantI S_ 32 0#32))) (addi I (broadcastInDim S4x16384x1 ![] bcast_S_S4x16384x1 (constantI S_ 32 8192#32))) I) (broadcastInDim S4x16384x1 ![0, 1, 2] bcast_S1x1x1_S4x16384x1_0_1_2 (broadcastInDim S1x1x1 ![2] bcast_S1_S1x1x1_2 (constantI S1 32 8191#32))))) (constantI S_ 1 1#1) reducesTo_S4x16384x1_S4x16384_d2 h_S_)) (Host.gather gather_S4x8192x64_S4x16384x1_S4x16384x64_2_1_0_0_1_2_1164 (transpose S4x8192x64 [0, 2, 1] x transposes_S4x64x8192_S4x8192x64_0_2_1) (select (cmpi .slt I (broadcastInDim S4x16384x1 ![] bcast_S_S4x16384x1 (constantI S_ 32 0#32))) (addi I (broadcastInDim S4x16384x1 ![] bcast_S_S4x16384x1 (constantI S_ 32 8192#32))) I)) (broadcastInDim S4x16384x64 ![] bcast_S_S4x16384x64 (constant S_ .f32 0x7FC00000#32))) shapeCasts_S4x16384x64_S65536x64

def take1024 (x : (⟨S4x64x8192, .f32⟩ : BufTy).Contents (Elt F)) (I : (⟨S4x1024x1, .i32⟩ : BufTy).Contents (Elt F)) : (⟨S4096x64, .f32⟩ : BufTy).Contents (Elt F) :=
  shapeCast _ (select (broadcastInDim S4x1024x64 ![0, 1] bcast_S4x1024_S4x1024x64_0_1 (Host.reduce IntOp.andi (andi (cmpi .sge (select (cmpi .slt I (broadcastInDim S4x1024x1 ![] bcast_S_S4x1024x1 (constantI S_ 32 0#32))) (addi I (broadcastInDim S4x1024x1 ![] bcast_S_S4x1024x1 (constantI S_ 32 8192#32))) I) (broadcastInDim S4x1024x1 ![] bcast_S_S4x1024x1 (constantI S_ 32 0#32))) (cmpi .sle (select (cmpi .slt I (broadcastInDim S4x1024x1 ![] bcast_S_S4x1024x1 (constantI S_ 32 0#32))) (addi I (broadcastInDim S4x1024x1 ![] bcast_S_S4x1024x1 (constantI S_ 32 8192#32))) I) (broadcastInDim S4x1024x1 ![0, 1, 2] bcast_S1x1x1_S4x1024x1_0_1_2 (broadcastInDim S1x1x1 ![2] bcast_S1_S1x1x1_2 (constantI S1 32 8191#32))))) (constantI S_ 1 1#1) reducesTo_S4x1024x1_S4x1024_d2 h_S_)) (Host.gather gather_S4x8192x64_S4x1024x1_S4x1024x64_2_1_0_0_1_2_1164 (transpose S4x8192x64 [0, 2, 1] x transposes_S4x64x8192_S4x8192x64_0_2_1) (select (cmpi .slt I (broadcastInDim S4x1024x1 ![] bcast_S_S4x1024x1 (constantI S_ 32 0#32))) (addi I (broadcastInDim S4x1024x1 ![] bcast_S_S4x1024x1 (constantI S_ 32 8192#32))) I)) (broadcastInDim S4x1024x64 ![] bcast_S_S4x1024x64 (constant S_ .f32 0x7FC00000#32))) shapeCasts_S4x1024x64_S4096x64

theorem take16384_apply (x : S4x64x8192.Idx → Elt F .f32) (I : S4x16384x1.Idx → BitVec 32) (h : ∀ j, (I j).toNat < 8192) (b : Fin 4) (r : Fin 16384) (c : Fin 64)
    (n : Fin 65536) (hn : n.val = b.val * 16384 + r.val) :
    take16384 (F := F) x I (ix2 n c : S65536x64.Idx) = x (ix3 b c ⟨(I (ix3 b r (0 : Fin 1))).toNat, h _⟩) := by
  have hb := b.isLt; have hr := r.isLt
  unfold take16384
  rw [wrap_eq I (broadcastInDim S4x16384x1 ![] bcast_S_S4x16384x1 (constantI S_ 32 0#32)) (broadcastInDim S4x16384x1 ![] bcast_S_S4x16384x1 (constantI S_ 32 8192#32)) (fun _ => rfl) h,
    shapeCast_apply _ _ _ (ix3 b r c : S4x16384x64.Idx) (by
      rw [Shape.rowMajor_val_two, Shape.rowMajor_val_three]
      simp; omega)]
  have hmask : ∀ j, Host.reduce IntOp.andi (andi (cmpi .sge I (broadcastInDim S4x16384x1 ![] bcast_S_S4x16384x1 (constantI S_ 32 0#32))) (cmpi .sle I (broadcastInDim S4x16384x1 ![0, 1, 2] bcast_S1x1x1_S4x16384x1_0_1_2 (broadcastInDim S1x1x1 ![2] bcast_S1_S1x1x1_2 (constantI S1 32 8191#32))))) (constantI S_ 1 1#1) reducesTo_S4x16384x1_S4x16384_d2 h_S_ j = 1#1 :=
    fun j => Host.reduce_andi_one _ _ _ _ j rfl fun i => range_eq I _ _ (fun _ => rfl) (fun _ => rfl) h i
  rw [select_ones _ _ _ hmask]
  refine (along_apply 16384 64 Cert.ReferenceIdeal.Gen.gather_S4x8192x64_S4x16384x1_S4x16384x64_2_1_0_0_1_2_1164_wf _ I b r c (h _)).trans ?_
  exact transpose_apply _ _ _ _ (ix3 b c _) (by intro a; match a with | 0 => rfl | 1 => rfl | 2 => rfl)

theorem take1024_apply (x : S4x64x8192.Idx → Elt F .f32) (I : S4x1024x1.Idx → BitVec 32) (h : ∀ j, (I j).toNat < 8192) (b : Fin 4) (r : Fin 1024) (c : Fin 64)
    (n : Fin 4096) (hn : n.val = b.val * 1024 + r.val) :
    take1024 (F := F) x I (ix2 n c : S4096x64.Idx) = x (ix3 b c ⟨(I (ix3 b r (0 : Fin 1))).toNat, h _⟩) := by
  have hb := b.isLt; have hr := r.isLt
  unfold take1024
  rw [wrap_eq I (broadcastInDim S4x1024x1 ![] bcast_S_S4x1024x1 (constantI S_ 32 0#32)) (broadcastInDim S4x1024x1 ![] bcast_S_S4x1024x1 (constantI S_ 32 8192#32)) (fun _ => rfl) h,
    shapeCast_apply _ _ _ (ix3 b r c : S4x1024x64.Idx) (by
      rw [Shape.rowMajor_val_two, Shape.rowMajor_val_three]
      simp; omega)]
  have hmask : ∀ j, Host.reduce IntOp.andi (andi (cmpi .sge I (broadcastInDim S4x1024x1 ![] bcast_S_S4x1024x1 (constantI S_ 32 0#32))) (cmpi .sle I (broadcastInDim S4x1024x1 ![0, 1, 2] bcast_S1x1x1_S4x1024x1_0_1_2 (broadcastInDim S1x1x1 ![2] bcast_S1_S1x1x1_2 (constantI S1 32 8191#32))))) (constantI S_ 1 1#1) reducesTo_S4x1024x1_S4x1024_d2 h_S_ j = 1#1 :=
    fun j => Host.reduce_andi_one _ _ _ _ j rfl fun i => range_eq I _ _ (fun _ => rfl) (fun _ => rfl) h i
  rw [select_ones _ _ _ hmask]
  refine (along_apply 1024 64 Cert.ReferenceIdeal.Gen.gather_S4x8192x64_S4x1024x1_S4x1024x64_2_1_0_0_1_2_1164_wf _ I b r c (h _)).trans ?_
  exact transpose_apply _ _ _ _ (ix3 b c _) (by intro a; match a with | 0 => rfl | 1 => rfl | 2 => rfl)

variable (m : (ℓ : Loc nD τ sig) → Buf (Elt F) ℓ) (ρ : Dev nD → PrngReg)

/-- The words of the neighbours' indices, and of the centroids', as the reference lays them out. -/
abbrev nWords (c : Dev nD) : (⟨S4x16384x1, .i32⟩ : BufTy).Contents (Elt F) := broadcastInDim S4x16384x1 ![0, 1] bcast_S4x16384_S4x16384x1_0_1 (shapeCast _ (m ((c.tc : Thread nD τ).loc main_arg2)) shapeCasts_S4x1024x16_S4x16384)
abbrev cWords (c : Dev nD) : (⟨S4x1024x1, .i32⟩ : BufTy).Contents (Elt F) := broadcastInDim S4x1024x1 ![0, 1] bcast_S4x1024_S4x1024x1_0_1 (m ((c.tc : Thread nD τ).loc main_arg1))

theorem nWords_apply (c : Dev nD) (b : Fin 4) (q : Fin 1024) (k : Fin 16) (r : Fin 16384) (hr : r.val = q.val * 16 + k.val) (z : Fin 1) :
    (nWords m c : S4x16384x1.Idx → BitVec 32) (ix3 b r z) = (m ((c.tc : Thread nD τ).loc main_arg2) : S4x1024x16.Idx → BitVec 32) (ix3 b q k) := by
  have hb := b.isLt; have hq := q.isLt; have hk := k.isLt
  unfold nWords
  rw [broadcastInDim_apply _ _ _ _ (ix2 b r : S4x16384.Idx) (by intro a; match a with | 0 => rfl | 1 => rfl)]
  exact shapeCast_apply _ _ _ (ix3 b q k : S4x1024x16.Idx) (by
    rw [Shape.rowMajor_val_two, Shape.rowMajor_val_three]
    simp; omega)

theorem cWords_apply (c : Dev nD) (b : Fin 4) (q : Fin 1024) (z : Fin 1) :
    (cWords m c : S4x1024x1.Idx → BitVec 32) (ix3 b q z) = (m ((c.tc : Thread nD τ).loc main_arg1) : S4x1024.Idx → BitVec 32) (ix2 b q) := by
  unfold cWords
  exact broadcastInDim_apply _ _ _ _ (ix2 b q : S4x1024.Idx) (by intro a; match a with | 0 => rfl | 1 => rfl)

/-- The reference's run, its results by name. -/
theorem run : θ_run defs (onTc (τ := τ) (main (F := F))) ⟨m, fun _ => 0, ρ⟩ fun r => ∀ c : Dev nD,
    r.2.mem ((c.tc : Thread nD τ).loc main_v6) = take16384 (m ((c.tc : Thread nD τ).loc main_arg0)) (nWords m c)
      ∧ r.2.mem ((c.tc : Thread nD τ).loc main_v7) = take1024 (m ((c.tc : Thread nD τ).loc main_arg0)) (cWords m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run m ρ

end Cert.Proof.Along

end
-- ==== Proof.Named.lean ====
/-
  The precondition decoded: its bit is one only where every index word is below 8192.
-/
module

public import proofs.«01_k».proof.Proof.Gen.Pre_rows_named
public import Idealize.ShloMosaic.Lib.ReduceAll
public import Idealize.ShloMosaic.Lib.StableHlo.Predicate

@[expose] public section

noncomputable section

namespace Cert.Proof.Along

open Idealize.ShloMosaic Cert.Pre_rows_named Cert.Pre_rows_named.Gen

variable {F : FTy → Type} [FloatOps F]

theorem and_one (a b : BitVec 1) (h : IntOp.andi a b = 1#1) : a = 1#1 ∧ b = 1#1 := by
  rcases BitVec.eq_zero_or_eq_one a with rfl | rfl <;> rcases BitVec.eq_zero_or_eq_one b with rfl | rfl <;> revert h <;> decide

/-- A word between 0 and 8192 as signed words go is below 8192. -/
theorem below (v : BitVec 32) (h : IntOp.andi (IntOp.cmpi .sge v 0#32) (IntOp.cmpi .slt v 8192#32) = 1#1) : v.toNat < 8192 := by
  obtain ⟨h0, h1⟩ := and_one _ _ h
  have h0' : (0#32).sle v = true := (StableHlo.Predicate.ofBool_eq_one_iff _).mp h0
  have h1' : v.slt 8192#32 = true := (StableHlo.Predicate.ofBool_eq_one_iff _).mp h1
  rw [BitVec.sle_eq_decide, decide_eq_true_eq] at h0'
  rw [BitVec.slt_eq_decide, decide_eq_true_eq] at h1'
  have e0 : (0#32).toInt = 0 := by decide
  have e1 : (8192#32).toInt = 8192 := by decide
  rw [e0] at h0'
  rw [e1] at h1'
  rw [BitVec.toInt_eq_toNat_cond] at h0' h1'
  split at h0' <;> omega

theorem named_of_fn (x : FVec F S4x64x8192 .f32) (c : IVec S4x1024 32) (n : IVec S4x1024x16 32) (h : fn (F := F) x c n = fun _ => 1#1) :
    (∀ j, (c j).toNat < 8192) ∧ ∀ j, (n j).toNat < 8192 := by
  haveI : Subsingleton S_.Idx := ⟨fun a b => funext fun i => i.elim0⟩
  have h0 := congrFun h (fun i => i.elim0)
  unfold fn at h0
  obtain ⟨hc, hn⟩ := and_one _ _ h0
  exact ⟨fun j => below _ (Host.reduce_andi_all _ _ _ _ _ hc j), fun j => below _ (Host.reduce_andi_all _ _ _ _ _ hn j)⟩

end Cert.Proof.Along

end
-- ==== Proof.SampleSpec.lean ====
/-
  Farthest-point sampling of one batch over the extended reals: the first point at the greatest distance, and the distances to the
  nearest point chosen so far, one choice after another.
-/
module

public import Idealize.ShloMosaic.Lib.Pointwise
public import Idealize.ShloMosaic.PureOps.Ideal.Laws
public import Idealize.ShloMosaic.Lib.StableHlo.Predicate

@[expose] public section

noncomputable section

namespace Cert.Proof.Sampling

open Idealize.ShloMosaic

/-! ## The first point of greatest value -/

/-- The point `p` has the greatest value, and no point before it has that value. -/
def IsFirst (f : Fin 8192 → EReal) (p : Fin 8192) : Prop := (∀ q, f q ≤ f p) ∧ ∀ q, f q = f p → p ≤ q

theorem exists_first (f : Fin 8192 → EReal) : ∃ p, IsFirst f p := by
  obtain ⟨a, -, ha⟩ := Finset.exists_max_image Finset.univ f ⟨0, Finset.mem_univ _⟩
  obtain ⟨p, hp, hmin⟩ := Finset.exists_min_image (Finset.univ.filter fun q => f q = f a) id ⟨a, by simp⟩
  have e : f p = f a := (Finset.mem_filter.mp hp).2
  exact ⟨p, fun q => (ha q (Finset.mem_univ q)).trans_eq e.symm,
    fun q hq => hmin q (Finset.mem_filter.mpr ⟨Finset.mem_univ q, hq.trans e⟩)⟩

/-- The first point of greatest value. -/
def first (f : Fin 8192 → EReal) : Fin 8192 := (exists_first f).choose

theorem isFirst_first (f : Fin 8192 → EReal) : IsFirst f (first f) := (exists_first f).choose_spec

theorem IsFirst.eq_first {f : Fin 8192 → EReal} {p : Fin 8192} (h : IsFirst f p) : p = first f := by
  have g := isFirst_first f
  exact le_antisymm (h.2 _ (le_antisymm (h.1 _) (g.1 _))) (g.2 _ (le_antisymm (g.1 _) (h.1 _)))

/-! ## The distances, choice by choice -/

/-- The squared distance of the point `p` from the point `s`. -/
def gap (x y : Fin 8192 → EReal) (s p : Fin 8192) : EReal := (x p - x s) * (x p - x s) + (y p - y s) * (y p - y s)

/-- The distance of each point from the points chosen in the first `k` choices. -/
def dist (x y : Fin 8192 → EReal) : ℕ → Fin 8192 → EReal
  | 0 => fun _ => ⊤
  | k + 1 => fun p => min (dist x y k p) (gap x y (first (dist x y k)) p)

/-- The point chosen at choice `k`. -/
def sel (x y : Fin 8192 → EReal) (k : ℕ) : Fin 8192 := first (dist x y k)

theorem dist_succ (x y : Fin 8192 → EReal) (k : ℕ) (p : Fin 8192) : dist x y (k + 1) p = min (dist x y k p) (gap x y (sel x y k) p) := rfl

/-- The word of a point. -/
abbrev word (p : Fin 8192) : BitVec 32 := BitVec.ofNat 32 p.val

theorem word_toNat (p : Fin 8192) : (word p).toNat = p.val := by
  have := p.isLt
  rw [BitVec.toNat_ofNat]
  omega

/-! ## Folds over lists and sets -/

/-- A fold over the numbers below `n` keeps what each step carries from one number to the next. -/
theorem foldl_keeps {σ : Type} {n : ℕ} (g : Fin n → σ → σ) (P : ℕ → σ → Prop) (hstep : ∀ (k : Fin n) (s : σ), P k.val s → P (k.val + 1) (g k s)) :
    ∀ (ks : List (Fin n)) (o : ℕ) (s : σ), ks.map Fin.val = List.range' o ks.length → P o s → P (o + ks.length) (ks.foldl (fun acc k => g k acc) s)
  | [], o, s, _, h => h
  | k :: ks, o, s, hk, h => by
    rw [List.map_cons, List.length_cons, List.range'_succ] at hk
    have h0 : k.val = o := (List.cons.inj hk).1
    have h1 := (List.cons.inj hk).2
    have hs := hstep k s (by rw [h0]; exact h)
    rw [h0] at hs
    have := foldl_keeps g P hstep ks (o + 1) (g k s) h1 hs
    rw [List.length_cons, List.foldl_cons, show o + (ks.length + 1) = o + 1 + ks.length by omega]
    exact this

theorem foldl_finRange_keeps {σ : Type} {n : ℕ} (g : Fin n → σ → σ) (P : ℕ → σ → Prop) (hstep : ∀ (k : Fin n) (s : σ), P k.val s → P (k.val + 1) (g k s))
    (s : σ) (h : P 0 s) : P n ((List.finRange n).foldl (fun acc k => g k acc) s) := by
  have := foldl_keeps g P hstep (List.finRange n) 0 s (by rw [List.length_finRange, List.map_coe_finRange_eq_range, List.range_eq_range']) h
  rwa [List.length_finRange, Nat.zero_add] at this

/-- The fold of an operation that gives one of its two values gives the initial value or one of the values. -/
theorem fold_mem {α ι : Type} (op : α → α → α) [Std.Commutative op] [Std.Associative op] (hop : ∀ a b, op a b = a ∨ op a b = b) (b : α) (f : ι → α) (s : Finset ι) :
    s.fold op b f = b ∨ ∃ i ∈ s, s.fold op b f = f i := by
  classical
  induction s using Finset.induction_on with
  | empty => exact Or.inl (Finset.fold_empty)
  | insert a s ha ih =>
    rw [Finset.fold_insert ha]
    rcases hop (f a) (s.fold op b f) with e | e
    · exact Or.inr ⟨a, Finset.mem_insert_self a s, e⟩
    · rw [e]
      rcases ih with h | ⟨i, hi, h⟩
      · exact Or.inl h
      · exact Or.inr ⟨i, Finset.mem_insert_of_mem hi, h⟩

/-- The least of a set of words, as signed numbers. -/
theorem fold_min_le {ι : Type} (b : BitVec 32) (f : ι → BitVec 32) (s : Finset ι) :
    (s.fold IntOp.minsi b f).toInt ≤ b.toInt ∧ ∀ i ∈ s, (s.fold IntOp.minsi b f).toInt ≤ (f i).toInt := by
  classical
  have hmin : ∀ a c : BitVec 32, (IntOp.minsi a c).toInt = min a.toInt c.toInt := fun a c => by
    unfold IntOp.minsi
    by_cases h : a.toInt < c.toInt
    · rw [if_pos (by rw [BitVec.slt_iff_toInt_lt]; exact h), min_eq_left h.le]
    · rw [if_neg (by rw [BitVec.slt_iff_toInt_lt]; exact h), min_eq_right (not_lt.mp h)]
  induction s using Finset.induction_on with
  | empty => exact ⟨le_of_eq (congrArg _ Finset.fold_empty), fun i hi => absurd hi (Finset.notMem_empty i)⟩
  | insert a s ha ih =>
    rw [Finset.fold_insert ha, hmin]
    refine ⟨(min_le_right _ _).trans ih.1, fun i hi => ?_⟩
    rcases Finset.mem_insert.mp hi with rfl | hi
    · exact min_le_left _ _
    · exact (min_le_right _ _).trans (ih.2 i hi)

theorem word_toInt (p : Fin 8192) : (word p).toInt = (p.val : Int) :=
  StableHlo.Predicate.toInt_ofNat_small _ (by have := p.isLt; omega)

/-- The least word among the points of greatest value (8192 standing for the others) is the first point's. -/
theorem least_word (f : Fin 8192 → EReal) (w : Fin 8192 → BitVec 32) (hw : ∀ p, w p = if f p = f (first f) then word p else 8192#32) (b : BitVec 32)
    (hb : 8192 ≤ b.toInt) : (Finset.univ : Finset (Fin 8192)).fold IntOp.minsi b w = word (first f) := by
  have hF := isFirst_first f
  have hle := (fold_min_le b w Finset.univ).2 (first f) (Finset.mem_univ _)
  have hlt := (first f).isLt
  rw [hw, if_pos rfl, word_toInt] at hle
  rcases fold_mem IntOp.minsi (fun a c => by unfold IntOp.minsi; split <;> simp) b w Finset.univ with e | ⟨p, -, e⟩
  · rw [e] at hle
    omega
  · rw [e] at hle ⊢
    by_cases hp : f p = f (first f)
    · rw [hw, if_pos hp] at hle ⊢
      rw [word_toInt] at hle
      have := hF.2 p hp
      have h2 : p.val ≤ (first f).val := by exact_mod_cast hle
      rw [le_antisymm (Fin.le_def.mpr h2) this]
    · rw [hw, if_neg hp] at hle
      have : (8192#32 : BitVec 32).toInt = 8192 := by decide
      omega

/-- The greatest value, as a fold. -/
theorem fold_max_first (f : Fin 8192 → EReal) : (Finset.univ : Finset (Fin 8192)).fold max ⊥ f = f (first f) := by
  have hF := isFirst_first f
  refine le_antisymm ?_ ?_
  · rw [Finset.fold_max_le]
    exact ⟨bot_le, fun q _ => hF.1 q⟩
  · rw [Finset.le_fold_max]
    exact Or.inr ⟨first f, Finset.mem_univ _, le_rfl⟩

/-! ## The arg-max of a list -/

/-- One step of an arg-max over pairs of a value and an index word: the greater value, and of two equal ones the lower index. -/
def better (a b : EReal × BitVec 32) : EReal × BitVec 32 :=
  if b.1 < a.1 then a else if a.1 = b.1 ∧ a.2.slt b.2 then a else b

/-- `a` is at least as good as `b`. -/
def AtLeast (a b : EReal × BitVec 32) : Prop := b.1 < a.1 ∨ (b.1 = a.1 ∧ a.2.toInt ≤ b.2.toInt)

theorem AtLeast.refl (a : EReal × BitVec 32) : AtLeast a a := Or.inr ⟨rfl, le_rfl⟩

theorem AtLeast.trans {a b c : EReal × BitVec 32} (h : AtLeast a b) (g : AtLeast b c) : AtLeast a c := by
  rcases h with h | ⟨h, h'⟩ <;> rcases g with g | ⟨g, g'⟩
  · exact Or.inl (g.trans h)
  · exact Or.inl (g ▸ h)
  · exact Or.inl (h ▸ g)
  · exact Or.inr ⟨g.trans h, h'.trans g'⟩

theorem better_spec (a b : EReal × BitVec 32) : (better a b = a ∨ better a b = b) ∧ AtLeast (better a b) a ∧ AtLeast (better a b) b := by
  unfold better
  by_cases h : b.1 < a.1
  · rw [if_pos h]
    exact ⟨Or.inl rfl, AtLeast.refl a, Or.inl h⟩
  rw [if_neg h]
  by_cases g : a.1 = b.1 ∧ a.2.slt b.2
  · rw [if_pos g]
    exact ⟨Or.inl rfl, AtLeast.refl a, Or.inr ⟨g.1.symm, (BitVec.slt_iff_toInt_lt.mp g.2).le⟩⟩
  · rw [if_neg g]
    refine ⟨Or.inr rfl, ?_, AtLeast.refl b⟩
    rcases (not_lt.mp h).lt_or_eq with e | e
    · exact Or.inl e
    · exact Or.inr ⟨e, not_lt.mp fun q => g ⟨e, BitVec.slt_iff_toInt_lt.mpr q⟩⟩

theorem foldl_better (l : List (EReal × BitVec 32)) : ∀ a : EReal × BitVec 32,
    (l.foldl better a = a ∨ l.foldl better a ∈ l) ∧ AtLeast (l.foldl better a) a ∧ ∀ p ∈ l, AtLeast (l.foldl better a) p := by
  induction l with
  | nil => exact fun a => ⟨Or.inl rfl, AtLeast.refl a, fun p hp => absurd hp List.not_mem_nil⟩
  | cons b l ih =>
    intro a
    rw [List.foldl_cons]
    obtain ⟨h1, h2, h3⟩ := ih (better a b)
    obtain ⟨g1, g2, g3⟩ := better_spec a b
    refine ⟨?_, h2.trans g2, fun p hp => ?_⟩
    · rcases h1 with h1 | h1
      · rw [h1]
        rcases g1 with g1 | g1
        · exact Or.inl g1
        · rw [g1]
          exact Or.inr List.mem_cons_self
      · exact Or.inr (List.mem_cons_of_mem b h1)
    · rcases List.mem_cons.mp hp with rfl | hp
      · exact h2.trans g3
      · exact h3 p hp

/-- Over the pairs of the points, from the least value at index zero, the index is the first point's word. -/
theorem arg_first (f : Fin 8192 → EReal) (l : List (EReal × BitVec 32)) (hl : ∀ p, (f p, word p) ∈ l) (hl' : ∀ a ∈ l, ∃ p, a = (f p, word p)) :
    (l.foldl better (⊥, 0#32)).2 = word (first f) := by
  obtain ⟨h1, h2, h3⟩ := foldl_better l (⊥, 0#32)
  have hF : ∃ p, l.foldl better (⊥, 0#32) = (f p, word p) := by
    rcases h1 with h1 | h1
    · refine ⟨0, ?_⟩
      have h0 := h3 _ (hl 0)
      rw [h1] at h0
      rcases h0 with h0 | ⟨h0, -⟩
      · exact absurd h0 (not_lt_bot)
      · rw [h1]
        exact Prod.ext h0.symm rfl
    · exact hl' _ h1
  obtain ⟨p, hp⟩ := hF
  rw [hp]
  refine congrArg word (IsFirst.eq_first (f := f) ⟨fun q => ?_, fun q hq => ?_⟩)
  · have := h3 _ (hl q)
    rw [hp] at this
    rcases this with h | ⟨h, -⟩
    · exact h.le
    · exact h.le
  · have := h3 _ (hl q)
    rw [hp] at this
    rcases this with h | ⟨-, h⟩
    · exact absurd hq h.ne
    · rw [word_toInt, word_toInt] at h
      exact Fin.le_def.mpr (by exact_mod_cast h)

end Cert.Proof.Sampling

end
-- ==== Proof.SampleKernel.lean ====
/-
  The choice of points, as the program makes it: what one round does to the distances and to the three rows of results, and so
  what 1024 rounds leave.
-/
module

public import proofs.«01_k».proof.Proof.SampleSpec
public import proofs.«01_k».proof.Proof.Gen.SampleIdeal.Frame
public import Idealize.ShloMosaic.Lib.Pointwise
public import Idealize.ShloMosaic.Lib.Pipeline.Value
public import Idealize.ShloMosaic.PureOps.Ideal.Laws
public import Idealize.ShloMosaic.PureOps.Reduce

@[expose] public section

noncomputable section

namespace Cert.Proof.Sampling

open Idealize.ShloMosaic Cert.SampleIdeal Cert.SampleIdeal.Gen

/-- The values of one batch. -/
abbrev row (a : S4x8192.Idx → EReal) (b : Fin 4) : Fin 8192 → EReal := fun p => a (ix2 b p)

/-- Positive infinity, read. -/
theorem pos_inf : Ideal.ofBits .f32 0x7F800000#32 = ⊤ := by
  simp [Ideal.ofBits, Ideal.ieee, -EReal.coe_mul]

/-- Negative infinity, read. -/
theorem neg_inf : Ideal.ofBits .f32 0xFF800000#32 = ⊥ := by
  simp [Ideal.ofBits, Ideal.ieee, -EReal.coe_mul]

/-! ## What the payloads hold -/

theorem pay7_apply (a : FVec Ideal S4x8192 .f32) (b : Fin 4) (z : Fin 1) : k0_pay7 (F := Ideal) a (ix2 b z) = word (first (row a b)) := by
  unfold k0_pay7
  pointwise
  rw [neg_inf, fold_max_first (row a b)]
  exact least_word (row a b) _ (fun _ => rfl) _ (by decide)

theorem pay8_apply (a : FVec Ideal S4x8192 .f32) (b : Fin 4) (p : Fin 8192) :
    k0_pay8 (F := Ideal) a (ix2 b p) = BitVec.ofBool (decide (p = first (row a b))) := by
  unfold k0_pay8
  pointwise
  rw [pay7_apply]
  unfold IntOp.cmpi
  refine congrArg BitVec.ofBool ?_
  by_cases h : p = first (row a b)
  · rw [h]
    simp
  · have : word p ≠ word (first (row a b)) := fun e => h (Fin.ext (by rw [← word_toNat p, ← word_toNat (first _), e]))
    simp [h, this]

theorem pick_sum (x : Fin 8192 → EReal) (s : Fin 8192) (c : Fin 8192 → BitVec 1) (hc : ∀ p, c p = BitVec.ofBool (decide (p = s))) :
    ∑ p, Scalar.select (c p) (x p) 0 = x s := by
  rw [Finset.sum_eq_single s]
  · rw [hc]
    simp [Scalar.select]
  · intro p _ h
    rw [hc]
    simp [Scalar.select, h]
  · exact fun h => absurd (Finset.mem_univ s) h

theorem pay9_apply (v : Vec Ideal S4x1x8192 .f32) (a : FVec Ideal S4x8192 .f32) (b : Fin 4) (z : Fin 1) :
    k0_pay9 (F := Ideal) v a (ix2 b z) = v (ix3 b 0 (first (row a b))) := by
  unfold k0_pay9 k0_pay1
  pointwise
  exact pick_sum (fun p => v (ix3 b 0 p)) _ _ (pay8_apply a b)

theorem pay10_apply (v : Vec Ideal S4x1x8192 .f32) (a : FVec Ideal S4x8192 .f32) (b : Fin 4) (z : Fin 1) :
    k0_pay10 (F := Ideal) v a (ix2 b z) = v (ix3 b 0 (first (row a b))) := by
  unfold k0_pay10 k0_pay2
  pointwise
  exact pick_sum (fun p => v (ix3 b 0 p)) _ _ (pay8_apply a b)

theorem pay11_apply (v w : Vec Ideal S4x1x8192 .f32) (a : FVec Ideal S4x8192 .f32) (b : Fin 4) (p : Fin 8192) :
    k0_pay11 (F := Ideal) v w a (ix2 b p)
      = min (a (ix2 b p)) (gap (fun q => v (ix3 b 0 q)) (fun q => w (ix3 b 0 q)) (first (row a b)) p) := by
  unfold k0_pay11 k0_pay1 k0_pay2
  pointwise
  rw [pay9_apply, pay10_apply]
  rfl

theorem pay3_apply (b : Fin 4) (p : Fin 8192) : k0_pay3 (F := Ideal) (ix2 b p) = ⊤ := by
  unfold k0_pay3
  pointwise
  have h : IntOp.cmpi .sge (word p) 0#32 = 1#1 := by
    have := word_toInt p
    simp [IntOp.cmpi, BitVec.sle_eq_decide, this]
  rw [pos_inf, h]
  have e : (FloatOps.sitofp FTy.f32 (BitVec.setWidth 32 1#1) : Ideal .f32) = (1 : EReal) := by
    show (((BitVec.setWidth 32 1#1).toInt : ℝ) : EReal) = 1
    have : (BitVec.setWidth 32 1#1).toInt = 1 := by decide
    rw [this]
    simp
  rw [e, one_mul]

theorem pay4_apply (b : Fin 4) (q : Fin 1024) : k0_pay4 (ix2 b q) = 0#32 := by
  unfold k0_pay4
  pointwise
  have h : IntOp.cmpi .slt (BitVec.ofNat 32 q.val) 0#32 = 0#1 := by
    have : (BitVec.ofNat 32 q.val).toInt = (q.val : Int) := StableHlo.Predicate.toInt_ofNat_small _ (by have := q.isLt; omega)
    have h0 : ¬ (q.val : Int) < 0 := by omega
    simp only [IntOp.cmpi, BitVec.slt_eq_decide, this, show (0#32).toInt = 0 from rfl, h0, decide_false]
    rfl
  rw [h]
  exact BitVec.zero_mul

theorem sitofp_zero : (FloatOps.sitofp FTy.f32 (0#32) : Ideal .f32) = (0 : EReal) := by
  show (((0#32).toInt : ℝ) : EReal) = 0
  simp

theorem sitofp_one : (FloatOps.sitofp FTy.f32 (1#32) : Ideal .f32) = (1 : EReal) := by
  show (((1#32).toInt : ℝ) : EReal) = 1
  have : (1#32).toInt = 1 := by decide
  rw [this]
  simp

theorem pay5_apply (b : Fin 4) (q : Fin 1024) : k0_pay5 (F := Ideal) (ix2 b q) = (0 : EReal) := by
  unfold k0_pay5
  pointwise
  rw [pay4_apply, sitofp_zero]

theorem pay6_apply (b : Fin 4) (q : Fin 1024) : k0_pay6 (F := Ideal) (ix2 b q) = (0 : EReal) := by
  unfold k0_pay6
  pointwise
  exact pay5_apply b q

theorem trips_eq : k0_t1_loop.trips = 1024 := by decide

theorem pay12_apply (k : Fin k0_t1_loop.trips) (b : Fin 4) (q : Fin 1024) : k0_pay12 k (ix2 b q) = if q.val = k.val then 1#32 else 0#32 := by
  unfold k0_pay12
  pointwise
  have hk : k.val < 1024 := k.isLt.trans_eq trips_eq
  have hq := q.isLt
  have hiv : Scf.iv 0#32 1#32 k.val = BitVec.ofNat 32 k.val := by
    simp [Scf.iv]
  have hb : IntOp.cmpi .sge (BitVec.ofNat 32 b.val) 0#32 = 1#1 := by
    have : (BitVec.ofNat 32 b.val).toInt = (b.val : Int) := StableHlo.Predicate.toInt_ofNat_small _ (by have := b.isLt; omega)
    simp [IntOp.cmpi, BitVec.sle_eq_decide, this]
  rw [hiv, hb]
  by_cases h : q.val = k.val
  · rw [if_pos h, h]
    simp [IntOp.cmpi, IntOp.andi]
  · rw [if_neg h]
    have : BitVec.ofNat 32 q.val ≠ BitVec.ofNat 32 k.val := fun e => h (by
      have := congrArg BitVec.toNat e
      rw [BitVec.toNat_ofNat, BitVec.toNat_ofNat] at this
      omega)
    have hc : IntOp.cmpi .eq (BitVec.ofNat 32 q.val) (BitVec.ofNat 32 k.val) = 0#1 := by
      unfold IntOp.cmpi
      rw [beq_false_of_ne this]
      rfl
    rw [hc]
    rfl

theorem pay14_apply (k : Fin k0_t1_loop.trips) (a : FVec Ideal S4x8192 .f32) (d : IVec S4x1024 32) (b : Fin 4) (q : Fin 1024) :
    k0_pay14 (F := Ideal) k a d (ix2 b q) = if q.val = k.val then d (ix2 b q) + word (first (row a b)) else d (ix2 b q) := by
  unfold k0_pay14
  pointwise
  rw [pay12_apply, pay7_apply]
  by_cases h : q.val = k.val
  · rw [if_pos h, if_pos h]
    exact congrArg (_ + ·) (BitVec.one_mul _)
  · rw [if_neg h, if_neg h]
    exact (congrArg (_ + ·) BitVec.zero_mul).trans (BitVec.add_zero _)

theorem pay15_apply (v : Vec Ideal S4x1x8192 .f32) (k : Fin k0_t1_loop.trips) (a : FVec Ideal S4x8192 .f32) (d : FVec Ideal S4x1024 .f32) (b : Fin 4) (q : Fin 1024) :
    k0_pay15 (F := Ideal) v k a d (ix2 b q) = if q.val = k.val then (d (ix2 b q) + v (ix3 b 0 (first (row a b))) : EReal) else d (ix2 b q) := by
  unfold k0_pay15 k0_pay13
  pointwise
  rw [pay12_apply, pay9_apply]
  by_cases h : q.val = k.val
  · rw [if_pos h, if_pos h, sitofp_one, one_mul]
  · rw [if_neg h, if_neg h, sitofp_zero, zero_mul, add_zero]

theorem pay16_apply (v : Vec Ideal S4x1x8192 .f32) (k : Fin k0_t1_loop.trips) (a : FVec Ideal S4x8192 .f32) (d : FVec Ideal S4x1024 .f32) (b : Fin 4) (q : Fin 1024) :
    k0_pay16 (F := Ideal) v k a d (ix2 b q) = if q.val = k.val then (d (ix2 b q) + v (ix3 b 0 (first (row a b))) : EReal) else d (ix2 b q) := by
  unfold k0_pay16 k0_pay13
  pointwise
  rw [pay12_apply, pay10_apply]
  by_cases h : q.val = k.val
  · rw [if_pos h, if_pos h, sitofp_one, one_mul]
  · rw [if_neg h, if_neg h, sitofp_zero, zero_mul, add_zero]

/-! ## The rounds -/

/-- The carried values: the distances, the chosen indices, and the chosen points' two coordinates. -/
abbrev Carried : Type := FVec Ideal S4x8192 .f32 × IVec S4x1024 32 × FVec Ideal S4x1024 .f32 × FVec Ideal S4x1024 .f32

/-- One round. -/
def round (v w : Vec Ideal S4x1x8192 .f32) (k : Fin k0_t1_loop.trips) (s : Carried) : Carried :=
  (k0_pay11 v w s.1, k0_pay14 k s.1 s.2.1, k0_pay15 v k s.1 s.2.2.1, k0_pay16 w k s.1 s.2.2.2)

/-- What the rounds end with. -/
def rounds (v w : Vec Ideal S4x1x8192 .f32) : Carried :=
  Scf.fold (round v w) (k0_pay3 (F := Ideal), k0_pay4, k0_pay5 (F := Ideal), k0_pay6 (F := Ideal))

/-- The coordinate a row of the points holds. -/
abbrev coord (v : Vec Ideal S4x1x8192 .f32) (b : Fin 4) : Fin 8192 → EReal := fun p => v (ix3 b 0 p)

/-- After `k` rounds: the distances from the first `k` choices, those choices, and their coordinates. -/
structure After (v w : Vec Ideal S4x1x8192 .f32) (k : ℕ) (s : Carried) : Prop where
  dists : ∀ (b : Fin 4) (p : Fin 8192), s.1 (ix2 b p) = dist (coord v b) (coord w b) k p
  idxs : ∀ (b : Fin 4) (q : Fin 1024), s.2.1 (ix2 b q) = if q.val < k then word (sel (coord v b) (coord w b) q.val) else 0#32
  xs : ∀ (b : Fin 4) (q : Fin 1024), s.2.2.1 (ix2 b q) = if q.val < k then coord v b (sel (coord v b) (coord w b) q.val) else (0 : EReal)
  ys : ∀ (b : Fin 4) (q : Fin 1024), s.2.2.2 (ix2 b q) = if q.val < k then coord w b (sel (coord v b) (coord w b) q.val) else (0 : EReal)

theorem placed {α : Type} [Add α] (z : α) (hz : ∀ a, z + a = a) (f : ℕ → α) (k q : ℕ) (d : α) (hd : d = if q < k then f q else z) :
    (if q = k then d + f k else d) = if q < k + 1 then f q else z := by
  rw [hd]
  by_cases h : q = k
  · rw [if_pos h, h, if_neg (lt_irrefl k), if_pos (Nat.lt_succ_self k), hz]
  · rw [if_neg h]
    by_cases g : q < k
    · rw [if_pos g, if_pos (by omega)]
    · rw [if_neg g, if_neg (by omega)]

theorem round_after (v w : Vec Ideal S4x1x8192 .f32) (k : Fin k0_t1_loop.trips) (s : Carried) (h : After v w k.val s) : After v w (k.val + 1) (round v w k s) := by
  have hs : ∀ b, first (row s.1 b) = sel (coord v b) (coord w b) k.val := fun b => congrArg first (funext fun p => h.dists b p)
  refine ⟨fun b p => ?_, fun b q => ?_, fun b q => ?_, fun b q => ?_⟩
  · refine (pay11_apply v w s.1 b p).trans ?_
    rw [hs, h.dists]
    rfl
  · refine (pay14_apply k s.1 s.2.1 b q).trans ?_
    rw [hs]
    exact placed 0#32 BitVec.zero_add (fun q => word (sel (coord v b) (coord w b) q)) k.val q.val _ (h.idxs b q)
  · refine (pay15_apply v k s.1 s.2.2.1 b q).trans ?_
    rw [hs]
    exact placed (0 : EReal) zero_add (fun q => coord v b (sel (coord v b) (coord w b) q)) k.val q.val _ (h.xs b q)
  · refine (pay16_apply w k s.1 s.2.2.2 b q).trans ?_
    rw [hs]
    exact placed (0 : EReal) zero_add (fun q => coord w b (sel (coord v b) (coord w b) q)) k.val q.val _ (h.ys b q)

theorem rounds_after (v w : Vec Ideal S4x1x8192 .f32) : After v w 1024 (rounds v w) := by
  unfold rounds
  rw [Scf.fold_eq]
  have := foldl_finRange_keeps (round v w) (After v w) (round_after v w) (k0_pay3 (F := Ideal), k0_pay4, k0_pay5 (F := Ideal), k0_pay6 (F := Ideal))
    ⟨fun b p => pay3_apply b p, fun b q => pay4_apply b q, fun b q => pay5_apply b q, fun b q => pay6_apply b q⟩
  have key : ∀ n, k0_t1_loop.trips = n → After v w n ((List.finRange k0_t1_loop.trips).foldl (fun acc k => round v w k acc)
      (k0_pay3 (F := Ideal), k0_pay4, k0_pay5 (F := Ideal), k0_pay6 (F := Ideal))) := fun n hn => hn ▸ this
  exact key 1024 trips_eq

/-! ## What the region leaves in its outputs -/

/-- The row of the points at coordinate `e`. -/
abbrev part0 (x : Vec Ideal S4x2x8192 .f32) : Vec Ideal S4x1x8192 .f32 :=
  View.ld x (Rect.unit (s := S4x2x8192) ![0, 0, 0] S4x1x8192.size inb_S4x2x8192_S4x1x8192_0_0_0)
abbrev part1 (x : Vec Ideal S4x2x8192 .f32) : Vec Ideal S4x1x8192 .f32 :=
  View.ld x (Rect.unit (s := S4x2x8192) ![0, 1, 0] S4x1x8192.size inb_S4x2x8192_S4x1x8192_0_1_0)

section Outs
variable (c : Dev nD) (arg0 : Memref sig .tc .vmem S4x2x8192 .f32) (harg0 : arg0.IsWhole) (arg1 : Memref sig .tc .vmem S4x1024 .i32) (harg1 : arg1.IsWhole) (arg2 : Memref sig .tc .vmem S4x1024 .f32) (harg2 : arg2.IsWhole) (arg3 : Memref sig .tc .vmem S4x1024 .f32) (harg3 : arg3.IsWhole)
    (x : Vec Ideal S4x2x8192 .f32)

theorem run_eq : kernelRun0_A.sl.r c arg0 harg0 x = rounds (part0 x) (part1 x) := by
  have e : ∀ r : Rect S4x2x8192, arg0.view.readAt (Elt Ideal) r.toLoadRect (harg0.unread x) = View.ld x r :=
    fun r => congrArg (fun y => View.ld y r) (harg0.read_unread x)
  unfold kernelRun0_A.sl.r
  simp only [e]
  rfl

theorem out1_eq : out0_A_1 c arg0 harg0 arg1 harg1 arg2 harg2 arg3 harg3 x = (rounds (part0 x) (part1 x)).2.1 := by
  unfold out0_A_1
  rw [View.read_writes_eq_canon _ _ _ (cover0_A_1 c arg0 harg0 arg1 harg1 arg2 harg2 arg3 harg3 x), ← run_eq c arg0 harg0 x]
  exact View.canon_unit_zero (by decide) _ _

theorem out2_eq : out0_A_2 c arg0 harg0 arg1 harg1 arg2 harg2 arg3 harg3 x = (rounds (part0 x) (part1 x)).2.2.1 := by
  unfold out0_A_2
  rw [View.read_writes_eq_canon _ _ _ (cover0_A_2 c arg0 harg0 arg1 harg1 arg2 harg2 arg3 harg3 x), ← run_eq c arg0 harg0 x]
  exact View.canon_unit_zero (by decide) _ _

theorem out3_eq : out0_A_3 c arg0 harg0 arg1 harg1 arg2 harg2 arg3 harg3 x = (rounds (part0 x) (part1 x)).2.2.2 := by
  unfold out0_A_3
  rw [View.read_writes_eq_canon _ _ _ (cover0_A_3 c arg0 harg0 arg1 harg1 arg2 harg2 arg3 harg3 x), ← run_eq c arg0 harg0 x]
  exact View.canon_unit_zero (by decide) _ _

end Outs

end Cert.Proof.Sampling

end
-- ==== Proof.SampleOut.lean ====
/-
  The results of the program that chooses the points, by coordinates: the indices, the coordinates put side by side, and the mask
  of ones.
-/
module

public import proofs.«01_k».proof.Proof.SampleKernel
public import Idealize.ShloMosaic.Lib.StableHlo.ReadAt
public import Idealize.ShloMosaic.Lib.StableHlo.RunRead
public import Idealize.ShloMosaic.Lib.Pipeline.ValueKit

@[expose] public section

noncomputable section

namespace Cert.Proof.Sampling

open Idealize.ShloMosaic Idealize.ShloMosaic.TcCoe Cert.SampleIdeal Cert.SampleIdeal.Gen
open Idealize.SL.Sem

variable (m : (ℓ : Loc nD τ sig) → Buf (Elt Ideal) ℓ) (ρ : Dev nD → PrngReg)

/-- The points' coordinates at launch. -/
abbrev points (c : Dev nD) : Vec Ideal S4x2x8192 .f32 := m ((c : Thread nD τ).loc main_arg0)

/-- What the rounds end with, from the points at launch. -/
abbrev ended (c : Dev nD) : Carried := rounds (part0 (points m c)) (part1 (points m c))

theorem iblk_eq (c : Dev nD) (t : Fin cfg0.N) : iblk m c 0 t = points m c := by
  unfold iblk
  funext y
  rw [View.read_apply]
  refine congrArg (points m c) (funext fun a => Fin.ext ?_)
  show 0 * _ + 1 * (y a).val = (y a).val
  omega

theorem arr1_eq (c : Dev nD) : (dats m 0 c).arrAt 1 cfg0.N = (ended m c).2.1 :=
  (dats m 0 c).arrAt_eq_of_covers 1 (ended m c).2.1 (by decide +kernel) (fun t _ y => by
    rw [after0_1]
    unfold outsAt0
    dsimp only
    rw [out1_eq, iblk_eq]
    refine congrArg (ended m c).2.1 (funext fun a => Fin.ext ?_)
    show (y a).val = 0 * _ + 1 * (y a).val
    omega)

theorem arr2_eq (c : Dev nD) : (dats m 0 c).arrAt 2 cfg0.N = (ended m c).2.2.1 :=
  (dats m 0 c).arrAt_eq_of_covers 2 (ended m c).2.2.1 (by decide +kernel) (fun t _ y => by
    rw [after0_2]
    unfold outsAt0
    dsimp only
    rw [out2_eq, iblk_eq]
    refine congrArg (ended m c).2.2.1 (funext fun a => Fin.ext ?_)
    show (y a).val = 0 * _ + 1 * (y a).val
    omega)

theorem arr3_eq (c : Dev nD) : (dats m 0 c).arrAt 3 cfg0.N = (ended m c).2.2.2 :=
  (dats m 0 c).arrAt_eq_of_covers 3 (ended m c).2.2.2 (by decide +kernel) (fun t _ y => by
    rw [after0_3]
    unfold outsAt0
    dsimp only
    rw [out3_eq, iblk_eq]
    refine congrArg (ended m c).2.2.2 (funext fun a => Fin.ext ?_)
    show (y a).val = 0 * _ + 1 * (y a).val
    omega)

/-! ## After the region -/

/-- The two rows of coordinates, one above the other. -/
abbrev stacked (x y : Vec Ideal S4x1024 .f32) : Vec Ideal S4x2x1024 .f32 :=
  concatenate S4x2x1024 1 [⟨S4x1x1024, broadcastInDim S4x1x1024 ![0, 2] bcast_S4x1024_S4x1x1024_0_2 x⟩,
    ⟨S4x1x1024, broadcastInDim S4x1x1024 ![0, 2] bcast_S4x1024_S4x1x1024_0_2 y⟩] concatenates_S4x1x1024_S4x1x1024_S4x2x1024_d1

theorem with_v0_1 (c : Dev nD) : Pipeline.withArrays (cfgs 0).spec c (V0 m c) (fun w => (dats m 0 c).arrAt w cfg0.N) (Proc.devRef .tc main_v0_1) = (ended m c).2.2.1 :=
  (Pipeline.withArrays_arr (cfgs 0).spec (by decide) c (V0 m c) (fun w => (dats m 0 c).arrAt w cfg0.N) 2).trans (arr2_eq m c)

theorem with_v0_2 (c : Dev nD) : Pipeline.withArrays (cfgs 0).spec c (V0 m c) (fun w => (dats m 0 c).arrAt w cfg0.N) (Proc.devRef .tc main_v0_2) = (ended m c).2.2.2 :=
  (Pipeline.withArrays_arr (cfgs 0).spec (by decide) c (V0 m c) (fun w => (dats m 0 c).arrAt w cfg0.N) 3).trans (arr3_eq m c)

theorem tail_v3 (c : Dev nD) : Pipeline.afterTail₀ cfgs (dats m) 0 (V0 m) [hostOps1] c main_v3 = stacked (ended m c).2.2.1 (ended m c).2.2.2 := by
  unfold Pipeline.afterTail₀
  rw [← with_v0_1, ← with_v0_2]
  simp only [hostOps1, List.flatten_cons, List.flatten_nil, List.append_nil]
  after_reads_simp
  rfl

theorem tail_v4 (c : Dev nD) : Pipeline.afterTail₀ cfgs (dats m) 0 (V0 m) [hostOps1] c main_v4
    = (broadcastInDim S4x1x1024 ![] bcast_S_S4x1x1024 (constantI S_ 1 1#1) : IVec S4x1x1024 1) := by
  unfold Pipeline.afterTail₀
  simp only [hostOps1, List.flatten_cons, List.flatten_nil, List.append_nil]
  after_reads_simp

/-! ## The results at an index -/

/-- The point chosen for batch `b` at choice `q`, from the points' coordinates. -/
def chosen (x : S4x2x8192.Idx → EReal) (b : Fin 4) (q : ℕ) : Fin 8192 := sel (fun p => x (ix3 b 0 p)) (fun p => x (ix3 b 1 p)) q

theorem coord0 (x : Vec Ideal S4x2x8192 .f32) (b : Fin 4) : coord (part0 x) b = fun p => x (ix3 b 0 p) := by
  funext p
  show part0 x (ix3 b 0 p) = _
  unfold part0
  rw [View.ld_unit]
  pointwise

theorem coord1 (x : Vec Ideal S4x2x8192 .f32) (b : Fin 4) : coord (part1 x) b = fun p => x (ix3 b 1 p) := by
  funext p
  show part1 x (ix3 b 0 p) = _
  unfold part1
  rw [View.ld_unit]
  pointwise

theorem ended_idx (c : Dev nD) (b : Fin 4) (q : Fin 1024) : (ended m c).2.1 (ix2 b q) = word (chosen (points m c) b q.val) := by
  rw [(rounds_after _ _).idxs b q, if_pos q.isLt, coord0, coord1]
  rfl

theorem ended_x (c : Dev nD) (b : Fin 4) (q : Fin 1024) : (ended m c).2.2.1 (ix2 b q) = points m c (ix3 b 0 (chosen (points m c) b q.val)) := by
  rw [(rounds_after _ _).xs b q, if_pos q.isLt, coord0, coord1]
  rfl

theorem ended_y (c : Dev nD) (b : Fin 4) (q : Fin 1024) : (ended m c).2.2.2 (ix2 b q) = points m c (ix3 b 1 (chosen (points m c) b q.val)) := by
  rw [(rounds_after _ _).ys b q, if_pos q.isLt, coord0, coord1]
  rfl

theorem stacked_apply (x y : Vec Ideal S4x1024 .f32) (b : Fin 4) (q : Fin 1024) :
    stacked x y (ix3 b 0 q) = x (ix2 b q) ∧ stacked x y (ix3 b 1 q) = y (ix2 b q) := by
  unfold stacked
  constructor
  · pointwise
  · pointwise

theorem ended_stacked (c : Dev nD) (b : Fin 4) (e : Fin 2) (q : Fin 1024) :
    stacked (ended m c).2.2.1 (ended m c).2.2.2 (ix3 b e q) = points m c (ix3 b e (chosen (points m c) b q.val)) := by
  match e with
  | 0 => exact (stacked_apply _ _ b q).1.trans (ended_x m c b q)
  | 1 => exact (stacked_apply _ _ b q).2.trans (ended_y m c b q)

/-- The run, its results read. -/
theorem run_sample : θ_run defs (onTc (τ := τ) (main (F := Ideal))) ⟨m, fun _ => 0, ρ⟩ (fun r => ∀ c : Dev nD,
    r.2.mem ((c.tc : Thread nD τ).loc main_v0_0) = (ended m c).2.1
    ∧ r.2.mem ((c.tc : Thread nD τ).loc main_v3) = stacked (ended m c).2.2.1 (ended m c).2.2.2
    ∧ r.2.mem ((c.tc : Thread nD τ).loc main_v4) = (broadcastInDim S4x1x1024 ![] bcast_S_S4x1x1024 (constantI S_ 1 1#1) : IVec S4x1x1024 1)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨((h c).1 1).trans (arr1_eq m c),
    ((h c).2 main_v3 (Pipeline.mem_restRefs_of main_v3 (by decide) (by decide))).trans (tail_v3 m c),
    ((h c).2 main_v4 (Pipeline.mem_restRefs_of main_v4 (by decide) (by decide))).trans (tail_v4 m c),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c)⟩) (run_main m ρ)

end Cert.Proof.Sampling

end
-- ==== Proof.SampleRun.lean ====
/-
  The run of the farthest-point sampling reference: @main is three stretches of host operations, one counted loop of 1024 trips
  and three stretches after it. One trip's values from any contents, the trip as a step of the carried arrays, and `run`: each
  result is the step iterated on what the loop starts from.
-/
module

public import proofs.«01_k».proof.Proof.Gen.SampleReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.SampleReferenceIdeal.Ops

open Cert.SampleReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as stretches of host operations, one after another -/

/-- 4 host operations of @main, in order. -/
abbrev hostOps0 : List (HloOp τ sig (Elt F)) :=
  [ StableHlo.unary main_arg0 main_v0 ((transpose S4x8192x2 [0, 2, 1] · transposes_S4x2x8192_S4x8192x2_0_2_1) : (⟨S4x2x8192, .f32⟩ : BufTy).Contents (Elt F) → (⟨S4x8192x2, .f32⟩ : BufTy).Contents (Elt F)),
    StableHlo.reshape main_arg1 main_v1 (rfl : (.i1 : EltTy) = .i1) shapeCasts_S4x1x8192_S4x8192,
    StableHlo.nullary main_cst (constant S_ .f32 0x7F800000#32),
    StableHlo.nullary main_cst_0 (constant S_ .f32 0xFF800000#32) ]
/-- Each touches TensorCore references only. -/
theorem hostOps0_sub : (hostOps0 : List (HloOp τ sig (Elt F))).Forall fun op => op.bufs ⊆ StableHlo.tcRefs τ sig :=
  ⟨StableHlo.unary_bufs_sub .., StableHlo.reshape_bufs_sub .., StableHlo.nullary_bufs_sub .., StableHlo.nullary_bufs_sub ..⟩
/-- 3 host operations of @_where (main_call0), in order. -/
abbrev hostOps0_1 : List (HloOp τ sig (Elt F)) :=
  [ StableHlo.TRef.unary (.of main_cst : StableHlo.TRef sig ⟨S_, .f32⟩) (.of main_call0_v0 : StableHlo.TRef sig ⟨S4x8192, .f32⟩) (broadcastInDim S4x8192 ![] bcast_S_S4x8192),
    StableHlo.TRef.unary (.of main_cst_0 : StableHlo.TRef sig ⟨S_, .f32⟩) (.of main_call0_v1 : StableHlo.TRef sig ⟨S4x8192, .f32⟩) (broadcastInDim S4x8192 ![] bcast_S_S4x8192),
    StableHlo.TRef.ternary (.of main_v1 : StableHlo.TRef sig ⟨S4x8192, .i1⟩) (.of main_call0_v0 : StableHlo.TRef sig ⟨S4x8192, .f32⟩) (.of main_call0_v1 : StableHlo.TRef sig ⟨S4x8192, .f32⟩) (.of main_v2 : StableHlo.TRef sig ⟨S4x8192, .f32⟩) select ]
/-- Each touches TensorCore references only. -/
theorem hostOps0_1_sub : (hostOps0_1 : List (HloOp τ sig (Elt F))).Forall fun op => op.bufs ⊆ StableHlo.tcRefs τ sig :=
  ⟨StableHlo.unary_bufs_sub .., StableHlo.unary_bufs_sub .., StableHlo.ternary_bufs_sub ..⟩
/-- 10 host operations of @main, in order. -/
abbrev hostOps0_2 : List (HloOp τ sig (Elt F)) :=
  [ StableHlo.nullary main_c (constantI S_ 32 0#32),
    StableHlo.unary main_c main_v3 (broadcastInDim S4x1024 ![] bcast_S_S4x1024 : (⟨S_, .i32⟩ : BufTy).Contents (Elt F) → (⟨S4x1024, .i32⟩ : BufTy).Contents (Elt F)),
    StableHlo.nullary main_c_1 (constantI S_ 32 0#32),
    StableHlo.nullary main_c_2 (constantI S_ 32 0#32),
    StableHlo.unary main_v0 main_v4_0 id,
    StableHlo.unary main_v1 main_v4_1 id,
    StableHlo.unary main_c_2 main_v4_2 id,
    StableHlo.unary main_c_1 main_v4_3 id,
    StableHlo.unary main_v2 main_v4_4 id,
    StableHlo.unary main_v3 main_v4_5 id ]
/-- Each touches TensorCore references only. -/
theorem hostOps0_2_sub : (hostOps0_2 : List (HloOp τ sig (Elt F))).Forall fun op => op.bufs ⊆ StableHlo.tcRefs τ sig :=
  ⟨StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
/-- 2 host operations of @main, in order. -/
abbrev hostOps0_3 : List (HloOp τ sig (Elt F)) :=
  [ StableHlo.unary main_v4_5 main_v5 (broadcastInDim S4x1x1024 ![0, 2] bcast_S4x1024_S4x1x1024_0_2 : (⟨S4x1024, .i32⟩ : BufTy).Contents (Elt F) → (⟨S4x1x1024, .i32⟩ : BufTy).Contents (Elt F)),
    StableHlo.unary main_v5 main_v6 (broadcastInDim S4x2x1024 ![0, 1, 2] bcast_S4x1x1024_S4x2x1024_0_1_2 : (⟨S4x1x1024, .i32⟩ : BufTy).Contents (Elt F) → (⟨S4x2x1024, .i32⟩ : BufTy).Contents (Elt F)) ]
/-- Each touches TensorCore references only. -/
theorem hostOps0_3_sub : (hostOps0_3 : List (HloOp τ sig (Elt F))).Forall fun op => op.bufs ⊆ StableHlo.tcRefs τ sig :=
  ⟨StableHlo.unary_bufs_sub .., StableHlo.unary_bufs_sub ..⟩
/-- 22 host operations of @take_along_axis_1 (main_call4), in order. -/
abbrev hostOps0_4 : List (HloOp τ sig (Elt F)) :=
  [ StableHlo.TRef.nullary (.of main_call4_c : StableHlo.TRef sig ⟨S_, .i32⟩) (constantI S_ 32 0#32),
    StableHlo.TRef.unary (.of main_call4_c : StableHlo.TRef sig ⟨S_, .i32⟩) (.of main_call4_v0 : StableHlo.TRef sig ⟨S4x2x1024, .i32⟩) (broadcastInDim S4x2x1024 ![] bcast_S_S4x2x1024),
    StableHlo.TRef.binary (.of main_v6 : StableHlo.TRef sig ⟨S4x2x1024, .i32⟩) (.of main_call4_v0 : StableHlo.TRef sig ⟨S4x2x1024, .i32⟩) (.of main_call4_v1 : StableHlo.TRef sig ⟨S4x2x1024, .i1⟩) (cmpi .slt),
    StableHlo.TRef.nullary (.of main_call4_c_0 : StableHlo.TRef sig ⟨S_, .i32⟩) (constantI S_ 32 8192#32),
    StableHlo.TRef.unary (.of main_call4_c_0 : StableHlo.TRef sig ⟨S_, .i32⟩) (.of main_call4_v2 : StableHlo.TRef sig ⟨S4x2x1024, .i32⟩) (broadcastInDim S4x2x1024 ![] bcast_S_S4x2x1024),
    StableHlo.TRef.binary (.of main_v6 : StableHlo.TRef sig ⟨S4x2x1024, .i32⟩) (.of main_call4_v2 : StableHlo.TRef sig ⟨S4x2x1024, .i32⟩) (.of main_call4_v3 : StableHlo.TRef sig ⟨S4x2x1024, .i32⟩) addi,
    StableHlo.TRef.ternary (.of main_call4_v1 : StableHlo.TRef sig ⟨S4x2x1024, .i1⟩) (.of main_call4_v3 : StableHlo.TRef sig ⟨S4x2x1024, .i32⟩) (.of main_v6 : StableHlo.TRef sig ⟨S4x2x1024, .i32⟩) (.of main_call4_v4 : StableHlo.TRef sig ⟨S4x2x1024, .i32⟩) select,
    StableHlo.TRef.reshape (.of main_call4_v4 : StableHlo.TRef sig ⟨S4x2x1024, .i32⟩) (.of main_call4_v5 : StableHlo.TRef sig ⟨S4x2x1024x1, .i32⟩) (rfl : (.i32 : EltTy) = .i32) shapeCasts_S4x2x1024_S4x2x1024x1,
    StableHlo.TRef.nullary (.of main_call4_c_1 : StableHlo.TRef sig ⟨S1, .i32⟩) (constantI S1 32 8191#32),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v6 : StableHlo.TRef sig ⟨S4x2x1024x1, .i32⟩) (broadcastInDim S4x2x1024x1 ![] bcast_S_S4x2x1024x1),
    StableHlo.TRef.binary (.of main_call4_v5 : StableHlo.TRef sig ⟨S4x2x1024x1, .i32⟩) (.of main_call4_v6 : StableHlo.TRef sig ⟨S4x2x1024x1, .i32⟩) (.of main_call4_v7 : StableHlo.TRef sig ⟨S4x2x1024x1, .i1⟩) (cmpi .sge),
    StableHlo.TRef.unary (.of main_call4_c_1 : StableHlo.TRef sig ⟨S1, .i32⟩) (.of main_call4_v8 : StableHlo.TRef sig ⟨S1x1x1x1, .i32⟩) (broadcastInDim S1x1x1x1 ![3] bcast_S1_S1x1x1x1_3),
    StableHlo.TRef.unary (.of main_call4_v8 : StableHlo.TRef sig ⟨S1x1x1x1, .i32⟩) (.of main_call4_v9 : StableHlo.TRef sig ⟨S4x2x1024x1, .i32⟩) (broadcastInDim S4x2x1024x1 ![0, 1, 2, 3] bcast_S1x1x1x1_S4x2x1024x1_0_1_2_3),
    StableHlo.TRef.binary (.of main_call4_v5 : StableHlo.TRef sig ⟨S4x2x1024x1, .i32⟩) (.of main_call4_v9 : StableHlo.TRef sig ⟨S4x2x1024x1, .i32⟩) (.of main_call4_v10 : StableHlo.TRef sig ⟨S4x2x1024x1, .i1⟩) (cmpi .sle),
    StableHlo.TRef.binary (.of main_call4_v7 : StableHlo.TRef sig ⟨S4x2x1024x1, .i1⟩) (.of main_call4_v10 : StableHlo.TRef sig ⟨S4x2x1024x1, .i1⟩) (.of main_call4_v11 : StableHlo.TRef sig ⟨S4x2x1024x1, .i1⟩) andi,
    StableHlo.TRef.nullary (.of main_call4_c_3 : StableHlo.TRef sig ⟨S_, .i1⟩) (constantI S_ 1 1#1),
    StableHlo.TRef.binary (.of main_call4_v11 : StableHlo.TRef sig ⟨S4x2x1024x1, .i1⟩) (.of main_call4_c_3 : StableHlo.TRef sig ⟨S_, .i1⟩) (.of main_call4_v12 : StableHlo.TRef sig ⟨S4x2x1024, .i1⟩) (fun x v => Host.reduce IntOp.andi x v reducesTo_S4x2x1024x1_S4x2x1024_d3 h_S_),
    StableHlo.TRef.binary (.of main_arg0 : StableHlo.TRef sig ⟨S4x2x8192, .f32⟩) (.of main_call4_v5 : StableHlo.TRef sig ⟨S4x2x1024x1, .i32⟩) (.of main_call4_v13 : StableHlo.TRef sig ⟨S4x2x1024, .f32⟩) (fun x i => Host.gather gather_S4x2x8192_S4x2x1024x1_S4x2x1024_n_2_01_01_2_3_111 x i),
    StableHlo.TRef.nullary (.of main_call4_cst : StableHlo.TRef sig ⟨S_, .f32⟩) (constant S_ .f32 0x7FC00000#32),
    StableHlo.TRef.unary (.of main_call4_cst : StableHlo.TRef sig ⟨S_, .f32⟩) (.of main_call4_v14 : StableHlo.TRef sig ⟨S4x2x1024, .f32⟩) (broadcastInDim S4x2x1024 ![] bcast_S_S4x2x1024),
    StableHlo.TRef.ternary (.of main_call4_v12 : StableHlo.TRef sig ⟨S4x2x1024, .i1⟩) (.of main_call4_v13 : StableHlo.TRef sig ⟨S4x2x1024, .f32⟩) (.of main_call4_v14 : StableHlo.TRef sig ⟨S4x2x1024, .f32⟩) (.of main_v7 : StableHlo.TRef sig ⟨S4x2x1024, .f32⟩) select ]
/-- Each touches TensorCore references only. -/
theorem hostOps0_4_sub : (hostOps0_4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
/-- 2 host operations of @main, in order. -/
abbrev hostOps0_5 : List (HloOp τ sig (Elt F)) :=
  [ StableHlo.nullary main_c_3 (constantI S_ 1 1#1),
    StableHlo.unary main_c_3 main_v8 (broadcastInDim S4x1x1024 ![] bcast_S_S4x1x1024 : (⟨S_, .i1⟩ : BufTy).Contents (Elt F) → (⟨S4x1x1024, .i1⟩ : BufTy).Contents (Elt F)) ]
/-- Each touches TensorCore references only. -/
theorem hostOps0_5_sub : (hostOps0_5 : List (HloOp τ sig (Elt F))).Forall fun op => op.bufs ⊆ StableHlo.tcRefs τ sig :=
  ⟨StableHlo.nullary_bufs_sub .., StableHlo.unary_bufs_sub ..⟩
/-- `main` is its stretches of host operations (and its loop) one after another, a function that it calls being a stretch of its own. -/
theorem main_chain (c : Dev nD) : main (F := F) c = (Pipeline.chain
  [ StableHlo.seq hostOps0,
    StableHlo.seq hostOps0_1,
    StableHlo.seq hostOps0_2,
    HostLoop.enter 0,
    StableHlo.seq hostOps0_3,
    StableHlo.seq hostOps0_4,
    StableHlo.seq hostOps0_5 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons, Pipeline.chain_cons, StableHlo.chain_seq_cons]
  chain_rfl

/-- 2 host operations of host loop 0's body region, in order. -/
abbrev while0Ops0 : List (HloOp τ sig (Elt F)) :=
  [ StableHlo.nullary main_while0b_c_9 (constantI S_ 32 1#32),
    StableHlo.binary main_v4_3 main_while0b_c_9 main_while0b_v9 (addi : (⟨S_, .i32⟩ : BufTy).Contents (Elt F) → (⟨S_, .i32⟩ : BufTy).Contents (Elt F) → (⟨S_, .i32⟩ : BufTy).Contents (Elt F)) ]
/-- Each touches TensorCore references only. -/
theorem while0Ops0_sub : (while0Ops0 : List (HloOp τ sig (Elt F))).Forall fun op => op.bufs ⊆ StableHlo.tcRefs τ sig :=
  ⟨StableHlo.nullary_bufs_sub .., StableHlo.binary_bufs_sub ..⟩
/-- 5 host operations of @argmax (main_while0b_call1), in order. -/
abbrev while0Ops0_1 : List (HloOp τ sig (Elt F)) :=
  [ StableHlo.TRef.nullary (.of main_while0b_call1_v0 : StableHlo.TRef sig ⟨S4x8192, .i32⟩) (iotaInDim S4x8192 32 1),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_v4_4 : StableHlo.TRef sig ⟨S4x8192, .f32⟩) (.of main_while0b_call1_v0 : StableHlo.TRef sig ⟨S4x8192, .i32⟩) (.of main_while0b_call1_cst : StableHlo.TRef sig ⟨S_, .f32⟩) (.of main_while0b_call1_c : StableHlo.TRef sig ⟨S_, .i32⟩) (.of main_while0b_call1_v1_0 : StableHlo.TRef sig ⟨S4, .f32⟩) (fun x y u v j => (Host.argReduce reducer_argmax_f32_i32 x y u v reducesTo_S4x8192_S4_d1 h_S_ j).1),
    StableHlo.TRef.quaternary (.of main_v4_4 : StableHlo.TRef sig ⟨S4x8192, .f32⟩) (.of main_while0b_call1_v0 : StableHlo.TRef sig ⟨S4x8192, .i32⟩) (.of main_while0b_call1_cst : StableHlo.TRef sig ⟨S_, .f32⟩) (.of main_while0b_call1_c : StableHlo.TRef sig ⟨S_, .i32⟩) (.of main_while0b_v10 : StableHlo.TRef sig ⟨S4, .i32⟩) (fun x y u v j => (Host.argReduce reducer_argmax_f32_i32 x y u v reducesTo_S4x8192_S4_d1 h_S_ j).2) ]
/-- Each touches TensorCore references only. -/
theorem while0Ops0_1_sub : (while0Ops0_1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 9 host operations of host loop 0's body region, in order. -/
abbrev while0Ops0_2 : List (HloOp τ sig (Elt F)) :=
  [ StableHlo.nullary main_while0b_c_10 (constantI S_ 32 0#32),
    StableHlo.binary main_v4_3 main_while0b_c_10 main_while0b_v11 (cmpi .slt : (⟨S_, .i32⟩ : BufTy).Contents (Elt F) → (⟨S_, .i32⟩ : BufTy).Contents (Elt F) → (⟨S_, .i1⟩ : BufTy).Contents (Elt F)),
    StableHlo.nullary main_while0b_c_11 (constantI S_ 32 1024#32),
    StableHlo.binary main_v4_3 main_while0b_c_11 main_while0b_v12 (addi : (⟨S_, .i32⟩ : BufTy).Contents (Elt F) → (⟨S_, .i32⟩ : BufTy).Contents (Elt F) → (⟨S_, .i32⟩ : BufTy).Contents (Elt F)),
    StableHlo.ternary main_while0b_v11 main_while0b_v12 main_v4_3 main_while0b_v13 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v13 main_while0b_v14 (id : (⟨S_, .i32⟩ : BufTy).Contents (Elt F) → (⟨S_, .i32⟩ : BufTy).Contents (Elt F)),
    StableHlo.unary main_while0b_v14 main_while0b_v15 (broadcastInDim S1 ![] bcast_S_S1 : (⟨S_, .i32⟩ : BufTy).Contents (Elt F) → (⟨S1, .i32⟩ : BufTy).Contents (Elt F)),
    StableHlo.ternary main_v4_5 main_while0b_v15 main_while0b_v10 main_while0b_v16 ((fun x i u => Host.scatter scatter_S4x1024_S1_S4_0_1_1_0 (fun _ b => b) x i u) : (⟨S4x1024, .i32⟩ : BufTy).Contents (Elt F) → (⟨S1, .i32⟩ : BufTy).Contents (Elt F) → (⟨S4, .i32⟩ : BufTy).Contents (Elt F) → (⟨S4x1024, .i32⟩ : BufTy).Contents (Elt F)),
    StableHlo.unary main_while0b_v10 main_while0b_v17 (broadcastInDim S4x1x1 ![0] bcast_S4_S4x1x1_0 : (⟨S4, .i32⟩ : BufTy).Contents (Elt F) → (⟨S4x1x1, .i32⟩ : BufTy).Contents (Elt F)) ]
/-- Each touches TensorCore references only. -/
theorem while0Ops0_2_sub : (while0Ops0_2 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.unary_bufs_sub .., StableHlo.unary_bufs_sub .., StableHlo.ternary_bufs_sub .., StableHlo.unary_bufs_sub ..⟩
/-- 22 host operations of @take_along_axis (main_while0b_call2), in order. -/
abbrev while0Ops0_3 : List (HloOp τ sig (Elt F)) :=
  [ StableHlo.TRef.nullary (.of main_while0b_call2_c : StableHlo.TRef sig ⟨S_, .i32⟩) (constantI S_ 32 0#32),
    StableHlo.TRef.unary (.of main_while0b_call2_c : StableHlo.TRef sig ⟨S_, .i32⟩) (.of main_while0b_call2_v0 : StableHlo.TRef sig ⟨S4x1x1, .i32⟩) (broadcastInDim S4x1x1 ![] bcast_S_S4x1x1),
    StableHlo.TRef.binary (.of main_while0b_v17 : StableHlo.TRef sig ⟨S4x1x1, .i32⟩) (.of main_while0b_call2_v0 : StableHlo.TRef sig ⟨S4x1x1, .i32⟩) (.of main_while0b_call2_v1 : StableHlo.TRef sig ⟨S4x1x1, .i1⟩) (cmpi .slt),
    StableHlo.TRef.nullary (.of main_while0b_call2_c_0 : StableHlo.TRef sig ⟨S_, .i32⟩) (constantI S_ 32 8192#32),
    StableHlo.TRef.unary (.of main_while0b_call2_c_0 : StableHlo.TRef sig ⟨S_, .i32⟩) (.of main_while0b_call2_v2 : StableHlo.TRef sig ⟨S4x1x1, .i32⟩) (broadcastInDim S4x1x1 ![] bcast_S_S4x1x1),
    StableHlo.TRef.binary (.of main_while0b_v17 : StableHlo.TRef sig ⟨S4x1x1, .i32⟩) (.of main_while0b_call2_v2 : StableHlo.TRef sig ⟨S4x1x1, .i32⟩) (.of main_while0b_call2_v3 : StableHlo.TRef sig ⟨S4x1x1, .i32⟩) addi,
    StableHlo.TRef.ternary (.of main_while0b_call2_v1 : StableHlo.TRef sig ⟨S4x1x1, .i1⟩) (.of main_while0b_call2_v3 : StableHlo.TRef sig ⟨S4x1x1, .i32⟩) (.of main_while0b_v17 : StableHlo.TRef sig ⟨S4x1x1, .i32⟩) (.of main_while0b_call2_v4 : StableHlo.TRef sig ⟨S4x1x1, .i32⟩) select,
    StableHlo.TRef.nullary (.of main_while0b_call2_c_1 : StableHlo.TRef sig ⟨S1, .i32⟩) (constantI S1 32 8191#32),
    StableHlo.TRef.nullary (.of main_while0b_call2_c_2 : StableHlo.TRef sig ⟨S_, .i32⟩) (constantI S_ 32 0#32),
    StableHlo.TRef.unary (.of main_while0b_call2_c_2 : StableHlo.TRef sig ⟨S_, .i32⟩) (.of main_while0b_call2_v5 : StableHlo.TRef sig ⟨S4x1x1, .i32⟩) (broadcastInDim S4x1x1 ![] bcast_S_S4x1x1),
    StableHlo.TRef.binary (.of main_while0b_call2_v4 : StableHlo.TRef sig ⟨S4x1x1, .i32⟩) (.of main_while0b_call2_v5 : StableHlo.TRef sig ⟨S4x1x1, .i32⟩) (.of main_while0b_call2_v6 : StableHlo.TRef sig ⟨S4x1x1, .i1⟩) (cmpi .sge),
    StableHlo.TRef.unary (.of main_while0b_call2_c_1 : StableHlo.TRef sig ⟨S1, .i32⟩) (.of main_while0b_call2_v7 : StableHlo.TRef sig ⟨S1x1x1, .i32⟩) (broadcastInDim S1x1x1 ![2] bcast_S1_S1x1x1_2),
    StableHlo.TRef.unary (.of main_while0b_call2_v7 : StableHlo.TRef sig ⟨S1x1x1, .i32⟩) (.of main_while0b_call2_v8 : StableHlo.TRef sig ⟨S4x1x1, .i32⟩) (broadcastInDim S4x1x1 ![0, 1, 2] bcast_S1x1x1_S4x1x1_0_1_2),
    StableHlo.TRef.binary (.of main_while0b_call2_v4 : StableHlo.TRef sig ⟨S4x1x1, .i32⟩) (.of main_while0b_call2_v8 : StableHlo.TRef sig ⟨S4x1x1, .i32⟩) (.of main_while0b_call2_v9 : StableHlo.TRef sig ⟨S4x1x1, .i1⟩) (cmpi .sle),
    StableHlo.TRef.binary (.of main_while0b_call2_v6 : StableHlo.TRef sig ⟨S4x1x1, .i1⟩) (.of main_while0b_call2_v9 : StableHlo.TRef sig ⟨S4x1x1, .i1⟩) (.of main_while0b_call2_v10 : StableHlo.TRef sig ⟨S4x1x1, .i1⟩) andi,
    StableHlo.TRef.nullary (.of main_while0b_call2_c_3 : StableHlo.TRef sig ⟨S_, .i1⟩) (constantI S_ 1 1#1),
    StableHlo.TRef.binary (.of main_while0b_call2_v10 : StableHlo.TRef sig ⟨S4x1x1, .i1⟩) (.of main_while0b_call2_c_3 : StableHlo.TRef sig ⟨S_, .i1⟩) (.of main_while0b_call2_v11 : StableHlo.TRef sig ⟨S4x1, .i1⟩) (fun x v => Host.reduce IntOp.andi x v reducesTo_S4x1x1_S4x1_d2 h_S_),
    StableHlo.TRef.binary (.of main_v4_0 : StableHlo.TRef sig ⟨S4x8192x2, .f32⟩) (.of main_while0b_call2_v4 : StableHlo.TRef sig ⟨S4x1x1, .i32⟩) (.of main_while0b_call2_v12 : StableHlo.TRef sig ⟨S4x1x2, .f32⟩) (fun x i => Host.gather gather_S4x8192x2_S4x1x1_S4x1x2_2_1_0_0_1_2_112 x i),
    StableHlo.TRef.unary (.of main_while0b_call2_v11 : StableHlo.TRef sig ⟨S4x1, .i1⟩) (.of main_while0b_call2_v13 : StableHlo.TRef sig ⟨S4x1x2, .i1⟩) (broadcastInDim S4x1x2 ![0, 1] bcast_S4x1_S4x1x2_0_1),
    StableHlo.TRef.nullary (.of main_while0b_call2_cst : StableHlo.TRef sig ⟨S_, .f32⟩) (constant S_ .f32 0x7FC00000#32),
    StableHlo.TRef.unary (.of main_while0b_call2_cst : StableHlo.TRef sig ⟨S_, .f32⟩) (.of main_while0b_call2_v14 : StableHlo.TRef sig ⟨S4x1x2, .f32⟩) (broadcastInDim S4x1x2 ![] bcast_S_S4x1x2),
    StableHlo.TRef.ternary (.of main_while0b_call2_v13 : StableHlo.TRef sig ⟨S4x1x2, .i1⟩) (.of main_while0b_call2_v12 : StableHlo.TRef sig ⟨S4x1x2, .f32⟩) (.of main_while0b_call2_v14 : StableHlo.TRef sig ⟨S4x1x2, .f32⟩) (.of main_while0b_v18 : StableHlo.TRef sig ⟨S4x1x2, .f32⟩) select ]
/-- Each touches TensorCore references only. -/
theorem while0Ops0_3_sub : (while0Ops0_3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- 6 host operations of host loop 0's body region, in order. -/
abbrev while0Ops0_4 : List (HloOp τ sig (Elt F)) :=
  [ StableHlo.unary main_while0b_v18 main_while0b_v19 (broadcastInDim S4x8192x2 ![0, 1, 2] bcast_S4x1x2_S4x8192x2_0_1_2 : (⟨S4x1x2, .f32⟩ : BufTy).Contents (Elt F) → (⟨S4x8192x2, .f32⟩ : BufTy).Contents (Elt F)),
    StableHlo.binary main_v4_0 main_while0b_v19 main_while0b_v20 (subf : (⟨S4x8192x2, .f32⟩ : BufTy).Contents (Elt F) → (⟨S4x8192x2, .f32⟩ : BufTy).Contents (Elt F) → (⟨S4x8192x2, .f32⟩ : BufTy).Contents (Elt F)),
    StableHlo.binary main_while0b_v20 main_while0b_v20 main_while0b_v21 (mulf : (⟨S4x8192x2, .f32⟩ : BufTy).Contents (Elt F) → (⟨S4x8192x2, .f32⟩ : BufTy).Contents (Elt F) → (⟨S4x8192x2, .f32⟩ : BufTy).Contents (Elt F)),
    StableHlo.nullary main_while0b_cst_12 (constant S_ .f32 0x00000000#32),
    StableHlo.binary main_while0b_v21 main_while0b_cst_12 main_while0b_v22 ((fun x v => Host.reduceAdd x v reducesTo_S4x8192x2_S4x8192_d2 h_S_) : (⟨S4x8192x2, .f32⟩ : BufTy).Contents (Elt F) → (⟨S_, .f32⟩ : BufTy).Contents (Elt F) → (⟨S4x8192, .f32⟩ : BufTy).Contents (Elt F)),
    StableHlo.nullary main_while0b_cst_13 (constant S_ .f32 0xFF800000#32) ]
/-- Each touches TensorCore references only. -/
theorem while0Ops0_4_sub : (while0Ops0_4 : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.binary_bufs_sub .., StableHlo.nullary_bufs_sub ..⟩
/-- 3 host operations of @_where_0 (main_while0b_call3), in order. -/
abbrev while0Ops0_5 : List (HloOp τ sig (Elt F)) :=
  [ StableHlo.TRef.unary (.of main_while0b_cst_13 : StableHlo.TRef sig ⟨S_, .f32⟩) (.of main_while0b_call3_v0 : StableHlo.TRef sig ⟨S_, .f32⟩) id,
    StableHlo.TRef.unary (.of main_while0b_call3_v0 : StableHlo.TRef sig ⟨S_, .f32⟩) (.of main_while0b_call3_v1 : StableHlo.TRef sig ⟨S4x8192, .f32⟩) (broadcastInDim S4x8192 ![] bcast_S_S4x8192),
    StableHlo.TRef.ternary (.of main_v4_1 : StableHlo.TRef sig ⟨S4x8192, .i1⟩) (.of main_while0b_v22 : StableHlo.TRef sig ⟨S4x8192, .f32⟩) (.of main_while0b_call3_v1 : StableHlo.TRef sig ⟨S4x8192, .f32⟩) (.of main_while0b_v23 : StableHlo.TRef sig ⟨S4x8192, .f32⟩) select ]
/-- Each touches TensorCore references only. -/
theorem while0Ops0_5_sub : (while0Ops0_5 : List (HloOp τ sig (Elt F))).Forall fun op => op.bufs ⊆ StableHlo.tcRefs τ sig :=
  ⟨StableHlo.unary_bufs_sub .., StableHlo.unary_bufs_sub .., StableHlo.ternary_bufs_sub ..⟩
/-- 8 host operations of host loop 0's body region, in order. -/
abbrev while0Ops0_6 : List (HloOp τ sig (Elt F)) :=
  [ StableHlo.unary main_v4_4 main_while0b_v24 (id : (⟨S4x8192, .f32⟩ : BufTy).Contents (Elt F) → (⟨S4x8192, .f32⟩ : BufTy).Contents (Elt F)),
    StableHlo.binary main_while0b_v24 main_while0b_v23 main_while0b_v25 (minimumf : (⟨S4x8192, .f32⟩ : BufTy).Contents (Elt F) → (⟨S4x8192, .f32⟩ : BufTy).Contents (Elt F) → (⟨S4x8192, .f32⟩ : BufTy).Contents (Elt F)),
    StableHlo.nullary main_while0b_c_14 (constantI S_ 32 1#32),
    StableHlo.binary main_v4_2 main_while0b_c_14 main_while0b_v26 (addi : (⟨S_, .i32⟩ : BufTy).Contents (Elt F) → (⟨S_, .i32⟩ : BufTy).Contents (Elt F) → (⟨S_, .i32⟩ : BufTy).Contents (Elt F)),
    StableHlo.unary main_while0b_v26 main_v4_2 id,
    StableHlo.unary main_while0b_v9 main_v4_3 id,
    StableHlo.unary main_while0b_v25 main_v4_4 id,
    StableHlo.unary main_while0b_v16 main_v4_5 id ]
/-- Each touches TensorCore references only. -/
theorem while0Ops0_6_sub : (while0Ops0_6 : List (HloOp τ sig (Elt F))).Forall fun op => op.bufs ⊆ StableHlo.tcRefs τ sig :=
  ⟨StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.unary_bufs_sub ..⟩
/-- `main_while0_body` is its stretches of host operations (and its loop) one after another, a function that it calls being a stretch of its own. -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons, Pipeline.chain_cons, StableHlo.chain_seq_cons]
  chain_rfl

end Cert.SampleReferenceIdeal.Ops

namespace Cert.SampleReferenceIdeal.Trip

open Cert.SampleReferenceIdeal Cert.SampleReferenceIdeal.Gen Cert.SampleReferenceIdeal.Ops
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_v0, main_v1, main_cst, main_cst_0]
theorem hostOps0_writes : (hostOps0 : List (HloOp τ sig (Elt F))).Forall fun op => op.writes ⊆ (hostOps0_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- The reference each operation of `hostOps0_1` writes, in order. -/
abbrev hostOps0_1_W : List (Ref sig .tc) := [main_call0_v0, main_call0_v1, main_v2]
theorem hostOps0_1_writes : (hostOps0_1 : List (HloOp τ sig (Elt F))).Forall fun op => op.writes ⊆ (hostOps0_1_W.map (Proc.devRef (τ := τ) .tc)).toFinset :=
  StableHlo.forall_writes_sub_of_map rfl
/-- No operation of `hostOps0_2` allocates a buffer. -/
theorem hostOps0_2_fresh : (hostOps0_2 : List (HloOp τ sig (Elt F))).Forall fun op => op.fresh = ∅ :=
  StableHlo.forall_fresh_of_map rfl
/-- The reference each operation of `hostOps0_2` writes, in order. -/
abbrev hostOps0_2_W : List (Ref sig .tc) := [main_c, main_v3, main_c_1, main_c_2, main_v4_0, main_v4_1, main_v4_2, main_v4_3, main_v4_4, main_v4_5]
theorem hostOps0_2_writes : (hostOps0_2 : List (HloOp τ sig (Elt F))).Forall fun op => op.writes ⊆ (hostOps0_2_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_c_9, main_while0b_v9]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_call1_v0, main_while0b_call1_cst, main_while0b_call1_c, main_while0b_call1_v1_0, main_while0b_v10]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_c_10, main_while0b_v11, main_while0b_c_11, main_while0b_v12, main_while0b_v13, main_while0b_v14, main_while0b_v15, main_while0b_v16, main_while0b_v17]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_call2_c, main_while0b_call2_v0, main_while0b_call2_v1, main_while0b_call2_c_0, main_while0b_call2_v2, main_while0b_call2_v3, main_while0b_call2_v4, main_while0b_call2_c_1, main_while0b_call2_c_2, main_while0b_call2_v5, main_while0b_call2_v6, main_while0b_call2_v7, main_while0b_call2_v8, main_while0b_call2_v9, main_while0b_call2_v10, main_while0b_call2_c_3, main_while0b_call2_v11, main_while0b_call2_v12, main_while0b_call2_v13, main_while0b_call2_cst, main_while0b_call2_v14, main_while0b_v18]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_v19, main_while0b_v20, main_while0b_v21, main_while0b_cst_12, main_while0b_v22, main_while0b_cst_13]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `while0Ops0_5` allocates a buffer. -/
theorem while0Ops0_5_fresh : (while0Ops0_5 : List (HloOp τ sig (Elt F))).Forall fun op => op.fresh = ∅ :=
  StableHlo.forall_fresh_of_map rfl
/-- The reference each operation of `while0Ops0_5` writes, in order. -/
abbrev while0Ops0_5_W : List (Ref sig .tc) := [main_while0b_call3_v0, main_while0b_call3_v1, main_while0b_v23]
theorem while0Ops0_5_writes : (while0Ops0_5 : List (HloOp τ sig (Elt F))).Forall fun op => op.writes ⊆ (while0Ops0_5_W.map (Proc.devRef (τ := τ) .tc)).toFinset :=
  StableHlo.forall_writes_sub_of_map rfl
/-- No operation of `while0Ops0_6` allocates a buffer. -/
theorem while0Ops0_6_fresh : (while0Ops0_6 : List (HloOp τ sig (Elt F))).Forall fun op => op.fresh = ∅ :=
  StableHlo.forall_fresh_of_map rfl
/-- The reference each operation of `while0Ops0_6` writes, in order. -/
abbrev while0Ops0_6_W : List (Ref sig .tc) := [main_while0b_v24, main_while0b_v25, main_while0b_c_14, main_while0b_v26, main_v4_2, main_v4_3, main_v4_4, main_v4_5]
theorem while0Ops0_6_writes : (while0Ops0_6 : List (HloOp τ sig (Elt F))).Forall fun op => op.writes ⊆ (while0Ops0_6_W.map (Proc.devRef (τ := τ) .tc)).toFinset :=
  StableHlo.forall_writes_sub_of_map rfl
/-- No operation of `hostOps0_3` allocates a buffer. -/
theorem hostOps0_3_fresh : (hostOps0_3 : List (HloOp τ sig (Elt F))).Forall fun op => op.fresh = ∅ :=
  StableHlo.forall_fresh_of_map rfl
/-- No operation of `hostOps0_4` allocates a buffer. -/
theorem hostOps0_4_fresh : (hostOps0_4 : List (HloOp τ sig (Elt F))).Forall fun op => op.fresh = ∅ :=
  StableHlo.forall_fresh_of_map rfl
/-- No operation of `hostOps0_5` allocates a buffer. -/
theorem hostOps0_5_fresh : (hostOps0_5 : List (HloOp τ sig (Elt F))).Forall fun op => op.fresh = ∅ :=
  StableHlo.forall_fresh_of_map rfl
/-- The reference each operation of `hostOps0_3` writes, in order. -/
abbrev hostOps0_3_W : List (Ref sig .tc) := [main_v5, main_v6]
theorem hostOps0_3_writes : (hostOps0_3 : List (HloOp τ sig (Elt F))).Forall fun op => op.writes ⊆ (hostOps0_3_W.map (Proc.devRef (τ := τ) .tc)).toFinset :=
  StableHlo.forall_writes_sub_of_map rfl
/-- The reference each operation of `hostOps0_4` writes, in order. -/
abbrev hostOps0_4_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_cst, main_call4_v14, main_v7]
theorem hostOps0_4_writes : (hostOps0_4 : List (HloOp τ sig (Elt F))).Forall fun op => op.writes ⊆ (hostOps0_4_W.map (Proc.devRef (τ := τ) .tc)).toFinset :=
  StableHlo.forall_writes_sub_of_map rfl
/-- The reference each operation of `hostOps0_5` writes, in order. -/
abbrev hostOps0_5_W : List (Ref sig .tc) := [main_c_3, main_v8]
theorem hostOps0_5_writes : (hostOps0_5 : List (HloOp τ sig (Elt F))).Forall fun op => op.writes ⊆ (hostOps0_5_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_9 (constantI S_ 32 1024#32),
    StableHlo.binary main_v4_2 main_while0c_c_9 main_while0c_v9 (cmpi .slt) ]

/-- @main's stretches before the loop, the loop body's, and @main's after the loop. -/
abbrev preI : List (List (HloOp τ sig (Elt F))) := [hostOps0, hostOps0_1, hostOps0_2]
abbrev bodyI : List (List (HloOp τ sig (Elt F))) := [while0Ops0, while0Ops0_1, while0Ops0_2, while0Ops0_3, while0Ops0_4, while0Ops0_5, while0Ops0_6]
abbrev postI : List (List (HloOp τ sig (Elt F))) := [hostOps0_3, hostOps0_4, hostOps0_5]

theorem hpre : Plain (preI (F := F)) := .cons hostOps0_sub (hf := List.forall_iff_forall_mem.mp hostOps0_fresh) (.cons hostOps0_1_sub (hf := List.forall_iff_forall_mem.mp hostOps0_1_fresh) (.cons hostOps0_2_sub (hf := List.forall_iff_forall_mem.mp hostOps0_2_fresh) (.nil)))
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.nil)))))))
theorem hpost : Plain (postI (F := F)) := .cons hostOps0_3_sub (hf := List.forall_iff_forall_mem.mp hostOps0_3_fresh) (.cons hostOps0_4_sub (hf := List.forall_iff_forall_mem.mp hostOps0_4_fresh) (.cons hostOps0_5_sub (hf := List.forall_iff_forall_mem.mp hostOps0_5_fresh) (.nil)))

/-- The reference each operation of `condOps` writes, in order. -/
abbrev condOps_W : List (Ref sig .tc) := [main_while0c_c_9, main_while0c_v9]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v4_2`) is written by one stretch of the body, `while0Ops0_6`: not by the condition, nor by the
    body's other stretches. -/
theorem ctr_cond (V : Valuation τ sig (Elt F)) : after condOps V (Proc.devRef .tc main_v4_2) = V (Proc.devRef .tc main_v4_2) :=
  after_of_writes_sub condOps V condOps_writes (by decide +kernel)
theorem ctr_while0Ops0 (V : Valuation τ sig (Elt F)) : after while0Ops0 V (Proc.devRef .tc main_v4_2) = V (Proc.devRef .tc main_v4_2) :=
  after_of_writes_sub while0Ops0 V while0Ops0_writes (by decide +kernel)
theorem ctr_while0Ops0_1 (V : Valuation τ sig (Elt F)) : after while0Ops0_1 V (Proc.devRef .tc main_v4_2) = V (Proc.devRef .tc main_v4_2) :=
  after_of_writes_sub while0Ops0_1 V while0Ops0_1_writes (by decide +kernel)
theorem ctr_while0Ops0_2 (V : Valuation τ sig (Elt F)) : after while0Ops0_2 V (Proc.devRef .tc main_v4_2) = V (Proc.devRef .tc main_v4_2) :=
  after_of_writes_sub while0Ops0_2 V while0Ops0_2_writes (by decide +kernel)
theorem ctr_while0Ops0_3 (V : Valuation τ sig (Elt F)) : after while0Ops0_3 V (Proc.devRef .tc main_v4_2) = V (Proc.devRef .tc main_v4_2) :=
  after_of_writes_sub while0Ops0_3 V while0Ops0_3_writes (by decide +kernel)
theorem ctr_while0Ops0_4 (V : Valuation τ sig (Elt F)) : after while0Ops0_4 V (Proc.devRef .tc main_v4_2) = V (Proc.devRef .tc main_v4_2) :=
  after_of_writes_sub while0Ops0_4 V while0Ops0_4_writes (by decide +kernel)
theorem ctr_while0Ops0_5 (V : Valuation τ sig (Elt F)) : after while0Ops0_5 V (Proc.devRef .tc main_v4_2) = V (Proc.devRef .tc main_v4_2) :=
  after_of_writes_sub while0Ops0_5 V while0Ops0_5_writes (by decide +kernel)

/-- The body's operations 1 … 2 of 55. -/
abbrev trip_w0 : List (HloOp τ sig (Elt F)) :=
  [ StableHlo.nullary main_while0b_c_9 (constantI S_ 32 1#32),
    StableHlo.binary main_v4_3 main_while0b_c_9 main_while0b_v9 (addi : (⟨S_, .i32⟩ : BufTy).Contents (Elt F) → (⟨S_, .i32⟩ : BufTy).Contents (Elt F) → (⟨S_, .i32⟩ : BufTy).Contents (Elt F)) ]

/-- The body's operations 3 … 7 of 55. -/
abbrev trip_w1 : List (HloOp τ sig (Elt F)) :=
  [ StableHlo.TRef.nullary (.of main_while0b_call1_v0 : StableHlo.TRef sig ⟨S4x8192, .i32⟩) (iotaInDim S4x8192 32 1),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_v4_4 : StableHlo.TRef sig ⟨S4x8192, .f32⟩) (.of main_while0b_call1_v0 : StableHlo.TRef sig ⟨S4x8192, .i32⟩) (.of main_while0b_call1_cst : StableHlo.TRef sig ⟨S_, .f32⟩) (.of main_while0b_call1_c : StableHlo.TRef sig ⟨S_, .i32⟩) (.of main_while0b_call1_v1_0 : StableHlo.TRef sig ⟨S4, .f32⟩) (fun x y u v j => (Host.argReduce reducer_argmax_f32_i32 x y u v reducesTo_S4x8192_S4_d1 h_S_ j).1),
    StableHlo.TRef.quaternary (.of main_v4_4 : StableHlo.TRef sig ⟨S4x8192, .f32⟩) (.of main_while0b_call1_v0 : StableHlo.TRef sig ⟨S4x8192, .i32⟩) (.of main_while0b_call1_cst : StableHlo.TRef sig ⟨S_, .f32⟩) (.of main_while0b_call1_c : StableHlo.TRef sig ⟨S_, .i32⟩) (.of main_while0b_v10 : StableHlo.TRef sig ⟨S4, .i32⟩) (fun x y u v j => (Host.argReduce reducer_argmax_f32_i32 x y u v reducesTo_S4x8192_S4_d1 h_S_ j).2) ]

/-- The body's operations 8 … 16 of 55. -/
abbrev trip_w2 : List (HloOp τ sig (Elt F)) :=
  [ StableHlo.nullary main_while0b_c_10 (constantI S_ 32 0#32),
    StableHlo.binary main_v4_3 main_while0b_c_10 main_while0b_v11 (cmpi .slt : (⟨S_, .i32⟩ : BufTy).Contents (Elt F) → (⟨S_, .i32⟩ : BufTy).Contents (Elt F) → (⟨S_, .i1⟩ : BufTy).Contents (Elt F)),
    StableHlo.nullary main_while0b_c_11 (constantI S_ 32 1024#32),
    StableHlo.binary main_v4_3 main_while0b_c_11 main_while0b_v12 (addi : (⟨S_, .i32⟩ : BufTy).Contents (Elt F) → (⟨S_, .i32⟩ : BufTy).Contents (Elt F) → (⟨S_, .i32⟩ : BufTy).Contents (Elt F)),
    StableHlo.ternary main_while0b_v11 main_while0b_v12 main_v4_3 main_while0b_v13 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v13 main_while0b_v14 (id : (⟨S_, .i32⟩ : BufTy).Contents (Elt F) → (⟨S_, .i32⟩ : BufTy).Contents (Elt F)),
    StableHlo.unary main_while0b_v14 main_while0b_v15 (broadcastInDim S1 ![] bcast_S_S1 : (⟨S_, .i32⟩ : BufTy).Contents (Elt F) → (⟨S1, .i32⟩ : BufTy).Contents (Elt F)),
    StableHlo.ternary main_v4_5 main_while0b_v15 main_while0b_v10 main_while0b_v16 ((fun x i u => Host.scatter scatter_S4x1024_S1_S4_0_1_1_0 (fun _ b => b) x i u) : (⟨S4x1024, .i32⟩ : BufTy).Contents (Elt F) → (⟨S1, .i32⟩ : BufTy).Contents (Elt F) → (⟨S4, .i32⟩ : BufTy).Contents (Elt F) → (⟨S4x1024, .i32⟩ : BufTy).Contents (Elt F)),
    StableHlo.unary main_while0b_v10 main_while0b_v17 (broadcastInDim S4x1x1 ![0] bcast_S4_S4x1x1_0 : (⟨S4, .i32⟩ : BufTy).Contents (Elt F) → (⟨S4x1x1, .i32⟩ : BufTy).Contents (Elt F)) ]

/-- The body's operations 17 … 38 of 55. -/
abbrev trip_w3 : List (HloOp τ sig (Elt F)) :=
  [ StableHlo.TRef.nullary (.of main_while0b_call2_c : StableHlo.TRef sig ⟨S_, .i32⟩) (constantI S_ 32 0#32),
    StableHlo.TRef.unary (.of main_while0b_call2_c : StableHlo.TRef sig ⟨S_, .i32⟩) (.of main_while0b_call2_v0 : StableHlo.TRef sig ⟨S4x1x1, .i32⟩) (broadcastInDim S4x1x1 ![] bcast_S_S4x1x1),
    StableHlo.TRef.binary (.of main_while0b_v17 : StableHlo.TRef sig ⟨S4x1x1, .i32⟩) (.of main_while0b_call2_v0 : StableHlo.TRef sig ⟨S4x1x1, .i32⟩) (.of main_while0b_call2_v1 : StableHlo.TRef sig ⟨S4x1x1, .i1⟩) (cmpi .slt),
    StableHlo.TRef.nullary (.of main_while0b_call2_c_0 : StableHlo.TRef sig ⟨S_, .i32⟩) (constantI S_ 32 8192#32),
    StableHlo.TRef.unary (.of main_while0b_call2_c_0 : StableHlo.TRef sig ⟨S_, .i32⟩) (.of main_while0b_call2_v2 : StableHlo.TRef sig ⟨S4x1x1, .i32⟩) (broadcastInDim S4x1x1 ![] bcast_S_S4x1x1),
    StableHlo.TRef.binary (.of main_while0b_v17 : StableHlo.TRef sig ⟨S4x1x1, .i32⟩) (.of main_while0b_call2_v2 : StableHlo.TRef sig ⟨S4x1x1, .i32⟩) (.of main_while0b_call2_v3 : StableHlo.TRef sig ⟨S4x1x1, .i32⟩) addi,
    StableHlo.TRef.ternary (.of main_while0b_call2_v1 : StableHlo.TRef sig ⟨S4x1x1, .i1⟩) (.of main_while0b_call2_v3 : StableHlo.TRef sig ⟨S4x1x1, .i32⟩) (.of main_while0b_v17 : StableHlo.TRef sig ⟨S4x1x1, .i32⟩) (.of main_while0b_call2_v4 : StableHlo.TRef sig ⟨S4x1x1, .i32⟩) select,
    StableHlo.TRef.nullary (.of main_while0b_call2_c_1 : StableHlo.TRef sig ⟨S1, .i32⟩) (constantI S1 32 8191#32),
    StableHlo.TRef.nullary (.of main_while0b_call2_c_2 : StableHlo.TRef sig ⟨S_, .i32⟩) (constantI S_ 32 0#32),
    StableHlo.TRef.unary (.of main_while0b_call2_c_2 : StableHlo.TRef sig ⟨S_, .i32⟩) (.of main_while0b_call2_v5 : StableHlo.TRef sig ⟨S4x1x1, .i32⟩) (broadcastInDim S4x1x1 ![] bcast_S_S4x1x1),
    StableHlo.TRef.binary (.of main_while0b_call2_v4 : StableHlo.TRef sig ⟨S4x1x1, .i32⟩) (.of main_while0b_call2_v5 : StableHlo.TRef sig ⟨S4x1x1, .i32⟩) (.of main_while0b_call2_v6 : StableHlo.TRef sig ⟨S4x1x1, .i1⟩) (cmpi .sge),
    StableHlo.TRef.unary (.of main_while0b_call2_c_1 : StableHlo.TRef sig ⟨S1, .i32⟩) (.of main_while0b_call2_v7 : StableHlo.TRef sig ⟨S1x1x1, .i32⟩) (broadcastInDim S1x1x1 ![2] bcast_S1_S1x1x1_2),
    StableHlo.TRef.unary (.of main_while0b_call2_v7 : StableHlo.TRef sig ⟨S1x1x1, .i32⟩) (.of main_while0b_call2_v8 : StableHlo.TRef sig ⟨S4x1x1, .i32⟩) (broadcastInDim S4x1x1 ![0, 1, 2] bcast_S1x1x1_S4x1x1_0_1_2),
    StableHlo.TRef.binary (.of main_while0b_call2_v4 : StableHlo.TRef sig ⟨S4x1x1, .i32⟩) (.of main_while0b_call2_v8 : StableHlo.TRef sig ⟨S4x1x1, .i32⟩) (.of main_while0b_call2_v9 : StableHlo.TRef sig ⟨S4x1x1, .i1⟩) (cmpi .sle),
    StableHlo.TRef.binary (.of main_while0b_call2_v6 : StableHlo.TRef sig ⟨S4x1x1, .i1⟩) (.of main_while0b_call2_v9 : StableHlo.TRef sig ⟨S4x1x1, .i1⟩) (.of main_while0b_call2_v10 : StableHlo.TRef sig ⟨S4x1x1, .i1⟩) andi,
    StableHlo.TRef.nullary (.of main_while0b_call2_c_3 : StableHlo.TRef sig ⟨S_, .i1⟩) (constantI S_ 1 1#1),
    StableHlo.TRef.binary (.of main_while0b_call2_v10 : StableHlo.TRef sig ⟨S4x1x1, .i1⟩) (.of main_while0b_call2_c_3 : StableHlo.TRef sig ⟨S_, .i1⟩) (.of main_while0b_call2_v11 : StableHlo.TRef sig ⟨S4x1, .i1⟩) (fun x v => Host.reduce IntOp.andi x v reducesTo_S4x1x1_S4x1_d2 h_S_),
    StableHlo.TRef.binary (.of main_v4_0 : StableHlo.TRef sig ⟨S4x8192x2, .f32⟩) (.of main_while0b_call2_v4 : StableHlo.TRef sig ⟨S4x1x1, .i32⟩) (.of main_while0b_call2_v12 : StableHlo.TRef sig ⟨S4x1x2, .f32⟩) (fun x i => Host.gather gather_S4x8192x2_S4x1x1_S4x1x2_2_1_0_0_1_2_112 x i),
    StableHlo.TRef.unary (.of main_while0b_call2_v11 : StableHlo.TRef sig ⟨S4x1, .i1⟩) (.of main_while0b_call2_v13 : StableHlo.TRef sig ⟨S4x1x2, .i1⟩) (broadcastInDim S4x1x2 ![0, 1] bcast_S4x1_S4x1x2_0_1),
    StableHlo.TRef.nullary (.of main_while0b_call2_cst : StableHlo.TRef sig ⟨S_, .f32⟩) (constant S_ .f32 0x7FC00000#32),
    StableHlo.TRef.unary (.of main_while0b_call2_cst : StableHlo.TRef sig ⟨S_, .f32⟩) (.of main_while0b_call2_v14 : StableHlo.TRef sig ⟨S4x1x2, .f32⟩) (broadcastInDim S4x1x2 ![] bcast_S_S4x1x2),
    StableHlo.TRef.ternary (.of main_while0b_call2_v13 : StableHlo.TRef sig ⟨S4x1x2, .i1⟩) (.of main_while0b_call2_v12 : StableHlo.TRef sig ⟨S4x1x2, .f32⟩) (.of main_while0b_call2_v14 : StableHlo.TRef sig ⟨S4x1x2, .f32⟩) (.of main_while0b_v18 : StableHlo.TRef sig ⟨S4x1x2, .f32⟩) select ]

/-- The body's operations 39 … 44 of 55. -/
abbrev trip_w4 : List (HloOp τ sig (Elt F)) :=
  [ StableHlo.unary main_while0b_v18 main_while0b_v19 (broadcastInDim S4x8192x2 ![0, 1, 2] bcast_S4x1x2_S4x8192x2_0_1_2 : (⟨S4x1x2, .f32⟩ : BufTy).Contents (Elt F) → (⟨S4x8192x2, .f32⟩ : BufTy).Contents (Elt F)),
    StableHlo.binary main_v4_0 main_while0b_v19 main_while0b_v20 (subf : (⟨S4x8192x2, .f32⟩ : BufTy).Contents (Elt F) → (⟨S4x8192x2, .f32⟩ : BufTy).Contents (Elt F) → (⟨S4x8192x2, .f32⟩ : BufTy).Contents (Elt F)),
    StableHlo.binary main_while0b_v20 main_while0b_v20 main_while0b_v21 (mulf : (⟨S4x8192x2, .f32⟩ : BufTy).Contents (Elt F) → (⟨S4x8192x2, .f32⟩ : BufTy).Contents (Elt F) → (⟨S4x8192x2, .f32⟩ : BufTy).Contents (Elt F)),
    StableHlo.nullary main_while0b_cst_12 (constant S_ .f32 0x00000000#32),
    StableHlo.binary main_while0b_v21 main_while0b_cst_12 main_while0b_v22 ((fun x v => Host.reduceAdd x v reducesTo_S4x8192x2_S4x8192_d2 h_S_) : (⟨S4x8192x2, .f32⟩ : BufTy).Contents (Elt F) → (⟨S_, .f32⟩ : BufTy).Contents (Elt F) → (⟨S4x8192, .f32⟩ : BufTy).Contents (Elt F)),
    StableHlo.nullary main_while0b_cst_13 (constant S_ .f32 0xFF800000#32) ]

/-- The body's operations 45 … 47 of 55. -/
abbrev trip_w5 : List (HloOp τ sig (Elt F)) :=
  [ StableHlo.TRef.unary (.of main_while0b_cst_13 : StableHlo.TRef sig ⟨S_, .f32⟩) (.of main_while0b_call3_v0 : StableHlo.TRef sig ⟨S_, .f32⟩) id,
    StableHlo.TRef.unary (.of main_while0b_call3_v0 : StableHlo.TRef sig ⟨S_, .f32⟩) (.of main_while0b_call3_v1 : StableHlo.TRef sig ⟨S4x8192, .f32⟩) (broadcastInDim S4x8192 ![] bcast_S_S4x8192),
    StableHlo.TRef.ternary (.of main_v4_1 : StableHlo.TRef sig ⟨S4x8192, .i1⟩) (.of main_while0b_v22 : StableHlo.TRef sig ⟨S4x8192, .f32⟩) (.of main_while0b_call3_v1 : StableHlo.TRef sig ⟨S4x8192, .f32⟩) (.of main_while0b_v23 : StableHlo.TRef sig ⟨S4x8192, .f32⟩) select ]

/-- The body's operations 48 … 49 of 55. -/
abbrev trip_w6 : List (HloOp τ sig (Elt F)) :=
  [ StableHlo.unary main_v4_4 main_while0b_v24 (id : (⟨S4x8192, .f32⟩ : BufTy).Contents (Elt F) → (⟨S4x8192, .f32⟩ : BufTy).Contents (Elt F)),
    StableHlo.binary main_while0b_v24 main_while0b_v23 main_while0b_v25 (minimumf : (⟨S4x8192, .f32⟩ : BufTy).Contents (Elt F) → (⟨S4x8192, .f32⟩ : BufTy).Contents (Elt F) → (⟨S4x8192, .f32⟩ : BufTy).Contents (Elt F)) ]

/-- The body's operations 50 … 55 of 55: the counter's step and the copies back into the carried buffers. -/
abbrev while0Ops0_6_step : List (HloOp τ sig (Elt F)) :=
  [ StableHlo.nullary main_while0b_c_14 (constantI S_ 32 1#32),
    StableHlo.binary main_v4_2 main_while0b_c_14 main_while0b_v26 (addi : (⟨S_, .i32⟩ : BufTy).Contents (Elt F) → (⟨S_, .i32⟩ : BufTy).Contents (Elt F) → (⟨S_, .i32⟩ : BufTy).Contents (Elt F)),
    StableHlo.unary main_while0b_v26 main_v4_2 id,
    StableHlo.unary main_while0b_v9 main_v4_3 id,
    StableHlo.unary main_while0b_v25 main_v4_4 id,
    StableHlo.unary main_while0b_v16 main_v4_5 id ]

set_option maxRecDepth 5000 in
/-- `while0Ops0` is its windows in order. -/
theorem while0Ops0_cut : (while0Ops0 : List (HloOp τ sig (Elt F))) = trip_w0 := rfl
set_option maxRecDepth 5000 in
/-- `while0Ops0_1` is its windows in order. -/
theorem while0Ops0_1_cut : (while0Ops0_1 : List (HloOp τ sig (Elt F))) = trip_w1 := rfl
set_option maxRecDepth 5000 in
/-- `while0Ops0_2` is its windows in order. -/
theorem while0Ops0_2_cut : (while0Ops0_2 : List (HloOp τ sig (Elt F))) = trip_w2 := rfl
set_option maxRecDepth 5000 in
/-- `while0Ops0_3` is its windows in order. -/
theorem while0Ops0_3_cut : (while0Ops0_3 : List (HloOp τ sig (Elt F))) = trip_w3 := rfl
set_option maxRecDepth 5000 in
/-- `while0Ops0_4` is its windows in order. -/
theorem while0Ops0_4_cut : (while0Ops0_4 : List (HloOp τ sig (Elt F))) = trip_w4 := rfl
set_option maxRecDepth 5000 in
/-- `while0Ops0_5` is its windows in order. -/
theorem while0Ops0_5_cut : (while0Ops0_5 : List (HloOp τ sig (Elt F))) = trip_w5 := rfl
set_option maxRecDepth 5000 in
/-- `while0Ops0_6` is its windows in order, then the step. -/
theorem while0Ops0_6_cut : (while0Ops0_6 : List (HloOp τ sig (Elt F))) = trip_w6 ++ (while0Ops0_6_step) := rfl

/-- The buffers that window `trip_w0`'s operations write. -/
abbrev trip_w0_W : List (Ref sig .tc) := [main_while0b_c_9, main_while0b_v9]
set_option maxRecDepth 8192 in
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w1`'s operations write. -/
abbrev trip_w1_W : List (Ref sig .tc) := [main_while0b_call1_v0, main_while0b_call1_cst, main_while0b_call1_c, main_while0b_call1_v1_0, main_while0b_v10]
set_option maxRecDepth 8192 in
theorem trip_w1_writes : (trip_w1 : List (HloOp τ sig (Elt F))).Forall fun op => op.writes ⊆ (trip_w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w2`'s operations write. -/
abbrev trip_w2_W : List (Ref sig .tc) := [main_while0b_c_10, main_while0b_v11, main_while0b_c_11, main_while0b_v12, main_while0b_v13, main_while0b_v14, main_while0b_v15, main_while0b_v16, main_while0b_v17]
set_option maxRecDepth 8192 in
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w3`'s operations write. -/
abbrev trip_w3_W : List (Ref sig .tc) := [main_while0b_call2_c, main_while0b_call2_v0, main_while0b_call2_v1, main_while0b_call2_c_0, main_while0b_call2_v2, main_while0b_call2_v3, main_while0b_call2_v4, main_while0b_call2_c_1, main_while0b_call2_c_2, main_while0b_call2_v5, main_while0b_call2_v6, main_while0b_call2_v7, main_while0b_call2_v8, main_while0b_call2_v9, main_while0b_call2_v10, main_while0b_call2_c_3, main_while0b_call2_v11, main_while0b_call2_v12, main_while0b_call2_v13, main_while0b_call2_cst, main_while0b_call2_v14, main_while0b_v18]
set_option maxRecDepth 8192 in
theorem trip_w3_writes : (trip_w3 : List (HloOp τ sig (Elt F))).Forall fun op => op.writes ⊆ (trip_w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w4`'s operations write. -/
abbrev trip_w4_W : List (Ref sig .tc) := [main_while0b_v19, main_while0b_v20, main_while0b_v21, main_while0b_cst_12, main_while0b_v22, main_while0b_cst_13]
set_option maxRecDepth 8192 in
theorem trip_w4_writes : (trip_w4 : List (HloOp τ sig (Elt F))).Forall fun op => op.writes ⊆ (trip_w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w5`'s operations write. -/
abbrev trip_w5_W : List (Ref sig .tc) := [main_while0b_call3_v0, main_while0b_call3_v1, main_while0b_v23]
set_option maxRecDepth 8192 in
theorem trip_w5_writes : (trip_w5 : List (HloOp τ sig (Elt F))).Forall fun op => op.writes ⊆ (trip_w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w6`'s operations write. -/
abbrev trip_w6_W : List (Ref sig .tc) := [main_while0b_v24, main_while0b_v25]
set_option maxRecDepth 8192 in
theorem trip_w6_writes : (trip_w6 : List (HloOp τ sig (Elt F))).Forall fun op => op.writes ⊆ (trip_w6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ctr_trip_w6 (V : Valuation τ sig (Elt F)) : after trip_w6 V (Proc.devRef .tc main_v4_2) = V (Proc.devRef .tc main_v4_2) :=
  after_of_writes_sub trip_w6 V trip_w6_writes (by decide +kernel)

set_option maxRecDepth 100000 in
/-- `while0Ops0_6_step` leaves the counter one step on. -/
theorem ctr_while0Ops0_6_step (Y : Valuation τ sig (Elt F)) :
    after while0Ops0_6_step Y (Proc.devRef .tc main_v4_2) = addi (Y (Proc.devRef .tc main_v4_2)) (constantI S_ 32 1#32) := by
  after_results
  rfl

set_option maxRecDepth 100000 in
/-- `while0Ops0_6` leaves the counter one step on: its windows do not write the counter, and `while0Ops0_6_step` steps it. -/
theorem ctr_step (X : Valuation τ sig (Elt F)) :
    after while0Ops0_6 X (Proc.devRef .tc main_v4_2) = addi (X (Proc.devRef .tc main_v4_2)) (constantI S_ 32 1#32) := by
  simp only [while0Ops0_6_cut, after_append]
  rw [ctr_while0Ops0_6_step, ctr_trip_w6]

/-- The counter is the loop's lower bound at the loop's entry: its last writer before the loop read back. -/
theorem ctr_entry (c : Dev nD) : entryContents preI m c (Proc.devRef .tc main_v4_2) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v4_2) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_5, ctr_while0Ops0_4, ctr_while0Ops0_3, ctr_while0Ops0_2, ctr_while0Ops0_1, ctr_while0Ops0, ctr_cond, atK_ctr c k, Scf.iv_succ]
    rfl

set_option backward.isDefEq.respectTransparency.types false in
/-- The condition's specification at the fold. -/
theorem cond_spec : CondSpec (pcfgs (F := F)) defs₀ loops (main_while0_cond (F := F)) condOps bodyI (entryContents preI m) 1024 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v4_2 HostLoop.idx0)
        (HloOp.result _ (atK m k c) main_while0c_c_9 HostLoop.idx0) = 1#1) (k < 1024)
    rw [nullary_result_ne _ _ _ _ (by decide), nullary_result, hctr]
    exact Scf.cmpi_slt_iv_ub_iff (lb := 0#32) (ub := 1024#32) (st := 1#32) (by decide) (show k ≤ Scf.trips 0#32 1024#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 1024 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 1024 m ρ (cond_spec m)

/-! ## One trip's values -/

set_option maxRecDepth 8192 in
/-- `main_while0b_call1_v0`'s composed term of the carried buffers (named: it is used 2 times). -/
def res_main_while0b_call1_v0 (V0 : Valuation τ sig (Elt F)) : (Proc.devRef .tc main_while0b_call1_v0 : DevRef τ sig).ty.Contents (Elt F) :=
  iotaInDim S4x8192 32 1

set_option maxRecDepth 8192 in
/-- `main_while0b_call1_cst`'s composed term of the carried buffers (named: it is used 2 times). -/
def res_main_while0b_call1_cst (V0 : Valuation τ sig (Elt F)) : (Proc.devRef .tc main_while0b_call1_cst : DevRef τ sig).ty.Contents (Elt F) :=
  constant S_ .f32 0xFF800000#32

set_option maxRecDepth 8192 in
/-- `main_while0b_call1_c`'s composed term of the carried buffers (named: it is used 2 times). -/
def res_main_while0b_call1_c (V0 : Valuation τ sig (Elt F)) : (Proc.devRef .tc main_while0b_call1_c : DevRef τ sig).ty.Contents (Elt F) :=
  constantI S_ 32 0#32

set_option maxRecDepth 8192 in
/-- `main_while0b_v10`'s composed term of the carried buffers (named: it is used 2 times). -/
def res_main_while0b_v10 (V0 : Valuation τ sig (Elt F)) : (Proc.devRef .tc main_while0b_v10 : DevRef τ sig).ty.Contents (Elt F) :=
  (fun j => (Host.argReduce reducer_argmax_f32_i32 (V0 (Proc.devRef .tc main_v4_4)) (res_main_while0b_call1_v0 V0) (res_main_while0b_call1_cst V0) (res_main_while0b_call1_c V0) reducesTo_S4x8192_S4_d1 h_S_ j).2)

set_option maxRecDepth 8192 in
/-- `main_while0b_v17`'s composed term of the carried buffers (named: it is used 3 times). -/
def res_main_while0b_v17 (V0 : Valuation τ sig (Elt F)) : (Proc.devRef .tc main_while0b_v17 : DevRef τ sig).ty.Contents (Elt F) :=
  broadcastInDim S4x1x1 ![0] bcast_S4_S4x1x1_0 (res_main_while0b_v10 V0)

set_option maxRecDepth 8192 in
/-- `main_while0b_call2_v4`'s composed term of the carried buffers (named: it is used 3 times). -/
def res_main_while0b_call2_v4 (V0 : Valuation τ sig (Elt F)) : (Proc.devRef .tc main_while0b_call2_v4 : DevRef τ sig).ty.Contents (Elt F) :=
  select (cmpi .slt (res_main_while0b_v17 V0) (broadcastInDim S4x1x1 ![] bcast_S_S4x1x1 (constantI S_ 32 0#32))) (addi (res_main_while0b_v17 V0) (broadcastInDim S4x1x1 ![] bcast_S_S4x1x1 (constantI S_ 32 8192#32))) (res_main_while0b_v17 V0)

set_option maxRecDepth 8192 in
/-- `main_while0b_v20`'s composed term of the carried buffers (named: it is used 2 times). -/
def res_main_while0b_v20 (V0 : Valuation τ sig (Elt F)) : (Proc.devRef .tc main_while0b_v20 : DevRef τ sig).ty.Contents (Elt F) :=
  subf (V0 (Proc.devRef .tc main_v4_0)) (broadcastInDim S4x8192x2 ![0, 1, 2] bcast_S4x1x2_S4x8192x2_0_1_2 (select (broadcastInDim S4x1x2 ![0, 1] bcast_S4x1_S4x1x2_0_1 (Host.reduce IntOp.andi (andi (cmpi .sge (res_main_while0b_call2_v4 V0) (broadcastInDim S4x1x1 ![] bcast_S_S4x1x1 (constantI S_ 32 0#32))) (cmpi .sle (res_main_while0b_call2_v4 V0) (broadcastInDim S4x1x1 ![0, 1, 2] bcast_S1x1x1_S4x1x1_0_1_2 (broadcastInDim S1x1x1 ![2] bcast_S1_S1x1x1_2 (constantI S1 32 8191#32))))) (constantI S_ 1 1#1) reducesTo_S4x1x1_S4x1_d2 h_S_)) (Host.gather gather_S4x8192x2_S4x1x1_S4x1x2_2_1_0_0_1_2_112 (V0 (Proc.devRef .tc main_v4_0)) (res_main_while0b_call2_v4 V0)) (broadcastInDim S4x1x2 ![] bcast_S_S4x1x2 (constant S_ .f32 0x7FC00000#32))))

/-- The device's buffer contents before the body's first window. -/
def val0 (V0 : Valuation τ sig (Elt F)) : Valuation τ sig (Elt F) := V0
theorem val0_main_v4_3 (V0 : Valuation τ sig (Elt F)) : val0 V0 (no_index (Proc.devRef .tc main_v4_3)) = V0 (Proc.devRef .tc main_v4_3) := rfl
theorem val0_main_v4_4 (V0 : Valuation τ sig (Elt F)) : val0 V0 (no_index (Proc.devRef .tc main_v4_4)) = V0 (Proc.devRef .tc main_v4_4) := rfl
theorem val0_main_v4_5 (V0 : Valuation τ sig (Elt F)) : val0 V0 (no_index (Proc.devRef .tc main_v4_5)) = V0 (Proc.devRef .tc main_v4_5) := rfl
theorem val0_main_v4_0 (V0 : Valuation τ sig (Elt F)) : val0 V0 (no_index (Proc.devRef .tc main_v4_0)) = V0 (Proc.devRef .tc main_v4_0) := rfl
theorem val0_main_v4_1 (V0 : Valuation τ sig (Elt F)) : val0 V0 (no_index (Proc.devRef .tc main_v4_1)) = V0 (Proc.devRef .tc main_v4_1) := rfl
theorem val0_main_v4_2 (V0 : Valuation τ sig (Elt F)) : val0 V0 (no_index (Proc.devRef .tc main_v4_2)) = V0 (Proc.devRef .tc main_v4_2) := rfl

/-- The device's buffer contents after the body's first 1 window. -/
def val1 (V0 : Valuation τ sig (Elt F)) : Valuation τ sig (Elt F) := after trip_w0 (val0 V0)
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v4_3 (V0 : Valuation τ sig (Elt F)) : val1 V0 (no_index (Proc.devRef .tc main_v4_3)) = V0 (Proc.devRef .tc main_v4_3) :=
  (val1_keep V0 main_v4_3 (by decide)).trans (val0_main_v4_3 V0)
theorem val1_main_v4_4 (V0 : Valuation τ sig (Elt F)) : val1 V0 (no_index (Proc.devRef .tc main_v4_4)) = V0 (Proc.devRef .tc main_v4_4) :=
  (val1_keep V0 main_v4_4 (by decide)).trans (val0_main_v4_4 V0)
theorem val1_main_v4_5 (V0 : Valuation τ sig (Elt F)) : val1 V0 (no_index (Proc.devRef .tc main_v4_5)) = V0 (Proc.devRef .tc main_v4_5) :=
  (val1_keep V0 main_v4_5 (by decide)).trans (val0_main_v4_5 V0)
theorem val1_main_v4_0 (V0 : Valuation τ sig (Elt F)) : val1 V0 (no_index (Proc.devRef .tc main_v4_0)) = V0 (Proc.devRef .tc main_v4_0) :=
  (val1_keep V0 main_v4_0 (by decide)).trans (val0_main_v4_0 V0)
theorem val1_main_v4_1 (V0 : Valuation τ sig (Elt F)) : val1 V0 (no_index (Proc.devRef .tc main_v4_1)) = V0 (Proc.devRef .tc main_v4_1) :=
  (val1_keep V0 main_v4_1 (by decide)).trans (val0_main_v4_1 V0)
theorem val1_main_v4_2 (V0 : Valuation τ sig (Elt F)) : val1 V0 (no_index (Proc.devRef .tc main_v4_2)) = V0 (Proc.devRef .tc main_v4_2) :=
  (val1_keep V0 main_v4_2 (by decide)).trans (val0_main_v4_2 V0)
set_option maxRecDepth 8192 in
theorem val1_main_while0b_v9 (V0 : Valuation τ sig (Elt F)) : val1 V0 (no_index (Proc.devRef .tc main_while0b_v9)) = addi (V0 (Proc.devRef .tc main_v4_3)) (constantI S_ 32 1#32) := by
  unfold val1
  simp only [trip_w0]
  after_results_entrywise [val0_main_v4_3, cast_eq]

/-- The device's buffer contents after the body's first 2 windows. -/
def val2 (V0 : Valuation τ sig (Elt F)) : Valuation τ sig (Elt F) := after trip_w1 (val1 V0)
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v4_3 (V0 : Valuation τ sig (Elt F)) : val2 V0 (no_index (Proc.devRef .tc main_v4_3)) = V0 (Proc.devRef .tc main_v4_3) :=
  (val2_keep V0 main_v4_3 (by decide)).trans (val1_main_v4_3 V0)
theorem val2_main_v4_4 (V0 : Valuation τ sig (Elt F)) : val2 V0 (no_index (Proc.devRef .tc main_v4_4)) = V0 (Proc.devRef .tc main_v4_4) :=
  (val2_keep V0 main_v4_4 (by decide)).trans (val1_main_v4_4 V0)
theorem val2_main_v4_5 (V0 : Valuation τ sig (Elt F)) : val2 V0 (no_index (Proc.devRef .tc main_v4_5)) = V0 (Proc.devRef .tc main_v4_5) :=
  (val2_keep V0 main_v4_5 (by decide)).trans (val1_main_v4_5 V0)
theorem val2_main_v4_0 (V0 : Valuation τ sig (Elt F)) : val2 V0 (no_index (Proc.devRef .tc main_v4_0)) = V0 (Proc.devRef .tc main_v4_0) :=
  (val2_keep V0 main_v4_0 (by decide)).trans (val1_main_v4_0 V0)
theorem val2_main_v4_1 (V0 : Valuation τ sig (Elt F)) : val2 V0 (no_index (Proc.devRef .tc main_v4_1)) = V0 (Proc.devRef .tc main_v4_1) :=
  (val2_keep V0 main_v4_1 (by decide)).trans (val1_main_v4_1 V0)
theorem val2_main_v4_2 (V0 : Valuation τ sig (Elt F)) : val2 V0 (no_index (Proc.devRef .tc main_v4_2)) = V0 (Proc.devRef .tc main_v4_2) :=
  (val2_keep V0 main_v4_2 (by decide)).trans (val1_main_v4_2 V0)
theorem val2_main_while0b_v9 (V0 : Valuation τ sig (Elt F)) : val2 V0 (no_index (Proc.devRef .tc main_while0b_v9)) = addi (V0 (Proc.devRef .tc main_v4_3)) (constantI S_ 32 1#32) :=
  (val2_keep V0 main_while0b_v9 (by decide)).trans (val1_main_while0b_v9 V0)
set_option maxRecDepth 8192 in
theorem val2_main_while0b_v10 (V0 : Valuation τ sig (Elt F)) : val2 V0 (no_index (Proc.devRef .tc main_while0b_v10)) = res_main_while0b_v10 V0 := by
  unfold val2
  simp only [trip_w1]
  after_results_entrywise [val1_main_v4_4, res_main_while0b_call1_v0, res_main_while0b_call1_cst, res_main_while0b_call1_c, res_main_while0b_v10, cast_eq]

/-- The device's buffer contents after the body's first 3 windows. -/
def val3 (V0 : Valuation τ sig (Elt F)) : Valuation τ sig (Elt F) := after trip_w2 (val2 V0)
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v4_3 (V0 : Valuation τ sig (Elt F)) : val3 V0 (no_index (Proc.devRef .tc main_v4_3)) = V0 (Proc.devRef .tc main_v4_3) :=
  (val3_keep V0 main_v4_3 (by decide)).trans (val2_main_v4_3 V0)
theorem val3_main_v4_4 (V0 : Valuation τ sig (Elt F)) : val3 V0 (no_index (Proc.devRef .tc main_v4_4)) = V0 (Proc.devRef .tc main_v4_4) :=
  (val3_keep V0 main_v4_4 (by decide)).trans (val2_main_v4_4 V0)
theorem val3_main_v4_5 (V0 : Valuation τ sig (Elt F)) : val3 V0 (no_index (Proc.devRef .tc main_v4_5)) = V0 (Proc.devRef .tc main_v4_5) :=
  (val3_keep V0 main_v4_5 (by decide)).trans (val2_main_v4_5 V0)
theorem val3_main_v4_0 (V0 : Valuation τ sig (Elt F)) : val3 V0 (no_index (Proc.devRef .tc main_v4_0)) = V0 (Proc.devRef .tc main_v4_0) :=
  (val3_keep V0 main_v4_0 (by decide)).trans (val2_main_v4_0 V0)
theorem val3_main_v4_1 (V0 : Valuation τ sig (Elt F)) : val3 V0 (no_index (Proc.devRef .tc main_v4_1)) = V0 (Proc.devRef .tc main_v4_1) :=
  (val3_keep V0 main_v4_1 (by decide)).trans (val2_main_v4_1 V0)
theorem val3_main_v4_2 (V0 : Valuation τ sig (Elt F)) : val3 V0 (no_index (Proc.devRef .tc main_v4_2)) = V0 (Proc.devRef .tc main_v4_2) :=
  (val3_keep V0 main_v4_2 (by decide)).trans (val2_main_v4_2 V0)
theorem val3_main_while0b_v9 (V0 : Valuation τ sig (Elt F)) : val3 V0 (no_index (Proc.devRef .tc main_while0b_v9)) = addi (V0 (Proc.devRef .tc main_v4_3)) (constantI S_ 32 1#32) :=
  (val3_keep V0 main_while0b_v9 (by decide)).trans (val2_main_while0b_v9 V0)
set_option maxRecDepth 8192 in
set_option maxHeartbeats 900000 in
theorem val3_main_while0b_v16 (V0 : Valuation τ sig (Elt F)) : val3 V0 (no_index (Proc.devRef .tc main_while0b_v16)) = Host.scatter scatter_S4x1024_S1_S4_0_1_1_0 (fun _ b => b) (V0 (Proc.devRef .tc main_v4_5)) (broadcastInDim S1 ![] bcast_S_S1 (id (select (cmpi .slt (V0 (Proc.devRef .tc main_v4_3)) (constantI S_ 32 0#32)) (addi (V0 (Proc.devRef .tc main_v4_3)) (constantI S_ 32 1024#32)) (V0 (Proc.devRef .tc main_v4_3))))) (res_main_while0b_v10 V0) := by
  unfold val3
  simp only [trip_w2]
  after_results_entrywise [val2_main_while0b_v10, val2_main_v4_3, val2_main_v4_5, cast_eq]
set_option maxRecDepth 8192 in
set_option maxHeartbeats 900000 in
theorem val3_main_while0b_v17 (V0 : Valuation τ sig (Elt F)) : val3 V0 (no_index (Proc.devRef .tc main_while0b_v17)) = res_main_while0b_v17 V0 := by
  unfold val3
  simp only [trip_w2]
  after_results_entrywise [val2_main_while0b_v10, res_main_while0b_v17, cast_eq]

/-- The device's buffer contents after the body's first 4 windows. -/
def val4 (V0 : Valuation τ sig (Elt F)) : Valuation τ sig (Elt F) := after trip_w3 (val3 V0)
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v4_3 (V0 : Valuation τ sig (Elt F)) : val4 V0 (no_index (Proc.devRef .tc main_v4_3)) = V0 (Proc.devRef .tc main_v4_3) :=
  (val4_keep V0 main_v4_3 (by decide)).trans (val3_main_v4_3 V0)
theorem val4_main_v4_4 (V0 : Valuation τ sig (Elt F)) : val4 V0 (no_index (Proc.devRef .tc main_v4_4)) = V0 (Proc.devRef .tc main_v4_4) :=
  (val4_keep V0 main_v4_4 (by decide)).trans (val3_main_v4_4 V0)
theorem val4_main_v4_5 (V0 : Valuation τ sig (Elt F)) : val4 V0 (no_index (Proc.devRef .tc main_v4_5)) = V0 (Proc.devRef .tc main_v4_5) :=
  (val4_keep V0 main_v4_5 (by decide)).trans (val3_main_v4_5 V0)
theorem val4_main_v4_0 (V0 : Valuation τ sig (Elt F)) : val4 V0 (no_index (Proc.devRef .tc main_v4_0)) = V0 (Proc.devRef .tc main_v4_0) :=
  (val4_keep V0 main_v4_0 (by decide)).trans (val3_main_v4_0 V0)
theorem val4_main_v4_1 (V0 : Valuation τ sig (Elt F)) : val4 V0 (no_index (Proc.devRef .tc main_v4_1)) = V0 (Proc.devRef .tc main_v4_1) :=
  (val4_keep V0 main_v4_1 (by decide)).trans (val3_main_v4_1 V0)
theorem val4_main_v4_2 (V0 : Valuation τ sig (Elt F)) : val4 V0 (no_index (Proc.devRef .tc main_v4_2)) = V0 (Proc.devRef .tc main_v4_2) :=
  (val4_keep V0 main_v4_2 (by decide)).trans (val3_main_v4_2 V0)
theorem val4_main_while0b_v9 (V0 : Valuation τ sig (Elt F)) : val4 V0 (no_index (Proc.devRef .tc main_while0b_v9)) = addi (V0 (Proc.devRef .tc main_v4_3)) (constantI S_ 32 1#32) :=
  (val4_keep V0 main_while0b_v9 (by decide)).trans (val3_main_while0b_v9 V0)
theorem val4_main_while0b_v16 (V0 : Valuation τ sig (Elt F)) : val4 V0 (no_index (Proc.devRef .tc main_while0b_v16)) = Host.scatter scatter_S4x1024_S1_S4_0_1_1_0 (fun _ b => b) (V0 (Proc.devRef .tc main_v4_5)) (broadcastInDim S1 ![] bcast_S_S1 (id (select (cmpi .slt (V0 (Proc.devRef .tc main_v4_3)) (constantI S_ 32 0#32)) (addi (V0 (Proc.devRef .tc main_v4_3)) (constantI S_ 32 1024#32)) (V0 (Proc.devRef .tc main_v4_3))))) (res_main_while0b_v10 V0) :=
  (val4_keep V0 main_while0b_v16 (by decide)).trans (val3_main_while0b_v16 V0)
set_option maxRecDepth 8192 in
set_option maxHeartbeats 2000000 in
theorem val4_main_while0b_v18 (V0 : Valuation τ sig (Elt F)) : val4 V0 (no_index (Proc.devRef .tc main_while0b_v18)) = select (broadcastInDim S4x1x2 ![0, 1] bcast_S4x1_S4x1x2_0_1 (Host.reduce IntOp.andi (andi (cmpi .sge (res_main_while0b_call2_v4 V0) (broadcastInDim S4x1x1 ![] bcast_S_S4x1x1 (constantI S_ 32 0#32))) (cmpi .sle (res_main_while0b_call2_v4 V0) (broadcastInDim S4x1x1 ![0, 1, 2] bcast_S1x1x1_S4x1x1_0_1_2 (broadcastInDim S1x1x1 ![2] bcast_S1_S1x1x1_2 (constantI S1 32 8191#32))))) (constantI S_ 1 1#1) reducesTo_S4x1x1_S4x1_d2 h_S_)) (Host.gather gather_S4x8192x2_S4x1x1_S4x1x2_2_1_0_0_1_2_112 (V0 (Proc.devRef .tc main_v4_0)) (res_main_while0b_call2_v4 V0)) (broadcastInDim S4x1x2 ![] bcast_S_S4x1x2 (constant S_ .f32 0x7FC00000#32)) := by
  unfold val4
  simp only [trip_w3]
  after_results_entrywise [val3_main_while0b_v17, val3_main_v4_0, res_main_while0b_call2_v4, cast_eq]

/-- The device's buffer contents after the body's first 5 windows. -/
def val5 (V0 : Valuation τ sig (Elt F)) : Valuation τ sig (Elt F) := after trip_w4 (val4 V0)
/-- A buffer that window `trip_w4` does not write keeps its contents through it. -/
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_main_v4_3 (V0 : Valuation τ sig (Elt F)) : val5 V0 (no_index (Proc.devRef .tc main_v4_3)) = V0 (Proc.devRef .tc main_v4_3) :=
  (val5_keep V0 main_v4_3 (by decide)).trans (val4_main_v4_3 V0)
theorem val5_main_v4_4 (V0 : Valuation τ sig (Elt F)) : val5 V0 (no_index (Proc.devRef .tc main_v4_4)) = V0 (Proc.devRef .tc main_v4_4) :=
  (val5_keep V0 main_v4_4 (by decide)).trans (val4_main_v4_4 V0)
theorem val5_main_v4_5 (V0 : Valuation τ sig (Elt F)) : val5 V0 (no_index (Proc.devRef .tc main_v4_5)) = V0 (Proc.devRef .tc main_v4_5) :=
  (val5_keep V0 main_v4_5 (by decide)).trans (val4_main_v4_5 V0)
theorem val5_main_v4_0 (V0 : Valuation τ sig (Elt F)) : val5 V0 (no_index (Proc.devRef .tc main_v4_0)) = V0 (Proc.devRef .tc main_v4_0) :=
  (val5_keep V0 main_v4_0 (by decide)).trans (val4_main_v4_0 V0)
theorem val5_main_v4_1 (V0 : Valuation τ sig (Elt F)) : val5 V0 (no_index (Proc.devRef .tc main_v4_1)) = V0 (Proc.devRef .tc main_v4_1) :=
  (val5_keep V0 main_v4_1 (by decide)).trans (val4_main_v4_1 V0)
theorem val5_main_v4_2 (V0 : Valuation τ sig (Elt F)) : val5 V0 (no_index (Proc.devRef .tc main_v4_2)) = V0 (Proc.devRef .tc main_v4_2) :=
  (val5_keep V0 main_v4_2 (by decide)).trans (val4_main_v4_2 V0)
theorem val5_main_while0b_v9 (V0 : Valuation τ sig (Elt F)) : val5 V0 (no_index (Proc.devRef .tc main_while0b_v9)) = addi (V0 (Proc.devRef .tc main_v4_3)) (constantI S_ 32 1#32) :=
  (val5_keep V0 main_while0b_v9 (by decide)).trans (val4_main_while0b_v9 V0)
theorem val5_main_while0b_v16 (V0 : Valuation τ sig (Elt F)) : val5 V0 (no_index (Proc.devRef .tc main_while0b_v16)) = Host.scatter scatter_S4x1024_S1_S4_0_1_1_0 (fun _ b => b) (V0 (Proc.devRef .tc main_v4_5)) (broadcastInDim S1 ![] bcast_S_S1 (id (select (cmpi .slt (V0 (Proc.devRef .tc main_v4_3)) (constantI S_ 32 0#32)) (addi (V0 (Proc.devRef .tc main_v4_3)) (constantI S_ 32 1024#32)) (V0 (Proc.devRef .tc main_v4_3))))) (res_main_while0b_v10 V0) :=
  (val5_keep V0 main_while0b_v16 (by decide)).trans (val4_main_while0b_v16 V0)
set_option maxRecDepth 8192 in
theorem val5_main_while0b_v22 (V0 : Valuation τ sig (Elt F)) : val5 V0 (no_index (Proc.devRef .tc main_while0b_v22)) = Host.reduceAdd (mulf (res_main_while0b_v20 V0) (res_main_while0b_v20 V0)) (constant S_ .f32 0x00000000#32) reducesTo_S4x8192x2_S4x8192_d2 h_S_ := by
  unfold val5
  simp only [trip_w4]
  after_results_entrywise [val4_main_while0b_v18, val4_main_v4_0, res_main_while0b_v20, cast_eq]
set_option maxRecDepth 8192 in
theorem val5_main_while0b_cst_13 (V0 : Valuation τ sig (Elt F)) : val5 V0 (no_index (Proc.devRef .tc main_while0b_cst_13)) = constant S_ .f32 0xFF800000#32 := by
  unfold val5
  simp only [trip_w4]
  after_results_entrywise [cast_eq]

/-- The device's buffer contents after the body's first 6 windows. -/
def val6 (V0 : Valuation τ sig (Elt F)) : Valuation τ sig (Elt F) := after trip_w5 (val5 V0)
/-- A buffer that window `trip_w5` does not write keeps its contents through it. -/
theorem val6_keep (V0 : Valuation τ sig (Elt F)) (r : Ref sig .tc) (h : r ∉ trip_w5_W) :
    val6 V0 (Proc.devRef .tc r) = val5 V0 (Proc.devRef .tc r) :=
  after_of_writes_sub trip_w5 _ trip_w5_writes h
theorem val6_main_v4_3 (V0 : Valuation τ sig (Elt F)) : val6 V0 (no_index (Proc.devRef .tc main_v4_3)) = V0 (Proc.devRef .tc main_v4_3) :=
  (val6_keep V0 main_v4_3 (by decide)).trans (val5_main_v4_3 V0)
theorem val6_main_v4_4 (V0 : Valuation τ sig (Elt F)) : val6 V0 (no_index (Proc.devRef .tc main_v4_4)) = V0 (Proc.devRef .tc main_v4_4) :=
  (val6_keep V0 main_v4_4 (by decide)).trans (val5_main_v4_4 V0)
theorem val6_main_v4_5 (V0 : Valuation τ sig (Elt F)) : val6 V0 (no_index (Proc.devRef .tc main_v4_5)) = V0 (Proc.devRef .tc main_v4_5) :=
  (val6_keep V0 main_v4_5 (by decide)).trans (val5_main_v4_5 V0)
theorem val6_main_v4_0 (V0 : Valuation τ sig (Elt F)) : val6 V0 (no_index (Proc.devRef .tc main_v4_0)) = V0 (Proc.devRef .tc main_v4_0) :=
  (val6_keep V0 main_v4_0 (by decide)).trans (val5_main_v4_0 V0)
theorem val6_main_v4_1 (V0 : Valuation τ sig (Elt F)) : val6 V0 (no_index (Proc.devRef .tc main_v4_1)) = V0 (Proc.devRef .tc main_v4_1) :=
  (val6_keep V0 main_v4_1 (by decide)).trans (val5_main_v4_1 V0)
theorem val6_main_v4_2 (V0 : Valuation τ sig (Elt F)) : val6 V0 (no_index (Proc.devRef .tc main_v4_2)) = V0 (Proc.devRef .tc main_v4_2) :=
  (val6_keep V0 main_v4_2 (by decide)).trans (val5_main_v4_2 V0)
theorem val6_main_while0b_v9 (V0 : Valuation τ sig (Elt F)) : val6 V0 (no_index (Proc.devRef .tc main_while0b_v9)) = addi (V0 (Proc.devRef .tc main_v4_3)) (constantI S_ 32 1#32) :=
  (val6_keep V0 main_while0b_v9 (by decide)).trans (val5_main_while0b_v9 V0)
theorem val6_main_while0b_v16 (V0 : Valuation τ sig (Elt F)) : val6 V0 (no_index (Proc.devRef .tc main_while0b_v16)) = Host.scatter scatter_S4x1024_S1_S4_0_1_1_0 (fun _ b => b) (V0 (Proc.devRef .tc main_v4_5)) (broadcastInDim S1 ![] bcast_S_S1 (id (select (cmpi .slt (V0 (Proc.devRef .tc main_v4_3)) (constantI S_ 32 0#32)) (addi (V0 (Proc.devRef .tc main_v4_3)) (constantI S_ 32 1024#32)) (V0 (Proc.devRef .tc main_v4_3))))) (res_main_while0b_v10 V0) :=
  (val6_keep V0 main_while0b_v16 (by decide)).trans (val5_main_while0b_v16 V0)
set_option maxRecDepth 8192 in
theorem val6_main_while0b_v23 (V0 : Valuation τ sig (Elt F)) : val6 V0 (no_index (Proc.devRef .tc main_while0b_v23)) = select (V0 (Proc.devRef .tc main_v4_1)) (Host.reduceAdd (mulf (res_main_while0b_v20 V0) (res_main_while0b_v20 V0)) (constant S_ .f32 0x00000000#32) reducesTo_S4x8192x2_S4x8192_d2 h_S_) (broadcastInDim S4x8192 ![] bcast_S_S4x8192 (id (constant S_ .f32 0xFF800000#32))) := by
  unfold val6
  simp only [trip_w5]
  after_results_entrywise [val5_main_while0b_cst_13, val5_main_while0b_v22, val5_main_v4_1, cast_eq]

/-- The device's buffer contents after the body's first 7 windows. -/
def val7 (V0 : Valuation τ sig (Elt F)) : Valuation τ sig (Elt F) := after trip_w6 (val6 V0)
/-- A buffer that window `trip_w6` does not write keeps its contents through it. -/
theorem val7_keep (V0 : Valuation τ sig (Elt F)) (r : Ref sig .tc) (h : r ∉ trip_w6_W) :
    val7 V0 (Proc.devRef .tc r) = val6 V0 (Proc.devRef .tc r) :=
  after_of_writes_sub trip_w6 _ trip_w6_writes h
theorem val7_main_v4_3 (V0 : Valuation τ sig (Elt F)) : val7 V0 (no_index (Proc.devRef .tc main_v4_3)) = V0 (Proc.devRef .tc main_v4_3) :=
  (val7_keep V0 main_v4_3 (by decide)).trans (val6_main_v4_3 V0)
theorem val7_main_v4_4 (V0 : Valuation τ sig (Elt F)) : val7 V0 (no_index (Proc.devRef .tc main_v4_4)) = V0 (Proc.devRef .tc main_v4_4) :=
  (val7_keep V0 main_v4_4 (by decide)).trans (val6_main_v4_4 V0)
theorem val7_main_v4_5 (V0 : Valuation τ sig (Elt F)) : val7 V0 (no_index (Proc.devRef .tc main_v4_5)) = V0 (Proc.devRef .tc main_v4_5) :=
  (val7_keep V0 main_v4_5 (by decide)).trans (val6_main_v4_5 V0)
theorem val7_main_v4_0 (V0 : Valuation τ sig (Elt F)) : val7 V0 (no_index (Proc.devRef .tc main_v4_0)) = V0 (Proc.devRef .tc main_v4_0) :=
  (val7_keep V0 main_v4_0 (by decide)).trans (val6_main_v4_0 V0)
theorem val7_main_v4_1 (V0 : Valuation τ sig (Elt F)) : val7 V0 (no_index (Proc.devRef .tc main_v4_1)) = V0 (Proc.devRef .tc main_v4_1) :=
  (val7_keep V0 main_v4_1 (by decide)).trans (val6_main_v4_1 V0)
theorem val7_main_v4_2 (V0 : Valuation τ sig (Elt F)) : val7 V0 (no_index (Proc.devRef .tc main_v4_2)) = V0 (Proc.devRef .tc main_v4_2) :=
  (val7_keep V0 main_v4_2 (by decide)).trans (val6_main_v4_2 V0)
theorem val7_main_while0b_v9 (V0 : Valuation τ sig (Elt F)) : val7 V0 (no_index (Proc.devRef .tc main_while0b_v9)) = addi (V0 (Proc.devRef .tc main_v4_3)) (constantI S_ 32 1#32) :=
  (val7_keep V0 main_while0b_v9 (by decide)).trans (val6_main_while0b_v9 V0)
theorem val7_main_while0b_v16 (V0 : Valuation τ sig (Elt F)) : val7 V0 (no_index (Proc.devRef .tc main_while0b_v16)) = Host.scatter scatter_S4x1024_S1_S4_0_1_1_0 (fun _ b => b) (V0 (Proc.devRef .tc main_v4_5)) (broadcastInDim S1 ![] bcast_S_S1 (id (select (cmpi .slt (V0 (Proc.devRef .tc main_v4_3)) (constantI S_ 32 0#32)) (addi (V0 (Proc.devRef .tc main_v4_3)) (constantI S_ 32 1024#32)) (V0 (Proc.devRef .tc main_v4_3))))) (res_main_while0b_v10 V0) :=
  (val7_keep V0 main_while0b_v16 (by decide)).trans (val6_main_while0b_v16 V0)
set_option maxRecDepth 8192 in
theorem val7_main_while0b_v25 (V0 : Valuation τ sig (Elt F)) : val7 V0 (no_index (Proc.devRef .tc main_while0b_v25)) = minimumf (id (V0 (Proc.devRef .tc main_v4_4))) (select (V0 (Proc.devRef .tc main_v4_1)) (Host.reduceAdd (mulf (res_main_while0b_v20 V0) (res_main_while0b_v20 V0)) (constant S_ .f32 0x00000000#32) reducesTo_S4x8192x2_S4x8192_d2 h_S_) (broadcastInDim S4x8192 ![] bcast_S_S4x8192 (id (constant S_ .f32 0xFF800000#32)))) := by
  unfold val7
  simp only [trip_w6]
  after_results_entrywise [val6_main_while0b_v23, val6_main_v4_4, cast_eq]

set_option maxRecDepth 8192 in
/-- The body's stretches, from any contents: the trip's windows in order, then `while0Ops0_6`'s step. -/
theorem trip_windows (V0 : Valuation τ sig (Elt F)) : after while0Ops0_6 (after while0Ops0_5 (after while0Ops0_4 (after while0Ops0_3 (after while0Ops0_2 (after while0Ops0_1 (after while0Ops0 (V0))))))) = after while0Ops0_6_step (val7 V0) := by
  simp only [while0Ops0_cut, while0Ops0_1_cut, while0Ops0_2_cut, while0Ops0_3_cut, while0Ops0_4_cut, while0Ops0_5_cut, while0Ops0_6_cut, after_append]
  rfl

set_option maxRecDepth 8192 in
set_option maxHeartbeats 2000000 in
/-- `main_v4_0` after one trip's body, from any contents. -/
theorem trip_main_v4_0 (V0 : Valuation τ sig (Elt F)) : afterL bodyI V0 (no_index (Proc.devRef .tc main_v4_0)) = V0 (Proc.devRef .tc main_v4_0) := by
  simp only [bodyI, afterL_cons, afterL_nil, trip_windows]
  after_results
  all_goals (try simp only [val7_main_while0b_v9, val7_main_while0b_v25, val7_main_while0b_v16, val7_main_v4_0, val7_main_v4_1, val7_main_v4_2, val7_main_v4_3, val7_main_v4_4, val7_main_v4_5]) <;> rfl
set_option maxRecDepth 8192 in
set_option maxHeartbeats 2000000 in
/-- `main_v4_1` after one trip's body, from any contents. -/
theorem trip_main_v4_1 (V0 : Valuation τ sig (Elt F)) : afterL bodyI V0 (no_index (Proc.devRef .tc main_v4_1)) = V0 (Proc.devRef .tc main_v4_1) := by
  simp only [bodyI, afterL_cons, afterL_nil, trip_windows]
  after_results
  all_goals (try simp only [val7_main_while0b_v9, val7_main_while0b_v25, val7_main_while0b_v16, val7_main_v4_0, val7_main_v4_1, val7_main_v4_2, val7_main_v4_3, val7_main_v4_4, val7_main_v4_5]) <;> rfl
set_option maxRecDepth 8192 in
set_option maxHeartbeats 2000000 in
/-- `main_v4_2` after one trip's body, from any contents. -/
theorem trip_main_v4_2 (V0 : Valuation τ sig (Elt F)) : afterL bodyI V0 (no_index (Proc.devRef .tc main_v4_2)) = id (addi (V0 (Proc.devRef .tc main_v4_2)) (constantI S_ 32 1#32)) := by
  simp only [bodyI, afterL_cons, afterL_nil, trip_windows]
  after_results
  all_goals (try simp only [val7_main_while0b_v9, val7_main_while0b_v25, val7_main_while0b_v16, val7_main_v4_0, val7_main_v4_1, val7_main_v4_2, val7_main_v4_3, val7_main_v4_4, val7_main_v4_5]) <;> rfl
set_option maxRecDepth 8192 in
set_option maxHeartbeats 2000000 in
/-- `main_v4_3` after one trip's body, from any contents. -/
theorem trip_main_v4_3 (V0 : Valuation τ sig (Elt F)) : afterL bodyI V0 (no_index (Proc.devRef .tc main_v4_3)) = id (addi (V0 (Proc.devRef .tc main_v4_3)) (constantI S_ 32 1#32)) := by
  simp only [bodyI, afterL_cons, afterL_nil, trip_windows]
  after_results
  all_goals (try simp only [val7_main_while0b_v9, val7_main_while0b_v25, val7_main_while0b_v16, val7_main_v4_0, val7_main_v4_1, val7_main_v4_2, val7_main_v4_3, val7_main_v4_4, val7_main_v4_5]) <;> rfl
set_option maxRecDepth 8192 in
set_option maxHeartbeats 2000000 in
/-- `main_v4_4` after one trip's body, from any contents. -/
theorem trip_main_v4_4 (V0 : Valuation τ sig (Elt F)) : afterL bodyI V0 (no_index (Proc.devRef .tc main_v4_4)) = id (minimumf (id (V0 (Proc.devRef .tc main_v4_4))) (select (V0 (Proc.devRef .tc main_v4_1)) (Host.reduceAdd (mulf (res_main_while0b_v20 V0) (res_main_while0b_v20 V0)) (constant S_ .f32 0x00000000#32) reducesTo_S4x8192x2_S4x8192_d2 h_S_) (broadcastInDim S4x8192 ![] bcast_S_S4x8192 (id (constant S_ .f32 0xFF800000#32))))) := by
  simp only [bodyI, afterL_cons, afterL_nil, trip_windows]
  after_results
  all_goals (try simp only [val7_main_while0b_v9, val7_main_while0b_v25, val7_main_while0b_v16, val7_main_v4_0, val7_main_v4_1, val7_main_v4_2, val7_main_v4_3, val7_main_v4_4, val7_main_v4_5]) <;> rfl
set_option maxRecDepth 8192 in
set_option maxHeartbeats 2000000 in
/-- `main_v4_5` after one trip's body, from any contents. -/
theorem trip_main_v4_5 (V0 : Valuation τ sig (Elt F)) : afterL bodyI V0 (no_index (Proc.devRef .tc main_v4_5)) = id (Host.scatter scatter_S4x1024_S1_S4_0_1_1_0 (fun _ b => b) (V0 (Proc.devRef .tc main_v4_5)) (broadcastInDim S1 ![] bcast_S_S1 (id (select (cmpi .slt (V0 (Proc.devRef .tc main_v4_3)) (constantI S_ 32 0#32)) (addi (V0 (Proc.devRef .tc main_v4_3)) (constantI S_ 32 1024#32)) (V0 (Proc.devRef .tc main_v4_3))))) (res_main_while0b_v10 V0)) := by
  simp only [bodyI, afterL_cons, afterL_nil, trip_windows]
  after_results
  all_goals (try simp only [val7_main_while0b_v9, val7_main_while0b_v25, val7_main_while0b_v16, val7_main_v4_0, val7_main_v4_1, val7_main_v4_2, val7_main_v4_3, val7_main_v4_4, val7_main_v4_5]) <;> rfl

/-- The loop's carried buffers. -/
abbrev carriedRefs : List (Ref sig .tc) := [main_v4_0, main_v4_1, main_v4_2, main_v4_3, main_v4_4, main_v4_5]
/-- Two contents agree on the carried buffers: all that one trip reads. -/
def Agree (V V' : Valuation τ sig (Elt F)) : Prop := ∀ j ∈ carriedRefs, V (Proc.devRef .tc j) = V' (Proc.devRef .tc j)

set_option maxRecDepth 8192 in
theorem res_main_while0b_call1_v0_congr {V0 V0' : Valuation τ sig (Elt F)} (h : Agree V0 V0') : res_main_while0b_call1_v0 V0 = res_main_while0b_call1_v0 V0' := by
  unfold res_main_while0b_call1_v0
  rfl
set_option maxRecDepth 8192 in
theorem res_main_while0b_call1_cst_congr {V0 V0' : Valuation τ sig (Elt F)} (h : Agree V0 V0') : res_main_while0b_call1_cst V0 = res_main_while0b_call1_cst V0' := by
  unfold res_main_while0b_call1_cst
  rfl
set_option maxRecDepth 8192 in
theorem res_main_while0b_call1_c_congr {V0 V0' : Valuation τ sig (Elt F)} (h : Agree V0 V0') : res_main_while0b_call1_c V0 = res_main_while0b_call1_c V0' := by
  unfold res_main_while0b_call1_c
  rfl
set_option maxRecDepth 8192 in
theorem res_main_while0b_v10_congr {V0 V0' : Valuation τ sig (Elt F)} (h : Agree V0 V0') : res_main_while0b_v10 V0 = res_main_while0b_v10 V0' := by
  unfold res_main_while0b_v10
  rw [res_main_while0b_call1_v0_congr h, res_main_while0b_call1_cst_congr h, res_main_while0b_call1_c_congr h, h main_v4_4 (by decide)]
set_option maxRecDepth 8192 in
theorem res_main_while0b_v17_congr {V0 V0' : Valuation τ sig (Elt F)} (h : Agree V0 V0') : res_main_while0b_v17 V0 = res_main_while0b_v17 V0' := by
  unfold res_main_while0b_v17
  rw [res_main_while0b_v10_congr h]
set_option maxRecDepth 8192 in
theorem res_main_while0b_call2_v4_congr {V0 V0' : Valuation τ sig (Elt F)} (h : Agree V0 V0') : res_main_while0b_call2_v4 V0 = res_main_while0b_call2_v4 V0' := by
  unfold res_main_while0b_call2_v4
  rw [res_main_while0b_v17_congr h]
set_option maxRecDepth 8192 in
theorem res_main_while0b_v20_congr {V0 V0' : Valuation τ sig (Elt F)} (h : Agree V0 V0') : res_main_while0b_v20 V0 = res_main_while0b_v20 V0' := by
  unfold res_main_while0b_v20
  rw [res_main_while0b_call2_v4_congr h, h main_v4_0 (by decide)]

set_option maxRecDepth 8192 in
/-- `main_v4_2` after one trip, of the contents before it. -/
def step_main_v4_2 (V0 : Valuation τ sig (Elt F)) : (Proc.devRef .tc main_v4_2 : DevRef τ sig).ty.Contents (Elt F) :=
  id (addi (V0 (Proc.devRef .tc main_v4_2)) (constantI S_ 32 1#32))
set_option maxRecDepth 8192 in
theorem step_main_v4_2_congr {V0 V0' : Valuation τ sig (Elt F)} (h : Agree V0 V0') : step_main_v4_2 V0 = step_main_v4_2 V0' := by
  unfold step_main_v4_2
  rw [h main_v4_2 (by decide)]
set_option maxRecDepth 8192 in
/-- `main_v4_3` after one trip, of the contents before it. -/
def step_main_v4_3 (V0 : Valuation τ sig (Elt F)) : (Proc.devRef .tc main_v4_3 : DevRef τ sig).ty.Contents (Elt F) :=
  id (addi (V0 (Proc.devRef .tc main_v4_3)) (constantI S_ 32 1#32))
set_option maxRecDepth 8192 in
theorem step_main_v4_3_congr {V0 V0' : Valuation τ sig (Elt F)} (h : Agree V0 V0') : step_main_v4_3 V0 = step_main_v4_3 V0' := by
  unfold step_main_v4_3
  rw [h main_v4_3 (by decide)]
set_option maxRecDepth 8192 in
/-- `main_v4_4` after one trip, of the contents before it. -/
def step_main_v4_4 (V0 : Valuation τ sig (Elt F)) : (Proc.devRef .tc main_v4_4 : DevRef τ sig).ty.Contents (Elt F) :=
  id (minimumf (id (V0 (Proc.devRef .tc main_v4_4))) (select (V0 (Proc.devRef .tc main_v4_1)) (Host.reduceAdd (mulf (res_main_while0b_v20 V0) (res_main_while0b_v20 V0)) (constant S_ .f32 0x00000000#32) reducesTo_S4x8192x2_S4x8192_d2 h_S_) (broadcastInDim S4x8192 ![] bcast_S_S4x8192 (id (constant S_ .f32 0xFF800000#32)))))
set_option maxRecDepth 8192 in
theorem step_main_v4_4_congr {V0 V0' : Valuation τ sig (Elt F)} (h : Agree V0 V0') : step_main_v4_4 V0 = step_main_v4_4 V0' := by
  unfold step_main_v4_4
  rw [res_main_while0b_v20_congr h, h main_v4_4 (by decide), h main_v4_1 (by decide)]
set_option maxRecDepth 8192 in
/-- `main_v4_5` after one trip, of the contents before it. -/
def step_main_v4_5 (V0 : Valuation τ sig (Elt F)) : (Proc.devRef .tc main_v4_5 : DevRef τ sig).ty.Contents (Elt F) :=
  id (Host.scatter scatter_S4x1024_S1_S4_0_1_1_0 (fun _ b => b) (V0 (Proc.devRef .tc main_v4_5)) (broadcastInDim S1 ![] bcast_S_S1 (id (select (cmpi .slt (V0 (Proc.devRef .tc main_v4_3)) (constantI S_ 32 0#32)) (addi (V0 (Proc.devRef .tc main_v4_3)) (constantI S_ 32 1024#32)) (V0 (Proc.devRef .tc main_v4_3))))) (res_main_while0b_v10 V0))
set_option maxRecDepth 8192 in
theorem step_main_v4_5_congr {V0 V0' : Valuation τ sig (Elt F)} (h : Agree V0 V0') : step_main_v4_5 V0 = step_main_v4_5 V0' := by
  unfold step_main_v4_5
  rw [res_main_while0b_v10_congr h, h main_v4_5 (by decide), h main_v4_3 (by decide)]

/-- One trip on the carried buffers: the buffers the body writes step, everything else is as it was. -/
def STEP (V0 : Valuation τ sig (Elt F)) : Valuation τ sig (Elt F) :=
  Function.update (Function.update (Function.update (Function.update (V0) (Proc.devRef .tc main_v4_2) (step_main_v4_2 V0)) (Proc.devRef .tc main_v4_3) (step_main_v4_3 V0)) (Proc.devRef .tc main_v4_4) (step_main_v4_4 V0)) (Proc.devRef .tc main_v4_5) (step_main_v4_5 V0)

theorem STEP_main_v4_0 (V0 : Valuation τ sig (Elt F)) : STEP V0 (Proc.devRef .tc main_v4_0) = V0 (Proc.devRef .tc main_v4_0) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v4_1 (V0 : Valuation τ sig (Elt F)) : STEP V0 (Proc.devRef .tc main_v4_1) = V0 (Proc.devRef .tc main_v4_1) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v4_2 (V0 : Valuation τ sig (Elt F)) : STEP V0 (Proc.devRef .tc main_v4_2) = step_main_v4_2 V0 := by
  unfold STEP; rw [Function.update_of_ne (devRef_ne_of_ne (by decide))]; rw [Function.update_of_ne (devRef_ne_of_ne (by decide))]; rw [Function.update_of_ne (devRef_ne_of_ne (by decide))]; rw [Function.update_self]
theorem STEP_main_v4_3 (V0 : Valuation τ sig (Elt F)) : STEP V0 (Proc.devRef .tc main_v4_3) = step_main_v4_3 V0 := by
  unfold STEP; rw [Function.update_of_ne (devRef_ne_of_ne (by decide))]; rw [Function.update_of_ne (devRef_ne_of_ne (by decide))]; rw [Function.update_self]
theorem STEP_main_v4_4 (V0 : Valuation τ sig (Elt F)) : STEP V0 (Proc.devRef .tc main_v4_4) = step_main_v4_4 V0 := by
  unfold STEP; rw [Function.update_of_ne (devRef_ne_of_ne (by decide))]; rw [Function.update_self]
theorem STEP_main_v4_5 (V0 : Valuation τ sig (Elt F)) : STEP V0 (Proc.devRef .tc main_v4_5) = step_main_v4_5 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v4_0 (after condOps X)).trans ((hc main_v4_0 (by decide)).trans (STEP_main_v4_0 X).symm)
  · exact (trip_main_v4_1 (after condOps X)).trans ((hc main_v4_1 (by decide)).trans (STEP_main_v4_1 X).symm)
  · exact (trip_main_v4_2 (after condOps X)).trans ((step_main_v4_2_congr hc).trans (STEP_main_v4_2 X).symm)
  · exact (trip_main_v4_3 (after condOps X)).trans ((step_main_v4_3_congr hc).trans (STEP_main_v4_3 X).symm)
  · exact (trip_main_v4_4 (after condOps X)).trans ((step_main_v4_4_congr hc).trans (STEP_main_v4_4 X).symm)
  · exact (trip_main_v4_5 (after condOps X)).trans ((step_main_v4_5_congr hc).trans (STEP_main_v4_5 X).symm)

set_option maxRecDepth 8192 in
/-- `STEP` reads the carried buffers only. -/
theorem STEP_congr {V V' : Valuation τ sig (Elt F)} (h : Agree V V') : Agree (STEP V) (STEP V') := by
  intro j hj
  fin_cases hj
  · rw [STEP_main_v4_0, STEP_main_v4_0]; exact h main_v4_0 (by decide)
  · rw [STEP_main_v4_1, STEP_main_v4_1]; exact h main_v4_1 (by decide)
  · rw [STEP_main_v4_2, STEP_main_v4_2]; exact step_main_v4_2_congr h
  · rw [STEP_main_v4_3, STEP_main_v4_3]; exact step_main_v4_3_congr h
  · rw [STEP_main_v4_4, STEP_main_v4_4]; exact step_main_v4_4_congr h
  · rw [STEP_main_v4_5, STEP_main_v4_5]; exact step_main_v4_5_congr h

/-- Before the `k`-th condition the carried buffers are `STEP` iterated `k` times on the loop's entry. -/
theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

theorem keep_main_arg0_hostOps0 (V : Valuation τ sig (Elt F)) : after hostOps0 V (Proc.devRef .tc main_arg0) = V (Proc.devRef .tc main_arg0) :=
  after_of_writes_sub hostOps0 V hostOps0_writes (by decide +kernel)
theorem keep_main_arg0_hostOps0_1 (V : Valuation τ sig (Elt F)) : after hostOps0_1 V (Proc.devRef .tc main_arg0) = V (Proc.devRef .tc main_arg0) :=
  after_of_writes_sub hostOps0_1 V hostOps0_1_writes (by decide +kernel)
theorem keep_main_arg0_hostOps0_2 (V : Valuation τ sig (Elt F)) : after hostOps0_2 V (Proc.devRef .tc main_arg0) = V (Proc.devRef .tc main_arg0) :=
  after_of_writes_sub hostOps0_2 V hostOps0_2_writes (by decide +kernel)
theorem keep_main_arg0_condOps (V : Valuation τ sig (Elt F)) : after condOps V (Proc.devRef .tc main_arg0) = V (Proc.devRef .tc main_arg0) :=
  after_of_writes_sub condOps V condOps_writes (by decide +kernel)
theorem keep_main_arg0_while0Ops0 (V : Valuation τ sig (Elt F)) : after while0Ops0 V (Proc.devRef .tc main_arg0) = V (Proc.devRef .tc main_arg0) :=
  after_of_writes_sub while0Ops0 V while0Ops0_writes (by decide +kernel)
theorem keep_main_arg0_while0Ops0_1 (V : Valuation τ sig (Elt F)) : after while0Ops0_1 V (Proc.devRef .tc main_arg0) = V (Proc.devRef .tc main_arg0) :=
  after_of_writes_sub while0Ops0_1 V while0Ops0_1_writes (by decide +kernel)
theorem keep_main_arg0_while0Ops0_2 (V : Valuation τ sig (Elt F)) : after while0Ops0_2 V (Proc.devRef .tc main_arg0) = V (Proc.devRef .tc main_arg0) :=
  after_of_writes_sub while0Ops0_2 V while0Ops0_2_writes (by decide +kernel)
theorem keep_main_arg0_while0Ops0_3 (V : Valuation τ sig (Elt F)) : after while0Ops0_3 V (Proc.devRef .tc main_arg0) = V (Proc.devRef .tc main_arg0) :=
  after_of_writes_sub while0Ops0_3 V while0Ops0_3_writes (by decide +kernel)
theorem keep_main_arg0_while0Ops0_4 (V : Valuation τ sig (Elt F)) : after while0Ops0_4 V (Proc.devRef .tc main_arg0) = V (Proc.devRef .tc main_arg0) :=
  after_of_writes_sub while0Ops0_4 V while0Ops0_4_writes (by decide +kernel)
theorem keep_main_arg0_while0Ops0_5 (V : Valuation τ sig (Elt F)) : after while0Ops0_5 V (Proc.devRef .tc main_arg0) = V (Proc.devRef .tc main_arg0) :=
  after_of_writes_sub while0Ops0_5 V while0Ops0_5_writes (by decide +kernel)
theorem keep_main_arg0_while0Ops0_6 (V : Valuation τ sig (Elt F)) : after while0Ops0_6 V (Proc.devRef .tc main_arg0) = V (Proc.devRef .tc main_arg0) :=
  after_of_writes_sub while0Ops0_6 V while0Ops0_6_writes (by decide +kernel)
theorem keep_main_arg0_hostOps0_3 (V : Valuation τ sig (Elt F)) : after hostOps0_3 V (Proc.devRef .tc main_arg0) = V (Proc.devRef .tc main_arg0) :=
  after_of_writes_sub hostOps0_3 V hostOps0_3_writes (by decide +kernel)
theorem keep_main_arg0_hostOps0_4 (V : Valuation τ sig (Elt F)) : after hostOps0_4 V (Proc.devRef .tc main_arg0) = V (Proc.devRef .tc main_arg0) :=
  after_of_writes_sub hostOps0_4 V hostOps0_4_writes (by decide +kernel)
theorem keep_main_arg0_hostOps0_5 (V : Valuation τ sig (Elt F)) : after hostOps0_5 V (Proc.devRef .tc main_arg0) = V (Proc.devRef .tc main_arg0) :=
  after_of_writes_sub hostOps0_5 V hostOps0_5_writes (by decide +kernel)
/-- The argument `main_arg0` is written by nothing: it holds its launch contents before every condition. -/
theorem atK_main_arg0 (c : Dev nD) : ∀ k, atK m k c (Proc.devRef .tc main_arg0) = m ((c.tc : Thread nD τ).loc main_arg0)
  | 0 => by
    rw [show atK m 0 c = entryContents preI m c from rfl]
    simp only [entryContents, afterL_cons, afterL_nil]
    rw [keep_main_arg0_hostOps0_2, keep_main_arg0_hostOps0_1, keep_main_arg0_hostOps0]
  | k + 1 => by
    rw [show atK m (k + 1) c = afterL bodyI (after condOps (atK m k c)) from rfl]
    simp only [afterL_cons, afterL_nil]
    rw [keep_main_arg0_while0Ops0_6, keep_main_arg0_while0Ops0_5, keep_main_arg0_while0Ops0_4, keep_main_arg0_while0Ops0_3, keep_main_arg0_while0Ops0_2, keep_main_arg0_while0Ops0_1, keep_main_arg0_while0Ops0, keep_main_arg0_condOps, atK_main_arg0 c k]

theorem keep_main_arg1_hostOps0 (V : Valuation τ sig (Elt F)) : after hostOps0 V (Proc.devRef .tc main_arg1) = V (Proc.devRef .tc main_arg1) :=
  after_of_writes_sub hostOps0 V hostOps0_writes (by decide +kernel)
theorem keep_main_arg1_hostOps0_1 (V : Valuation τ sig (Elt F)) : after hostOps0_1 V (Proc.devRef .tc main_arg1) = V (Proc.devRef .tc main_arg1) :=
  after_of_writes_sub hostOps0_1 V hostOps0_1_writes (by decide +kernel)
theorem keep_main_arg1_hostOps0_2 (V : Valuation τ sig (Elt F)) : after hostOps0_2 V (Proc.devRef .tc main_arg1) = V (Proc.devRef .tc main_arg1) :=
  after_of_writes_sub hostOps0_2 V hostOps0_2_writes (by decide +kernel)
theorem keep_main_arg1_condOps (V : Valuation τ sig (Elt F)) : after condOps V (Proc.devRef .tc main_arg1) = V (Proc.devRef .tc main_arg1) :=
  after_of_writes_sub condOps V condOps_writes (by decide +kernel)
theorem keep_main_arg1_while0Ops0 (V : Valuation τ sig (Elt F)) : after while0Ops0 V (Proc.devRef .tc main_arg1) = V (Proc.devRef .tc main_arg1) :=
  after_of_writes_sub while0Ops0 V while0Ops0_writes (by decide +kernel)
theorem keep_main_arg1_while0Ops0_1 (V : Valuation τ sig (Elt F)) : after while0Ops0_1 V (Proc.devRef .tc main_arg1) = V (Proc.devRef .tc main_arg1) :=
  after_of_writes_sub while0Ops0_1 V while0Ops0_1_writes (by decide +kernel)
theorem keep_main_arg1_while0Ops0_2 (V : Valuation τ sig (Elt F)) : after while0Ops0_2 V (Proc.devRef .tc main_arg1) = V (Proc.devRef .tc main_arg1) :=
  after_of_writes_sub while0Ops0_2 V while0Ops0_2_writes (by decide +kernel)
theorem keep_main_arg1_while0Ops0_3 (V : Valuation τ sig (Elt F)) : after while0Ops0_3 V (Proc.devRef .tc main_arg1) = V (Proc.devRef .tc main_arg1) :=
  after_of_writes_sub while0Ops0_3 V while0Ops0_3_writes (by decide +kernel)
theorem keep_main_arg1_while0Ops0_4 (V : Valuation τ sig (Elt F)) : after while0Ops0_4 V (Proc.devRef .tc main_arg1) = V (Proc.devRef .tc main_arg1) :=
  after_of_writes_sub while0Ops0_4 V while0Ops0_4_writes (by decide +kernel)
theorem keep_main_arg1_while0Ops0_5 (V : Valuation τ sig (Elt F)) : after while0Ops0_5 V (Proc.devRef .tc main_arg1) = V (Proc.devRef .tc main_arg1) :=
  after_of_writes_sub while0Ops0_5 V while0Ops0_5_writes (by decide +kernel)
theorem keep_main_arg1_while0Ops0_6 (V : Valuation τ sig (Elt F)) : after while0Ops0_6 V (Proc.devRef .tc main_arg1) = V (Proc.devRef .tc main_arg1) :=
  after_of_writes_sub while0Ops0_6 V while0Ops0_6_writes (by decide +kernel)
theorem keep_main_arg1_hostOps0_3 (V : Valuation τ sig (Elt F)) : after hostOps0_3 V (Proc.devRef .tc main_arg1) = V (Proc.devRef .tc main_arg1) :=
  after_of_writes_sub hostOps0_3 V hostOps0_3_writes (by decide +kernel)
theorem keep_main_arg1_hostOps0_4 (V : Valuation τ sig (Elt F)) : after hostOps0_4 V (Proc.devRef .tc main_arg1) = V (Proc.devRef .tc main_arg1) :=
  after_of_writes_sub hostOps0_4 V hostOps0_4_writes (by decide +kernel)
theorem keep_main_arg1_hostOps0_5 (V : Valuation τ sig (Elt F)) : after hostOps0_5 V (Proc.devRef .tc main_arg1) = V (Proc.devRef .tc main_arg1) :=
  after_of_writes_sub hostOps0_5 V hostOps0_5_writes (by decide +kernel)
/-- The argument `main_arg1` is written by nothing: it holds its launch contents before every condition. -/
theorem atK_main_arg1 (c : Dev nD) : ∀ k, atK m k c (Proc.devRef .tc main_arg1) = m ((c.tc : Thread nD τ).loc main_arg1)
  | 0 => by
    rw [show atK m 0 c = entryContents preI m c from rfl]
    simp only [entryContents, afterL_cons, afterL_nil]
    rw [keep_main_arg1_hostOps0_2, keep_main_arg1_hostOps0_1, keep_main_arg1_hostOps0]
  | k + 1 => by
    rw [show atK m (k + 1) c = afterL bodyI (after condOps (atK m k c)) from rfl]
    simp only [afterL_cons, afterL_nil]
    rw [keep_main_arg1_while0Ops0_6, keep_main_arg1_while0Ops0_5, keep_main_arg1_while0Ops0_4, keep_main_arg1_while0Ops0_3, keep_main_arg1_while0Ops0_2, keep_main_arg1_while0Ops0_1, keep_main_arg1_while0Ops0, keep_main_arg1_condOps, atK_main_arg1 c k]

/-! ## After the loop -/

theorem keep_main_v4_5_hostOps0_3 (V : Valuation τ sig (Elt F)) : after hostOps0_3 V (Proc.devRef .tc main_v4_5) = V (Proc.devRef .tc main_v4_5) :=
  after_of_writes_sub hostOps0_3 V hostOps0_3_writes (by decide +kernel)
theorem keep_main_v4_5_hostOps0_4 (V : Valuation τ sig (Elt F)) : after hostOps0_4 V (Proc.devRef .tc main_v4_5) = V (Proc.devRef .tc main_v4_5) :=
  after_of_writes_sub hostOps0_4 V hostOps0_4_writes (by decide +kernel)
theorem keep_main_v4_5_hostOps0_5 (V : Valuation τ sig (Elt F)) : after hostOps0_5 V (Proc.devRef .tc main_v4_5) = V (Proc.devRef .tc main_v4_5) :=
  after_of_writes_sub hostOps0_5 V hostOps0_5_writes (by decide +kernel)
/-- The operations after the loop do not write `main_v4_5`. -/
theorem post_keeps_main_v4_5 (V0 : Valuation τ sig (Elt F)) : afterL postI V0 (Proc.devRef .tc main_v4_5) = V0 (Proc.devRef .tc main_v4_5) := by
  simp only [postI, afterL_cons, afterL_nil]
  rw [keep_main_v4_5_hostOps0_5, keep_main_v4_5_hostOps0_4, keep_main_v4_5_hostOps0_3]
/-- The operations after the loop do not write `main_arg0`. -/
theorem post_keeps_main_arg0 (V0 : Valuation τ sig (Elt F)) : afterL postI V0 (Proc.devRef .tc main_arg0) = V0 (Proc.devRef .tc main_arg0) := by
  simp only [postI, afterL_cons, afterL_nil]
  rw [keep_main_arg0_hostOps0_5, keep_main_arg0_hostOps0_4, keep_main_arg0_hostOps0_3]
/-- The operations after the loop do not write `main_arg1`. -/
theorem post_keeps_main_arg1 (V0 : Valuation τ sig (Elt F)) : afterL postI V0 (Proc.devRef .tc main_arg1) = V0 (Proc.devRef .tc main_arg1) := by
  simp only [postI, afterL_cons, afterL_nil]
  rw [keep_main_arg1_hostOps0_5, keep_main_arg1_hostOps0_4, keep_main_arg1_hostOps0_3]
/-- `STEP` iterated on the loop's entry leaves the argument `main_arg0` as the launch has it. -/
theorem iter_main_arg0 (c : Dev nD) : ∀ k, (STEP^[k] (entryContents preI m c)) (Proc.devRef .tc main_arg0) = m ((c.tc : Thread nD τ).loc main_arg0)
  | 0 => by rw [Function.iterate_zero, id_eq, ← atTrip_zero condOps bodyI (entryContents preI m)]; exact atK_main_arg0 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg0 c k
/-- `STEP` iterated on the loop's entry leaves the argument `main_arg1` as the launch has it. -/
theorem iter_main_arg1 (c : Dev nD) : ∀ k, (STEP^[k] (entryContents preI m c)) (Proc.devRef .tc main_arg1) = m ((c.tc : Thread nD τ).loc main_arg1)
  | 0 => by rw [Function.iterate_zero, id_eq, ← atTrip_zero condOps bodyI (entryContents preI m)]; exact atK_main_arg1 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg1 c k
set_option maxRecDepth 8192 in
/-- `main_v7`, which the operations after the loop make, of the contents they start from. -/
def out_main_v7 (V0 : Valuation τ sig (Elt F)) : (Proc.devRef .tc main_v7 : DevRef τ sig).ty.Contents (Elt F) :=
  select (Host.reduce IntOp.andi (andi (cmpi .sge (shapeCast S4x2x1024x1 (select (cmpi .slt (broadcastInDim S4x2x1024 ![0, 1, 2] bcast_S4x1x1024_S4x2x1024_0_1_2 (broadcastInDim S4x1x1024 ![0, 2] bcast_S4x1024_S4x1x1024_0_2 (V0 (Proc.devRef .tc main_v4_5)))) (broadcastInDim S4x2x1024 ![] bcast_S_S4x2x1024 (constantI S_ 32 0#32))) (addi (broadcastInDim S4x2x1024 ![0, 1, 2] bcast_S4x1x1024_S4x2x1024_0_1_2 (broadcastInDim S4x1x1024 ![0, 2] bcast_S4x1024_S4x1x1024_0_2 (V0 (Proc.devRef .tc main_v4_5)))) (broadcastInDim S4x2x1024 ![] bcast_S_S4x2x1024 (constantI S_ 32 8192#32))) (broadcastInDim S4x2x1024 ![0, 1, 2] bcast_S4x1x1024_S4x2x1024_0_1_2 (broadcastInDim S4x1x1024 ![0, 2] bcast_S4x1024_S4x1x1024_0_2 (V0 (Proc.devRef .tc main_v4_5))))) shapeCasts_S4x2x1024_S4x2x1024x1) (broadcastInDim S4x2x1024x1 ![] bcast_S_S4x2x1024x1 (constantI S_ 32 0#32))) (cmpi .sle (shapeCast S4x2x1024x1 (select (cmpi .slt (broadcastInDim S4x2x1024 ![0, 1, 2] bcast_S4x1x1024_S4x2x1024_0_1_2 (broadcastInDim S4x1x1024 ![0, 2] bcast_S4x1024_S4x1x1024_0_2 (V0 (Proc.devRef .tc main_v4_5)))) (broadcastInDim S4x2x1024 ![] bcast_S_S4x2x1024 (constantI S_ 32 0#32))) (addi (broadcastInDim S4x2x1024 ![0, 1, 2] bcast_S4x1x1024_S4x2x1024_0_1_2 (broadcastInDim S4x1x1024 ![0, 2] bcast_S4x1024_S4x1x1024_0_2 (V0 (Proc.devRef .tc main_v4_5)))) (broadcastInDim S4x2x1024 ![] bcast_S_S4x2x1024 (constantI S_ 32 8192#32))) (broadcastInDim S4x2x1024 ![0, 1, 2] bcast_S4x1x1024_S4x2x1024_0_1_2 (broadcastInDim S4x1x1024 ![0, 2] bcast_S4x1024_S4x1x1024_0_2 (V0 (Proc.devRef .tc main_v4_5))))) shapeCasts_S4x2x1024_S4x2x1024x1) (broadcastInDim S4x2x1024x1 ![0, 1, 2, 3] bcast_S1x1x1x1_S4x2x1024x1_0_1_2_3 (broadcastInDim S1x1x1x1 ![3] bcast_S1_S1x1x1x1_3 (constantI S1 32 8191#32))))) (constantI S_ 1 1#1) reducesTo_S4x2x1024x1_S4x2x1024_d3 h_S_) (Host.gather gather_S4x2x8192_S4x2x1024x1_S4x2x1024_n_2_01_01_2_3_111 (V0 (Proc.devRef .tc main_arg0)) (shapeCast S4x2x1024x1 (select (cmpi .slt (broadcastInDim S4x2x1024 ![0, 1, 2] bcast_S4x1x1024_S4x2x1024_0_1_2 (broadcastInDim S4x1x1024 ![0, 2] bcast_S4x1024_S4x1x1024_0_2 (V0 (Proc.devRef .tc main_v4_5)))) (broadcastInDim S4x2x1024 ![] bcast_S_S4x2x1024 (constantI S_ 32 0#32))) (addi (broadcastInDim S4x2x1024 ![0, 1, 2] bcast_S4x1x1024_S4x2x1024_0_1_2 (broadcastInDim S4x1x1024 ![0, 2] bcast_S4x1024_S4x1x1024_0_2 (V0 (Proc.devRef .tc main_v4_5)))) (broadcastInDim S4x2x1024 ![] bcast_S_S4x2x1024 (constantI S_ 32 8192#32))) (broadcastInDim S4x2x1024 ![0, 1, 2] bcast_S4x1x1024_S4x2x1024_0_1_2 (broadcastInDim S4x1x1024 ![0, 2] bcast_S4x1024_S4x1x1024_0_2 (V0 (Proc.devRef .tc main_v4_5))))) shapeCasts_S4x2x1024_S4x2x1024x1)) (broadcastInDim S4x2x1024 ![] bcast_S_S4x2x1024 (constant S_ .f32 0x7FC00000#32))
set_option maxRecDepth 65536 in
set_option maxHeartbeats 2000000 in
theorem post_main_v7 (V0 : Valuation τ sig (Elt F)) : afterL postI V0 (no_index (Proc.devRef .tc main_v7)) = out_main_v7 V0 := by
  unfold out_main_v7
  simp only [postI, afterL_cons, afterL_nil, hostOps0_3, hostOps0_4, hostOps0_5]
  after_results_entrywise []
set_option maxRecDepth 8192 in
theorem out_main_v7_congr {V0 V0' : Valuation τ sig (Elt F)} (h : Agree V0 V0') (h_main_arg0 : V0 (Proc.devRef .tc main_arg0) = V0' (Proc.devRef .tc main_arg0)) : out_main_v7 V0 = out_main_v7 V0' := by
  unfold out_main_v7
  rw [h main_v4_5 (by decide), h_main_arg0]
set_option maxRecDepth 8192 in
/-- `main_v8`, which the operations after the loop make, of the contents they start from. -/
def out_main_v8 (V0 : Valuation τ sig (Elt F)) : (Proc.devRef .tc main_v8 : DevRef τ sig).ty.Contents (Elt F) :=
  broadcastInDim S4x1x1024 ![] bcast_S_S4x1x1024 (constantI S_ 1 1#1)
set_option maxRecDepth 8192 in
set_option maxHeartbeats 2000000 in
theorem post_main_v8 (V0 : Valuation τ sig (Elt F)) : afterL postI V0 (no_index (Proc.devRef .tc main_v8)) = out_main_v8 V0 := by
  unfold out_main_v8
  simp only [postI, afterL_cons, afterL_nil, hostOps0_3, hostOps0_4, hostOps0_5]
  after_results_entrywise []
set_option maxRecDepth 8192 in
theorem out_main_v8_congr {V0 V0' : Valuation τ sig (Elt F)} (h : Agree V0 V0') : out_main_v8 V0 = out_main_v8 V0' := by
  unfold out_main_v8
  rfl
/-- The run: on every device, for any float values, from any memory with zero counters, every weakly fair execution
    of @main terminates with each result at its component of `STEP` iterated 1024 times on the loop's entry (`step_‹buffer›`
    says what one trip makes of each carried buffer), or, for a result the operations after the loop make, at `out_‹result›` of that, and every argument unchanged. -/
theorem run : θ_run (defs (F := F)) (onTc (τ := τ) (main (F := F))) ⟨m, fun _ => 0, ρ⟩ fun r => ∀ c : Dev nD,
      r.2.mem ((c.tc : Thread nD τ).loc main_v4_5) = (STEP^[1024] (entryContents preI m c)) (Proc.devRef .tc main_v4_5)
      ∧ r.2.mem ((c.tc : Thread nD τ).loc main_v7) = out_main_v7 (STEP^[1024] (entryContents preI m c))
      ∧ r.2.mem ((c.tc : Thread nD τ).loc main_v8) = out_main_v8 (STEP^[1024] (entryContents preI m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v4_5 rfl).trans ((post_keeps_main_v4_5 _).trans ((cond_keeps _ main_v4_5 (by decide)).trans (atK_agree m c 1024 main_v4_5 (by decide)))),
      (h c main_v7 rfl).trans ((post_main_v7 _).trans (out_main_v7_congr (fun j hj => (cond_keeps _ j hj).trans (atK_agree m c 1024 j hj)) ((keep_main_arg0_condOps _).trans ((atK_main_arg0 m c 1024).trans (iter_main_arg0 m c 1024).symm)))),
      (h c main_v8 rfl).trans ((post_main_v8 _).trans (out_main_v8_congr (fun j hj => (cond_keeps _ j hj).trans (atK_agree m c 1024 j hj)))),
      (h c main_arg0 rfl).trans ((post_keeps_main_arg0 _).trans ((keep_main_arg0_condOps _).trans (atK_main_arg0 m c 1024))),
      (h c main_arg1 rfl).trans ((post_keeps_main_arg1 _).trans ((keep_main_arg1_condOps _).trans (atK_main_arg1 m c 1024)))⟩) (run_fold m ρ)

end Cert.SampleReferenceIdeal.Trip

end
-- ==== Proof.SampleRef.lean ====
/-
  The reference of the points chosen, by coordinates: round by round, where every point counts.
-/
module

public import proofs.«01_k».proof.Proof.SampleRun
public import proofs.«01_k».proof.Proof.SampleSpec
public import proofs.«01_k».proof.Proof.Ref
public import Idealize.ShloMosaic.Lib.StableHlo.RunRead
public import Idealize.ShloMosaic.Lib.Pointwise
public import Idealize.ShloMosaic.Lib.Routing.OpsOne
public import Idealize.ShloMosaic.PureOps.Ideal.Laws

@[expose] public section

noncomputable section

namespace Cert.Proof.Sampled

open Idealize.ShloMosaic hiding ix1 ix2 ix3 ix4
open Idealize.ShloMosaic.TcCoe Cert.SampleReferenceIdeal Cert.SampleReferenceIdeal.Gen Cert.SampleReferenceIdeal.Trip
open Cert.Proof.Sampling (first gap dist sel word better arg_first)
open Idealize.ShloMosaic.ValueIdx
open Idealize.ShloMosaic.StableHlo (entryContents afterL_cons afterL_nil)
open Idealize.SL.Sem

/-! ## What a round reads -/

variable (V : Valuation τ sig (Elt Ideal))

/-- The points, the mask, the count of rounds, the distances and the indices that a round finds. -/
abbrev pts : S4x8192x2.Idx → EReal := V (Proc.devRef .tc main_v4_0)
abbrev valid : S4x8192.Idx → BitVec 1 := V (Proc.devRef .tc main_v4_1)
abbrev count : S_.Idx → BitVec 32 := V (Proc.devRef .tc main_v4_3)
abbrev dists : S4x8192.Idx → EReal := V (Proc.devRef .tc main_v4_4)
abbrev idxs : S4x1024.Idx → BitVec 32 := V (Proc.devRef .tc main_v4_5)

/-! ## The point of greatest distance -/

theorem reducer_eq (a b : EReal × BitVec 32) : reducer_argmax_f32_i32 (F := Ideal) a b = better a b := by
  have e1 : FloatOps.cmpf (F := Ideal) (φ := .f32) .ogt a.1 b.1 = BitVec.ofBool (decide (b.1 < a.1)) := rfl
  have e2 : FloatOps.cmpf (F := Ideal) (φ := .f32) .une a.1 a.1 = BitVec.ofBool (decide (a.1 ≠ a.1)) := rfl
  have e3 : FloatOps.cmpf (F := Ideal) (φ := .f32) .oeq a.1 b.1 = BitVec.ofBool (decide (a.1 = b.1)) := rfl
  have e4 : IntOp.cmpi .slt a.2 b.2 = BitVec.ofBool (a.2.slt b.2) := rfl
  have e5 : BitVec.ofBool (decide (a.1 ≠ a.1)) = 0#1 := by simp
  unfold reducer_argmax_f32_i32 better
  dsimp only
  rw [e1, e2, e3, e4, e5]
  unfold Scalar.select
  by_cases h1 : b.1 < a.1
  · have h2 : ¬ a.1 = b.1 := h1.ne'
    rw [if_pos h1, decide_eq_true h1, decide_eq_false h2]
    cases a.2.slt b.2 <;> rfl
  · rw [if_neg h1, decide_eq_false h1]
    by_cases h2 : a.1 = b.1
    · rw [decide_eq_true h2]
      cases h3 : a.2.slt b.2
      · exact Eq.trans rfl (if_neg (fun h : a.1 = b.1 ∧ false = true => absurd h.2 (by decide))).symm
      · exact Eq.trans (Prod.ext h2.symm rfl) (if_pos (⟨h2, rfl⟩ : a.1 = b.1 ∧ true = true)).symm
    · rw [decide_eq_false h2]
      cases a.2.slt b.2
      · exact Eq.trans rfl (if_neg (fun h : a.1 = b.1 ∧ false = true => h2 h.1)).symm
      · exact Eq.trans rfl (if_neg (fun h : a.1 = b.1 ∧ true = true => h2 h.1)).symm

/-- The first of the points of greatest value, as the reduction takes it. -/
theorem argmax_eq (x : S4x8192.Idx → EReal) (y : S4x8192.Idx → BitVec 32) (u : S_.Idx → EReal) (v : S_.Idx → BitVec 32)
    (hy : ∀ b p, y (ix2 b p) = word p) (hu : ∀ j, u j = ⊥) (hv : ∀ j, v j = 0#32) (b : Fin 4) :
    (Host.argReduce (reducer_argmax_f32_i32 (F := Ideal)) x y u v reducesTo_S4x8192_S4_d1 h_S_ (ix1 b)).2 = word (first fun p => x (ix2 b p)) := by
  rw [Ideal.argReduce_eq_reduce2, Host.reduce2_eq_foldl_fiber,
    show (reducer_argmax_f32_i32 (F := Ideal)) = better from funext fun a => funext fun b => reducer_eq a b, hu, hv]
  have hf : ∀ i : S4x8192.Idx, reducesTo_S4x8192_S4_d1.drop i = ix1 b ↔ ∃ k : Fin 8192, ix2 b k = i := fun i => Shape.ReducesTo.fiber_r2_a1 _ _ _
  refine arg_first (fun p => x (ix2 b p)) _ (fun p => ?_) (fun a ha => ?_)
  · refine List.mem_map.mpr ⟨S4x8192.rowMajor (ix2 b p), List.mem_filter.mpr ⟨List.mem_finRange _, ?_⟩, ?_⟩
    · rw [Equiv.symm_apply_apply]
      exact decide_eq_true ((hf _).mpr ⟨p, rfl⟩)
    · rw [Equiv.symm_apply_apply, hy]
  · obtain ⟨n, hn, rfl⟩ := List.mem_map.mp ha
    obtain ⟨k, hk⟩ := (hf _).mp (of_decide_eq_true (List.mem_filter.mp hn).2)
    exact ⟨k, by rw [← hk, hy]⟩

/-- The word a round puts at batch `b`: the first of the points at the greatest distance. -/
theorem furthest (b : Fin 4) : (res_main_while0b_v10 V : S4.Idx → BitVec 32) (ix1 b) = word (first fun p => dists V (ix2 b p)) := by
  unfold res_main_while0b_v10
  exact argmax_eq (dists V) (res_main_while0b_call1_v0 V) (res_main_while0b_call1_cst V) (res_main_while0b_call1_c V) (fun _ _ => rfl)
    (fun _ => by show Ideal.ofBits .f32 0xFF800000#32 = ⊥; simp [Ideal.ofBits, Ideal.ieee, -EReal.coe_mul]) (fun _ => rfl) b

/-! ## The distances after a round -/

/-- The point the round goes to, in every batch. -/
abbrev goes (b : Fin 4) : Fin 8192 := first fun p => dists V (ix2 b p)

theorem word_lt (p : Fin 8192) : (word p).toNat < 8192 := by
  rw [Cert.Proof.Sampling.word_toNat]; exact p.isLt

theorem v17_apply (j : S4x1x1.Idx) : (res_main_while0b_v17 V : S4x1x1.Idx → BitVec 32) j = word (goes V (j 0)) := by
  unfold res_main_while0b_v17
  rw [broadcastInDim_apply _ _ _ _ (ix1 (j 0) : S4.Idx) (by intro a; match a with | 0 => rfl)]
  exact furthest V (j 0)

theorem v4_eq : res_main_while0b_call2_v4 V = res_main_while0b_v17 V := by
  unfold res_main_while0b_call2_v4
  exact Along.wrap_eq _ _ _ (fun _ => rfl) fun j => by rw [v17_apply]; exact word_lt _

/-- The rows gathered where each batch's word names a point. -/
theorem row_apply (x : S4x8192x2.Idx → EReal) (I : S4x1x1.Idx → BitVec 32) (w : Fin 4 → Fin 8192) (hI : ∀ b : Fin 4, I (ix3 b (0 : Fin 1) (0 : Fin 1)) = word (w b))
    (b : Fin 4) (e : Fin 2) : Host.gather gather_S4x8192x2_S4x1x1_S4x1x2_2_1_0_0_1_2_112 x I (ix3 b (0 : Fin 1) e) = x (ix3 b (w b) e) := by
  have h : (I (ix3 b (0 : Fin 1) (0 : Fin 1))).toNat < 8192 := by rw [hI]; exact word_lt _
  refine (Along.along_apply 1 2 gather_S4x8192x2_S4x1x1_S4x1x2_2_1_0_0_1_2_112_wf x I b 0 e h).trans ?_
  have hq : (⟨(I (ix3 b (0 : Fin 1) (0 : Fin 1))).toNat, h⟩ : Fin 8192) = w b := Fin.ext (by
    show (I (ix3 b (0 : Fin 1) (0 : Fin 1))).toNat = (w b).val
    rw [hI, Cert.Proof.Sampling.word_toNat])
  rw [hq]

/-- The differences of the points' coordinates and the chosen point's. -/
abbrev diff : S4x8192x2.Idx → EReal := res_main_while0b_v20 V

theorem diff_apply (b : Fin 4) (p : Fin 8192) (e : Fin 2) :
    diff V (ix3 b p e) = pts V (ix3 b p e) - pts V (ix3 b (goes V b) e) := by
  have hlt : ∀ j, ((res_main_while0b_v17 V : S4x1x1.Idx → BitVec 32) j).toNat < 8192 := fun j => by rw [v17_apply]; exact word_lt _
  unfold diff res_main_while0b_v20
  rw [v4_eq]
  refine (congrArg (pts V (ix3 b p e) - ·) ?_)
  rw [broadcastInDim_apply _ _ _ _ (ix3 b (0 : Fin 1) e : S4x1x2.Idx) (by intro a; match a with | 0 => rfl | 1 => rfl | 2 => rfl)]
  refine (congrFun (Along.select_ones _ _ _ (fun j => Host.reduce_andi_one _ _ _ _ j rfl fun i => Along.range_eq _ _ _ (fun _ => rfl) (fun _ => rfl) hlt i) _ _) _).trans ?_
  exact row_apply _ _ (goes V) (fun b => v17_apply V _) b e

/-- The sum over the two coordinates. -/
theorem sum_apply (y : S4x8192x2.Idx → EReal) (b : Fin 4) (p : Fin 8192) :
    Host.reduceAdd (F := Ideal) (φ := .f32) y (constant S_ .f32 0x00000000#32) reducesTo_S4x8192x2_S4x8192_d2 h_S_ (ix2 b p) = y (ix3 b p 0) + y (ix3 b p 1) := by
  pointwise
  exact Fin.sum_univ_two (fun e : Fin 2 => y (ix3 b p e))

theorem dists_step (hv : ∀ j, valid V j = 1#1) (b : Fin 4) (p : Fin 8192) :
    dists (STEP V) (ix2 b p) = min (dists V (ix2 b p)) (gap (fun q => pts V (ix3 b q 0)) (fun q => pts V (ix3 b q 1)) (goes V b) p) := by
  show (STEP V (Proc.devRef .tc main_v4_4) : S4x8192.Idx → EReal) (ix2 b p) = _
  rw [STEP_main_v4_4]
  unfold step_main_v4_4
  refine congrArg (min (dists V (ix2 b p))) ((if_pos (hv _)).trans ?_)
  refine (sum_apply _ b p).trans ?_
  show diff V (ix3 b p 0) * diff V (ix3 b p 0) + diff V (ix3 b p 1) * diff V (ix3 b p 1) = _
  rw [diff_apply, diff_apply]
  rfl

/-! ## The indices after a round -/

/-- A column of indices put in. -/
theorem put_apply (x : S4x1024.Idx → BitVec 32) (n : S1.Idx → BitVec 32) (u : S4.Idx → BitVec 32) (k : Fin 1024) (hk : ∀ j, n j = BitVec.ofNat 32 k.val) (b : Fin 4) (q : Fin 1024) :
    Host.scatter scatter_S4x1024_S1_S4_0_1_1_0 (fun _ b => b) x n u (ix2 b q) = if q = k then u (ix1 b) else x (ix2 b q) :=
  Routing.scatter_col_signed scatter_S4x1024_S1_S4_0_1_1_0 rfl rfl x n u k (by
    rw [hk]
    exact StableHlo.Predicate.toInt_ofNat_small _ (by have := k.isLt; omega)) b q

/-- The column's number is not negative, so the wrap leaves it. -/
theorem column (n z t : S_.Idx → BitVec 32) (hz : ∀ j, z j = 0#32) (k : Fin 1024) (hk : ∀ j, n j = BitVec.ofNat 32 k.val) (j : S_.Idx) :
    select (cmpi .slt n z) (addi n t) n j = BitVec.ofNat 32 k.val := by
  have hlt := k.isLt
  have hn : (BitVec.ofNat 32 k.val).toNat = k.val := by rw [BitVec.toNat_ofNat]; omega
  have e : ¬ IntOp.cmpi .slt (n j) (z j) = 1#1 := by
    rw [hz, hk, StableHlo.Predicate.slt_iff_toNat (by omega) (by decide)]
    exact Nat.not_lt_zero _
  exact (if_neg e).trans (hk j)

theorem idxs_step (k : Fin 1024) (hk : ∀ j, count V j = BitVec.ofNat 32 k.val) (b : Fin 4) (q : Fin 1024) :
    idxs (STEP V) (ix2 b q) = if q = k then word (goes V b) else idxs V (ix2 b q) := by
  show (STEP V (Proc.devRef .tc main_v4_5) : S4x1024.Idx → BitVec 32) (ix2 b q) = _
  rw [STEP_main_v4_5]
  unfold step_main_v4_5
  have h := put_apply (idxs V) (broadcastInDim S1 ![] bcast_S_S1 (id (select (cmpi .slt (count V) (constantI S_ 32 0#32)) (addi (count V) (constantI S_ 32 1024#32)) (count V))))
    (res_main_while0b_v10 V) k (fun _ => column (count V) (constantI S_ 32 0#32) (constantI S_ 32 1024#32) (fun _ => rfl) k hk _) b q
  rw [furthest V b] at h
  refine (congrFun (id_eq (α := S4x1024.Idx → BitVec 32) _) _).trans ?_
  exact h

theorem count_step (k : ℕ) (hk : ∀ j, count V j = BitVec.ofNat 32 k) (j : S_.Idx) : count (STEP V) j = BitVec.ofNat 32 (k + 1) := by
  show (STEP V (Proc.devRef .tc main_v4_3) : S_.Idx → BitVec 32) j = _
  rw [STEP_main_v4_3]
  unfold step_main_v4_3
  show count V j + 1#32 = _
  rw [hk, BitVec.ofNat_add]

/-! ## All the rounds -/

variable (m : (ℓ : Loc nD τ sig) → Buf (Elt Ideal) ℓ) (c : Dev nD)

/-- The points' coordinates and the mask at launch. -/
abbrev coords : S4x2x8192.Idx → EReal := m ((c.tc : Thread nD τ).loc main_arg0)
abbrev mask : S4x1x8192.Idx → BitVec 1 := m ((c.tc : Thread nD τ).loc main_arg1)

/-- What the rounds start from. -/
abbrev start : Valuation τ sig (Elt Ideal) := entryContents preI m c

theorem start_pts (b : Fin 4) (p : Fin 8192) (e : Fin 2) : pts (start m c) (ix3 b p e) = coords m c (ix3 b e p) := by
  have h : (start m c (Proc.devRef .tc main_v4_0) : S4x8192x2.Idx → EReal) = transpose S4x8192x2 [0, 2, 1] (coords m c) transposes_S4x2x8192_S4x8192x2_0_2_1 := by
    simp only [start, entryContents, afterL_cons, afterL_nil]
    after_reads_simp
    rfl
  refine (congrFun h _).trans ?_
  exact transpose_apply _ _ _ _ (ix3 b e p) (by intro a; match a with | 0 => rfl | 1 => rfl | 2 => rfl)

theorem start_valid (hm : ∀ j, mask m c j = 1#1) (j : S4x8192.Idx) : valid (start m c) j = 1#1 := by
  have h : (start m c (Proc.devRef .tc main_v4_1) : S4x8192.Idx → BitVec 1) = shapeCast S4x8192 (mask m c) shapeCasts_S4x1x8192_S4x8192 := by
    simp only [start, entryContents, afterL_cons, afterL_nil]
    after_reads_simp
    rfl
  refine (congrFun h _).trans ?_
  exact hm _

theorem start_count (j : S_.Idx) : count (start m c) j = BitVec.ofNat 32 0 := by
  have h : (start m c (Proc.devRef .tc main_v4_3) : S_.Idx → BitVec 32) = fun _ => 0#32 := by
    simp only [start, entryContents, afterL_cons, afterL_nil]
    after_reads_simp
    rfl
  exact congrFun h _

theorem start_dists (hm : ∀ j, mask m c j = 1#1) (j : S4x8192.Idx) : dists (start m c) j = ⊤ := by
  have h : (start m c (Proc.devRef .tc main_v4_4) : S4x8192.Idx → EReal) = select (shapeCast S4x8192 (mask m c) shapeCasts_S4x1x8192_S4x8192)
      (broadcastInDim S4x8192 ![] bcast_S_S4x8192 (constant (F := Ideal) S_ .f32 0x7F800000#32)) (broadcastInDim S4x8192 ![] bcast_S_S4x8192 (constant (F := Ideal) S_ .f32 0xFF800000#32)) := by
    simp only [start, entryContents, afterL_cons, afterL_nil]
    after_reads_simp
    rfl
  refine (congrFun h _).trans ((if_pos (hm _)).trans ?_)
  show Ideal.ofBits .f32 0x7F800000#32 = ⊤
  simp [Ideal.ofBits, Ideal.ieee, -EReal.coe_mul]

theorem start_idxs (j : S4x1024.Idx) : idxs (start m c) j = 0#32 := by
  have h : (start m c (Proc.devRef .tc main_v4_5) : S4x1024.Idx → BitVec 32) = fun _ => 0#32 := by
    simp only [start, entryContents, afterL_cons, afterL_nil]
    after_reads_simp
    rfl
  exact congrFun h _

/-- The state before a round. -/
abbrev atRound (k : ℕ) : Valuation τ sig (Elt Ideal) := STEP^[k] (start m c)

theorem round_pts (b : Fin 4) (p : Fin 8192) (e : Fin 2) : ∀ k, pts (atRound m c k) (ix3 b p e) = coords m c (ix3 b e p)
  | 0 => start_pts m c b p e
  | k + 1 => by
    unfold atRound
    rw [Function.iterate_succ_apply']
    exact (congrFun (STEP_main_v4_0 (atRound m c k)) _).trans (round_pts b p e k)

theorem round_valid (hm : ∀ j, mask m c j = 1#1) (j : S4x8192.Idx) : ∀ k, valid (atRound m c k) j = 1#1
  | 0 => start_valid m c hm j
  | k + 1 => by
    unfold atRound
    rw [Function.iterate_succ_apply']
    exact (congrFun (STEP_main_v4_1 (atRound m c k)) _).trans (round_valid hm j k)

theorem round_count (j : S_.Idx) : ∀ k, count (atRound m c k) j = BitVec.ofNat 32 k
  | 0 => start_count m c j
  | k + 1 => by
    unfold atRound
    rw [Function.iterate_succ_apply']
    exact count_step _ k (fun i => by rw [Subsingleton.elim i j]; exact round_count j k) j

theorem round_dists (hm : ∀ j, mask m c j = 1#1) (b : Fin 4) (p : Fin 8192) :
    ∀ k, dists (atRound m c k) (ix2 b p) = dist (fun q => coords m c (ix3 b 0 q)) (fun q => coords m c (ix3 b 1 q)) k p := by
  intro k
  induction k generalizing p with
  | zero => exact start_dists m c hm _
  | succ k ih =>
    unfold atRound
    rw [Function.iterate_succ_apply']
    refine (dists_step (atRound m c k) (fun j => round_valid m c hm j k) b p).trans ?_
    have hx : ∀ e : Fin 2, (fun q => pts (atRound m c k) (ix3 b q e)) = fun q => coords m c (ix3 b e q) := fun e => funext fun q => round_pts m c b q e k
    have hd : (fun p => dists (atRound m c k) (ix2 b p)) = dist (fun q => coords m c (ix3 b 0 q)) (fun q => coords m c (ix3 b 1 q)) k := funext ih
    rw [hx, hx, ih]
    unfold goes
    rw [hd]
    rfl

theorem round_goes (hm : ∀ j, mask m c j = 1#1) (b : Fin 4) (k : ℕ) :
    goes (atRound m c k) b = sel (fun q => coords m c (ix3 b 0 q)) (fun q => coords m c (ix3 b 1 q)) k := by
  unfold goes
  rw [show (fun p => dists (atRound m c k) (ix2 b p)) = dist (fun q => coords m c (ix3 b 0 q)) (fun q => coords m c (ix3 b 1 q)) k from funext fun p => round_dists m c hm b p k]
  rfl

theorem round_idxs (hm : ∀ j, mask m c j = 1#1) (b : Fin 4) (q : Fin 1024) :
    ∀ k ≤ 1024, q.val < k → idxs (atRound m c k) (ix2 b q) = word (sel (fun q => coords m c (ix3 b 0 q)) (fun q => coords m c (ix3 b 1 q)) q.val) := by
  intro k
  induction k with
  | zero => exact fun _ h => absurd h (Nat.not_lt_zero _)
  | succ k ih =>
    intro hk hq
    unfold atRound
    rw [Function.iterate_succ_apply']
    refine (idxs_step (atRound m c k) ⟨k, hk⟩ (fun j => round_count m c j k) b q).trans ?_
    by_cases h : q.val = k
    · rw [if_pos (Fin.ext h), round_goes m c hm, h]
    · rw [if_neg (fun e => h (congrArg Fin.val e))]
      exact ih (by omega) (by omega)

/-! ## The coordinates of the points chosen -/

/-- The coordinates gathered where each word names a point. -/
theorem pick_apply {α : Type} (x : S4x2x8192.Idx → α) (I : IVec S4x2x1024x1 32) (b : Fin 4) (e : Fin 2) (q : Fin 1024) (p : Fin 8192)
    (h : I (ix4 b e q (0 : Fin 1)) = word p) :
    Host.gather gather_S4x2x8192_S4x2x1024x1_S4x2x1024_n_2_01_01_2_3_111 x I (ix3 b e q) = x (ix3 b e p) := by
  let d : GatherDims S4x2x8192 S4x2x1024x1 S4x2x1024 := gather_S4x2x8192_S4x2x1024x1_S4x2x1024_n_2_01_01_2_3_111
  have hp := p.isLt
  unfold Host.gather
  refine congrArg x (funext fun a => Fin.ext ?_)
  show d.start (ix3 b e q) I a + d.batchCoord (ix3 b e q) a + d.offCoord (ix3 b e q) a = _
  have ha : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases ha with rfl | rfl | rfl
  · have hb : (0 : Fin 3) ∈ d.operandBatchingDims := by show (0 : Fin 3) ∈ [0, 1]; decide
    have hk : (0 : Fin 3) ∉ d.sKept := fun q => ((GatherDims.mem_sKept _ _).mp q).2 hb
    have e1 := d.start_batching (ix3 b e q) I 0 hb
    have e2 := d.offCoord_eq_zero (ix3 b e q) 0 hk
    refine (congrArg₂ (· + ·) (congrArg (· + _) e1) e2).trans ?_
    rw [Nat.zero_add, Nat.add_zero]
    unfold GatherDims.batchCoord
    rw [dif_pos hb]
    rfl
  · have hb : (1 : Fin 3) ∈ d.operandBatchingDims := by show (1 : Fin 3) ∈ [0, 1]; decide
    have hk : (1 : Fin 3) ∉ d.sKept := fun q => ((GatherDims.mem_sKept _ _).mp q).2 hb
    have e1 := d.start_batching (ix3 b e q) I 1 hb
    have e2 := d.offCoord_eq_zero (ix3 b e q) 1 hk
    refine (congrArg₂ (· + ·) (congrArg (· + _) e1) e2).trans ?_
    rw [Nat.zero_add, Nat.add_zero]
    unfold GatherDims.batchCoord
    rw [dif_pos hb]
    rfl
  · have hb : (2 : Fin 3) ∉ d.operandBatchingDims := by show (2 : Fin 3) ∉ [0, 1]; decide
    have hk : (2 : Fin 3) ∉ d.sKept := fun q => ((GatherDims.mem_sKept _ _).mp q).1 (List.mem_singleton.mpr rfl)
    have hm : (2 : Fin 3) ∈ d.startIndexMap := List.mem_singleton.mpr rfl
    have e1 := d.batchCoord_eq_zero (ix3 b e q) 2 hb
    have e2 := d.offCoord_eq_zero (ix3 b e q) 2 hk
    refine (congrArg₂ (· + ·) (congrArg (_ + ·) e1) e2).trans ?_
    rw [Nat.add_zero]
    unfold GatherDims.start
    rw [dif_pos hm]
    have hs : d.siIdx (ix3 b e q) ⟨List.idxOf (2 : Fin 3) d.startIndexMap, List.idxOf_lt_length_iff.2 hm⟩ = ix4 b e q (0 : Fin 1) := by
      funext a'
      refine Fin.ext ?_
      match a' with
      | ⟨0, _⟩ => rfl
      | ⟨1, _⟩ => rfl
      | ⟨2, _⟩ => rfl
      | ⟨3, _⟩ => rfl
    rw [hs, h, Cert.Proof.Sampling.word_toInt, Int.toNat_natCast]
    show min _ (8192 - 1) = p.val
    omega

/-- The words of the indices, once for each coordinate. -/
abbrev spread (w : S4x1024.Idx → BitVec 32) : S4x2x1024.Idx → BitVec 32 :=
  broadcastInDim S4x2x1024 ![0, 1, 2] bcast_S4x1x1024_S4x2x1024_0_1_2 (broadcastInDim S4x1x1024 ![0, 2] bcast_S4x1024_S4x1x1024_0_2 w)

theorem spread_apply (w : S4x1024.Idx → BitVec 32) (b : Fin 4) (e : Fin 2) (q : Fin 1024) : spread w (ix3 b e q) = w (ix2 b q) := by
  unfold spread
  rw [broadcastInDim_apply _ _ _ _ (ix3 b (0 : Fin 1) q : S4x1x1024.Idx) (by intro a; match a with | 0 => rfl | 1 => rfl | 2 => rfl)]
  exact broadcastInDim_apply _ _ _ _ (ix2 b q : S4x1024.Idx) (by intro a; match a with | 0 => rfl | 1 => rfl)

/-- A choice by an all-ones mask. -/
theorem choose_ones {s : Shape} {α : Type} (M : IVec s 1) (hM : ∀ j, M j = 1#1) (X Y : s.Idx → α) : select M X Y = X := funext fun _ => if_pos (hM _)

/-- The coordinates at the words, as the reference takes them: a wrap, a range check, a gather. -/
def take (x : S4x2x8192.Idx → EReal) (w : S4x2x1024.Idx → BitVec 32) : S4x2x1024.Idx → EReal :=
  select (Host.reduce IntOp.andi (andi (cmpi .sge (shapeCast S4x2x1024x1 (select (cmpi .slt w (broadcastInDim S4x2x1024 ![] bcast_S_S4x2x1024 (constantI S_ 32 0#32))) (addi w (broadcastInDim S4x2x1024 ![] bcast_S_S4x2x1024 (constantI S_ 32 8192#32))) w) shapeCasts_S4x2x1024_S4x2x1024x1) (broadcastInDim S4x2x1024x1 ![] bcast_S_S4x2x1024x1 (constantI S_ 32 0#32))) (cmpi .sle (shapeCast S4x2x1024x1 (select (cmpi .slt w (broadcastInDim S4x2x1024 ![] bcast_S_S4x2x1024 (constantI S_ 32 0#32))) (addi w (broadcastInDim S4x2x1024 ![] bcast_S_S4x2x1024 (constantI S_ 32 8192#32))) w) shapeCasts_S4x2x1024_S4x2x1024x1) (broadcastInDim S4x2x1024x1 ![0, 1, 2, 3] bcast_S1x1x1x1_S4x2x1024x1_0_1_2_3 (broadcastInDim S1x1x1x1 ![3] bcast_S1_S1x1x1x1_3 (constantI S1 32 8191#32))))) (constantI S_ 1 1#1) reducesTo_S4x2x1024x1_S4x2x1024_d3 h_S_) (Host.gather gather_S4x2x8192_S4x2x1024x1_S4x2x1024_n_2_01_01_2_3_111 x (shapeCast S4x2x1024x1 (select (cmpi .slt w (broadcastInDim S4x2x1024 ![] bcast_S_S4x2x1024 (constantI S_ 32 0#32))) (addi w (broadcastInDim S4x2x1024 ![] bcast_S_S4x2x1024 (constantI S_ 32 8192#32))) w) shapeCasts_S4x2x1024_S4x2x1024x1)) (broadcastInDim S4x2x1024 ![] bcast_S_S4x2x1024 (constant (F := Ideal) S_ .f32 0x7FC00000#32))

theorem take_apply (x : S4x2x8192.Idx → EReal) (w : S4x2x1024.Idx → BitVec 32) (hlt : ∀ j, (w j).toNat < 8192) (b : Fin 4) (e : Fin 2) (q : Fin 1024) (p : Fin 8192)
    (hp : w (ix3 b e q) = word p) : take x w (ix3 b e q) = x (ix3 b e p) := by
  unfold take
  rw [Along.wrap_eq w (broadcastInDim S4x2x1024 ![] bcast_S_S4x2x1024 (constantI S_ 32 0#32)) (broadcastInDim S4x2x1024 ![] bcast_S_S4x2x1024 (constantI S_ 32 8192#32)) (fun _ => rfl) hlt]
  have hmask : ∀ j, Host.reduce IntOp.andi (andi (cmpi .sge (shapeCast S4x2x1024x1 w shapeCasts_S4x2x1024_S4x2x1024x1) (broadcastInDim S4x2x1024x1 ![] bcast_S_S4x2x1024x1 (constantI S_ 32 0#32))) (cmpi .sle (shapeCast S4x2x1024x1 w shapeCasts_S4x2x1024_S4x2x1024x1) (broadcastInDim S4x2x1024x1 ![0, 1, 2, 3] bcast_S1x1x1x1_S4x2x1024x1_0_1_2_3 (broadcastInDim S1x1x1x1 ![3] bcast_S1_S1x1x1x1_3 (constantI S1 32 8191#32))))) (constantI S_ 1 1#1) reducesTo_S4x2x1024x1_S4x2x1024_d3 h_S_ j = 1#1 :=
    fun j => Host.reduce_andi_one _ _ _ _ j rfl fun i => Along.range_eq _ _ _ (fun _ => rfl) (fun _ => rfl) (fun _ => hlt _) i
  rw [choose_ones _ hmask]
  refine pick_apply x _ b e q p ?_
  refine (shapeCast_apply _ _ _ (ix3 b e q : S4x2x1024.Idx) ?_).trans hp
  rw [Shape.rowMajor_val_four, Shape.rowMajor_val_three]
  simp

set_option maxRecDepth 65536 in
theorem v7_eq : out_main_v7 V = take (V (Proc.devRef .tc main_arg0)) (spread (idxs V)) := rfl

/-! ## The results -/

/-- The `q`-th point chosen in batch `b`. -/
abbrev chosenAt (b : Fin 4) (q : ℕ) : Fin 8192 := sel (fun p => coords m c (ix3 b 0 p)) (fun p => coords m c (ix3 b 1 p)) q

theorem idxs_end (hm : ∀ j, mask m c j = 1#1) (b : Fin 4) (q : Fin 1024) : idxs (atRound m c 1024) (ix2 b q) = word (chosenAt m c b q.val) :=
  round_idxs m c hm b q 1024 le_rfl q.isLt

theorem v7_end (hm : ∀ j, mask m c j = 1#1) (b : Fin 4) (e : Fin 2) (q : Fin 1024) :
    (out_main_v7 (atRound m c 1024) : S4x2x1024.Idx → EReal) (ix3 b e q) = coords m c (ix3 b e (chosenAt m c b q.val)) := by
  rw [v7_eq]
  refine (take_apply _ _ (fun j => ?_) b e q (chosenAt m c b q.val) ((spread_apply _ b e q).trans (idxs_end m c hm b q))).trans ?_
  · have h : spread (idxs (atRound m c 1024)) j = word (chosenAt m c (j 0) (j 2).val) :=
      ((congrArg (spread (idxs (atRound m c 1024))) (ValueIdx.eq_ix3 j)).trans (spread_apply _ (j 0) (j 1) (j 2))).trans (idxs_end m c hm (j 0) (j 2))
    exact lt_of_eq_of_lt (congrArg BitVec.toNat h) (word_lt _)
  · exact congrFun (iter_main_arg0 m c 1024) _

theorem v8_end : (out_main_v8 V : S4x1x1024.Idx → BitVec 1) = broadcastInDim S4x1x1024 ![] bcast_S_S4x1x1024 (constantI S_ 1 1#1) := rfl

end Cert.Proof.Sampled

end
-- ==== Proof.LayersRun.lean ====
module

public import proofs.«01_k».proof.Proof.Gen.LayersIdeal.Frame

/-! The layers' program runs to its end: what its result holds then is read through the contents at the boundaries
of its stretches and regions, and its arguments are as launched. -/

@[expose] public section

set_option maxRecDepth 16384

noncomputable section

namespace Cert.LayersRun

open Cert.LayersIdeal Cert.LayersIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, with the result as the last boundary has it and the arguments unchanged. -/
theorem run : θ_run defs (onTc (τ := τ) (main (F := F))) ⟨m, fun _ => 0, ρ⟩ (fun r => ∀ c : Dev nD,
      r.2.mem ((c.tc : Thread nD τ).loc main_v58) = W7 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => fun c =>
      ⟨h c _ (mem_uc main_v58 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.LayersRun

end
-- ==== Proof.LayersSpec.lean ====
/-
  The layers in plain real mathematics: two linear layers over the gathered rows, each normalised over all rows, the largest of a
  point's sixteen messages, and the shortcut of the centres. Rows are counted by natural numbers: row `16 q + k` is neighbour `k`
  of point `q`.
-/
module

public import Idealize.ShloMosaic.Lib.Pointwise
public import Idealize.ShloMosaic.PureOps.Ideal.Laws
public import Idealize.ShloMosaic.PureOps.Reduce

@[expose] public section

noncomputable section

namespace Cert.Proof.Layers

open Idealize.ShloMosaic

/-! ## Words read as numbers -/

/-- The small number added under the square root: the word nearest to a hundred-thousandth. -/
def eps : ℝ := 10995116 / 2 ^ 40

theorem eps_pos : 0 < eps := by
  unfold eps
  positivity

theorem eps_word : Ideal.ofBits .f32 0x3727C5AC#32 = (eps : EReal) := by
  unfold eps
  simp [Ideal.ofBits, Ideal.ieee, -EReal.coe_mul]
  norm_num

theorem rows_word : Ideal.ofBits .f32 0x47800000#32 = ((65536 : ℕ) : ℝ) := by
  simp [Ideal.ofBits, Ideal.ieee, -EReal.coe_mul]
  norm_num

theorem points_word : Ideal.ofBits .f32 0x45800000#32 = ((4096 : ℕ) : ℝ) := by
  simp [Ideal.ofBits, Ideal.ieee, -EReal.coe_mul]
  norm_num

theorem zero_word : Ideal.ofBits .f32 0x00000000#32 = 0 := by
  simp [Ideal.ofBits, Ideal.ieee, -EReal.coe_mul]

/-! ## Sums and quotients of reals, as extended reals -/

theorem coe_sum {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

theorem div_real (x y : ℝ) (h : y ≠ 0) : Ideal.div (x : EReal) (y : EReal) = ((x / y : ℝ) : EReal) := by
  rw [Ideal.div_coe h, ← EReal.coe_mul, mul_one_div]

theorem sqrt_real (x : ℝ) (h : 0 ≤ x) : Ideal.sqrt (x : EReal) = ((Real.sqrt x : ℝ) : EReal) := by
  rw [Ideal.sqrt_coe, if_neg (not_lt.mpr h)]

theorem max_real (x y : ℝ) : max (x : EReal) (y : EReal) = ((max x y : ℝ) : EReal) :=
  (EReal.coe_strictMono.monotone.map_max).symm

/-! ## Normalising over the first `n` rows -/

/-- The mean. -/
def mean (n : ℕ) (x : ℕ → ℝ) : ℝ := (∑ r ∈ Finset.range n, x r) / n

/-- The variance. -/
def var (n : ℕ) (x : ℕ → ℝ) : ℝ := (∑ r ∈ Finset.range n, (x r - mean n x) * (x r - mean n x)) / n

theorem var_nonneg (n : ℕ) (x : ℕ → ℝ) : 0 ≤ var n x :=
  div_nonneg (Finset.sum_nonneg fun r _ => mul_self_nonneg _) (Nat.cast_nonneg n)

/-- The deviation under which a value is divided. -/
def spread (n : ℕ) (x : ℕ → ℝ) : ℝ := Real.sqrt (var n x + eps)

theorem spread_pos (n : ℕ) (x : ℕ → ℝ) : 0 < spread n x :=
  Real.sqrt_pos.mpr (add_pos_of_nonneg_of_pos (var_nonneg n x) eps_pos)

/-- A value less the mean, over the deviation, times a gain. -/
def scaled (n : ℕ) (x : ℕ → ℝ) (g : ℝ) (r : ℕ) : ℝ := (x r - mean n x) / spread n x * g

/-- The mean of the squares less the square of the mean is the variance. -/
theorem var_eq (n : ℕ) (hn : n ≠ 0) (x : ℕ → ℝ) :
    (∑ r ∈ Finset.range n, x r * x r) / n - mean n x * mean n x = var n x := by
  have h0 : (n : ℝ) ≠ 0 := Nat.cast_ne_zero.mpr hn
  have hs : ∑ r ∈ Finset.range n, x r = mean n x * n := by
    unfold mean
    field_simp
  have he : ∑ r ∈ Finset.range n, (x r - mean n x) * (x r - mean n x)
      = ∑ r ∈ Finset.range n, x r * x r - 2 * mean n x * ∑ r ∈ Finset.range n, x r + n * (mean n x * mean n x) := by
    rw [Finset.mul_sum, ← Finset.sum_sub_distrib]
    have : (n : ℝ) * (mean n x * mean n x) = ∑ _r ∈ Finset.range n, mean n x * mean n x := by simp
    rw [this, ← Finset.sum_add_distrib]
    exact Finset.sum_congr rfl fun r _ => by ring
  unfold var
  rw [he, hs]
  field_simp
  ring

/-- The gain over the deviation, as the kernel has it: from the sum and the sum of squares. -/
def gain (n : ℕ) (x : ℕ → ℝ) (g : ℝ) : ℝ :=
  g / Real.sqrt (max ((∑ r ∈ Finset.range n, x r * x r) / n - mean n x * mean n x) 0 + eps)

theorem gain_eq (n : ℕ) (hn : n ≠ 0) (x : ℕ → ℝ) (g : ℝ) : gain n x g = g / spread n x := by
  unfold gain spread
  rw [var_eq n hn, max_eq_left (var_nonneg n x)]

theorem affine_eq (n : ℕ) (hn : n ≠ 0) (x : ℕ → ℝ) (g : ℝ) (b : EReal) (r : ℕ) :
    ((x r * gain n x g : ℝ) : EReal) + (b - ((mean n x * gain n x g : ℝ) : EReal)) = ((scaled n x g r : ℝ) : EReal) + b := by
  rw [sub_eq_add_neg, add_comm b, ← add_assoc, ← EReal.coe_neg, ← EReal.coe_add]
  refine congrArg (fun y : ℝ => (y : EReal) + b) ?_
  rw [gain_eq n hn]
  unfold scaled
  ring

theorem affine_real (n : ℕ) (hn : n ≠ 0) (x : ℕ → ℝ) (g b : ℝ) (r : ℕ) :
    x r * gain n x g + (b - mean n x * gain n x g) = scaled n x g r + b := by
  rw [gain_eq n hn]
  unfold scaled
  ring

/-! ## The layers -/

/-- The columns of the first weight that meet a centre's features, and those that meet a neighbour's. -/
abbrev lo (k : Fin 64) : Fin 128 := ⟨k.val, by omega⟩
abbrev hi (k : Fin 64) : Fin 128 := ⟨64 + k.val, by omega⟩

/-- The values the layers are computed from. -/
structure Values where
  nf : ℕ → Fin 64 → ℝ
  cf : ℕ → Fin 64 → ℝ
  w1 : Fin 64 → Fin 128 → ℝ
  g1 : Fin 64 → ℝ
  b1 : Fin 64 → ℝ
  w2 : Fin 64 → Fin 64 → ℝ
  g2 : Fin 64 → ℝ
  b2 : Fin 64 → ℝ
  ws : Fin 64 → Fin 64 → ℝ
  gs : Fin 64 → ℝ
  bs : Fin 64 → EReal

variable (v : Values)

/-- The first layer's product at row `r`. -/
def lin1 (o : Fin 64) (r : ℕ) : ℝ := (∑ k, v.nf r k * v.w1 o (hi k)) + ∑ k, v.cf (r / 16) k * v.w1 o (lo k)

/-- The first layer's value: normalised, and no less than zero. -/
def act (o : Fin 64) (r : ℕ) : ℝ := max (scaled 65536 (lin1 v o) (v.g1 o) r + v.b1 o) 0

/-- The second layer's product. -/
def lin2 (o : Fin 64) (r : ℕ) : ℝ := ∑ k, act v k r * v.w2 o k

/-- A message. -/
def msg (o : Fin 64) (r : ℕ) : ℝ := scaled 65536 (lin2 v o) (v.g2 o) r + v.b2 o

/-- The largest of a point's sixteen messages. -/
def pool (o : Fin 64) (q : ℕ) : EReal := (Finset.univ : Finset (Fin 16)).fold max ⊥ fun k => (msg v o (16 * q + k.val) : EReal)

/-- The shortcut's product. -/
def skip (o : Fin 64) (q : ℕ) : ℝ := ∑ k, v.cf q k * v.ws o k

/-- The result at point `q` and channel `o`. -/
def result (o : Fin 64) (q : ℕ) : EReal := max (pool v o q + ((scaled 4096 (skip v o) (v.gs o) q : EReal) + v.bs o)) 0

/-- The largest message is one of them, so it is a real number. -/
theorem pool_real (o : Fin 64) (q : ℕ) : ∃ y : ℝ, pool v o q = (y : EReal) := by
  have h : pool v o q = (Finset.univ : Finset (Fin 16)).sup fun k => (msg v o (16 * q + k.val) : EReal) := rfl
  obtain ⟨k, -, hk⟩ := Finset.exists_mem_eq_sup (Finset.univ : Finset (Fin 16)) ⟨0, Finset.mem_univ _⟩ fun k => (msg v o (16 * q + k.val) : EReal)
  exact ⟨_, h.trans hk⟩

/-! ## Sums in blocks -/

/-- A sum over the rows before the next block is the one before this block, and the block's own. -/
theorem sum_next (x : ℕ → ℝ) (size t : ℕ) :
    ∑ r ∈ Finset.range (size * (t + 1)), x r = ∑ r ∈ Finset.range (size * t), x r + ∑ i : Fin size, x (size * t + i.val) := by
  rw [Nat.mul_add, Nat.mul_one, Finset.sum_range_add, Finset.sum_range fun i => x (size * t + i)]

/-- A sum over a pair of counts is one over their combined count. -/
theorem sum_pairs (x : ℕ → ℝ) (a b : ℕ) :
    ∑ i : Fin a, ∑ j : Fin b, x (b * i.val + j.val) = ∑ r ∈ Finset.range (b * a), x r := by
  induction a with
  | zero => simp
  | succ a ih => rw [sum_next x b a, ← ih, Fin.sum_univ_castSucc]; rfl

end Cert.Proof.Layers

end
-- ==== Proof.LayersParts.lean ====
/-
  What each point of the first two passes leaves in its outputs, from the blocks it is given: the products, and the running sums
  with the block's own added.
-/
module

public import proofs.«01_k».proof.Proof.Gen.LayersIdeal.Frame
public import Idealize.ShloMosaic.Lib.VecWindow

@[expose] public section

set_option maxRecDepth 16384

noncomputable section

namespace Cert.Proof.Layers

open Idealize.ShloMosaic Idealize.ShloMosaic.TcCoe Cert.LayersIdeal Cert.LayersIdeal.Gen

section Region0
variable {F : FTy → Type} [FloatOps F]
variable (c : Dev nD) (i : grid0.Coords) (arg1 : Memref sig .tc .vmem S8192x64 .f32) (harg1 : arg1.IsWhole) (arg2 : Memref sig .tc .vmem S512x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S8192x64 .f32) (harg6 : arg6.IsWhole) (arg7 : Memref sig .tc .vmem S512x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole)
  (hA : cond0_0 i) (hB : ¬ cond0_0 i) (x0 : Vec F S8192x64 .f32) (x1 : Vec F S512x64 .f32) (x2 : Vec F S64x64 .f32) (x3 : Vec F S64x64 .f32) (x4 : Vec F S64x64 .f32) (xo7 : Vec F S1x64 .f32) (xo8 : Vec F S1x64 .f32) (xo9 : Vec F S1x64 .f32) (xo10 : Vec F S1x64 .f32)

theorem left0_A_5 : out0_A_5 c i arg1 harg1 arg2 harg2 arg3 harg3 arg4 harg4 arg5 harg5 arg6 harg6 arg7 harg7 arg8 harg8 arg9 harg9 arg10 harg10 arg11 harg11 hA x0 x1 x2 x3 x4 = k0_pay4 x0 x2 x1 x3 := by
  have r_x0 : View.readAt (Elt F) arg1.view (Rect.unit (s := S8192x64) ![0, 0] S8192x64.size inb_S8192x64_S8192x64_0_0).toLoadRect (harg1.unread x0) = x0 := (View.readAt_full arg1.view _ _).trans (harg1.read_unread x0)
  have r_x1 : View.readAt (Elt F) arg2.view (Rect.unit (s := S512x64) ![0, 0] S512x64.size inb_S512x64_S512x64_0_0).toLoadRect (harg2.unread x1) = x1 := (View.readAt_full arg2.view _ _).trans (harg2.read_unread x1)
  have r_x2 : View.readAt (Elt F) arg3.view (Rect.unit (s := S64x64) ![0, 0] S64x64.size inb_S64x64_S64x64_0_0).toLoadRect (harg3.unread x2) = x2 := (View.readAt_full arg3.view _ _).trans (harg3.read_unread x2)
  have r_x3 : View.readAt (Elt F) arg4.view (Rect.unit (s := S64x64) ![0, 0] S64x64.size inb_S64x64_S64x64_0_0).toLoadRect (harg4.unread x3) = x3 := (View.readAt_full arg4.view _ _).trans (harg4.read_unread x3)
  have r_x4 : View.readAt (Elt F) arg5.view (Rect.unit (s := S64x64) ![0, 0] S64x64.size inb_S64x64_S64x64_0_0).toLoadRect (harg5.unread x4) = x4 := (View.readAt_full arg5.view _ _).trans (harg5.read_unread x4)
  unfold out0_A_5
  dsimp only [kernelRun0_A]
  exact Eq.trans (b := k0_pay4 (View.readAt (Elt F) arg1.view (Rect.unit (s := S8192x64) ![0, 0] S8192x64.size inb_S8192x64_S8192x64_0_0).toLoadRect (harg1.unread x0)) (View.readAt (Elt F) arg3.view (Rect.unit (s := S64x64) ![0, 0] S64x64.size inb_S64x64_S64x64_0_0).toLoadRect (harg3.unread x2)) (View.readAt (Elt F) arg2.view (Rect.unit (s := S512x64) ![0, 0] S512x64.size inb_S512x64_S512x64_0_0).toLoadRect (harg2.unread x1)) (View.readAt (Elt F) arg4.view (Rect.unit (s := S64x64) ![0, 0] S64x64.size inb_S64x64_S64x64_0_0).toLoadRect (harg4.unread x3))) (View.read_writes_full _ _ _ _ _) (by rw [r_x0, r_x1, r_x2, r_x3])

theorem left0_A_6 : out0_A_6 c i arg1 harg1 arg2 harg2 arg3 harg3 arg4 harg4 arg5 harg5 arg6 harg6 arg7 harg7 arg8 harg8 arg9 harg9 arg10 harg10 arg11 harg11 hA x0 x1 x2 x3 x4 = k0_pay5 x1 x4 := by
  have r_x0 : View.readAt (Elt F) arg1.view (Rect.unit (s := S8192x64) ![0, 0] S8192x64.size inb_S8192x64_S8192x64_0_0).toLoadRect (harg1.unread x0) = x0 := (View.readAt_full arg1.view _ _).trans (harg1.read_unread x0)
  have r_x1 : View.readAt (Elt F) arg2.view (Rect.unit (s := S512x64) ![0, 0] S512x64.size inb_S512x64_S512x64_0_0).toLoadRect (harg2.unread x1) = x1 := (View.readAt_full arg2.view _ _).trans (harg2.read_unread x1)
  have r_x2 : View.readAt (Elt F) arg3.view (Rect.unit (s := S64x64) ![0, 0] S64x64.size inb_S64x64_S64x64_0_0).toLoadRect (harg3.unread x2) = x2 := (View.readAt_full arg3.view _ _).trans (harg3.read_unread x2)
  have r_x3 : View.readAt (Elt F) arg4.view (Rect.unit (s := S64x64) ![0, 0] S64x64.size inb_S64x64_S64x64_0_0).toLoadRect (harg4.unread x3) = x3 := (View.readAt_full arg4.view _ _).trans (harg4.read_unread x3)
  have r_x4 : View.readAt (Elt F) arg5.view (Rect.unit (s := S64x64) ![0, 0] S64x64.size inb_S64x64_S64x64_0_0).toLoadRect (harg5.unread x4) = x4 := (View.readAt_full arg5.view _ _).trans (harg5.read_unread x4)
  unfold out0_A_6
  dsimp only [kernelRun0_A]
  exact Eq.trans (b := k0_pay5 (View.readAt (Elt F) arg2.view (Rect.unit (s := S512x64) ![0, 0] S512x64.size inb_S512x64_S512x64_0_0).toLoadRect (harg2.unread x1)) (View.readAt (Elt F) arg5.view (Rect.unit (s := S64x64) ![0, 0] S64x64.size inb_S64x64_S64x64_0_0).toLoadRect (harg5.unread x4))) (View.read_writes_full _ _ _ _ _) (by rw [r_x1, r_x4])

theorem left0_A_7 : out0_A_7 c i arg1 harg1 arg2 harg2 arg3 harg3 arg4 harg4 arg5 harg5 arg6 harg6 arg7 harg7 arg8 harg8 arg9 harg9 arg10 harg10 arg11 harg11 hA x0 x1 x2 x3 x4 = k0_pay10 x0 x2 x1 x3 (k0_pay6 (F := F)) := by
  have r_x0 : View.readAt (Elt F) arg1.view (Rect.unit (s := S8192x64) ![0, 0] S8192x64.size inb_S8192x64_S8192x64_0_0).toLoadRect (harg1.unread x0) = x0 := (View.readAt_full arg1.view _ _).trans (harg1.read_unread x0)
  have r_x1 : View.readAt (Elt F) arg2.view (Rect.unit (s := S512x64) ![0, 0] S512x64.size inb_S512x64_S512x64_0_0).toLoadRect (harg2.unread x1) = x1 := (View.readAt_full arg2.view _ _).trans (harg2.read_unread x1)
  have r_x2 : View.readAt (Elt F) arg3.view (Rect.unit (s := S64x64) ![0, 0] S64x64.size inb_S64x64_S64x64_0_0).toLoadRect (harg3.unread x2) = x2 := (View.readAt_full arg3.view _ _).trans (harg3.read_unread x2)
  have r_x3 : View.readAt (Elt F) arg4.view (Rect.unit (s := S64x64) ![0, 0] S64x64.size inb_S64x64_S64x64_0_0).toLoadRect (harg4.unread x3) = x3 := (View.readAt_full arg4.view _ _).trans (harg4.read_unread x3)
  have r_x4 : View.readAt (Elt F) arg5.view (Rect.unit (s := S64x64) ![0, 0] S64x64.size inb_S64x64_S64x64_0_0).toLoadRect (harg5.unread x4) = x4 := (View.readAt_full arg5.view _ _).trans (harg5.read_unread x4)
  unfold out0_A_7
  dsimp only [kernelRun0_A]
  have r_acc : arg8.view.readCov (Val := Elt F) [⟨Rect.unit (s := S1x64) ![0, 0] S1x64.size inb_S1x64_S1x64_0_0, k0_pay6 (F := F)⟩] (Rect.unit (s := S1x64) ![0, 0] S1x64.size inb_S1x64_S1x64_0_0).toLoadRect = k0_pay6 (F := F) := View.readCov_full arg8.view _ _ _ _
  exact Eq.trans (b := k0_pay10 (View.readAt (Elt F) arg1.view (Rect.unit (s := S8192x64) ![0, 0] S8192x64.size inb_S8192x64_S8192x64_0_0).toLoadRect (harg1.unread x0)) (View.readAt (Elt F) arg3.view (Rect.unit (s := S64x64) ![0, 0] S64x64.size inb_S64x64_S64x64_0_0).toLoadRect (harg3.unread x2)) (View.readAt (Elt F) arg2.view (Rect.unit (s := S512x64) ![0, 0] S512x64.size inb_S512x64_S512x64_0_0).toLoadRect (harg2.unread x1)) (View.readAt (Elt F) arg4.view (Rect.unit (s := S64x64) ![0, 0] S64x64.size inb_S64x64_S64x64_0_0).toLoadRect (harg4.unread x3)) (arg8.view.readCov (Val := Elt F) [⟨Rect.unit (s := S1x64) ![0, 0] S1x64.size inb_S1x64_S1x64_0_0, k0_pay6 (F := F)⟩] (Rect.unit (s := S1x64) ![0, 0] S1x64.size inb_S1x64_S1x64_0_0).toLoadRect)) (View.read_writes_full _ _ _ _ _) (by rw [r_x0, r_x1, r_x2, r_x3, r_acc])

theorem left0_A_8 : out0_A_8 c i arg1 harg1 arg2 harg2 arg3 harg3 arg4 harg4 arg5 harg5 arg6 harg6 arg7 harg7 arg8 harg8 arg9 harg9 arg10 harg10 arg11 harg11 hA x0 x1 x2 x3 x4 = k0_pay1 (k0_pay4 x0 x2 x1 x3) (k0_pay7 (F := F)) := by
  have r_x0 : View.readAt (Elt F) arg1.view (Rect.unit (s := S8192x64) ![0, 0] S8192x64.size inb_S8192x64_S8192x64_0_0).toLoadRect (harg1.unread x0) = x0 := (View.readAt_full arg1.view _ _).trans (harg1.read_unread x0)
  have r_x1 : View.readAt (Elt F) arg2.view (Rect.unit (s := S512x64) ![0, 0] S512x64.size inb_S512x64_S512x64_0_0).toLoadRect (harg2.unread x1) = x1 := (View.readAt_full arg2.view _ _).trans (harg2.read_unread x1)
  have r_x2 : View.readAt (Elt F) arg3.view (Rect.unit (s := S64x64) ![0, 0] S64x64.size inb_S64x64_S64x64_0_0).toLoadRect (harg3.unread x2) = x2 := (View.readAt_full arg3.view _ _).trans (harg3.read_unread x2)
  have r_x3 : View.readAt (Elt F) arg4.view (Rect.unit (s := S64x64) ![0, 0] S64x64.size inb_S64x64_S64x64_0_0).toLoadRect (harg4.unread x3) = x3 := (View.readAt_full arg4.view _ _).trans (harg4.read_unread x3)
  have r_x4 : View.readAt (Elt F) arg5.view (Rect.unit (s := S64x64) ![0, 0] S64x64.size inb_S64x64_S64x64_0_0).toLoadRect (harg5.unread x4) = x4 := (View.readAt_full arg5.view _ _).trans (harg5.read_unread x4)
  unfold out0_A_8
  dsimp only [kernelRun0_A]
  have r_acc : arg9.view.readCov (Val := Elt F) [⟨Rect.unit (s := S1x64) ![0, 0] S1x64.size inb_S1x64_S1x64_0_0, k0_pay7 (F := F)⟩] (Rect.unit (s := S1x64) ![0, 0] S1x64.size inb_S1x64_S1x64_0_0).toLoadRect = k0_pay7 (F := F) := View.readCov_full arg9.view _ _ _ _
  exact Eq.trans (b := k0_pay1 (k0_pay4 (View.readAt (Elt F) arg1.view (Rect.unit (s := S8192x64) ![0, 0] S8192x64.size inb_S8192x64_S8192x64_0_0).toLoadRect (harg1.unread x0)) (View.readAt (Elt F) arg3.view (Rect.unit (s := S64x64) ![0, 0] S64x64.size inb_S64x64_S64x64_0_0).toLoadRect (harg3.unread x2)) (View.readAt (Elt F) arg2.view (Rect.unit (s := S512x64) ![0, 0] S512x64.size inb_S512x64_S512x64_0_0).toLoadRect (harg2.unread x1)) (View.readAt (Elt F) arg4.view (Rect.unit (s := S64x64) ![0, 0] S64x64.size inb_S64x64_S64x64_0_0).toLoadRect (harg4.unread x3))) (arg9.view.readCov (Val := Elt F) [⟨Rect.unit (s := S1x64) ![0, 0] S1x64.size inb_S1x64_S1x64_0_0, k0_pay7 (F := F)⟩] (Rect.unit (s := S1x64) ![0, 0] S1x64.size inb_S1x64_S1x64_0_0).toLoadRect)) (View.read_writes_full _ _ _ _ _) (by rw [r_x0, r_x1, r_x2, r_x3, r_acc])

theorem left0_A_9 : out0_A_9 c i arg1 harg1 arg2 harg2 arg3 harg3 arg4 harg4 arg5 harg5 arg6 harg6 arg7 harg7 arg8 harg8 arg9 harg9 arg10 harg10 arg11 harg11 hA x0 x1 x2 x3 x4 = k0_pay2 (k0_pay5 x1 x4) (k0_pay8 (F := F)) := by
  have r_x0 : View.readAt (Elt F) arg1.view (Rect.unit (s := S8192x64) ![0, 0] S8192x64.size inb_S8192x64_S8192x64_0_0).toLoadRect (harg1.unread x0) = x0 := (View.readAt_full arg1.view _ _).trans (harg1.read_unread x0)
  have r_x1 : View.readAt (Elt F) arg2.view (Rect.unit (s := S512x64) ![0, 0] S512x64.size inb_S512x64_S512x64_0_0).toLoadRect (harg2.unread x1) = x1 := (View.readAt_full arg2.view _ _).trans (harg2.read_unread x1)
  have r_x2 : View.readAt (Elt F) arg3.view (Rect.unit (s := S64x64) ![0, 0] S64x64.size inb_S64x64_S64x64_0_0).toLoadRect (harg3.unread x2) = x2 := (View.readAt_full arg3.view _ _).trans (harg3.read_unread x2)
  have r_x3 : View.readAt (Elt F) arg4.view (Rect.unit (s := S64x64) ![0, 0] S64x64.size inb_S64x64_S64x64_0_0).toLoadRect (harg4.unread x3) = x3 := (View.readAt_full arg4.view _ _).trans (harg4.read_unread x3)
  have r_x4 : View.readAt (Elt F) arg5.view (Rect.unit (s := S64x64) ![0, 0] S64x64.size inb_S64x64_S64x64_0_0).toLoadRect (harg5.unread x4) = x4 := (View.readAt_full arg5.view _ _).trans (harg5.read_unread x4)
  unfold out0_A_9
  dsimp only [kernelRun0_A]
  have r_acc : arg10.view.readCov (Val := Elt F) [⟨Rect.unit (s := S1x64) ![0, 0] S1x64.size inb_S1x64_S1x64_0_0, k0_pay8 (F := F)⟩] (Rect.unit (s := S1x64) ![0, 0] S1x64.size inb_S1x64_S1x64_0_0).toLoadRect = k0_pay8 (F := F) := View.readCov_full arg10.view _ _ _ _
  exact Eq.trans (b := k0_pay2 (k0_pay5 (View.readAt (Elt F) arg2.view (Rect.unit (s := S512x64) ![0, 0] S512x64.size inb_S512x64_S512x64_0_0).toLoadRect (harg2.unread x1)) (View.readAt (Elt F) arg5.view (Rect.unit (s := S64x64) ![0, 0] S64x64.size inb_S64x64_S64x64_0_0).toLoadRect (harg5.unread x4))) (arg10.view.readCov (Val := Elt F) [⟨Rect.unit (s := S1x64) ![0, 0] S1x64.size inb_S1x64_S1x64_0_0, k0_pay8 (F := F)⟩] (Rect.unit (s := S1x64) ![0, 0] S1x64.size inb_S1x64_S1x64_0_0).toLoadRect)) (View.read_writes_full _ _ _ _ _) (by rw [r_x1, r_x4, r_acc])

theorem left0_A_10 : out0_A_10 c i arg1 harg1 arg2 harg2 arg3 harg3 arg4 harg4 arg5 harg5 arg6 harg6 arg7 harg7 arg8 harg8 arg9 harg9 arg10 harg10 arg11 harg11 hA x0 x1 x2 x3 x4 = k0_pay3 (k0_pay5 x1 x4) (k0_pay9 (F := F)) := by
  have r_x0 : View.readAt (Elt F) arg1.view (Rect.unit (s := S8192x64) ![0, 0] S8192x64.size inb_S8192x64_S8192x64_0_0).toLoadRect (harg1.unread x0) = x0 := (View.readAt_full arg1.view _ _).trans (harg1.read_unread x0)
  have r_x1 : View.readAt (Elt F) arg2.view (Rect.unit (s := S512x64) ![0, 0] S512x64.size inb_S512x64_S512x64_0_0).toLoadRect (harg2.unread x1) = x1 := (View.readAt_full arg2.view _ _).trans (harg2.read_unread x1)
  have r_x2 : View.readAt (Elt F) arg3.view (Rect.unit (s := S64x64) ![0, 0] S64x64.size inb_S64x64_S64x64_0_0).toLoadRect (harg3.unread x2) = x2 := (View.readAt_full arg3.view _ _).trans (harg3.read_unread x2)
  have r_x3 : View.readAt (Elt F) arg4.view (Rect.unit (s := S64x64) ![0, 0] S64x64.size inb_S64x64_S64x64_0_0).toLoadRect (harg4.unread x3) = x3 := (View.readAt_full arg4.view _ _).trans (harg4.read_unread x3)
  have r_x4 : View.readAt (Elt F) arg5.view (Rect.unit (s := S64x64) ![0, 0] S64x64.size inb_S64x64_S64x64_0_0).toLoadRect (harg5.unread x4) = x4 := (View.readAt_full arg5.view _ _).trans (harg5.read_unread x4)
  unfold out0_A_10
  dsimp only [kernelRun0_A]
  have r_acc : arg11.view.readCov (Val := Elt F) [⟨Rect.unit (s := S1x64) ![0, 0] S1x64.size inb_S1x64_S1x64_0_0, k0_pay9 (F := F)⟩] (Rect.unit (s := S1x64) ![0, 0] S1x64.size inb_S1x64_S1x64_0_0).toLoadRect = k0_pay9 (F := F) := View.readCov_full arg11.view _ _ _ _
  exact Eq.trans (b := k0_pay3 (k0_pay5 (View.readAt (Elt F) arg2.view (Rect.unit (s := S512x64) ![0, 0] S512x64.size inb_S512x64_S512x64_0_0).toLoadRect (harg2.unread x1)) (View.readAt (Elt F) arg5.view (Rect.unit (s := S64x64) ![0, 0] S64x64.size inb_S64x64_S64x64_0_0).toLoadRect (harg5.unread x4))) (arg11.view.readCov (Val := Elt F) [⟨Rect.unit (s := S1x64) ![0, 0] S1x64.size inb_S1x64_S1x64_0_0, k0_pay9 (F := F)⟩] (Rect.unit (s := S1x64) ![0, 0] S1x64.size inb_S1x64_S1x64_0_0).toLoadRect)) (View.read_writes_full _ _ _ _ _) (by rw [r_x1, r_x4, r_acc])

theorem left0_B_5 : out0_B_5 c i arg1 harg1 arg2 harg2 arg3 harg3 arg4 harg4 arg5 harg5 arg6 harg6 arg7 harg7 arg8 harg8 arg9 harg9 arg10 harg10 arg11 harg11 hB x0 x1 x2 x3 x4 xo7 xo8 xo9 xo10 = k0_pay4 x0 x2 x1 x3 := by
  have r_x0 : View.readAt (Elt F) arg1.view (Rect.unit (s := S8192x64) ![0, 0] S8192x64.size inb_S8192x64_S8192x64_0_0).toLoadRect (harg1.unread x0) = x0 := (View.readAt_full arg1.view _ _).trans (harg1.read_unread x0)
  have r_x1 : View.readAt (Elt F) arg2.view (Rect.unit (s := S512x64) ![0, 0] S512x64.size inb_S512x64_S512x64_0_0).toLoadRect (harg2.unread x1) = x1 := (View.readAt_full arg2.view _ _).trans (harg2.read_unread x1)
  have r_x2 : View.readAt (Elt F) arg3.view (Rect.unit (s := S64x64) ![0, 0] S64x64.size inb_S64x64_S64x64_0_0).toLoadRect (harg3.unread x2) = x2 := (View.readAt_full arg3.view _ _).trans (harg3.read_unread x2)
  have r_x3 : View.readAt (Elt F) arg4.view (Rect.unit (s := S64x64) ![0, 0] S64x64.size inb_S64x64_S64x64_0_0).toLoadRect (harg4.unread x3) = x3 := (View.readAt_full arg4.view _ _).trans (harg4.read_unread x3)
  have r_x4 : View.readAt (Elt F) arg5.view (Rect.unit (s := S64x64) ![0, 0] S64x64.size inb_S64x64_S64x64_0_0).toLoadRect (harg5.unread x4) = x4 := (View.readAt_full arg5.view _ _).trans (harg5.read_unread x4)
  have r_xo7 : View.readAt (Elt F) arg8.view (Rect.unit (s := S1x64) ![0, 0] S1x64.size inb_S1x64_S1x64_0_0).toLoadRect (harg8.unread xo7) = xo7 := (View.readAt_full arg8.view _ _).trans (harg8.read_unread xo7)
  have r_xo8 : View.readAt (Elt F) arg9.view (Rect.unit (s := S1x64) ![0, 0] S1x64.size inb_S1x64_S1x64_0_0).toLoadRect (harg9.unread xo8) = xo8 := (View.readAt_full arg9.view _ _).trans (harg9.read_unread xo8)
  have r_xo9 : View.readAt (Elt F) arg10.view (Rect.unit (s := S1x64) ![0, 0] S1x64.size inb_S1x64_S1x64_0_0).toLoadRect (harg10.unread xo9) = xo9 := (View.readAt_full arg10.view _ _).trans (harg10.read_unread xo9)
  have r_xo10 : View.readAt (Elt F) arg11.view (Rect.unit (s := S1x64) ![0, 0] S1x64.size inb_S1x64_S1x64_0_0).toLoadRect (harg11.unread xo10) = xo10 := (View.readAt_full arg11.view _ _).trans (harg11.read_unread xo10)
  unfold out0_B_5
  dsimp only [kernelRun0_B]
  exact Eq.trans (b := k0_pay4 (View.readAt (Elt F) arg1.view (Rect.unit (s := S8192x64) ![0, 0] S8192x64.size inb_S8192x64_S8192x64_0_0).toLoadRect (harg1.unread x0)) (View.readAt (Elt F) arg3.view (Rect.unit (s := S64x64) ![0, 0] S64x64.size inb_S64x64_S64x64_0_0).toLoadRect (harg3.unread x2)) (View.readAt (Elt F) arg2.view (Rect.unit (s := S512x64) ![0, 0] S512x64.size inb_S512x64_S512x64_0_0).toLoadRect (harg2.unread x1)) (View.readAt (Elt F) arg4.view (Rect.unit (s := S64x64) ![0, 0] S64x64.size inb_S64x64_S64x64_0_0).toLoadRect (harg4.unread x3))) (View.read_writes_full _ _ _ _ _) (by rw [r_x0, r_x1, r_x2, r_x3])

theorem left0_B_6 : out0_B_6 c i arg1 harg1 arg2 harg2 arg3 harg3 arg4 harg4 arg5 harg5 arg6 harg6 arg7 harg7 arg8 harg8 arg9 harg9 arg10 harg10 arg11 harg11 hB x0 x1 x2 x3 x4 xo7 xo8 xo9 xo10 = k0_pay5 x1 x4 := by
  have r_x0 : View.readAt (Elt F) arg1.view (Rect.unit (s := S8192x64) ![0, 0] S8192x64.size inb_S8192x64_S8192x64_0_0).toLoadRect (harg1.unread x0) = x0 := (View.readAt_full arg1.view _ _).trans (harg1.read_unread x0)
  have r_x1 : View.readAt (Elt F) arg2.view (Rect.unit (s := S512x64) ![0, 0] S512x64.size inb_S512x64_S512x64_0_0).toLoadRect (harg2.unread x1) = x1 := (View.readAt_full arg2.view _ _).trans (harg2.read_unread x1)
  have r_x2 : View.readAt (Elt F) arg3.view (Rect.unit (s := S64x64) ![0, 0] S64x64.size inb_S64x64_S64x64_0_0).toLoadRect (harg3.unread x2) = x2 := (View.readAt_full arg3.view _ _).trans (harg3.read_unread x2)
  have r_x3 : View.readAt (Elt F) arg4.view (Rect.unit (s := S64x64) ![0, 0] S64x64.size inb_S64x64_S64x64_0_0).toLoadRect (harg4.unread x3) = x3 := (View.readAt_full arg4.view _ _).trans (harg4.read_unread x3)
  have r_x4 : View.readAt (Elt F) arg5.view (Rect.unit (s := S64x64) ![0, 0] S64x64.size inb_S64x64_S64x64_0_0).toLoadRect (harg5.unread x4) = x4 := (View.readAt_full arg5.view _ _).trans (harg5.read_unread x4)
  have r_xo7 : View.readAt (Elt F) arg8.view (Rect.unit (s := S1x64) ![0, 0] S1x64.size inb_S1x64_S1x64_0_0).toLoadRect (harg8.unread xo7) = xo7 := (View.readAt_full arg8.view _ _).trans (harg8.read_unread xo7)
  have r_xo8 : View.readAt (Elt F) arg9.view (Rect.unit (s := S1x64) ![0, 0] S1x64.size inb_S1x64_S1x64_0_0).toLoadRect (harg9.unread xo8) = xo8 := (View.readAt_full arg9.view _ _).trans (harg9.read_unread xo8)
  have r_xo9 : View.readAt (Elt F) arg10.view (Rect.unit (s := S1x64) ![0, 0] S1x64.size inb_S1x64_S1x64_0_0).toLoadRect (harg10.unread xo9) = xo9 := (View.readAt_full arg10.view _ _).trans (harg10.read_unread xo9)
  have r_xo10 : View.readAt (Elt F) arg11.view (Rect.unit (s := S1x64) ![0, 0] S1x64.size inb_S1x64_S1x64_0_0).toLoadRect (harg11.unread xo10) = xo10 := (View.readAt_full arg11.view _ _).trans (harg11.read_unread xo10)
  unfold out0_B_6
  dsimp only [kernelRun0_B]
  exact Eq.trans (b := k0_pay5 (View.readAt (Elt F) arg2.view (Rect.unit (s := S512x64) ![0, 0] S512x64.size inb_S512x64_S512x64_0_0).toLoadRect (harg2.unread x1)) (View.readAt (Elt F) arg5.view (Rect.unit (s := S64x64) ![0, 0] S64x64.size inb_S64x64_S64x64_0_0).toLoadRect (harg5.unread x4))) (View.read_writes_full _ _ _ _ _) (by rw [r_x1, r_x4])

theorem left0_B_7 : out0_B_7 c i arg1 harg1 arg2 harg2 arg3 harg3 arg4 harg4 arg5 harg5 arg6 harg6 arg7 harg7 arg8 harg8 arg9 harg9 arg10 harg10 arg11 harg11 hB x0 x1 x2 x3 x4 xo7 xo8 xo9 xo10 = k0_pay10 x0 x2 x1 x3 xo7 := by
  have r_x0 : View.readAt (Elt F) arg1.view (Rect.unit (s := S8192x64) ![0, 0] S8192x64.size inb_S8192x64_S8192x64_0_0).toLoadRect (harg1.unread x0) = x0 := (View.readAt_full arg1.view _ _).trans (harg1.read_unread x0)
  have r_x1 : View.readAt (Elt F) arg2.view (Rect.unit (s := S512x64) ![0, 0] S512x64.size inb_S512x64_S512x64_0_0).toLoadRect (harg2.unread x1) = x1 := (View.readAt_full arg2.view _ _).trans (harg2.read_unread x1)
  have r_x2 : View.readAt (Elt F) arg3.view (Rect.unit (s := S64x64) ![0, 0] S64x64.size inb_S64x64_S64x64_0_0).toLoadRect (harg3.unread x2) = x2 := (View.readAt_full arg3.view _ _).trans (harg3.read_unread x2)
  have r_x3 : View.readAt (Elt F) arg4.view (Rect.unit (s := S64x64) ![0, 0] S64x64.size inb_S64x64_S64x64_0_0).toLoadRect (harg4.unread x3) = x3 := (View.readAt_full arg4.view _ _).trans (harg4.read_unread x3)
  have r_x4 : View.readAt (Elt F) arg5.view (Rect.unit (s := S64x64) ![0, 0] S64x64.size inb_S64x64_S64x64_0_0).toLoadRect (harg5.unread x4) = x4 := (View.readAt_full arg5.view _ _).trans (harg5.read_unread x4)
  have r_xo7 : View.readAt (Elt F) arg8.view (Rect.unit (s := S1x64) ![0, 0] S1x64.size inb_S1x64_S1x64_0_0).toLoadRect (harg8.unread xo7) = xo7 := (View.readAt_full arg8.view _ _).trans (harg8.read_unread xo7)
  have r_xo8 : View.readAt (Elt F) arg9.view (Rect.unit (s := S1x64) ![0, 0] S1x64.size inb_S1x64_S1x64_0_0).toLoadRect (harg9.unread xo8) = xo8 := (View.readAt_full arg9.view _ _).trans (harg9.read_unread xo8)
  have r_xo9 : View.readAt (Elt F) arg10.view (Rect.unit (s := S1x64) ![0, 0] S1x64.size inb_S1x64_S1x64_0_0).toLoadRect (harg10.unread xo9) = xo9 := (View.readAt_full arg10.view _ _).trans (harg10.read_unread xo9)
  have r_xo10 : View.readAt (Elt F) arg11.view (Rect.unit (s := S1x64) ![0, 0] S1x64.size inb_S1x64_S1x64_0_0).toLoadRect (harg11.unread xo10) = xo10 := (View.readAt_full arg11.view _ _).trans (harg11.read_unread xo10)
  unfold out0_B_7
  dsimp only [kernelRun0_B]
  exact Eq.trans (b := k0_pay10 (View.readAt (Elt F) arg1.view (Rect.unit (s := S8192x64) ![0, 0] S8192x64.size inb_S8192x64_S8192x64_0_0).toLoadRect (harg1.unread x0)) (View.readAt (Elt F) arg3.view (Rect.unit (s := S64x64) ![0, 0] S64x64.size inb_S64x64_S64x64_0_0).toLoadRect (harg3.unread x2)) (View.readAt (Elt F) arg2.view (Rect.unit (s := S512x64) ![0, 0] S512x64.size inb_S512x64_S512x64_0_0).toLoadRect (harg2.unread x1)) (View.readAt (Elt F) arg4.view (Rect.unit (s := S64x64) ![0, 0] S64x64.size inb_S64x64_S64x64_0_0).toLoadRect (harg4.unread x3)) (View.readAt (Elt F) arg8.view (Rect.unit (s := S1x64) ![0, 0] S1x64.size inb_S1x64_S1x64_0_0).toLoadRect (harg8.unread xo7))) (View.read_writes_full _ _ _ _ _) (by rw [r_x0, r_x1, r_x2, r_x3, r_xo7])

theorem left0_B_8 : out0_B_8 c i arg1 harg1 arg2 harg2 arg3 harg3 arg4 harg4 arg5 harg5 arg6 harg6 arg7 harg7 arg8 harg8 arg9 harg9 arg10 harg10 arg11 harg11 hB x0 x1 x2 x3 x4 xo7 xo8 xo9 xo10 = k0_pay1 (k0_pay4 x0 x2 x1 x3) xo8 := by
  have r_x0 : View.readAt (Elt F) arg1.view (Rect.unit (s := S8192x64) ![0, 0] S8192x64.size inb_S8192x64_S8192x64_0_0).toLoadRect (harg1.unread x0) = x0 := (View.readAt_full arg1.view _ _).trans (harg1.read_unread x0)
  have r_x1 : View.readAt (Elt F) arg2.view (Rect.unit (s := S512x64) ![0, 0] S512x64.size inb_S512x64_S512x64_0_0).toLoadRect (harg2.unread x1) = x1 := (View.readAt_full arg2.view _ _).trans (harg2.read_unread x1)
  have r_x2 : View.readAt (Elt F) arg3.view (Rect.unit (s := S64x64) ![0, 0] S64x64.size inb_S64x64_S64x64_0_0).toLoadRect (harg3.unread x2) = x2 := (View.readAt_full arg3.view _ _).trans (harg3.read_unread x2)
  have r_x3 : View.readAt (Elt F) arg4.view (Rect.unit (s := S64x64) ![0, 0] S64x64.size inb_S64x64_S64x64_0_0).toLoadRect (harg4.unread x3) = x3 := (View.readAt_full arg4.view _ _).trans (harg4.read_unread x3)
  have r_x4 : View.readAt (Elt F) arg5.view (Rect.unit (s := S64x64) ![0, 0] S64x64.size inb_S64x64_S64x64_0_0).toLoadRect (harg5.unread x4) = x4 := (View.readAt_full arg5.view _ _).trans (harg5.read_unread x4)
  have r_xo7 : View.readAt (Elt F) arg8.view (Rect.unit (s := S1x64) ![0, 0] S1x64.size inb_S1x64_S1x64_0_0).toLoadRect (harg8.unread xo7) = xo7 := (View.readAt_full arg8.view _ _).trans (harg8.read_unread xo7)
  have r_xo8 : View.readAt (Elt F) arg9.view (Rect.unit (s := S1x64) ![0, 0] S1x64.size inb_S1x64_S1x64_0_0).toLoadRect (harg9.unread xo8) = xo8 := (View.readAt_full arg9.view _ _).trans (harg9.read_unread xo8)
  have r_xo9 : View.readAt (Elt F) arg10.view (Rect.unit (s := S1x64) ![0, 0] S1x64.size inb_S1x64_S1x64_0_0).toLoadRect (harg10.unread xo9) = xo9 := (View.readAt_full arg10.view _ _).trans (harg10.read_unread xo9)
  have r_xo10 : View.readAt (Elt F) arg11.view (Rect.unit (s := S1x64) ![0, 0] S1x64.size inb_S1x64_S1x64_0_0).toLoadRect (harg11.unread xo10) = xo10 := (View.readAt_full arg11.view _ _).trans (harg11.read_unread xo10)
  unfold out0_B_8
  dsimp only [kernelRun0_B]
  exact Eq.trans (b := k0_pay1 (k0_pay4 (View.readAt (Elt F) arg1.view (Rect.unit (s := S8192x64) ![0, 0] S8192x64.size inb_S8192x64_S8192x64_0_0).toLoadRect (harg1.unread x0)) (View.readAt (Elt F) arg3.view (Rect.unit (s := S64x64) ![0, 0] S64x64.size inb_S64x64_S64x64_0_0).toLoadRect (harg3.unread x2)) (View.readAt (Elt F) arg2.view (Rect.unit (s := S512x64) ![0, 0] S512x64.size inb_S512x64_S512x64_0_0).toLoadRect (harg2.unread x1)) (View.readAt (Elt F) arg4.view (Rect.unit (s := S64x64) ![0, 0] S64x64.size inb_S64x64_S64x64_0_0).toLoadRect (harg4.unread x3))) (View.readAt (Elt F) arg9.view (Rect.unit (s := S1x64) ![0, 0] S1x64.size inb_S1x64_S1x64_0_0).toLoadRect (harg9.unread xo8))) (View.read_writes_full _ _ _ _ _) (by rw [r_x0, r_x1, r_x2, r_x3, r_xo8])

theorem left0_B_9 : out0_B_9 c i arg1 harg1 arg2 harg2 arg3 harg3 arg4 harg4 arg5 harg5 arg6 harg6 arg7 harg7 arg8 harg8 arg9 harg9 arg10 harg10 arg11 harg11 hB x0 x1 x2 x3 x4 xo7 xo8 xo9 xo10 = k0_pay2 (k0_pay5 x1 x4) xo9 := by
  have r_x0 : View.readAt (Elt F) arg1.view (Rect.unit (s := S8192x64) ![0, 0] S8192x64.size inb_S8192x64_S8192x64_0_0).toLoadRect (harg1.unread x0) = x0 := (View.readAt_full arg1.view _ _).trans (harg1.read_unread x0)
  have r_x1 : View.readAt (Elt F) arg2.view (Rect.unit (s := S512x64) ![0, 0] S512x64.size inb_S512x64_S512x64_0_0).toLoadRect (harg2.unread x1) = x1 := (View.readAt_full arg2.view _ _).trans (harg2.read_unread x1)
  have r_x2 : View.readAt (Elt F) arg3.view (Rect.unit (s := S64x64) ![0, 0] S64x64.size inb_S64x64_S64x64_0_0).toLoadRect (harg3.unread x2) = x2 := (View.readAt_full arg3.view _ _).trans (harg3.read_unread x2)
  have r_x3 : View.readAt (Elt F) arg4.view (Rect.unit (s := S64x64) ![0, 0] S64x64.size inb_S64x64_S64x64_0_0).toLoadRect (harg4.unread x3) = x3 := (View.readAt_full arg4.view _ _).trans (harg4.read_unread x3)
  have r_x4 : View.readAt (Elt F) arg5.view (Rect.unit (s := S64x64) ![0, 0] S64x64.size inb_S64x64_S64x64_0_0).toLoadRect (harg5.unread x4) = x4 := (View.readAt_full arg5.view _ _).trans (harg5.read_unread x4)
  have r_xo7 : View.readAt (Elt F) arg8.view (Rect.unit (s := S1x64) ![0, 0] S1x64.size inb_S1x64_S1x64_0_0).toLoadRect (harg8.unread xo7) = xo7 := (View.readAt_full arg8.view _ _).trans (harg8.read_unread xo7)
  have r_xo8 : View.readAt (Elt F) arg9.view (Rect.unit (s := S1x64) ![0, 0] S1x64.size inb_S1x64_S1x64_0_0).toLoadRect (harg9.unread xo8) = xo8 := (View.readAt_full arg9.view _ _).trans (harg9.read_unread xo8)
  have r_xo9 : View.readAt (Elt F) arg10.view (Rect.unit (s := S1x64) ![0, 0] S1x64.size inb_S1x64_S1x64_0_0).toLoadRect (harg10.unread xo9) = xo9 := (View.readAt_full arg10.view _ _).trans (harg10.read_unread xo9)
  have r_xo10 : View.readAt (Elt F) arg11.view (Rect.unit (s := S1x64) ![0, 0] S1x64.size inb_S1x64_S1x64_0_0).toLoadRect (harg11.unread xo10) = xo10 := (View.readAt_full arg11.view _ _).trans (harg11.read_unread xo10)
  unfold out0_B_9
  dsimp only [kernelRun0_B]
  exact Eq.trans (b := k0_pay2 (k0_pay5 (View.readAt (Elt F) arg2.view (Rect.unit (s := S512x64) ![0, 0] S512x64.size inb_S512x64_S512x64_0_0).toLoadRect (harg2.unread x1)) (View.readAt (Elt F) arg5.view (Rect.unit (s := S64x64) ![0, 0] S64x64.size inb_S64x64_S64x64_0_0).toLoadRect (harg5.unread x4))) (View.readAt (Elt F) arg10.view (Rect.unit (s := S1x64) ![0, 0] S1x64.size inb_S1x64_S1x64_0_0).toLoadRect (harg10.unread xo9))) (View.read_writes_full _ _ _ _ _) (by rw [r_x1, r_x4, r_xo9])

theorem left0_B_10 : out0_B_10 c i arg1 harg1 arg2 harg2 arg3 harg3 arg4 harg4 arg5 harg5 arg6 harg6 arg7 harg7 arg8 harg8 arg9 harg9 arg10 harg10 arg11 harg11 hB x0 x1 x2 x3 x4 xo7 xo8 xo9 xo10 = k0_pay3 (k0_pay5 x1 x4) xo10 := by
  have r_x0 : View.readAt (Elt F) arg1.view (Rect.unit (s := S8192x64) ![0, 0] S8192x64.size inb_S8192x64_S8192x64_0_0).toLoadRect (harg1.unread x0) = x0 := (View.readAt_full arg1.view _ _).trans (harg1.read_unread x0)
  have r_x1 : View.readAt (Elt F) arg2.view (Rect.unit (s := S512x64) ![0, 0] S512x64.size inb_S512x64_S512x64_0_0).toLoadRect (harg2.unread x1) = x1 := (View.readAt_full arg2.view _ _).trans (harg2.read_unread x1)
  have r_x2 : View.readAt (Elt F) arg3.view (Rect.unit (s := S64x64) ![0, 0] S64x64.size inb_S64x64_S64x64_0_0).toLoadRect (harg3.unread x2) = x2 := (View.readAt_full arg3.view _ _).trans (harg3.read_unread x2)
  have r_x3 : View.readAt (Elt F) arg4.view (Rect.unit (s := S64x64) ![0, 0] S64x64.size inb_S64x64_S64x64_0_0).toLoadRect (harg4.unread x3) = x3 := (View.readAt_full arg4.view _ _).trans (harg4.read_unread x3)
  have r_x4 : View.readAt (Elt F) arg5.view (Rect.unit (s := S64x64) ![0, 0] S64x64.size inb_S64x64_S64x64_0_0).toLoadRect (harg5.unread x4) = x4 := (View.readAt_full arg5.view _ _).trans (harg5.read_unread x4)
  have r_xo7 : View.readAt (Elt F) arg8.view (Rect.unit (s := S1x64) ![0, 0] S1x64.size inb_S1x64_S1x64_0_0).toLoadRect (harg8.unread xo7) = xo7 := (View.readAt_full arg8.view _ _).trans (harg8.read_unread xo7)
  have r_xo8 : View.readAt (Elt F) arg9.view (Rect.unit (s := S1x64) ![0, 0] S1x64.size inb_S1x64_S1x64_0_0).toLoadRect (harg9.unread xo8) = xo8 := (View.readAt_full arg9.view _ _).trans (harg9.read_unread xo8)
  have r_xo9 : View.readAt (Elt F) arg10.view (Rect.unit (s := S1x64) ![0, 0] S1x64.size inb_S1x64_S1x64_0_0).toLoadRect (harg10.unread xo9) = xo9 := (View.readAt_full arg10.view _ _).trans (harg10.read_unread xo9)
  have r_xo10 : View.readAt (Elt F) arg11.view (Rect.unit (s := S1x64) ![0, 0] S1x64.size inb_S1x64_S1x64_0_0).toLoadRect (harg11.unread xo10) = xo10 := (View.readAt_full arg11.view _ _).trans (harg11.read_unread xo10)
  unfold out0_B_10
  dsimp only [kernelRun0_B]
  exact Eq.trans (b := k0_pay3 (k0_pay5 (View.readAt (Elt F) arg2.view (Rect.unit (s := S512x64) ![0, 0] S512x64.size inb_S512x64_S512x64_0_0).toLoadRect (harg2.unread x1)) (View.readAt (Elt F) arg5.view (Rect.unit (s := S64x64) ![0, 0] S64x64.size inb_S64x64_S64x64_0_0).toLoadRect (harg5.unread x4))) (View.readAt (Elt F) arg11.view (Rect.unit (s := S1x64) ![0, 0] S1x64.size inb_S1x64_S1x64_0_0).toLoadRect (harg11.unread xo10))) (View.read_writes_full _ _ _ _ _) (by rw [r_x1, r_x4, r_xo10])

end Region0

section Region1
variable {F : FTy → Type} [FloatOps F]
variable (c : Dev nD) (i : grid1.Coords) (arg1 : Memref sig .tc .vmem S8192x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S8192x64 .f32) (harg5 : arg5.IsWhole) (arg6 : Memref sig .tc .vmem S1x64 .f32) (harg6 : arg6.IsWhole) (arg7 : Memref sig .tc .vmem S1x64 .f32) (harg7 : arg7.IsWhole)
  (hA : cond1_0 i) (hB : ¬ cond1_0 i) (x0 : Vec F S8192x64 .f32) (x1 : Vec F S64x64 .f32) (x2 : Vec F S1x64 .f32) (x3 : Vec F S1x64 .f32) (xo5 : Vec F S1x64 .f32) (xo6 : Vec F S1x64 .f32)

theorem left1_A_4 : out1_A_4 c i arg1 harg1 arg2 harg2 arg3 harg3 arg4 harg4 arg5 harg5 arg6 harg6 arg7 harg7 hA x0 x1 x2 x3 = k1_pay1 x0 x2 x3 x1 := by
  have r_x0 : View.readAt (Elt F) arg1.view (Rect.unit (s := S8192x64) ![0, 0] S8192x64.size inb_S8192x64_S8192x64_0_0).toLoadRect (harg1.unread x0) = x0 := (View.readAt_full arg1.view _ _).trans (harg1.read_unread x0)
  have r_x1 : View.readAt (Elt F) arg2.view (Rect.unit (s := S64x64) ![0, 0] S64x64.size inb_S64x64_S64x64_0_0).toLoadRect (harg2.unread x1) = x1 := (View.readAt_full arg2.view _ _).trans (harg2.read_unread x1)
  have r_x2 : View.readAt (Elt F) arg3.view (Rect.unit (s := S1x64) ![0, 0] S1x64.size inb_S1x64_S1x64_0_0).toLoadRect (harg3.unread x2) = x2 := (View.readAt_full arg3.view _ _).trans (harg3.read_unread x2)
  have r_x3 : View.readAt (Elt F) arg4.view (Rect.unit (s := S1x64) ![0, 0] S1x64.size inb_S1x64_S1x64_0_0).toLoadRect (harg4.unread x3) = x3 := (View.readAt_full arg4.view _ _).trans (harg4.read_unread x3)
  unfold out1_A_4
  dsimp only [kernelRun1_A]
  exact Eq.trans (b := k1_pay1 (View.readAt (Elt F) arg1.view (Rect.unit (s := S8192x64) ![0, 0] S8192x64.size inb_S8192x64_S8192x64_0_0).toLoadRect (harg1.unread x0)) (View.readAt (Elt F) arg3.view (Rect.unit (s := S1x64) ![0, 0] S1x64.size inb_S1x64_S1x64_0_0).toLoadRect (harg3.unread x2)) (View.readAt (Elt F) arg4.view (Rect.unit (s := S1x64) ![0, 0] S1x64.size inb_S1x64_S1x64_0_0).toLoadRect (harg4.unread x3)) (View.readAt (Elt F) arg2.view (Rect.unit (s := S64x64) ![0, 0] S64x64.size inb_S64x64_S64x64_0_0).toLoadRect (harg2.unread x1))) (View.read_writes_full _ _ _ _ _) (by rw [r_x0, r_x1, r_x2, r_x3])

theorem left1_A_5 : out1_A_5 c i arg1 harg1 arg2 harg2 arg3 harg3 arg4 harg4 arg5 harg5 arg6 harg6 arg7 harg7 hA x0 x1 x2 x3 = k1_pay4 x0 x2 x3 x1 (k1_pay2 (F := F)) := by
  have r_x0 : View.readAt (Elt F) arg1.view (Rect.unit (s := S8192x64) ![0, 0] S8192x64.size inb_S8192x64_S8192x64_0_0).toLoadRect (harg1.unread x0) = x0 := (View.readAt_full arg1.view _ _).trans (harg1.read_unread x0)
  have r_x1 : View.readAt (Elt F) arg2.view (Rect.unit (s := S64x64) ![0, 0] S64x64.size inb_S64x64_S64x64_0_0).toLoadRect (harg2.unread x1) = x1 := (View.readAt_full arg2.view _ _).trans (harg2.read_unread x1)
  have r_x2 : View.readAt (Elt F) arg3.view (Rect.unit (s := S1x64) ![0, 0] S1x64.size inb_S1x64_S1x64_0_0).toLoadRect (harg3.unread x2) = x2 := (View.readAt_full arg3.view _ _).trans (harg3.read_unread x2)
  have r_x3 : View.readAt (Elt F) arg4.view (Rect.unit (s := S1x64) ![0, 0] S1x64.size inb_S1x64_S1x64_0_0).toLoadRect (harg4.unread x3) = x3 := (View.readAt_full arg4.view _ _).trans (harg4.read_unread x3)
  unfold out1_A_5
  dsimp only [kernelRun1_A]
  have r_acc : arg6.view.readCov (Val := Elt F) [⟨Rect.unit (s := S1x64) ![0, 0] S1x64.size inb_S1x64_S1x64_0_0, k1_pay2 (F := F)⟩] (Rect.unit (s := S1x64) ![0, 0] S1x64.size inb_S1x64_S1x64_0_0).toLoadRect = k1_pay2 (F := F) := View.readCov_full arg6.view _ _ _ _
  exact Eq.trans (b := k1_pay4 (View.readAt (Elt F) arg1.view (Rect.unit (s := S8192x64) ![0, 0] S8192x64.size inb_S8192x64_S8192x64_0_0).toLoadRect (harg1.unread x0)) (View.readAt (Elt F) arg3.view (Rect.unit (s := S1x64) ![0, 0] S1x64.size inb_S1x64_S1x64_0_0).toLoadRect (harg3.unread x2)) (View.readAt (Elt F) arg4.view (Rect.unit (s := S1x64) ![0, 0] S1x64.size inb_S1x64_S1x64_0_0).toLoadRect (harg4.unread x3)) (View.readAt (Elt F) arg2.view (Rect.unit (s := S64x64) ![0, 0] S64x64.size inb_S64x64_S64x64_0_0).toLoadRect (harg2.unread x1)) (arg6.view.readCov (Val := Elt F) [⟨Rect.unit (s := S1x64) ![0, 0] S1x64.size inb_S1x64_S1x64_0_0, k1_pay2 (F := F)⟩] (Rect.unit (s := S1x64) ![0, 0] S1x64.size inb_S1x64_S1x64_0_0).toLoadRect)) (View.read_writes_full _ _ _ _ _) (by rw [r_x0, r_x1, r_x2, r_x3, r_acc])

theorem left1_A_6 : out1_A_6 c i arg1 harg1 arg2 harg2 arg3 harg3 arg4 harg4 arg5 harg5 arg6 harg6 arg7 harg7 hA x0 x1 x2 x3 = k1_pay5 x0 x2 x3 x1 (k1_pay3 (F := F)) := by
  have r_x0 : View.readAt (Elt F) arg1.view (Rect.unit (s := S8192x64) ![0, 0] S8192x64.size inb_S8192x64_S8192x64_0_0).toLoadRect (harg1.unread x0) = x0 := (View.readAt_full arg1.view _ _).trans (harg1.read_unread x0)
  have r_x1 : View.readAt (Elt F) arg2.view (Rect.unit (s := S64x64) ![0, 0] S64x64.size inb_S64x64_S64x64_0_0).toLoadRect (harg2.unread x1) = x1 := (View.readAt_full arg2.view _ _).trans (harg2.read_unread x1)
  have r_x2 : View.readAt (Elt F) arg3.view (Rect.unit (s := S1x64) ![0, 0] S1x64.size inb_S1x64_S1x64_0_0).toLoadRect (harg3.unread x2) = x2 := (View.readAt_full arg3.view _ _).trans (harg3.read_unread x2)
  have r_x3 : View.readAt (Elt F) arg4.view (Rect.unit (s := S1x64) ![0, 0] S1x64.size inb_S1x64_S1x64_0_0).toLoadRect (harg4.unread x3) = x3 := (View.readAt_full arg4.view _ _).trans (harg4.read_unread x3)
  unfold out1_A_6
  dsimp only [kernelRun1_A]
  have r_acc : arg7.view.readCov (Val := Elt F) [⟨Rect.unit (s := S1x64) ![0, 0] S1x64.size inb_S1x64_S1x64_0_0, k1_pay3 (F := F)⟩] (Rect.unit (s := S1x64) ![0, 0] S1x64.size inb_S1x64_S1x64_0_0).toLoadRect = k1_pay3 (F := F) := View.readCov_full arg7.view _ _ _ _
  exact Eq.trans (b := k1_pay5 (View.readAt (Elt F) arg1.view (Rect.unit (s := S8192x64) ![0, 0] S8192x64.size inb_S8192x64_S8192x64_0_0).toLoadRect (harg1.unread x0)) (View.readAt (Elt F) arg3.view (Rect.unit (s := S1x64) ![0, 0] S1x64.size inb_S1x64_S1x64_0_0).toLoadRect (harg3.unread x2)) (View.readAt (Elt F) arg4.view (Rect.unit (s := S1x64) ![0, 0] S1x64.size inb_S1x64_S1x64_0_0).toLoadRect (harg4.unread x3)) (View.readAt (Elt F) arg2.view (Rect.unit (s := S64x64) ![0, 0] S64x64.size inb_S64x64_S64x64_0_0).toLoadRect (harg2.unread x1)) (arg7.view.readCov (Val := Elt F) [⟨Rect.unit (s := S1x64) ![0, 0] S1x64.size inb_S1x64_S1x64_0_0, k1_pay3 (F := F)⟩] (Rect.unit (s := S1x64) ![0, 0] S1x64.size inb_S1x64_S1x64_0_0).toLoadRect)) (View.read_writes_full _ _ _ _ _) (by rw [r_x0, r_x1, r_x2, r_x3, r_acc])

theorem left1_B_4 : out1_B_4 c i arg1 harg1 arg2 harg2 arg3 harg3 arg4 harg4 arg5 harg5 arg6 harg6 arg7 harg7 hB x0 x1 x2 x3 xo5 xo6 = k1_pay1 x0 x2 x3 x1 := by
  have r_x0 : View.readAt (Elt F) arg1.view (Rect.unit (s := S8192x64) ![0, 0] S8192x64.size inb_S8192x64_S8192x64_0_0).toLoadRect (harg1.unread x0) = x0 := (View.readAt_full arg1.view _ _).trans (harg1.read_unread x0)
  have r_x1 : View.readAt (Elt F) arg2.view (Rect.unit (s := S64x64) ![0, 0] S64x64.size inb_S64x64_S64x64_0_0).toLoadRect (harg2.unread x1) = x1 := (View.readAt_full arg2.view _ _).trans (harg2.read_unread x1)
  have r_x2 : View.readAt (Elt F) arg3.view (Rect.unit (s := S1x64) ![0, 0] S1x64.size inb_S1x64_S1x64_0_0).toLoadRect (harg3.unread x2) = x2 := (View.readAt_full arg3.view _ _).trans (harg3.read_unread x2)
  have r_x3 : View.readAt (Elt F) arg4.view (Rect.unit (s := S1x64) ![0, 0] S1x64.size inb_S1x64_S1x64_0_0).toLoadRect (harg4.unread x3) = x3 := (View.readAt_full arg4.view _ _).trans (harg4.read_unread x3)
  have r_xo5 : View.readAt (Elt F) arg6.view (Rect.unit (s := S1x64) ![0, 0] S1x64.size inb_S1x64_S1x64_0_0).toLoadRect (harg6.unread xo5) = xo5 := (View.readAt_full arg6.view _ _).trans (harg6.read_unread xo5)
  have r_xo6 : View.readAt (Elt F) arg7.view (Rect.unit (s := S1x64) ![0, 0] S1x64.size inb_S1x64_S1x64_0_0).toLoadRect (harg7.unread xo6) = xo6 := (View.readAt_full arg7.view _ _).trans (harg7.read_unread xo6)
  unfold out1_B_4
  dsimp only [kernelRun1_B]
  exact Eq.trans (b := k1_pay1 (View.readAt (Elt F) arg1.view (Rect.unit (s := S8192x64) ![0, 0] S8192x64.size inb_S8192x64_S8192x64_0_0).toLoadRect (harg1.unread x0)) (View.readAt (Elt F) arg3.view (Rect.unit (s := S1x64) ![0, 0] S1x64.size inb_S1x64_S1x64_0_0).toLoadRect (harg3.unread x2)) (View.readAt (Elt F) arg4.view (Rect.unit (s := S1x64) ![0, 0] S1x64.size inb_S1x64_S1x64_0_0).toLoadRect (harg4.unread x3)) (View.readAt (Elt F) arg2.view (Rect.unit (s := S64x64) ![0, 0] S64x64.size inb_S64x64_S64x64_0_0).toLoadRect (harg2.unread x1))) (View.read_writes_full _ _ _ _ _) (by rw [r_x0, r_x1, r_x2, r_x3])

theorem left1_B_5 : out1_B_5 c i arg1 harg1 arg2 harg2 arg3 harg3 arg4 harg4 arg5 harg5 arg6 harg6 arg7 harg7 hB x0 x1 x2 x3 xo5 xo6 = k1_pay4 x0 x2 x3 x1 xo5 := by
  have r_x0 : View.readAt (Elt F) arg1.view (Rect.unit (s := S8192x64) ![0, 0] S8192x64.size inb_S8192x64_S8192x64_0_0).toLoadRect (harg1.unread x0) = x0 := (View.readAt_full arg1.view _ _).trans (harg1.read_unread x0)
  have r_x1 : View.readAt (Elt F) arg2.view (Rect.unit (s := S64x64) ![0, 0] S64x64.size inb_S64x64_S64x64_0_0).toLoadRect (harg2.unread x1) = x1 := (View.readAt_full arg2.view _ _).trans (harg2.read_unread x1)
  have r_x2 : View.readAt (Elt F) arg3.view (Rect.unit (s := S1x64) ![0, 0] S1x64.size inb_S1x64_S1x64_0_0).toLoadRect (harg3.unread x2) = x2 := (View.readAt_full arg3.view _ _).trans (harg3.read_unread x2)
  have r_x3 : View.readAt (Elt F) arg4.view (Rect.unit (s := S1x64) ![0, 0] S1x64.size inb_S1x64_S1x64_0_0).toLoadRect (harg4.unread x3) = x3 := (View.readAt_full arg4.view _ _).trans (harg4.read_unread x3)
  have r_xo5 : View.readAt (Elt F) arg6.view (Rect.unit (s := S1x64) ![0, 0] S1x64.size inb_S1x64_S1x64_0_0).toLoadRect (harg6.unread xo5) = xo5 := (View.readAt_full arg6.view _ _).trans (harg6.read_unread xo5)
  have r_xo6 : View.readAt (Elt F) arg7.view (Rect.unit (s := S1x64) ![0, 0] S1x64.size inb_S1x64_S1x64_0_0).toLoadRect (harg7.unread xo6) = xo6 := (View.readAt_full arg7.view _ _).trans (harg7.read_unread xo6)
  unfold out1_B_5
  dsimp only [kernelRun1_B]
  exact Eq.trans (b := k1_pay4 (View.readAt (Elt F) arg1.view (Rect.unit (s := S8192x64) ![0, 0] S8192x64.size inb_S8192x64_S8192x64_0_0).toLoadRect (harg1.unread x0)) (View.readAt (Elt F) arg3.view (Rect.unit (s := S1x64) ![0, 0] S1x64.size inb_S1x64_S1x64_0_0).toLoadRect (harg3.unread x2)) (View.readAt (Elt F) arg4.view (Rect.unit (s := S1x64) ![0, 0] S1x64.size inb_S1x64_S1x64_0_0).toLoadRect (harg4.unread x3)) (View.readAt (Elt F) arg2.view (Rect.unit (s := S64x64) ![0, 0] S64x64.size inb_S64x64_S64x64_0_0).toLoadRect (harg2.unread x1)) (View.readAt (Elt F) arg6.view (Rect.unit (s := S1x64) ![0, 0] S1x64.size inb_S1x64_S1x64_0_0).toLoadRect (harg6.unread xo5))) (View.read_writes_full _ _ _ _ _) (by rw [r_x0, r_x1, r_x2, r_x3, r_xo5])

theorem left1_B_6 : out1_B_6 c i arg1 harg1 arg2 harg2 arg3 harg3 arg4 harg4 arg5 harg5 arg6 harg6 arg7 harg7 hB x0 x1 x2 x3 xo5 xo6 = k1_pay5 x0 x2 x3 x1 xo6 := by
  have r_x0 : View.readAt (Elt F) arg1.view (Rect.unit (s := S8192x64) ![0, 0] S8192x64.size inb_S8192x64_S8192x64_0_0).toLoadRect (harg1.unread x0) = x0 := (View.readAt_full arg1.view _ _).trans (harg1.read_unread x0)
  have r_x1 : View.readAt (Elt F) arg2.view (Rect.unit (s := S64x64) ![0, 0] S64x64.size inb_S64x64_S64x64_0_0).toLoadRect (harg2.unread x1) = x1 := (View.readAt_full arg2.view _ _).trans (harg2.read_unread x1)
  have r_x2 : View.readAt (Elt F) arg3.view (Rect.unit (s := S1x64) ![0, 0] S1x64.size inb_S1x64_S1x64_0_0).toLoadRect (harg3.unread x2) = x2 := (View.readAt_full arg3.view _ _).trans (harg3.read_unread x2)
  have r_x3 : View.readAt (Elt F) arg4.view (Rect.unit (s := S1x64) ![0, 0] S1x64.size inb_S1x64_S1x64_0_0).toLoadRect (harg4.unread x3) = x3 := (View.readAt_full arg4.view _ _).trans (harg4.read_unread x3)
  have r_xo5 : View.readAt (Elt F) arg6.view (Rect.unit (s := S1x64) ![0, 0] S1x64.size inb_S1x64_S1x64_0_0).toLoadRect (harg6.unread xo5) = xo5 := (View.readAt_full arg6.view _ _).trans (harg6.read_unread xo5)
  have r_xo6 : View.readAt (Elt F) arg7.view (Rect.unit (s := S1x64) ![0, 0] S1x64.size inb_S1x64_S1x64_0_0).toLoadRect (harg7.unread xo6) = xo6 := (View.readAt_full arg7.view _ _).trans (harg7.read_unread xo6)
  unfold out1_B_6
  dsimp only [kernelRun1_B]
  exact Eq.trans (b := k1_pay5 (View.readAt (Elt F) arg1.view (Rect.unit (s := S8192x64) ![0, 0] S8192x64.size inb_S8192x64_S8192x64_0_0).toLoadRect (harg1.unread x0)) (View.readAt (Elt F) arg3.view (Rect.unit (s := S1x64) ![0, 0] S1x64.size inb_S1x64_S1x64_0_0).toLoadRect (harg3.unread x2)) (View.readAt (Elt F) arg4.view (Rect.unit (s := S1x64) ![0, 0] S1x64.size inb_S1x64_S1x64_0_0).toLoadRect (harg4.unread x3)) (View.readAt (Elt F) arg2.view (Rect.unit (s := S64x64) ![0, 0] S64x64.size inb_S64x64_S64x64_0_0).toLoadRect (harg2.unread x1)) (View.readAt (Elt F) arg7.view (Rect.unit (s := S1x64) ![0, 0] S1x64.size inb_S1x64_S1x64_0_0).toLoadRect (harg7.unread xo6))) (View.read_writes_full _ _ _ _ _) (by rw [r_x0, r_x1, r_x2, r_x3, r_xo6])

end Region1

end Cert.Proof.Layers

end
-- ==== Proof.LayersKernel.lean ====
/-
  What the three passes leave in their arrays: the two products and the shortcut's, each with its sum and its sum of squares over
  all rows, and the result; from arrays that hold the layers' values.
-/
module

public import proofs.«01_k».proof.Proof.LayersSpec
public import proofs.«01_k».proof.Proof.LayersParts
public import Idealize.ShloMosaic.Lib.Pipeline.ValueKit

@[expose] public section

set_option maxRecDepth 16384

noncomputable section

namespace Cert.Proof.Layers

open Idealize.ShloMosaic Idealize.ShloMosaic.TcCoe Cert.LayersIdeal Cert.LayersIdeal.Gen

theorem pay4_apply (x : Vec Ideal S8192x64 .f32) (a : Vec Ideal S64x64 .f32) (y : Vec Ideal S512x64 .f32) (b : Vec Ideal S64x64 .f32)
    (i : Fin 8192) (o : Fin 64) : k0_pay4 (F := Ideal) x a y b (ix2 i o)
      = (∑ k : Fin 64, x (ix2 i k) * a (ix2 k o)) + ∑ k : Fin 64, y (ix2 ⟨i.val / 16, by omega⟩ k) * b (ix2 k o) := by
  unfold k0_pay4
  pointwise

theorem pay5_apply (y : Vec Ideal S512x64 .f32) (b : Vec Ideal S64x64 .f32)
    (i : Fin 512) (o : Fin 64) : k0_pay5 (F := Ideal) y b (ix2 i o) = ∑ k : Fin 64, y (ix2 i k) * b (ix2 k o) := by
  unfold k0_pay5
  pointwise

theorem pay10_apply (x : Vec Ideal S8192x64 .f32) (a : Vec Ideal S64x64 .f32) (y : Vec Ideal S512x64 .f32) (b : Vec Ideal S64x64 .f32)
    (acc : Vec Ideal S1x64 .f32) (o : Fin 64) : k0_pay10 (F := Ideal) x a y b acc (ix2 0 o)
      = acc (ix2 0 o) + ∑ i : Fin 8192, k0_pay4 (F := Ideal) x a y b (ix2 i o) := by
  unfold k0_pay10
  pointwise

theorem pay1_apply (h : FVec Ideal S8192x64 .f32) (acc : Vec Ideal S1x64 .f32) (o : Fin 64) : k0_pay1 (F := Ideal) h acc (ix2 0 o)
      = acc (ix2 0 o) + ∑ i : Fin 8192, h (ix2 i o) * h (ix2 i o) := by
  unfold k0_pay1
  pointwise

theorem pay6_apply (o : Fin 64) : k0_pay6 (F := Ideal) (ix2 0 o) = (0 : EReal) := by
  unfold k0_pay6
  pointwise

theorem second_apply (x : Vec Ideal S8192x64 .f32) (a c : Vec Ideal S1x64 .f32) (w : Vec Ideal S64x64 .f32)
    (i : Fin 8192) (o : Fin 64) : k1_pay1 (F := Ideal) x a c w (ix2 i o)
      = ∑ k : Fin 64, max (x (ix2 i k) * a (ix2 0 k) + c (ix2 0 k)) 0 * w (ix2 k o) := by
  unfold k1_pay1
  pointwise

theorem pay2_apply (h : FVec Ideal S512x64 .f32) (acc : Vec Ideal S1x64 .f32) (o : Fin 64) : k0_pay2 (F := Ideal) h acc (ix2 0 o)
      = acc (ix2 0 o) + ∑ i : Fin 512, h (ix2 i o) := by
  unfold k0_pay2
  pointwise

theorem pay3_apply (h : FVec Ideal S512x64 .f32) (acc : Vec Ideal S1x64 .f32) (o : Fin 64) : k0_pay3 (F := Ideal) h acc (ix2 0 o)
      = acc (ix2 0 o) + ∑ i : Fin 512, h (ix2 i o) * h (ix2 i o) := by
  unfold k0_pay3
  pointwise

theorem pay7_apply (o : Fin 64) : k0_pay7 (F := Ideal) (ix2 0 o) = (0 : EReal) := by
  unfold k0_pay7
  pointwise

theorem pay8_apply (o : Fin 64) : k0_pay8 (F := Ideal) (ix2 0 o) = (0 : EReal) := by
  unfold k0_pay8
  pointwise

theorem pay9_apply (o : Fin 64) : k0_pay9 (F := Ideal) (ix2 0 o) = (0 : EReal) := by
  unfold k0_pay9
  pointwise

theorem second_zero2 (o : Fin 64) : k1_pay2 (F := Ideal) (ix2 0 o) = (0 : EReal) := by
  unfold k1_pay2
  pointwise

theorem second_zero3 (o : Fin 64) : k1_pay3 (F := Ideal) (ix2 0 o) = (0 : EReal) := by
  unfold k1_pay3
  pointwise

theorem second4_apply (x : Vec Ideal S8192x64 .f32) (a c : Vec Ideal S1x64 .f32) (w : Vec Ideal S64x64 .f32) (acc : Vec Ideal S1x64 .f32)
    (o : Fin 64) : k1_pay4 (F := Ideal) x a c w acc (ix2 0 o)
      = acc (ix2 0 o) + ∑ i : Fin 8192, k1_pay1 (F := Ideal) x a c w (ix2 i o)  := by
  unfold k1_pay4
  pointwise

theorem second5_apply (x : Vec Ideal S8192x64 .f32) (a c : Vec Ideal S1x64 .f32) (w : Vec Ideal S64x64 .f32) (acc : Vec Ideal S1x64 .f32)
    (o : Fin 64) : k1_pay5 (F := Ideal) x a c w acc (ix2 0 o)
      = acc (ix2 0 o) + ∑ i : Fin 8192, k1_pay1 (F := Ideal) x a c w (ix2 i o) * k1_pay1 (F := Ideal) x a c w (ix2 i o) := by
  unfold k1_pay5
  pointwise

theorem third_apply (x : Vec Ideal S8192x64 .f32) (a c : Vec Ideal S1x64 .f32) (s : Vec Ideal S512x64 .f32) (u w : Vec Ideal S1x64 .f32)
    (i : Fin 512) (o : Fin 64) : k2_pay1 (F := Ideal) x a c s u w (ix2 i o)
      = max ((Finset.univ : Finset (Fin 16)).fold max ⊥ (fun k => x (ix2 ⟨i.val * 16 + k.val, by omega⟩ o) * a (ix2 0 o) + c (ix2 0 o))
          + (s (ix2 i o) * u (ix2 0 o) + w (ix2 0 o))) 0 := by
  have neg_inf : Ideal.ofBits .f32 0xFF800000#32 = ⊥ := by simp [Ideal.ofBits, Ideal.ieee, -EReal.coe_mul]
  unfold k2_pay1
  pointwise
  rw [neg_inf]

/-! ## Sums over the blocks, and indices -/

/-- What is added up block by block is the sum over all rows so far. -/
theorem acc_sum (N size : ℕ) (acc : (n : ℕ) → n < N → EReal) (f : ℕ → ℝ)
    (h0 : ∀ h, acc 0 h = ∑ i : Fin size, (f (size * 0 + i.val) : EReal))
    (hs : ∀ n h, acc (n + 1) h = acc n (Nat.lt_of_succ_lt h) + ∑ i : Fin size, (f (size * (n + 1) + i.val) : EReal)) :
    ∀ n h, acc n h = ((∑ r ∈ Finset.range (size * (n + 1)), f r : ℝ) : EReal) := by
  intro n
  induction n with
  | zero =>
    intro h
    rw [h0, coe_sum, sum_next f size 0]
    simp
  | succ n ih =>
    intro h
    rw [hs, ih, coe_sum, ← EReal.coe_add, ← sum_next f size (n + 1)]

theorem idx_two {a b : ℕ} (y : (Shape.mk 2 ![a, b]).Idx) : y = ix2 (y 0) (y 1) := ValueIdx.eq_ix2 y

theorem idx_row (y : S1x64.Idx) : y = ix2 0 (y 1) := by
  have h : y = ix2 (y 0) (y 1) := ValueIdx.eq_ix2 y
  rw [h]
  congr 1
  exact Subsingleton.elim (α := Fin 1) _ _

/-- A table of reals by row and channel. -/
abbrev table (n : ℕ) (x : Fin 64 → ℕ → ℝ) : Vec Ideal ⟨2, ![n, 64]⟩ .f32 := fun j => (x (j 1) (j 0).val : EReal)

/-- The sums over the first `n` rows, by channel. -/
abbrev sums (n : ℕ) (x : Fin 64 → ℕ → ℝ) : Vec Ideal S1x64 .f32 := fun j => ((∑ r ∈ Finset.range n, x (j 1) r : ℝ) : EReal)

/-! ## The first pass -/

section First

variable (V : (c : Dev nD) → (b : Ref sig .tc) → Buf (Elt Ideal) ((c : Thread nD τ).loc b)) (c : Dev nD) (v : Values)

/-- The first pass's arrays hold the values. -/
structure Given0 : Prop where
  nf : ∀ (r : Fin 65536) (k : Fin 64), (V c main_arg0 : Vec Ideal S65536x64 .f32) (ix2 r k) = (v.nf r.val k : EReal)
  cf : ∀ (r : Fin 4096) (k : Fin 64), (V c main_arg1 : Vec Ideal S4096x64 .f32) (ix2 r k) = (v.cf r.val k : EReal)
  wn : ∀ k o : Fin 64, (V c main_v1 : Vec Ideal S64x64 .f32) (ix2 k o) = (v.w1 o (hi k) : EReal)
  wc : ∀ k o : Fin 64, (V c main_v3 : Vec Ideal S64x64 .f32) (ix2 k o) = (v.w1 o (lo k) : EReal)
  ws : ∀ k o : Fin 64, (V c main_v5 : Vec Ideal S64x64 .f32) (ix2 k o) = (v.ws o k : EReal)

theorem index0_0 : ∀ t : Fin grid0.N, cc0_transform_0 (grid0.coords t) = ![t.val, 0] := by decide +kernel

theorem iblk0_0 (t : Fin cfg0.N) (i : Fin 8192) (k : Fin 64) (h : 8192 * t.val + i.val < 65536) :
    iblk0 V c 0 t (ix2 i k) = (V c main_arg0 : Vec Ideal S65536x64 .f32) (ix2 ⟨8192 * t.val + i.val, h⟩ k) := by
  unfold iblk0
  rw [View.read_apply]
  refine congrArg (V c main_arg0 : Vec Ideal S65536x64 .f32) (funext fun a => Fin.ext ?_)
  have e := index0_0 t
  match a with
  | ⟨0, _⟩ =>
    show cc0_transform_0 (grid0.coords t) 0 * 8192 + 1 * i.val = 8192 * t.val + i.val
    rw [e]
    show t.val * 8192 + 1 * i.val = _
    omega
  | ⟨1, _⟩ =>
    show cc0_transform_0 (grid0.coords t) 1 * 64 + 1 * k.val = k.val
    rw [e]
    show 0 * 64 + 1 * k.val = _
    omega

theorem index0_1 : ∀ t : Fin grid0.N, cc0_transform_1 (grid0.coords t) = ![t.val, 0] := by decide +kernel

theorem iblk0_1 (t : Fin cfg0.N) (i : Fin 512) (k : Fin 64) (h : 512 * t.val + i.val < 4096) :
    iblk0 V c 1 t (ix2 i k) = (V c main_arg1 : Vec Ideal S4096x64 .f32) (ix2 ⟨512 * t.val + i.val, h⟩ k) := by
  unfold iblk0
  rw [View.read_apply]
  refine congrArg (V c main_arg1 : Vec Ideal S4096x64 .f32) (funext fun a => Fin.ext ?_)
  have e := index0_1 t
  match a with
  | ⟨0, _⟩ =>
    show cc0_transform_1 (grid0.coords t) 0 * 512 + 1 * i.val = 512 * t.val + i.val
    rw [e]
    show t.val * 512 + 1 * i.val = _
    omega
  | ⟨1, _⟩ =>
    show cc0_transform_1 (grid0.coords t) 1 * 64 + 1 * k.val = k.val
    rw [e]
    show 0 * 64 + 1 * k.val = _
    omega

theorem iblk0_2 (t : Fin cfg0.N) : iblk0 V c 2 t = (V c main_v1 : Vec Ideal S64x64 .f32) := by
  unfold iblk0
  funext y
  rw [View.read_apply]
  refine congrArg (V c main_v1 : Vec Ideal S64x64 .f32) (funext fun a => Fin.ext ?_)
  match a with
  | ⟨0, _⟩ =>
    show 0 * _ + 1 * (y 0).val = (y 0).val
    omega
  | ⟨1, _⟩ =>
    show 0 * _ + 1 * (y 1).val = (y 1).val
    omega

theorem iblk0_3 (t : Fin cfg0.N) : iblk0 V c 3 t = (V c main_v3 : Vec Ideal S64x64 .f32) := by
  unfold iblk0
  funext y
  rw [View.read_apply]
  refine congrArg (V c main_v3 : Vec Ideal S64x64 .f32) (funext fun a => Fin.ext ?_)
  match a with
  | ⟨0, _⟩ =>
    show 0 * _ + 1 * (y 0).val = (y 0).val
    omega
  | ⟨1, _⟩ =>
    show 0 * _ + 1 * (y 1).val = (y 1).val
    omega

theorem iblk0_4 (t : Fin cfg0.N) : iblk0 V c 4 t = (V c main_v5 : Vec Ideal S64x64 .f32) := by
  unfold iblk0
  funext y
  rw [View.read_apply]
  refine congrArg (V c main_v5 : Vec Ideal S64x64 .f32) (funext fun a => Fin.ext ?_)
  match a with
  | ⟨0, _⟩ =>
    show 0 * _ + 1 * (y 0).val = (y 0).val
    omega
  | ⟨1, _⟩ =>
    show 0 * _ + 1 * (y 1).val = (y 1).val
    omega

theorem index0_5 : ∀ t : Fin grid0.N, cc0_transform_5 (grid0.coords t) = ![t.val, 0] := by decide +kernel

theorem index0_6 : ∀ t : Fin grid0.N, cc0_transform_6 (grid0.coords t) = ![t.val, 0] := by decide +kernel

theorem block_lin1 (h : Given0 V c v) (t : Fin cfg0.N) (i : Fin 8192) (o : Fin 64) :
    k0_pay4 (F := Ideal) (iblk0 V c 0 t) (iblk0 V c 2 t) (iblk0 V c 1 t) (iblk0 V c 3 t) (ix2 i o) = ((lin1 v o (8192 * t.val + i.val) : ℝ) : EReal) := by
  have hN : cfg0.N = 8 := N_0
  have ht := t.isLt
  have hi := i.isLt
  rw [pay4_apply, iblk0_2, iblk0_3]
  unfold lin1
  rw [EReal.coe_add, ← coe_sum, ← coe_sum]
  refine congrArg₂ (fun x y : EReal => x + y) (Finset.sum_congr rfl fun k _ => ?_) (Finset.sum_congr rfl fun k _ => ?_)
  · rw [iblk0_0 V c t i k (by omega), h.nf, h.wn, ← EReal.coe_mul]
  · rw [iblk0_1 V c t _ k (by show 512 * t.val + i.val / 16 < 4096; omega), h.cf, h.wc, ← EReal.coe_mul]
    rw [show (8192 * t.val + i.val) / 16 = 512 * t.val + i.val / 16 by omega]

theorem block_skip (h : Given0 V c v) (t : Fin cfg0.N) (i : Fin 512) (o : Fin 64) :
    k0_pay5 (F := Ideal) (iblk0 V c 1 t) (iblk0 V c 4 t) (ix2 i o) = ((skip v o (512 * t.val + i.val) : ℝ) : EReal) := by
  have hN : cfg0.N = 8 := N_0
  have ht := t.isLt
  have hi := i.isLt
  rw [pay5_apply, iblk0_4]
  unfold skip
  rw [← coe_sum]
  refine Finset.sum_congr rfl fun k _ => ?_
  rw [iblk0_1 V c t i k (by omega), h.cf, h.ws, ← EReal.coe_mul]

theorem outs0_5 (t : Fin cfg0.N) : (outsAt0 V c t.val t.isLt).1 = k0_pay4 (F := Ideal) (iblk0 V c 0 t) (iblk0 V c 2 t) (iblk0 V c 1 t) (iblk0 V c 3 t) := by
  by_cases h0 : t.val % 8 = 0
  · rw [outsAt0_A V c t h0]
    dsimp only
    rw [left0_A_5]
  · rw [outsAt0_B V c t h0]
    dsimp only
    rw [left0_B_5]

theorem outs0_6 (t : Fin cfg0.N) : (outsAt0 V c t.val t.isLt).2.1 = k0_pay5 (F := Ideal) (iblk0 V c 1 t) (iblk0 V c 4 t) := by
  by_cases h0 : t.val % 8 = 0
  · rw [outsAt0_A V c t h0]
    dsimp only
    rw [left0_A_6]
  · rw [outsAt0_B V c t h0]
    dsimp only
    rw [left0_B_6]

theorem arr0_5 (h : Given0 V c v) : (dat0 V c).arrAt 5 cfg0.N = table 65536 (fun o q => lin1 v o q) :=
  (dat0 V c).arrAt_eq_of_covers 5 (table 65536 (fun o q => lin1 v o q)) (by decide +kernel) (fun t _ y => by
    rw [after0_5]
    have e := index0_5 t
    refine Eq.trans (b := ((lin1 v (y 1) (8192 * t.val + (y 0).val) : ℝ) : EReal)) ?_ (congrArg₂ (fun (o : Fin 64) (q : ℕ) => ((lin1 v o q : ℝ) : EReal)) (Fin.ext ?_) ?_)
    · exact (congrFun (outs0_5 V c t) y).trans ((congrArg _ (ValueIdx.eq_ix2 y)).trans (block_lin1 V c v h t (y 0) (y 1)))
    · show (y 1).val = cc0_transform_5 (grid0.coords t) 1 * 64 + 1 * (y 1).val
      rw [e]
      show _ = 0 * 64 + 1 * (y 1).val
      omega
    · show _ = cc0_transform_5 (grid0.coords t) 0 * 8192 + 1 * (y 0).val
      rw [e]
      show _ = t.val * 8192 + 1 * (y 0).val
      omega)

theorem arr0_6 (h : Given0 V c v) : (dat0 V c).arrAt 6 cfg0.N = table 4096 (fun o q => skip v o q) :=
  (dat0 V c).arrAt_eq_of_covers 6 (table 4096 (fun o q => skip v o q)) (by decide +kernel) (fun t _ y => by
    rw [after0_6]
    have e := index0_6 t
    refine Eq.trans (b := ((skip v (y 1) (512 * t.val + (y 0).val) : ℝ) : EReal)) ?_ (congrArg₂ (fun (o : Fin 64) (q : ℕ) => ((skip v o q : ℝ) : EReal)) (Fin.ext ?_) ?_)
    · exact (congrFun (outs0_6 V c t) y).trans ((congrArg _ (ValueIdx.eq_ix2 y)).trans (block_skip V c v h t (y 0) (y 1)))
    · show (y 1).val = cc0_transform_6 (grid0.coords t) 1 * 64 + 1 * (y 1).val
      rw [e]
      show _ = 0 * 64 + 1 * (y 1).val
      omega
    · show _ = cc0_transform_6 (grid0.coords t) 0 * 512 + 1 * (y 0).val
      rw [e]
      show _ = t.val * 512 + 1 * (y 0).val
      omega)

theorem acc0_7 (h : Given0 V c v) (o : Fin 64) (n : ℕ) (hn : n < cfg0.N) :
    (outsAt0 V c n hn).2.2.1 (ix2 0 o) = ((∑ r ∈ Finset.range (8192 * (n + 1)), lin1 v o r : ℝ) : EReal) := by
  have hN : cfg0.N = 8 := N_0
  refine acc_sum cfg0.N 8192 (fun n hn => (outsAt0 V c n hn).2.2.1 (ix2 0 o)) (fun r => lin1 v o r) (fun hn => ?_) (fun n hn => ?_) n hn
  · refine (congrFun ((congrArg (fun p => p.2.2.1) (outsAt0_A V c ⟨0, hn⟩ rfl)).trans (left0_A_7 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩))) (ix2 0 o)).trans ?_
    rw [pay10_apply, pay6_apply, zero_add]
    exact Finset.sum_congr rfl fun i _ => block_lin1 V c v h ⟨0, hn⟩ i o
  · have h0 : ¬ (n + 1) % 8 = 0 := by omega
    refine (congrFun ((congrArg (fun p => p.2.2.1) (outsAt0_B V c ⟨n + 1, hn⟩ h0)).trans (left0_B_7 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 V c ((⟨n + 1, hn⟩ : Fin cfg0.N).val - 1) (Nat.lt_of_le_of_lt (Nat.sub_le _ _) (⟨n + 1, hn⟩ : Fin cfg0.N).isLt)).2.2.1 (outsAt0 V c ((⟨n + 1, hn⟩ : Fin cfg0.N).val - 1) (Nat.lt_of_le_of_lt (Nat.sub_le _ _) (⟨n + 1, hn⟩ : Fin cfg0.N).isLt)).2.2.2.1 (outsAt0 V c ((⟨n + 1, hn⟩ : Fin cfg0.N).val - 1) (Nat.lt_of_le_of_lt (Nat.sub_le _ _) (⟨n + 1, hn⟩ : Fin cfg0.N).isLt)).2.2.2.2.1 (outsAt0 V c ((⟨n + 1, hn⟩ : Fin cfg0.N).val - 1) (Nat.lt_of_le_of_lt (Nat.sub_le _ _) (⟨n + 1, hn⟩ : Fin cfg0.N).isLt)).2.2.2.2.2)) (ix2 0 o)).trans ?_
    rw [pay10_apply]
    exact congrArg₂ (fun x y : EReal => x + y) rfl (Finset.sum_congr rfl fun i _ => block_lin1 V c v h ⟨n + 1, hn⟩ i o)

theorem arr0_7 (h : Given0 V c v) : (dat0 V c).arrAt 7 cfg0.N = sums 65536 (fun o r => lin1 v o r) :=
  (dat0 V c).arrAt_eq_of_covers 7 (sums 65536 (fun o r => lin1 v o r)) (by decide +kernel) (fun t hf y => by
    have hN : cfg0.N = 8 := N_0
    have h7 : t.val = 7 := by
      have := (flush0_7 t).mp hf
      have := t.isLt
      omega
    rw [after0_7]
    refine Eq.trans (b := ((∑ r ∈ Finset.range (8192 * (t.val + 1)), lin1 v (y 1) r : ℝ) : EReal)) ?_ ?_
    · exact (congrArg (outsAt0 V c t.val t.isLt).2.2.1 (idx_row y)).trans (acc0_7 V c v h (y 1) t.val t.isLt)
    · rw [h7]
      refine congrArg (fun o : Fin 64 => ((∑ r ∈ Finset.range 65536, lin1 v o r : ℝ) : EReal)) (Fin.ext ?_)
      show (y 1).val = 0 * _ + 1 * (y 1).val
      omega)

theorem acc0_8 (h : Given0 V c v) (o : Fin 64) (n : ℕ) (hn : n < cfg0.N) :
    (outsAt0 V c n hn).2.2.2.1 (ix2 0 o) = ((∑ r ∈ Finset.range (8192 * (n + 1)), lin1 v o r * lin1 v o r : ℝ) : EReal) := by
  have hN : cfg0.N = 8 := N_0
  refine acc_sum cfg0.N 8192 (fun n hn => (outsAt0 V c n hn).2.2.2.1 (ix2 0 o)) (fun r => lin1 v o r * lin1 v o r) (fun hn => ?_) (fun n hn => ?_) n hn
  · refine (congrFun ((congrArg (fun p => p.2.2.2.1) (outsAt0_A V c ⟨0, hn⟩ rfl)).trans (left0_A_8 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩))) (ix2 0 o)).trans ?_
    rw [pay1_apply, pay7_apply, zero_add]
    exact Finset.sum_congr rfl fun i _ => (congrArg₂ (fun x y : EReal => x * y) (block_lin1 V c v h ⟨0, hn⟩ i o) (block_lin1 V c v h ⟨0, hn⟩ i o)).trans (EReal.coe_mul _ _).symm
  · have h0 : ¬ (n + 1) % 8 = 0 := by omega
    refine (congrFun ((congrArg (fun p => p.2.2.2.1) (outsAt0_B V c ⟨n + 1, hn⟩ h0)).trans (left0_B_8 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 V c ((⟨n + 1, hn⟩ : Fin cfg0.N).val - 1) (Nat.lt_of_le_of_lt (Nat.sub_le _ _) (⟨n + 1, hn⟩ : Fin cfg0.N).isLt)).2.2.1 (outsAt0 V c ((⟨n + 1, hn⟩ : Fin cfg0.N).val - 1) (Nat.lt_of_le_of_lt (Nat.sub_le _ _) (⟨n + 1, hn⟩ : Fin cfg0.N).isLt)).2.2.2.1 (outsAt0 V c ((⟨n + 1, hn⟩ : Fin cfg0.N).val - 1) (Nat.lt_of_le_of_lt (Nat.sub_le _ _) (⟨n + 1, hn⟩ : Fin cfg0.N).isLt)).2.2.2.2.1 (outsAt0 V c ((⟨n + 1, hn⟩ : Fin cfg0.N).val - 1) (Nat.lt_of_le_of_lt (Nat.sub_le _ _) (⟨n + 1, hn⟩ : Fin cfg0.N).isLt)).2.2.2.2.2)) (ix2 0 o)).trans ?_
    rw [pay1_apply]
    exact congrArg₂ (fun x y : EReal => x + y) rfl (Finset.sum_congr rfl fun i _ => (congrArg₂ (fun x y : EReal => x * y) (block_lin1 V c v h ⟨n + 1, hn⟩ i o) (block_lin1 V c v h ⟨n + 1, hn⟩ i o)).trans (EReal.coe_mul _ _).symm)

theorem arr0_8 (h : Given0 V c v) : (dat0 V c).arrAt 8 cfg0.N = sums 65536 (fun o r => lin1 v o r * lin1 v o r) :=
  (dat0 V c).arrAt_eq_of_covers 8 (sums 65536 (fun o r => lin1 v o r * lin1 v o r)) (by decide +kernel) (fun t hf y => by
    have hN : cfg0.N = 8 := N_0
    have h7 : t.val = 7 := by
      have := (flush0_8 t).mp hf
      have := t.isLt
      omega
    rw [after0_8]
    refine Eq.trans (b := ((∑ r ∈ Finset.range (8192 * (t.val + 1)), lin1 v (y 1) r * lin1 v (y 1) r : ℝ) : EReal)) ?_ ?_
    · exact (congrArg (outsAt0 V c t.val t.isLt).2.2.2.1 (idx_row y)).trans (acc0_8 V c v h (y 1) t.val t.isLt)
    · rw [h7]
      refine congrArg (fun o : Fin 64 => ((∑ r ∈ Finset.range 65536, lin1 v o r * lin1 v o r : ℝ) : EReal)) (Fin.ext ?_)
      show (y 1).val = 0 * _ + 1 * (y 1).val
      omega)

theorem acc0_9 (h : Given0 V c v) (o : Fin 64) (n : ℕ) (hn : n < cfg0.N) :
    (outsAt0 V c n hn).2.2.2.2.1 (ix2 0 o) = ((∑ r ∈ Finset.range (512 * (n + 1)), skip v o r : ℝ) : EReal) := by
  have hN : cfg0.N = 8 := N_0
  refine acc_sum cfg0.N 512 (fun n hn => (outsAt0 V c n hn).2.2.2.2.1 (ix2 0 o)) (fun r => skip v o r) (fun hn => ?_) (fun n hn => ?_) n hn
  · refine (congrFun ((congrArg (fun p => p.2.2.2.2.1) (outsAt0_A V c ⟨0, hn⟩ rfl)).trans (left0_A_9 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩))) (ix2 0 o)).trans ?_
    rw [pay2_apply, pay8_apply, zero_add]
    exact Finset.sum_congr rfl fun i _ => block_skip V c v h ⟨0, hn⟩ i o
  · have h0 : ¬ (n + 1) % 8 = 0 := by omega
    refine (congrFun ((congrArg (fun p => p.2.2.2.2.1) (outsAt0_B V c ⟨n + 1, hn⟩ h0)).trans (left0_B_9 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 V c ((⟨n + 1, hn⟩ : Fin cfg0.N).val - 1) (Nat.lt_of_le_of_lt (Nat.sub_le _ _) (⟨n + 1, hn⟩ : Fin cfg0.N).isLt)).2.2.1 (outsAt0 V c ((⟨n + 1, hn⟩ : Fin cfg0.N).val - 1) (Nat.lt_of_le_of_lt (Nat.sub_le _ _) (⟨n + 1, hn⟩ : Fin cfg0.N).isLt)).2.2.2.1 (outsAt0 V c ((⟨n + 1, hn⟩ : Fin cfg0.N).val - 1) (Nat.lt_of_le_of_lt (Nat.sub_le _ _) (⟨n + 1, hn⟩ : Fin cfg0.N).isLt)).2.2.2.2.1 (outsAt0 V c ((⟨n + 1, hn⟩ : Fin cfg0.N).val - 1) (Nat.lt_of_le_of_lt (Nat.sub_le _ _) (⟨n + 1, hn⟩ : Fin cfg0.N).isLt)).2.2.2.2.2)) (ix2 0 o)).trans ?_
    rw [pay2_apply]
    exact congrArg₂ (fun x y : EReal => x + y) rfl (Finset.sum_congr rfl fun i _ => block_skip V c v h ⟨n + 1, hn⟩ i o)

theorem arr0_9 (h : Given0 V c v) : (dat0 V c).arrAt 9 cfg0.N = sums 4096 (fun o r => skip v o r) :=
  (dat0 V c).arrAt_eq_of_covers 9 (sums 4096 (fun o r => skip v o r)) (by decide +kernel) (fun t hf y => by
    have hN : cfg0.N = 8 := N_0
    have h7 : t.val = 7 := by
      have := (flush0_9 t).mp hf
      have := t.isLt
      omega
    rw [after0_9]
    refine Eq.trans (b := ((∑ r ∈ Finset.range (512 * (t.val + 1)), skip v (y 1) r : ℝ) : EReal)) ?_ ?_
    · exact (congrArg (outsAt0 V c t.val t.isLt).2.2.2.2.1 (idx_row y)).trans (acc0_9 V c v h (y 1) t.val t.isLt)
    · rw [h7]
      refine congrArg (fun o : Fin 64 => ((∑ r ∈ Finset.range 4096, skip v o r : ℝ) : EReal)) (Fin.ext ?_)
      show (y 1).val = 0 * _ + 1 * (y 1).val
      omega)

theorem acc0_10 (h : Given0 V c v) (o : Fin 64) (n : ℕ) (hn : n < cfg0.N) :
    (outsAt0 V c n hn).2.2.2.2.2 (ix2 0 o) = ((∑ r ∈ Finset.range (512 * (n + 1)), skip v o r * skip v o r : ℝ) : EReal) := by
  have hN : cfg0.N = 8 := N_0
  refine acc_sum cfg0.N 512 (fun n hn => (outsAt0 V c n hn).2.2.2.2.2 (ix2 0 o)) (fun r => skip v o r * skip v o r) (fun hn => ?_) (fun n hn => ?_) n hn
  · refine (congrFun ((congrArg (fun p => p.2.2.2.2.2) (outsAt0_A V c ⟨0, hn⟩ rfl)).trans (left0_A_10 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩))) (ix2 0 o)).trans ?_
    rw [pay3_apply, pay9_apply, zero_add]
    exact Finset.sum_congr rfl fun i _ => (congrArg₂ (fun x y : EReal => x * y) (block_skip V c v h ⟨0, hn⟩ i o) (block_skip V c v h ⟨0, hn⟩ i o)).trans (EReal.coe_mul _ _).symm
  · have h0 : ¬ (n + 1) % 8 = 0 := by omega
    refine (congrFun ((congrArg (fun p => p.2.2.2.2.2) (outsAt0_B V c ⟨n + 1, hn⟩ h0)).trans (left0_B_10 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 V c ((⟨n + 1, hn⟩ : Fin cfg0.N).val - 1) (Nat.lt_of_le_of_lt (Nat.sub_le _ _) (⟨n + 1, hn⟩ : Fin cfg0.N).isLt)).2.2.1 (outsAt0 V c ((⟨n + 1, hn⟩ : Fin cfg0.N).val - 1) (Nat.lt_of_le_of_lt (Nat.sub_le _ _) (⟨n + 1, hn⟩ : Fin cfg0.N).isLt)).2.2.2.1 (outsAt0 V c ((⟨n + 1, hn⟩ : Fin cfg0.N).val - 1) (Nat.lt_of_le_of_lt (Nat.sub_le _ _) (⟨n + 1, hn⟩ : Fin cfg0.N).isLt)).2.2.2.2.1 (outsAt0 V c ((⟨n + 1, hn⟩ : Fin cfg0.N).val - 1) (Nat.lt_of_le_of_lt (Nat.sub_le _ _) (⟨n + 1, hn⟩ : Fin cfg0.N).isLt)).2.2.2.2.2)) (ix2 0 o)).trans ?_
    rw [pay3_apply]
    exact congrArg₂ (fun x y : EReal => x + y) rfl (Finset.sum_congr rfl fun i _ => (congrArg₂ (fun x y : EReal => x * y) (block_skip V c v h ⟨n + 1, hn⟩ i o) (block_skip V c v h ⟨n + 1, hn⟩ i o)).trans (EReal.coe_mul _ _).symm)

theorem arr0_10 (h : Given0 V c v) : (dat0 V c).arrAt 10 cfg0.N = sums 4096 (fun o r => skip v o r * skip v o r) :=
  (dat0 V c).arrAt_eq_of_covers 10 (sums 4096 (fun o r => skip v o r * skip v o r)) (by decide +kernel) (fun t hf y => by
    have hN : cfg0.N = 8 := N_0
    have h7 : t.val = 7 := by
      have := (flush0_10 t).mp hf
      have := t.isLt
      omega
    rw [after0_10]
    refine Eq.trans (b := ((∑ r ∈ Finset.range (512 * (t.val + 1)), skip v (y 1) r * skip v (y 1) r : ℝ) : EReal)) ?_ ?_
    · exact (congrArg (outsAt0 V c t.val t.isLt).2.2.2.2.2 (idx_row y)).trans (acc0_10 V c v h (y 1) t.val t.isLt)
    · rw [h7]
      refine congrArg (fun o : Fin 64 => ((∑ r ∈ Finset.range 4096, skip v o r * skip v o r : ℝ) : EReal)) (Fin.ext ?_)
      show (y 1).val = 0 * _ + 1 * (y 1).val
      omega)

end First

/-! ## The second pass -/

section Second

variable (V : (c : Dev nD) → (b : Ref sig .tc) → Buf (Elt Ideal) ((c : Thread nD τ).loc b)) (c : Dev nD) (v : Values)

/-- The second pass's arrays hold the first product, the second weight, and the first normalisation as a gain and an offset. -/
structure Given1 : Prop where
  h1 : (V c main_v12_0 : Vec Ideal S65536x64 .f32) = table 65536 (fun o q => lin1 v o q)
  w2 : ∀ k o : Fin 64, (V c main_v4 : Vec Ideal S64x64 .f32) (ix2 k o) = (v.w2 o k : EReal)
  a1 : ∀ k : Fin 64, (V c main_v24 : Vec Ideal S1x64 .f32) (ix2 0 k) = (gain 65536 (lin1 v k) (v.g1 k) : EReal)
  c1 : ∀ k : Fin 64, (V c main_v26 : Vec Ideal S1x64 .f32) (ix2 0 k)
    = ((v.b1 k - mean 65536 (lin1 v k) * gain 65536 (lin1 v k) (v.g1 k) : ℝ) : EReal)

theorem index1_0 : ∀ t : Fin grid1.N, cc1_transform_0 (grid1.coords t) = ![t.val, 0] := by decide +kernel

theorem iblk1_0 (t : Fin cfg1.N) (i : Fin 8192) (k : Fin 64) (h : 8192 * t.val + i.val < 65536) :
    iblk1 V c 0 t (ix2 i k) = (V c main_v12_0 : Vec Ideal S65536x64 .f32) (ix2 ⟨8192 * t.val + i.val, h⟩ k) := by
  unfold iblk1
  rw [View.read_apply]
  refine congrArg (V c main_v12_0 : Vec Ideal S65536x64 .f32) (funext fun a => Fin.ext ?_)
  have e := index1_0 t
  match a with
  | ⟨0, _⟩ =>
    show cc1_transform_0 (grid1.coords t) 0 * 8192 + 1 * i.val = 8192 * t.val + i.val
    rw [e]
    show t.val * 8192 + 1 * i.val = _
    omega
  | ⟨1, _⟩ =>
    show cc1_transform_0 (grid1.coords t) 1 * 64 + 1 * k.val = k.val
    rw [e]
    show 0 * 64 + 1 * k.val = _
    omega

theorem iblk1_1 (t : Fin cfg1.N) : iblk1 V c 1 t = (V c main_v4 : Vec Ideal S64x64 .f32) := by
  unfold iblk1
  funext y
  rw [View.read_apply]
  refine congrArg (V c main_v4 : Vec Ideal S64x64 .f32) (funext fun a => Fin.ext ?_)
  match a with
  | ⟨0, _⟩ =>
    show 0 * _ + 1 * (y 0).val = (y 0).val
    omega
  | ⟨1, _⟩ =>
    show 0 * _ + 1 * (y 1).val = (y 1).val
    omega

theorem iblk1_2 (t : Fin cfg1.N) : iblk1 V c 2 t = (V c main_v24 : Vec Ideal S1x64 .f32) := by
  unfold iblk1
  funext y
  rw [View.read_apply]
  refine congrArg (V c main_v24 : Vec Ideal S1x64 .f32) (funext fun a => Fin.ext ?_)
  match a with
  | ⟨0, _⟩ =>
    show 0 * _ + 1 * (y 0).val = (y 0).val
    omega
  | ⟨1, _⟩ =>
    show 0 * _ + 1 * (y 1).val = (y 1).val
    omega

theorem iblk1_3 (t : Fin cfg1.N) : iblk1 V c 3 t = (V c main_v26 : Vec Ideal S1x64 .f32) := by
  unfold iblk1
  funext y
  rw [View.read_apply]
  refine congrArg (V c main_v26 : Vec Ideal S1x64 .f32) (funext fun a => Fin.ext ?_)
  match a with
  | ⟨0, _⟩ =>
    show 0 * _ + 1 * (y 0).val = (y 0).val
    omega
  | ⟨1, _⟩ =>
    show 0 * _ + 1 * (y 1).val = (y 1).val
    omega

theorem index1_4 : ∀ t : Fin grid1.N, cc1_transform_4 (grid1.coords t) = ![t.val, 0] := by decide +kernel

theorem block_lin2 (h : Given1 V c v) (t : Fin cfg1.N) (i : Fin 8192) (o : Fin 64) :
    k1_pay1 (F := Ideal) (iblk1 V c 0 t) (iblk1 V c 2 t) (iblk1 V c 3 t) (iblk1 V c 1 t) (ix2 i o) = ((lin2 v o (8192 * t.val + i.val) : ℝ) : EReal) := by
  have hN : cfg1.N = 8 := N_1
  have ht := t.isLt
  have hi := i.isLt
  rw [second_apply, iblk1_1, iblk1_2, iblk1_3]
  unfold lin2
  rw [← coe_sum]
  refine Finset.sum_congr rfl fun k _ => ?_
  rw [iblk1_0 V c t i k (by omega), h.h1, h.w2, h.a1, h.c1]
  show max (((lin1 v k (8192 * t.val + i.val) : ℝ) : EReal) * _ + _) 0 * _ = _
  rw [← EReal.coe_mul, ← EReal.coe_add, affine_real 65536 (by decide), ← EReal.coe_zero, max_real, ← EReal.coe_mul]
  rfl

theorem outs1_4 (t : Fin cfg1.N) : (outsAt1 V c t.val t.isLt).1 = k1_pay1 (F := Ideal) (iblk1 V c 0 t) (iblk1 V c 2 t) (iblk1 V c 3 t) (iblk1 V c 1 t) := by
  by_cases h0 : t.val % 8 = 0
  · rw [outsAt1_A V c t h0]
    dsimp only
    rw [left1_A_4]
  · rw [outsAt1_B V c t h0]
    dsimp only
    rw [left1_B_4]

theorem arr1_4 (h : Given1 V c v) : (dat1 V c).arrAt 4 cfg1.N = table 65536 (fun o q => lin2 v o q) :=
  (dat1 V c).arrAt_eq_of_covers 4 (table 65536 (fun o q => lin2 v o q)) (by decide +kernel) (fun t _ y => by
    rw [after1_4]
    have e := index1_4 t
    refine Eq.trans (b := ((lin2 v (y 1) (8192 * t.val + (y 0).val) : ℝ) : EReal)) ?_ (congrArg₂ (fun (o : Fin 64) (q : ℕ) => ((lin2 v o q : ℝ) : EReal)) (Fin.ext ?_) ?_)
    · exact (congrFun (outs1_4 V c t) y).trans ((congrArg _ (ValueIdx.eq_ix2 y)).trans (block_lin2 V c v h t (y 0) (y 1)))
    · show (y 1).val = cc1_transform_4 (grid1.coords t) 1 * 64 + 1 * (y 1).val
      rw [e]
      show _ = 0 * 64 + 1 * (y 1).val
      omega
    · show _ = cc1_transform_4 (grid1.coords t) 0 * 8192 + 1 * (y 0).val
      rw [e]
      show _ = t.val * 8192 + 1 * (y 0).val
      omega)

theorem acc1_5 (h : Given1 V c v) (o : Fin 64) (n : ℕ) (hn : n < cfg1.N) :
    (outsAt1 V c n hn).2.1 (ix2 0 o) = ((∑ r ∈ Finset.range (8192 * (n + 1)), lin2 v o r : ℝ) : EReal) := by
  have hN : cfg1.N = 8 := N_1
  refine acc_sum cfg1.N 8192 (fun n hn => (outsAt1 V c n hn).2.1 (ix2 0 o)) (fun r => lin2 v o r) (fun hn => ?_) (fun n hn => ?_) n hn
  · refine (congrFun ((congrArg (fun p => p.2.1) (outsAt1_A V c ⟨0, hn⟩ rfl)).trans (left1_A_5 (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) ((hcond1_0 ⟨0, hn⟩).mpr rfl) (iblk1 V c 0 ⟨0, hn⟩) (iblk1 V c 1 ⟨0, hn⟩) (iblk1 V c 2 ⟨0, hn⟩) (iblk1 V c 3 ⟨0, hn⟩))) (ix2 0 o)).trans ?_
    rw [second4_apply, second_zero2, zero_add]
    exact Finset.sum_congr rfl fun i _ => block_lin2 V c v h ⟨0, hn⟩ i o
  · have h0 : ¬ (n + 1) % 8 = 0 := by omega
    refine (congrFun ((congrArg (fun p => p.2.1) (outsAt1_B V c ⟨n + 1, hn⟩ h0)).trans (left1_B_5 (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 V c ((⟨n + 1, hn⟩ : Fin cfg1.N).val - 1) (Nat.lt_of_le_of_lt (Nat.sub_le _ _) (⟨n + 1, hn⟩ : Fin cfg1.N).isLt)).2.1 (outsAt1 V c ((⟨n + 1, hn⟩ : Fin cfg1.N).val - 1) (Nat.lt_of_le_of_lt (Nat.sub_le _ _) (⟨n + 1, hn⟩ : Fin cfg1.N).isLt)).2.2)) (ix2 0 o)).trans ?_
    rw [second4_apply]
    exact congrArg₂ (fun x y : EReal => x + y) rfl (Finset.sum_congr rfl fun i _ => block_lin2 V c v h ⟨n + 1, hn⟩ i o)

theorem arr1_5 (h : Given1 V c v) : (dat1 V c).arrAt 5 cfg1.N = sums 65536 (fun o r => lin2 v o r) :=
  (dat1 V c).arrAt_eq_of_covers 5 (sums 65536 (fun o r => lin2 v o r)) (by decide +kernel) (fun t hf y => by
    have hN : cfg1.N = 8 := N_1
    have h7 : t.val = 7 := by
      have := (flush1_5 t).mp hf
      have := t.isLt
      omega
    rw [after1_5]
    refine Eq.trans (b := ((∑ r ∈ Finset.range (8192 * (t.val + 1)), lin2 v (y 1) r : ℝ) : EReal)) ?_ ?_
    · exact (congrArg (outsAt1 V c t.val t.isLt).2.1 (idx_row y)).trans (acc1_5 V c v h (y 1) t.val t.isLt)
    · rw [h7]
      refine congrArg (fun o : Fin 64 => ((∑ r ∈ Finset.range 65536, lin2 v o r : ℝ) : EReal)) (Fin.ext ?_)
      show (y 1).val = 0 * _ + 1 * (y 1).val
      omega)

theorem acc1_6 (h : Given1 V c v) (o : Fin 64) (n : ℕ) (hn : n < cfg1.N) :
    (outsAt1 V c n hn).2.2 (ix2 0 o) = ((∑ r ∈ Finset.range (8192 * (n + 1)), lin2 v o r * lin2 v o r : ℝ) : EReal) := by
  have hN : cfg1.N = 8 := N_1
  refine acc_sum cfg1.N 8192 (fun n hn => (outsAt1 V c n hn).2.2 (ix2 0 o)) (fun r => lin2 v o r * lin2 v o r) (fun hn => ?_) (fun n hn => ?_) n hn
  · refine (congrFun ((congrArg (fun p => p.2.2) (outsAt1_A V c ⟨0, hn⟩ rfl)).trans (left1_A_6 (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) ((hcond1_0 ⟨0, hn⟩).mpr rfl) (iblk1 V c 0 ⟨0, hn⟩) (iblk1 V c 1 ⟨0, hn⟩) (iblk1 V c 2 ⟨0, hn⟩) (iblk1 V c 3 ⟨0, hn⟩))) (ix2 0 o)).trans ?_
    rw [second5_apply, second_zero3, zero_add]
    exact Finset.sum_congr rfl fun i _ => (congrArg₂ (fun x y : EReal => x * y) (block_lin2 V c v h ⟨0, hn⟩ i o) (block_lin2 V c v h ⟨0, hn⟩ i o)).trans (EReal.coe_mul _ _).symm
  · have h0 : ¬ (n + 1) % 8 = 0 := by omega
    refine (congrFun ((congrArg (fun p => p.2.2) (outsAt1_B V c ⟨n + 1, hn⟩ h0)).trans (left1_B_6 (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 V c ((⟨n + 1, hn⟩ : Fin cfg1.N).val - 1) (Nat.lt_of_le_of_lt (Nat.sub_le _ _) (⟨n + 1, hn⟩ : Fin cfg1.N).isLt)).2.1 (outsAt1 V c ((⟨n + 1, hn⟩ : Fin cfg1.N).val - 1) (Nat.lt_of_le_of_lt (Nat.sub_le _ _) (⟨n + 1, hn⟩ : Fin cfg1.N).isLt)).2.2)) (ix2 0 o)).trans ?_
    rw [second5_apply]
    exact congrArg₂ (fun x y : EReal => x + y) rfl (Finset.sum_congr rfl fun i _ => (congrArg₂ (fun x y : EReal => x * y) (block_lin2 V c v h ⟨n + 1, hn⟩ i o) (block_lin2 V c v h ⟨n + 1, hn⟩ i o)).trans (EReal.coe_mul _ _).symm)

theorem arr1_6 (h : Given1 V c v) : (dat1 V c).arrAt 6 cfg1.N = sums 65536 (fun o r => lin2 v o r * lin2 v o r) :=
  (dat1 V c).arrAt_eq_of_covers 6 (sums 65536 (fun o r => lin2 v o r * lin2 v o r)) (by decide +kernel) (fun t hf y => by
    have hN : cfg1.N = 8 := N_1
    have h7 : t.val = 7 := by
      have := (flush1_6 t).mp hf
      have := t.isLt
      omega
    rw [after1_6]
    refine Eq.trans (b := ((∑ r ∈ Finset.range (8192 * (t.val + 1)), lin2 v (y 1) r * lin2 v (y 1) r : ℝ) : EReal)) ?_ ?_
    · exact (congrArg (outsAt1 V c t.val t.isLt).2.2 (idx_row y)).trans (acc1_6 V c v h (y 1) t.val t.isLt)
    · rw [h7]
      refine congrArg (fun o : Fin 64 => ((∑ r ∈ Finset.range 65536, lin2 v o r * lin2 v o r : ℝ) : EReal)) (Fin.ext ?_)
      show (y 1).val = 0 * _ + 1 * (y 1).val
      omega)

end Second

/-! ## The third pass -/

section Third

variable (V : (c : Dev nD) → (b : Ref sig .tc) → Buf (Elt Ideal) ((c : Thread nD τ).loc b)) (c : Dev nD) (v : Values)

/-- The third pass's arrays hold the second product and the shortcut's, each with its normalisation as a gain and an offset. -/
structure Given2 : Prop where
  h2 : (V c main_v41_0 : Vec Ideal S65536x64 .f32) = table 65536 (fun o q => lin2 v o q)
  s : (V c main_v12_1 : Vec Ideal S4096x64 .f32) = table 4096 (fun o q => skip v o q)
  a2 : ∀ k : Fin 64, (V c main_v53 : Vec Ideal S1x64 .f32) (ix2 0 k) = (gain 65536 (lin2 v k) (v.g2 k) : EReal)
  c2 : ∀ k : Fin 64, (V c main_v55 : Vec Ideal S1x64 .f32) (ix2 0 k)
    = ((v.b2 k - mean 65536 (lin2 v k) * gain 65536 (lin2 v k) (v.g2 k) : ℝ) : EReal)
  a3 : ∀ k : Fin 64, (V c main_v38 : Vec Ideal S1x64 .f32) (ix2 0 k) = (gain 4096 (skip v k) (v.gs k) : EReal)
  c3 : ∀ k : Fin 64, (V c main_v40 : Vec Ideal S1x64 .f32) (ix2 0 k)
    = v.bs k - ((mean 4096 (skip v k) * gain 4096 (skip v k) (v.gs k) : ℝ) : EReal)

theorem index2_0 : ∀ t : Fin grid2.N, cc2_transform_0 (grid2.coords t) = ![t.val, 0] := by decide +kernel

theorem iblk2_0 (t : Fin cfg2.N) (i : Fin 8192) (k : Fin 64) (h : 8192 * t.val + i.val < 65536) :
    iblk2 V c 0 t (ix2 i k) = (V c main_v41_0 : Vec Ideal S65536x64 .f32) (ix2 ⟨8192 * t.val + i.val, h⟩ k) := by
  unfold iblk2
  rw [View.read_apply]
  refine congrArg (V c main_v41_0 : Vec Ideal S65536x64 .f32) (funext fun a => Fin.ext ?_)
  have e := index2_0 t
  match a with
  | ⟨0, _⟩ =>
    show cc2_transform_0 (grid2.coords t) 0 * 8192 + 1 * i.val = 8192 * t.val + i.val
    rw [e]
    show t.val * 8192 + 1 * i.val = _
    omega
  | ⟨1, _⟩ =>
    show cc2_transform_0 (grid2.coords t) 1 * 64 + 1 * k.val = k.val
    rw [e]
    show 0 * 64 + 1 * k.val = _
    omega

theorem index2_1 : ∀ t : Fin grid2.N, cc2_transform_1 (grid2.coords t) = ![t.val, 0] := by decide +kernel

theorem iblk2_1 (t : Fin cfg2.N) (i : Fin 512) (k : Fin 64) (h : 512 * t.val + i.val < 4096) :
    iblk2 V c 1 t (ix2 i k) = (V c main_v12_1 : Vec Ideal S4096x64 .f32) (ix2 ⟨512 * t.val + i.val, h⟩ k) := by
  unfold iblk2
  rw [View.read_apply]
  refine congrArg (V c main_v12_1 : Vec Ideal S4096x64 .f32) (funext fun a => Fin.ext ?_)
  have e := index2_1 t
  match a with
  | ⟨0, _⟩ =>
    show cc2_transform_1 (grid2.coords t) 0 * 512 + 1 * i.val = 512 * t.val + i.val
    rw [e]
    show t.val * 512 + 1 * i.val = _
    omega
  | ⟨1, _⟩ =>
    show cc2_transform_1 (grid2.coords t) 1 * 64 + 1 * k.val = k.val
    rw [e]
    show 0 * 64 + 1 * k.val = _
    omega

theorem iblk2_2 (t : Fin cfg2.N) : iblk2 V c 2 t = (V c main_v53 : Vec Ideal S1x64 .f32) := by
  unfold iblk2
  funext y
  rw [View.read_apply]
  refine congrArg (V c main_v53 : Vec Ideal S1x64 .f32) (funext fun a => Fin.ext ?_)
  match a with
  | ⟨0, _⟩ =>
    show 0 * _ + 1 * (y 0).val = (y 0).val
    omega
  | ⟨1, _⟩ =>
    show 0 * _ + 1 * (y 1).val = (y 1).val
    omega

theorem iblk2_3 (t : Fin cfg2.N) : iblk2 V c 3 t = (V c main_v55 : Vec Ideal S1x64 .f32) := by
  unfold iblk2
  funext y
  rw [View.read_apply]
  refine congrArg (V c main_v55 : Vec Ideal S1x64 .f32) (funext fun a => Fin.ext ?_)
  match a with
  | ⟨0, _⟩ =>
    show 0 * _ + 1 * (y 0).val = (y 0).val
    omega
  | ⟨1, _⟩ =>
    show 0 * _ + 1 * (y 1).val = (y 1).val
    omega

theorem iblk2_4 (t : Fin cfg2.N) : iblk2 V c 4 t = (V c main_v38 : Vec Ideal S1x64 .f32) := by
  unfold iblk2
  funext y
  rw [View.read_apply]
  refine congrArg (V c main_v38 : Vec Ideal S1x64 .f32) (funext fun a => Fin.ext ?_)
  match a with
  | ⟨0, _⟩ =>
    show 0 * _ + 1 * (y 0).val = (y 0).val
    omega
  | ⟨1, _⟩ =>
    show 0 * _ + 1 * (y 1).val = (y 1).val
    omega

theorem iblk2_5 (t : Fin cfg2.N) : iblk2 V c 5 t = (V c main_v40 : Vec Ideal S1x64 .f32) := by
  unfold iblk2
  funext y
  rw [View.read_apply]
  refine congrArg (V c main_v40 : Vec Ideal S1x64 .f32) (funext fun a => Fin.ext ?_)
  match a with
  | ⟨0, _⟩ =>
    show 0 * _ + 1 * (y 0).val = (y 0).val
    omega
  | ⟨1, _⟩ =>
    show 0 * _ + 1 * (y 1).val = (y 1).val
    omega

theorem index2_6 : ∀ t : Fin grid2.N, cc2_transform_6 (grid2.coords t) = ![t.val, 0] := by decide +kernel

theorem out2_eq (x0 : Vec Ideal S8192x64 .f32) (x1 : Vec Ideal S512x64 .f32) (x2 x3 x4 x5 : Vec Ideal S1x64 .f32) :
    out2_6 (F := Ideal) x0 x1 x2 x3 x4 x5 = k2_pay1 x0 x2 x3 x1 x4 x5 := by
  unfold out2_6
  rw [show View.ld x0 r2_0 = x0 from View.ld_unit_zero (by decide) _ _, show View.ld x2 r2_1 = x2 from View.ld_unit_zero (by decide) _ _,
    show View.ld x3 r2_1 = x3 from View.ld_unit_zero (by decide) _ _, show View.ld x1 r2_2 = x1 from View.ld_unit_zero (by decide) _ _,
    show View.ld x4 r2_1 = x4 from View.ld_unit_zero (by decide) _ _, show View.ld x5 r2_1 = x5 from View.ld_unit_zero (by decide) _ _]
  exact View.canon_unit_zero (by decide) _ _

theorem block_result (h : Given2 V c v) (t : Fin cfg2.N) (i : Fin 512) (o : Fin 64) :
    k2_pay1 (F := Ideal) (iblk2 V c 0 t) (iblk2 V c 2 t) (iblk2 V c 3 t) (iblk2 V c 1 t) (iblk2 V c 4 t) (iblk2 V c 5 t) (ix2 i o)
      = result v o (512 * t.val + i.val) := by
  have hN : cfg2.N = 8 := N_2
  have ht := t.isLt
  have hi := i.isLt
  rw [third_apply, iblk2_2, iblk2_3, iblk2_4, iblk2_5, iblk2_1 V c t i o (by omega), h.s, h.a2, h.c2, h.a3, h.c3]
  unfold result pool
  refine congrArg₂ (fun x y : EReal => max (x + y) 0) (congrArg (fun f => Finset.fold max ⊥ f Finset.univ) (funext fun k => ?_)) ?_
  · have hk := k.isLt
    rw [iblk2_0 V c t _ o (by show 8192 * t.val + (i.val * 16 + k.val) < 65536; omega), h.h2]
    show ((lin2 v o (8192 * t.val + (i.val * 16 + k.val)) : ℝ) : EReal) * _ + _ = _
    rw [← EReal.coe_mul, ← EReal.coe_add, affine_real 65536 (by decide), show 8192 * t.val + (i.val * 16 + k.val) = 16 * (512 * t.val + i.val) + k.val by omega]
    rfl
  · show ((skip v o (512 * t.val + i.val) : ℝ) : EReal) * _ + _ = _
    rw [← EReal.coe_mul, affine_eq 4096 (by decide)]

attribute [local irreducible] result

/-- The result by point and channel. -/
abbrev results : Vec Ideal S4096x64 .f32 := fun j => result v (j 1) (j 0).val

theorem arr2_6 (h : Given2 V c v) : (dat2 V c).arrAt 6 cfg2.N = results v :=
  (dat2 V c).arrAt_eq_of_covers 6 (results v) (by decide +kernel) (fun t _ y => by
    rw [after2_6, out2_eq]
    have e := index2_6 t
    have hr : ∀ (o o' : Fin 64) (q q' : ℕ), o.val = o'.val → q = q' → result v o q = result v o' q' := fun o o' q q' ho hq => by
      rw [Fin.ext ho, hq]
    have hb := block_result V c v h t (y 0) (y 1)
    have hy : y = ix2 (y 0) (y 1) := ValueIdx.eq_ix2 y
    have hk := (congrArg (k2_pay1 (F := Ideal) (iblk2 V c 0 t) (iblk2 V c 2 t) (iblk2 V c 3 t) (iblk2 V c 1 t) (iblk2 V c 4 t) (iblk2 V c 5 t)) hy).trans hb
    refine hk.trans (hr _ _ _ _ ?_ ?_)
    · show (y 1).val = cc2_transform_6 (grid2.coords t) 1 * 64 + 1 * (y 1).val
      rw [e]
      show _ = 0 * 64 + 1 * (y 1).val
      omega
    · show _ = cc2_transform_6 (grid2.coords t) 0 * 512 + 1 * (y 0).val
      rw [e]
      show _ = t.val * 512 + 1 * (y 0).val
      omega)

end Third

end Cert.Proof.Layers

end
-- ==== Proof.LayersOut.lean ====
/-
  The program of the layers, its result by coordinates: the steps between the passes turn each sum and sum of squares into a gain
  and an offset, and the last ones turn the table of results on its side.
-/
module

public import proofs.«01_k».proof.Proof.LayersKernel
public import Idealize.ShloMosaic.Lib.StableHlo.ReadAt
public import Idealize.ShloMosaic.Lib.StableHlo.RunRead

@[expose] public section

set_option maxRecDepth 16384

noncomputable section

namespace Cert.Proof.Layers

open Idealize.ShloMosaic Idealize.ShloMosaic.TcCoe Cert.LayersIdeal Cert.LayersIdeal.Gen

/-! ## A gain and an offset from the sums -/

/-- The mean, from a sum and the word for the count. -/
abbrev meanOf (n : BitVec 32) (s : Vec Ideal S1x64 .f32) : Vec Ideal S1x64 .f32 :=
  Host.divf s (broadcastInDim S1x64 ![] bcast_S_S1x64 (constant (F := Ideal) S_ .f32 n))

/-- The gain over the deviation. -/
abbrev gainOf (n : BitVec 32) (s q g : Vec Ideal S1x64 .f32) : Vec Ideal S1x64 .f32 :=
  Host.divf g (Host.sqrt (addf (maximumf (subf (meanOf n q) (mulf (meanOf n s) (meanOf n s)))
    (broadcastInDim S1x64 ![] bcast_S_S1x64 (constant (F := Ideal) S_ .f32 0x00000000#32)))
    (broadcastInDim S1x64 ![] bcast_S_S1x64 (constant (F := Ideal) S_ .f32 0x3727C5AC#32))))

/-- The offset: the bias less the mean times the gain. -/
abbrev offsetOf (n : BitVec 32) (s : Vec Ideal S1x64 .f32) (a b : FVec Ideal S1x64 .f32) : FVec Ideal S1x64 .f32 := subf b (mulf (meanOf n s) a)

theorem meanOf_apply (w : BitVec 32) (n : ℕ) (hn : n ≠ 0) (hw : Ideal.ofBits .f32 w = ((n : ℝ) : EReal)) (s : Vec Ideal S1x64 .f32)
    (o : Fin 64) (x : ℝ) (hs : s (ix2 0 o) = (x : EReal)) : meanOf w s (ix2 0 o) = ((x / n : ℝ) : EReal) := by
  unfold meanOf
  have : Host.divf s (broadcastInDim S1x64 ![] bcast_S_S1x64 (constant (F := Ideal) S_ .f32 w)) (ix2 0 o)
      = Ideal.div (s (ix2 0 o)) (Ideal.ofBits .f32 w) := by pointwise
  rw [this, hw, hs, div_real _ _ (Nat.cast_ne_zero.mpr hn)]

theorem gainOf_apply (w : BitVec 32) (n : ℕ) (hn : n ≠ 0) (hw : Ideal.ofBits .f32 w = ((n : ℝ) : EReal)) (x : Fin 64 → ℕ → ℝ)
    (g : Vec Ideal S1x64 .f32) (o : Fin 64) (y : ℝ) (hg : g (ix2 0 o) = (y : EReal)) :
    gainOf w (sums n x) (sums n fun o r => x o r * x o r) g (ix2 0 o) = ((gain n (x o) y : ℝ) : EReal) := by
  have h1 := meanOf_apply w n hn hw (sums n x) o _ rfl
  have h2 := meanOf_apply w n hn hw (sums n fun o r => x o r * x o r) o _ rfl
  have e : gainOf w (sums n x) (sums n fun o r => x o r * x o r) g (ix2 0 o)
      = Ideal.div (g (ix2 0 o)) (Ideal.sqrt (max (meanOf w (sums n fun o r => x o r * x o r) (ix2 0 o)
          - meanOf w (sums n x) (ix2 0 o) * meanOf w (sums n x) (ix2 0 o)) (Ideal.ofBits .f32 0x00000000#32)
          + Ideal.ofBits .f32 0x3727C5AC#32)) := by
    rfl
  rw [e, h1, h2, hg, zero_word, eps_word, ← EReal.coe_mul, ← EReal.coe_sub, ← EReal.coe_zero, max_real, ← EReal.coe_add,
    sqrt_real _ (add_nonneg (le_max_right _ _) eps_pos.le), div_real]
  · rfl
  · exact (Real.sqrt_pos.mpr (add_pos_of_nonneg_of_pos (le_max_right _ _) eps_pos)).ne'

theorem offsetOf_apply (w : BitVec 32) (n : ℕ) (hn : n ≠ 0) (hw : Ideal.ofBits .f32 w = ((n : ℝ) : EReal)) (x : Fin 64 → ℕ → ℝ)
    (a b : Vec Ideal S1x64 .f32) (o : Fin 64) (y : ℝ) (ha : a (ix2 0 o) = (y : EReal)) :
    offsetOf w (sums n x) a b (ix2 0 o) = b (ix2 0 o) - ((mean n (x o) * y : ℝ) : EReal) := by
  have h1 := meanOf_apply w n hn hw (sums n x) o _ rfl
  have e : offsetOf w (sums n x) a b (ix2 0 o) = b (ix2 0 o) - meanOf w (sums n x) (ix2 0 o) * a (ix2 0 o) := rfl
  rw [e, h1, ha, ← EReal.coe_mul]
  rfl

/-! ## The arguments -/

/-- The arguments hold the values. -/
structure Holds (a0 : Vec Ideal S65536x64 .f32) (a1 : Vec Ideal S4096x64 .f32) (a2 : Vec Ideal S64x128 .f32) (a3 a4 : Vec Ideal S64 .f32)
    (a5 : Vec Ideal S64x64 .f32) (a6 a7 : Vec Ideal S64 .f32) (a8 : Vec Ideal S64x64 .f32) (a9 a10 : Vec Ideal S64 .f32) (v : Values) : Prop where
  nf : ∀ (r : Fin 65536) (k : Fin 64), a0 (ix2 r k) = (v.nf r.val k : EReal)
  cf : ∀ (r : Fin 4096) (k : Fin 64), a1 (ix2 r k) = (v.cf r.val k : EReal)
  w1 : ∀ (o : Fin 64) (k : Fin 128), a2 (ix2 o k) = (v.w1 o k : EReal)
  g1 : ∀ o : Fin 64, a3 (ix1 o) = (v.g1 o : EReal)
  b1 : ∀ o : Fin 64, a4 (ix1 o) = (v.b1 o : EReal)
  w2 : ∀ o k : Fin 64, a5 (ix2 o k) = (v.w2 o k : EReal)
  g2 : ∀ o : Fin 64, a6 (ix1 o) = (v.g2 o : EReal)
  b2 : ∀ o : Fin 64, a7 (ix1 o) = (v.b2 o : EReal)
  ws : ∀ o k : Fin 64, a8 (ix2 o k) = (v.ws o k : EReal)
  gs : ∀ o : Fin 64, a9 (ix1 o) = (v.gs o : EReal)
  bs : ∀ o : Fin 64, a10 (ix1 o) = v.bs o

section Run

variable (m : (ℓ : Loc nD τ sig) → Buf (Elt Ideal) ℓ) (ρ : Dev nD → PrngReg) (c : Dev nD) (v : Values)

variable (h : Holds (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))
  (m ((c : Thread nD τ).loc main_arg9)) (m ((c : Thread nD τ).loc main_arg10)) v)
include h

theorem given0 : Given0 (V1 m ρ) c v where
  nf := fun r k => (congrFun (W1_args m ρ c main_arg0 (by decide)) (ix2 r k)).trans (h.nf r k)
  cf := fun r k => (congrFun (W1_args m ρ c main_arg1 (by decide)) (ix2 r k)).trans (h.cf r k)
  wn := fun k o => by
    refine Eq.trans ?_ (h.w1 o (hi k))
    show StableHlo.after hostOps0 (W0 m ρ c) (Proc.devRef .tc main_v1) (ix2 k o) = _
    after_reads_simp
    pointwise
  wc := fun k o => by
    refine Eq.trans ?_ (h.w1 o (lo k))
    show StableHlo.after hostOps0 (W0 m ρ c) (Proc.devRef .tc main_v3) (ix2 k o) = _
    after_reads_simp
    pointwise
  ws := fun k o => by
    refine Eq.trans ?_ (h.ws o k)
    show StableHlo.after hostOps0 (W0 m ρ c) (Proc.devRef .tc main_v5) (ix2 k o) = _
    after_reads_simp
    pointwise

theorem w1_v6 (o : Fin 64) : (W1 m ρ c (Proc.devRef .tc main_v6) : Vec Ideal S1x64 .f32) (ix2 0 o) = (v.g1 o : EReal) := by
  refine Eq.trans ?_ (h.g1 o)
  show StableHlo.after hostOps0 (W0 m ρ c) (Proc.devRef .tc main_v6) (ix2 0 o) = _
  after_reads_simp
  pointwise

theorem w1_v7 (o : Fin 64) : (W1 m ρ c (Proc.devRef .tc main_v7) : Vec Ideal S1x64 .f32) (ix2 0 o) = (v.b1 o : EReal) := by
  refine Eq.trans ?_ (h.b1 o)
  show StableHlo.after hostOps0 (W0 m ρ c) (Proc.devRef .tc main_v7) (ix2 0 o) = _
  after_reads_simp
  pointwise

theorem w1_v8 (o : Fin 64) : (W1 m ρ c (Proc.devRef .tc main_v8) : Vec Ideal S1x64 .f32) (ix2 0 o) = (v.g2 o : EReal) := by
  refine Eq.trans ?_ (h.g2 o)
  show StableHlo.after hostOps0 (W0 m ρ c) (Proc.devRef .tc main_v8) (ix2 0 o) = _
  after_reads_simp
  pointwise

theorem w1_v9 (o : Fin 64) : (W1 m ρ c (Proc.devRef .tc main_v9) : Vec Ideal S1x64 .f32) (ix2 0 o) = (v.b2 o : EReal) := by
  refine Eq.trans ?_ (h.b2 o)
  show StableHlo.after hostOps0 (W0 m ρ c) (Proc.devRef .tc main_v9) (ix2 0 o) = _
  after_reads_simp
  pointwise

theorem w1_v10 (o : Fin 64) : (W1 m ρ c (Proc.devRef .tc main_v10) : Vec Ideal S1x64 .f32) (ix2 0 o) = (v.gs o : EReal) := by
  refine Eq.trans ?_ (h.gs o)
  show StableHlo.after hostOps0 (W0 m ρ c) (Proc.devRef .tc main_v10) (ix2 0 o) = _
  after_reads_simp
  pointwise

theorem w1_v11 (o : Fin 64) : (W1 m ρ c (Proc.devRef .tc main_v11) : Vec Ideal S1x64 .f32) (ix2 0 o) = v.bs o := by
  refine Eq.trans ?_ (h.bs o)
  show StableHlo.after hostOps0 (W0 m ρ c) (Proc.devRef .tc main_v11) (ix2 0 o) = _
  after_reads_simp
  pointwise

theorem w1_v4 (k o : Fin 64) : (W1 m ρ c (Proc.devRef .tc main_v4) : Vec Ideal S64x64 .f32) (ix2 k o) = (v.w2 o k : EReal) := by
  refine Eq.trans ?_ (h.w2 o k)
  show StableHlo.after hostOps0 (W0 m ρ c) (Proc.devRef .tc main_v4) (ix2 k o) = _
  after_reads_simp
  pointwise

/-! ### After the first pass -/

theorem w2_v12_0 : W2 m ρ c (Proc.devRef .tc main_v12_0) = table 65536 (fun o q => lin1 v o q) :=
  (W2_arr m ρ c 5).trans (arr0_5 (V1 m ρ) c v (given0 m ρ c v h))

theorem w2_v12_1 : W2 m ρ c (Proc.devRef .tc main_v12_1) = table 4096 (fun o q => skip v o q) :=
  (W2_arr m ρ c 6).trans (arr0_6 (V1 m ρ) c v (given0 m ρ c v h))

theorem w2_v12_2 : W2 m ρ c (Proc.devRef .tc main_v12_2) = sums 65536 (fun o r => lin1 v o r) :=
  (W2_arr m ρ c 7).trans (arr0_7 (V1 m ρ) c v (given0 m ρ c v h))

theorem w2_v12_3 : W2 m ρ c (Proc.devRef .tc main_v12_3) = sums 65536 (fun o r => lin1 v o r * lin1 v o r) :=
  (W2_arr m ρ c 8).trans (arr0_8 (V1 m ρ) c v (given0 m ρ c v h))

theorem w2_v12_4 : W2 m ρ c (Proc.devRef .tc main_v12_4) = sums 4096 (fun o r => skip v o r) :=
  (W2_arr m ρ c 9).trans (arr0_9 (V1 m ρ) c v (given0 m ρ c v h))

theorem w2_v12_5 : W2 m ρ c (Proc.devRef .tc main_v12_5) = sums 4096 (fun o r => skip v o r * skip v o r) :=
  (W2_arr m ρ c 10).trans (arr0_10 (V1 m ρ) c v (given0 m ρ c v h))

/-! ### Between the first pass and the second -/

omit h in
theorem w3_v24 : W3 m ρ c (Proc.devRef .tc main_v24) = gainOf 0x47800000#32 (W2 m ρ c (Proc.devRef .tc main_v12_2)) (W2 m ρ c (Proc.devRef .tc main_v12_3)) (W2 m ρ c (Proc.devRef .tc main_v6)) := by
  show StableHlo.after hostOps1 (W2 m ρ c) (Proc.devRef .tc main_v24) = _
  after_reads_simp

omit h in
theorem w3_v38 : W3 m ρ c (Proc.devRef .tc main_v38) = gainOf 0x45800000#32 (W2 m ρ c (Proc.devRef .tc main_v12_4)) (W2 m ρ c (Proc.devRef .tc main_v12_5)) (W2 m ρ c (Proc.devRef .tc main_v10)) := by
  show StableHlo.after hostOps1 (W2 m ρ c) (Proc.devRef .tc main_v38) = _
  after_reads_simp

omit h in
theorem w3_v26 : W3 m ρ c (Proc.devRef .tc main_v26) = offsetOf 0x47800000#32 (W2 m ρ c (Proc.devRef .tc main_v12_2)) (W3 m ρ c (Proc.devRef .tc main_v24)) (W2 m ρ c (Proc.devRef .tc main_v7)) := by
  rw [w3_v24]
  show StableHlo.after hostOps1 (W2 m ρ c) (Proc.devRef .tc main_v26) = _
  after_reads_simp

omit h in
theorem w3_v40 : W3 m ρ c (Proc.devRef .tc main_v40) = offsetOf 0x45800000#32 (W2 m ρ c (Proc.devRef .tc main_v12_4)) (W3 m ρ c (Proc.devRef .tc main_v38)) (W2 m ρ c (Proc.devRef .tc main_v11)) := by
  rw [w3_v38]
  show StableHlo.after hostOps1 (W2 m ρ c) (Proc.devRef .tc main_v40) = _
  after_reads_simp

theorem w2_v6 (o : Fin 64) : (W2 m ρ c (Proc.devRef .tc main_v6) : Vec Ideal S1x64 .f32) (ix2 0 o) = (v.g1 o : EReal) :=
  (congrFun (W2_of m ρ c main_v6 (by decide +kernel)) (ix2 0 o)).trans (w1_v6 m ρ c v h o)

theorem w2_v7 (o : Fin 64) : (W2 m ρ c (Proc.devRef .tc main_v7) : Vec Ideal S1x64 .f32) (ix2 0 o) = (v.b1 o : EReal) :=
  (congrFun (W2_of m ρ c main_v7 (by decide +kernel)) (ix2 0 o)).trans (w1_v7 m ρ c v h o)

theorem w2_v8 (o : Fin 64) : (W2 m ρ c (Proc.devRef .tc main_v8) : Vec Ideal S1x64 .f32) (ix2 0 o) = (v.g2 o : EReal) :=
  (congrFun (W2_of m ρ c main_v8 (by decide +kernel)) (ix2 0 o)).trans (w1_v8 m ρ c v h o)

theorem w2_v9 (o : Fin 64) : (W2 m ρ c (Proc.devRef .tc main_v9) : Vec Ideal S1x64 .f32) (ix2 0 o) = (v.b2 o : EReal) :=
  (congrFun (W2_of m ρ c main_v9 (by decide +kernel)) (ix2 0 o)).trans (w1_v9 m ρ c v h o)

theorem w2_v10 (o : Fin 64) : (W2 m ρ c (Proc.devRef .tc main_v10) : Vec Ideal S1x64 .f32) (ix2 0 o) = (v.gs o : EReal) :=
  (congrFun (W2_of m ρ c main_v10 (by decide +kernel)) (ix2 0 o)).trans (w1_v10 m ρ c v h o)

theorem w2_v11 (o : Fin 64) : (W2 m ρ c (Proc.devRef .tc main_v11) : Vec Ideal S1x64 .f32) (ix2 0 o) = v.bs o :=
  (congrFun (W2_of m ρ c main_v11 (by decide +kernel)) (ix2 0 o)).trans (w1_v11 m ρ c v h o)

theorem w4_v8 (o : Fin 64) : (W4 m ρ c (Proc.devRef .tc main_v8) : Vec Ideal S1x64 .f32) (ix2 0 o) = (v.g2 o : EReal) :=
  (congrFun ((W4_of m ρ c main_v8 (by decide +kernel)).trans (W3_of m ρ c main_v8 (by decide))) (ix2 0 o)).trans (w2_v8 m ρ c v h o)

theorem w4_v9 (o : Fin 64) : (W4 m ρ c (Proc.devRef .tc main_v9) : Vec Ideal S1x64 .f32) (ix2 0 o) = (v.b2 o : EReal) :=
  (congrFun ((W4_of m ρ c main_v9 (by decide +kernel)).trans (W3_of m ρ c main_v9 (by decide))) (ix2 0 o)).trans (w2_v9 m ρ c v h o)

theorem w3_v24_gain (o : Fin 64) : (W3 m ρ c (Proc.devRef .tc main_v24) : Vec Ideal S1x64 .f32) (ix2 0 o) = ((gain 65536 (lin1 v o) (v.g1 o) : ℝ) : EReal) := by
  rw [w3_v24, w2_v12_2 m ρ c v, w2_v12_3 m ρ c v]
  · exact gainOf_apply _ 65536 (by decide) rows_word (fun o r => lin1 v o r) _ o _ (w2_v6 m ρ c v h o)
  all_goals exact h

theorem w3_v26_offset (o : Fin 64) : (W3 m ρ c (Proc.devRef .tc main_v26) : Vec Ideal S1x64 .f32) (ix2 0 o) = ((v.b1 o - mean 65536 (lin1 v o) * gain 65536 (lin1 v o) (v.g1 o) : ℝ) : EReal) := by
  rw [w3_v26, w2_v12_2 m ρ c v]
  · refine (offsetOf_apply _ 65536 (by decide) rows_word (fun o r => lin1 v o r) _ _ o _ (w3_v24_gain m ρ c v h o)).trans ?_
    rw [w2_v7 m ρ c v h o, EReal.coe_sub]
  all_goals exact h

theorem w3_v38_gain (o : Fin 64) : (W3 m ρ c (Proc.devRef .tc main_v38) : Vec Ideal S1x64 .f32) (ix2 0 o) = ((gain 4096 (skip v o) (v.gs o) : ℝ) : EReal) := by
  rw [w3_v38, w2_v12_4 m ρ c v, w2_v12_5 m ρ c v]
  · exact gainOf_apply _ 4096 (by decide) points_word (fun o r => skip v o r) _ o _ (w2_v10 m ρ c v h o)
  all_goals exact h

theorem w3_v40_offset (o : Fin 64) : (W3 m ρ c (Proc.devRef .tc main_v40) : Vec Ideal S1x64 .f32) (ix2 0 o) = v.bs o - ((mean 4096 (skip v o) * gain 4096 (skip v o) (v.gs o) : ℝ) : EReal) := by
  rw [w3_v40, w2_v12_4 m ρ c v]
  · refine (offsetOf_apply _ 4096 (by decide) points_word (fun o r => skip v o r) _ _ o _ (w3_v38_gain m ρ c v h o)).trans ?_
    rw [w2_v11 m ρ c v h o]
  all_goals exact h

theorem given1 : Given1 (V3 m ρ) c v where
  h1 := (W3_of m ρ c main_v12_0 (by decide)).trans (w2_v12_0 m ρ c v h)
  w2 := fun k o => (congrFun ((W3_of m ρ c main_v4 (by decide)).trans (W2_of m ρ c main_v4 (by decide +kernel))) (ix2 k o)).trans (w1_v4 m ρ c v h k o)
  a1 := w3_v24_gain m ρ c v h
  c1 := w3_v26_offset m ρ c v h

/-! ### After the second pass -/

theorem w4_v41_0 : W4 m ρ c (Proc.devRef .tc main_v41_0) = table 65536 (fun o q => lin2 v o q) :=
  (W4_arr m ρ c 4).trans (arr1_4 (V3 m ρ) c v (given1 m ρ c v h))

theorem w4_v41_1 : W4 m ρ c (Proc.devRef .tc main_v41_1) = sums 65536 (fun o r => lin2 v o r) :=
  (W4_arr m ρ c 5).trans (arr1_5 (V3 m ρ) c v (given1 m ρ c v h))

theorem w4_v41_2 : W4 m ρ c (Proc.devRef .tc main_v41_2) = sums 65536 (fun o r => lin2 v o r * lin2 v o r) :=
  (W4_arr m ρ c 6).trans (arr1_6 (V3 m ρ) c v (given1 m ρ c v h))

/-! ### Between the second pass and the third -/

omit h in
theorem w5_v53 : W5 m ρ c (Proc.devRef .tc main_v53)
    = gainOf 0x47800000#32 (W4 m ρ c (Proc.devRef .tc main_v41_1)) (W4 m ρ c (Proc.devRef .tc main_v41_2)) (W4 m ρ c (Proc.devRef .tc main_v8)) := by
  show StableHlo.after hostOps2 (W4 m ρ c) (Proc.devRef .tc main_v53) = _
  after_reads_simp

omit h in
theorem w5_v55 : W5 m ρ c (Proc.devRef .tc main_v55)
    = offsetOf 0x47800000#32 (W4 m ρ c (Proc.devRef .tc main_v41_1)) (W5 m ρ c (Proc.devRef .tc main_v53)) (W4 m ρ c (Proc.devRef .tc main_v9)) := by
  rw [w5_v53]
  show StableHlo.after hostOps2 (W4 m ρ c) (Proc.devRef .tc main_v55) = _
  after_reads_simp

theorem w5_v53_gain (o : Fin 64) : (W5 m ρ c (Proc.devRef .tc main_v53) : Vec Ideal S1x64 .f32) (ix2 0 o) = ((gain 65536 (lin2 v o) (v.g2 o) : ℝ) : EReal) := by
  rw [w5_v53, w4_v41_1 m ρ c v, w4_v41_2 m ρ c v]
  · exact gainOf_apply _ 65536 (by decide) rows_word (fun o r => lin2 v o r) _ o _ (w4_v8 m ρ c v h o)
  all_goals exact h

theorem w5_v55_offset (o : Fin 64) : (W5 m ρ c (Proc.devRef .tc main_v55) : Vec Ideal S1x64 .f32) (ix2 0 o) = ((v.b2 o - mean 65536 (lin2 v o) * gain 65536 (lin2 v o) (v.g2 o) : ℝ) : EReal) := by
  rw [w5_v55, w4_v41_1 m ρ c v]
  · refine (offsetOf_apply _ 65536 (by decide) rows_word (fun o r => lin2 v o r) _ _ o _ (w5_v53_gain m ρ c v h o)).trans ?_
    rw [w4_v9 m ρ c v h o, EReal.coe_sub]
  all_goals exact h

theorem given2 : Given2 (V5 m ρ) c v where
  h2 := (W5_of m ρ c main_v41_0 (by decide)).trans (w4_v41_0 m ρ c v h)
  s := (W5_of m ρ c main_v12_1 (by decide)).trans ((W4_of m ρ c main_v12_1 (by decide +kernel)).trans
    ((W3_of m ρ c main_v12_1 (by decide)).trans (w2_v12_1 m ρ c v h)))
  a2 := w5_v53_gain m ρ c v h
  c2 := w5_v55_offset m ρ c v h
  a3 := fun k => (congrFun ((W5_of m ρ c main_v38 (by decide)).trans (W4_of m ρ c main_v38 (by decide +kernel))) (ix2 0 k)).trans (w3_v38_gain m ρ c v h k)
  c3 := fun k => (congrFun ((W5_of m ρ c main_v40 (by decide)).trans (W4_of m ρ c main_v40 (by decide +kernel))) (ix2 0 k)).trans (w3_v40_offset m ρ c v h k)

/-! ### The result -/

theorem w6_v56 : W6 m ρ c (Proc.devRef .tc main_v56) = results v :=
  (W6_arr m ρ c 6).trans (arr2_6 (V5 m ρ) c v (given2 m ρ c v h))

theorem w7_v58 (b : Fin 4) (o : Fin 64) (q : Fin 1024) :
    (W7 m ρ c (Proc.devRef .tc main_v58) : Vec Ideal S4x64x1024 .f32) (ix3 b o q) = result v o (1024 * b.val + q.val) := by
  have e : (W7 m ρ c (Proc.devRef .tc main_v58) : Vec Ideal S4x64x1024 .f32)
      = transpose S4x64x1024 [0, 2, 1] (shapeCast S4x1024x64 (W6 m ρ c (Proc.devRef .tc main_v56) : Vec Ideal S4096x64 .f32) shapeCasts_S4096x64_S4x1024x64)
        transposes_S4x1024x64_S4x64x1024_0_2_1 := by
    show StableHlo.after hostOps3 (W6 m ρ c) (Proc.devRef .tc main_v58) = _
    after_reads_simp
    try rfl
  rw [e, w6_v56 m ρ c v h]
  have e2 : ∀ x : Vec Ideal S4096x64 .f32, transpose S4x64x1024 [0, 2, 1] (shapeCast S4x1024x64 x shapeCasts_S4096x64_S4x1024x64)
      transposes_S4x1024x64_S4x64x1024_0_2_1 (ix3 b o q) = x (ix2 ⟨1024 * b.val + q.val, by omega⟩ o) := by
    intro x
    pointwise
    refine congrArg (fun r : Fin 4096 => x (ix2 r o)) (Fin.ext ?_)
    show b.val * 1024 + q.val = 1024 * b.val + q.val
    omega
  exact e2 _

end Run

end Cert.Proof.Layers

end
-- ==== Proof.LayersRef.lean ====
/-
  The reference of the layers, by coordinates.
-/
module

public import proofs.«01_k».proof.Proof.LayersOut
public import proofs.«01_k».proof.Proof.Gen.LayersReferenceIdeal.Run

@[expose] public section

set_option maxRecDepth 16384

noncomputable section

namespace Cert.Proof.Layered

open Idealize.ShloMosaic Idealize.ShloMosaic.TcCoe Cert.LayersReferenceIdeal Cert.LayersReferenceIdeal.Gen Cert.LayersReferenceIdeal.Value
open Cert.Proof.Layers (Values Holds mean var spread scaled eps lin1 act lin2 msg pool skip result lo hi coe_sum div_real sqrt_real max_real
  rows_word points_word zero_word eps_word sum_pairs eps_pos var_nonneg spread_pos pool_real)

/-! ## Sums over all rows -/

theorem fiber4 (h : S4x64x1024x16.ReducesTo [0, 2, 3] S64) (o : Fin 64) (i : S4x64x1024x16.Idx) :
    h.drop i = ix1 o ↔ ∃ k : Fin 4 × Fin 1024 × Fin 16, ix4 k.1 o k.2.1 k.2.2 = i := by
  constructor
  · intro e
    refine ⟨(i 0, i 2, i 3), ?_⟩
    funext a; apply Fin.ext
    match a with
    | ⟨0, _⟩ => rfl
    | ⟨1, _⟩ => exact (congrArg Fin.val (congrFun e ⟨0, by decide⟩)).symm
    | ⟨2, _⟩ => rfl
    | ⟨3, _⟩ => rfl
  · rintro ⟨k, rfl⟩
    funext b
    apply Fin.ext
    match b with
    | ⟨0, _⟩ => rfl

theorem fiber3 (h : S4x64x1024.ReducesTo [0, 2] S64) (o : Fin 64) (i : S4x64x1024.Idx) :
    h.drop i = ix1 o ↔ ∃ k : Fin 4 × Fin 1024, ix3 k.1 o k.2 = i := by
  constructor
  · intro e
    refine ⟨(i 0, i 2), ?_⟩
    funext a; apply Fin.ext
    match a with
    | ⟨0, _⟩ => rfl
    | ⟨1, _⟩ => exact (congrArg Fin.val (congrFun e ⟨0, by decide⟩)).symm
    | ⟨2, _⟩ => rfl
  · rintro ⟨k, rfl⟩
    funext b
    apply Fin.ext
    match b with
    | ⟨0, _⟩ => rfl

/-- The row of neighbour `k` of point `q` of batch `b`. -/
abbrev row (b : Fin 4) (q : Fin 1024) (k : Fin 16) : ℕ := 16 * (1024 * b.val + q.val) + k.val

theorem row_lt (b : Fin 4) (q : Fin 1024) (k : Fin 16) : row b q k < 65536 := by
  show 16 * (1024 * b.val + q.val) + k.val < 65536
  omega

theorem sum_rows (f : ℕ → ℝ) : ∑ k : Fin 4 × Fin 1024 × Fin 16, f (row k.1 k.2.1 k.2.2) = ∑ r ∈ Finset.range 65536, f r := by
  simp only [Fintype.sum_prod_type]
  rw [sum_pairs (fun r => ∑ k : Fin 16, f (16 * r + k.val)) 4 1024, Finset.sum_range, sum_pairs f 4096 16]

theorem sum_points (f : ℕ → ℝ) : ∑ k : Fin 4 × Fin 1024, f (1024 * k.1.val + k.2.val) = ∑ r ∈ Finset.range 4096, f r := by
  simp only [Fintype.sum_prod_type]
  rw [sum_pairs f 4 1024]

theorem reduce4 (x : FVec Ideal S4x64x1024x16 .f32) (f : Fin 64 → ℕ → ℝ)
    (hx : ∀ b o q k, x (ix4 b o q k) = (f o (row b q k) : EReal)) (o : Fin 64) :
    Host.reduceAdd x (constant (F := Ideal) S_ .f32 0x00000000#32) reducesTo_S4x64x1024x16_S64_d0_2_3 h_S_ (ix1 o)
      = ((∑ r ∈ Finset.range 65536, f o r : ℝ) : EReal) := by
  show Ideal.ofBits .f32 0x00000000#32 + ∑ i ∈ Finset.univ.filter (fun i => reducesTo_S4x64x1024x16_S64_d0_2_3.drop i = ix1 o), x i = _
  rw [zero_word, zero_add, Finset.sum_filter_eq_sum_of_fiber _ (fun k : Fin 4 × Fin 1024 × Fin 16 => ix4 k.1 o k.2.1 k.2.2)
    (fun _ _ e => Prod.ext (congrFun e 0) (Prod.ext (congrFun e 2) (congrFun e 3))) (fiber4 _ o) x, ← sum_rows (f o), ← coe_sum]
  exact Finset.sum_congr rfl fun k _ => hx _ _ _ _

theorem reduce3 (x : FVec Ideal S4x64x1024 .f32) (f : Fin 64 → ℕ → ℝ)
    (hx : ∀ b o q, x (ix3 b o q) = (f o (1024 * b.val + q.val) : EReal)) (o : Fin 64) :
    Host.reduceAdd x (constant (F := Ideal) S_ .f32 0x00000000#32) reducesTo_S4x64x1024_S64_d0_2 h_S_ (ix1 o)
      = ((∑ r ∈ Finset.range 4096, f o r : ℝ) : EReal) := by
  show Ideal.ofBits .f32 0x00000000#32 + ∑ i ∈ Finset.univ.filter (fun i => reducesTo_S4x64x1024_S64_d0_2.drop i = ix1 o), x i = _
  rw [zero_word, zero_add, Finset.sum_filter_eq_sum_of_fiber _ (fun k : Fin 4 × Fin 1024 => ix3 k.1 o k.2)
    (fun _ _ e => Prod.ext (congrFun e 0) (congrFun e 2)) (fiber3 _ o) x, ← sum_points (f o), ← coe_sum]
  exact Finset.sum_congr rfl fun k _ => hx _ _ _

/-! ## Normalising -/

/-- The sums by channel, the mean, the deviations from it, and their mean square. -/
abbrev sums4 (x : FVec Ideal S4x64x1024x16 .f32) : FVec Ideal S1x64x1x1 .f32 :=
  broadcastInDim S1x64x1x1 ![1] bcast_S64_S1x64x1x1_1 (Host.reduceAdd x (constant S_ .f32 0x00000000#32) reducesTo_S4x64x1024x16_S64_d0_2_3 h_S_)
abbrev mean4 (x : FVec Ideal S4x64x1024x16 .f32) : FVec Ideal S1x64x1x1 .f32 :=
  Host.divf (sums4 x)
    (broadcastInDim S1x64x1x1 ![] bcast_S_S1x64x1x1 (constant S_ .f32 0x47800000#32))
abbrev dev4 (x : FVec Ideal S4x64x1024x16 .f32) : FVec Ideal S4x64x1024x16 .f32 :=
  subf x (broadcastInDim S4x64x1024x16 ![0, 1, 2, 3] bcast_S1x64x1x1_S4x64x1024x16_0_1_2_3 (mean4 x))
abbrev count4 : FVec Ideal S_ .f32 := subf (constant S_ .f32 0x47800000#32) (sitofp .f32 (constantI S_ 32 0#32))
abbrev var4 (x : FVec Ideal S4x64x1024x16 .f32) : FVec Ideal S1x64x1x1 .f32 :=
  select (broadcastInDim S1x64x1x1 ![] bcast_S_S1x64x1x1 (cmpf .ogt count4 (constant S_ .f32 0x00000000#32)))
    (Host.divf (sums4 (mulf (dev4 x) (dev4 x)))
      (broadcastInDim S1x64x1x1 ![] bcast_S_S1x64x1x1 count4))
    (broadcastInDim S1x64x1x1 ![] bcast_S_S1x64x1x1 (id (constant S_ .f32 0x7FC00000#32)))
abbrev norm4 (x : FVec Ideal S4x64x1024x16 .f32) (g b : FVec Ideal S64 .f32) : FVec Ideal S4x64x1024x16 .f32 :=
  addf (mulf (Host.divf (subf x (broadcastInDim S4x64x1024x16 ![0, 1, 2, 3] bcast_S1x64x1x1_S4x64x1024x16_0_1_2_3 (mean4 x)))
      (broadcastInDim S4x64x1024x16 ![0, 1, 2, 3] bcast_S1x64x1x1_S4x64x1024x16_0_1_2_3
        (Host.sqrt (addf (var4 x) (broadcastInDim S1x64x1x1 ![] bcast_S_S1x64x1x1 (constant S_ .f32 0x3727C5AC#32))))))
      (broadcastInDim S4x64x1024x16 ![0, 1, 2, 3] bcast_S1x64x1x1_S4x64x1024x16_0_1_2_3 (broadcastInDim S1x64x1x1 ![1] bcast_S64_S1x64x1x1_1 g)))
    (broadcastInDim S4x64x1024x16 ![0, 1, 2, 3] bcast_S1x64x1x1_S4x64x1024x16_0_1_2_3 (broadcastInDim S1x64x1x1 ![1] bcast_S64_S1x64x1x1_1 b))

theorem spread4 (x : FVec Ideal S1x64x1x1 .f32) (b : Fin 4) (o : Fin 64) (q : Fin 1024) (k : Fin 16) :
    broadcastInDim S4x64x1024x16 ![0, 1, 2, 3] bcast_S1x64x1x1_S4x64x1024x16_0_1_2_3 x (ix4 b o q k) = x (ix4 0 o 0 0) := by
  pointwise

theorem chan4 (x : FVec Ideal S64 .f32) (o : Fin 64) :
    broadcastInDim S1x64x1x1 ![1] bcast_S64_S1x64x1x1_1 x (ix4 0 o 0 0) = x (ix1 o) := by
  pointwise

theorem count4_eq (j : S_.Idx) : count4 j = (((65536 : ℕ) : ℝ) : EReal) := by
  show Ideal.ofBits .f32 0x47800000#32 - ((0#32 : BitVec 32).toInt : ℝ) = _
  rw [rows_word]
  simp

theorem dot1_apply (x : FVec Ideal S4x128x1024x16 .f32) (w : FVec Ideal S64x128 .f32) (b : Fin 4) (o : Fin 64) (q : Fin 1024) (k : Fin 16) :
    transpose S4x64x1024x16 [0, 3, 1, 2] (Host.dotGeneral dot_S4x128x1024x16_S64x128_S4x1024x16x64_1_1_023_0_n_n none x w)
      transposes_S4x1024x16x64_S4x64x1024x16_0_3_1_2 (ix4 b o q k) = ∑ e : Fin 128, x (ix4 b e q k) * w (ix2 o e) := by
  pointwise

theorem dot2_apply (x : FVec Ideal S4x64x1024x16 .f32) (w : FVec Ideal S64x64 .f32) (b : Fin 4) (o : Fin 64) (q : Fin 1024) (k : Fin 16) :
    transpose S4x64x1024x16 [0, 3, 1, 2] (Host.dotGeneral dot_S4x64x1024x16_S64x64_S4x1024x16x64_1_1_023_0_n_n none x w)
      transposes_S4x1024x16x64_S4x64x1024x16_0_3_1_2 (ix4 b o q k) = ∑ e : Fin 64, x (ix4 b e q k) * w (ix2 o e) := by
  pointwise

theorem dot3_apply (x : FVec Ideal S4x64x1024 .f32) (w : FVec Ideal S64x64 .f32) (b : Fin 4) (o : Fin 64) (q : Fin 1024) :
    transpose S4x64x1024 [0, 2, 1] (Host.dotGeneral dot_S4x64x1024_S64x64_S4x1024x64_1_1_02_0_n_n none x w)
      transposes_S4x1024x64_S4x64x1024_0_2_1 (ix3 b o q) = ∑ e : Fin 64, x (ix3 b e q) * w (ix2 o e) := by
  pointwise

theorem max_apply (x : FVec Ideal S4x64x1024x16 .f32) (b : Fin 4) (o : Fin 64) (q : Fin 1024) :
    Host.reduce FloatOps.maximumf x (constant (F := Ideal) S_ .f32 0xFF800000#32) reducesTo_S4x64x1024x16_S4x64x1024_d3 h_S_ (ix3 b o q)
      = (Finset.univ : Finset (Fin 16)).fold max (Ideal.ofBits .f32 0xFF800000#32) fun k => x (ix4 b o q k) := by
  pointwise

theorem both_lo (x y : FVec Ideal S4x64x1024x16 .f32) (b : Fin 4) (e : Fin 64) (q : Fin 1024) (k : Fin 16) :
    concatenate S4x128x1024x16 1 [⟨S4x64x1024x16, x⟩, ⟨S4x64x1024x16, y⟩] concatenates_S4x64x1024x16_S4x64x1024x16_S4x128x1024x16_d1
      (ix4 b (lo e) q k) = x (ix4 b e q k) := by
  pointwise

theorem both_hi (x y : FVec Ideal S4x64x1024x16 .f32) (b : Fin 4) (e : Fin 64) (q : Fin 1024) (k : Fin 16) :
    concatenate S4x128x1024x16 1 [⟨S4x64x1024x16, x⟩, ⟨S4x64x1024x16, y⟩] concatenates_S4x64x1024x16_S4x64x1024x16_S4x128x1024x16_d1
      (ix4 b (hi e) q k) = y (ix4 b e q k) := by
  pointwise

theorem nf_apply (x : FVec Ideal S65536x64 .f32) (b : Fin 4) (e : Fin 64) (q : Fin 1024) (k : Fin 16) :
    transpose S4x64x1024x16 [0, 3, 1, 2] (shapeCast S4x1024x16x64 x shapeCasts_S65536x64_S4x1024x16x64) transposes_S4x1024x16x64_S4x64x1024x16_0_3_1_2 (ix4 b e q k)
      = x (ix2 ⟨row b q k, row_lt b q k⟩ e) := by
  pointwise
  exact congrArg (fun r => x (ix2 r e)) (Fin.ext (by show b.val * 16384 + q.val * 16 + k.val = 16 * (1024 * b.val + q.val) + k.val; omega))

theorem cf_apply (x : FVec Ideal S4096x64 .f32) (b : Fin 4) (e : Fin 64) (q : Fin 1024) :
    transpose S4x64x1024 [0, 2, 1] (shapeCast S4x1024x64 x shapeCasts_S4096x64_S4x1024x64) transposes_S4x1024x64_S4x64x1024_0_2_1 (ix3 b e q)
      = x (ix2 ⟨1024 * b.val + q.val, by omega⟩ e) := by
  pointwise
  exact congrArg (fun r => x (ix2 r e)) (Fin.ext (by show b.val * 1024 + q.val = 1024 * b.val + q.val; omega))

theorem cfk_apply (x : FVec Ideal S4x64x1024 .f32) (b : Fin 4) (e : Fin 64) (q : Fin 1024) (k : Fin 16) :
    broadcastInDim S4x64x1024x16 ![0, 1, 2, 3] bcast_S4x64x1024x1_S4x64x1024x16_0_1_2_3 (broadcastInDim S4x64x1024x1 ![0, 1, 2] bcast_S4x64x1024_S4x64x1024x1_0_1_2 x) (ix4 b e q k)
      = x (ix3 b e q) := by
  pointwise

/-- The first product: of the features of the centre of a row followed by those of the row. -/
abbrev product (x : FVec Ideal S4x64x1024 .f32) (y : FVec Ideal S65536x64 .f32) (w : FVec Ideal S64x128 .f32) : FVec Ideal S4x64x1024x16 .f32 :=
  transpose S4x64x1024x16 [0, 3, 1, 2] (Host.dotGeneral dot_S4x128x1024x16_S64x128_S4x1024x16x64_1_1_023_0_n_n none
    (concatenate S4x128x1024x16 1 [⟨S4x64x1024x16, broadcastInDim S4x64x1024x16 ![0, 1, 2, 3] bcast_S4x64x1024x1_S4x64x1024x16_0_1_2_3
        (broadcastInDim S4x64x1024x1 ![0, 1, 2] bcast_S4x64x1024_S4x64x1024x1_0_1_2 x)⟩,
      ⟨S4x64x1024x16, transpose S4x64x1024x16 [0, 3, 1, 2] (shapeCast _ y shapeCasts_S65536x64_S4x1024x16x64) transposes_S4x1024x16x64_S4x64x1024x16_0_3_1_2⟩]
      concatenates_S4x64x1024x16_S4x64x1024x16_S4x128x1024x16_d1) w) transposes_S4x1024x16x64_S4x64x1024x16_0_3_1_2

theorem product_apply (x : FVec Ideal S4x64x1024 .f32) (y : FVec Ideal S65536x64 .f32) (w : FVec Ideal S64x128 .f32)
    (b : Fin 4) (o : Fin 64) (q : Fin 1024) (k : Fin 16) :
    product x y w (ix4 b o q k) = (∑ e : Fin 64, x (ix3 b e q) * w (ix2 o (lo e))) + ∑ e : Fin 64, y (ix2 ⟨row b q k, row_lt b q k⟩ e) * w (ix2 o (hi e)) := by
  unfold product
  rw [dot1_apply]
  refine (Fin.sum_univ_add (a := 64) (b := 64) _).trans ?_
  refine congrArg₂ (· + ·) (Finset.sum_congr rfl fun e _ => ?_) (Finset.sum_congr rfl fun e _ => ?_)
  · exact congrArg (· * w (ix2 o (lo e))) ((both_lo _ _ b e q k).trans (cfk_apply x b e q k))
  · exact congrArg (· * w (ix2 o (hi e))) ((both_hi _ _ b e q k).trans (nf_apply y b e q k))

/-! ## Normalised values -/

theorem guard (n : ℕ) (hn : n ≠ 0) (a b : EReal) :
    Scalar.select (FloatOps.cmpf (F := Ideal) (φ := .f32) .ogt (((n : ℝ) : EReal)) (Ideal.ofBits .f32 0x00000000#32)) a b = a := by
  rw [zero_word]
  have h : (0 : EReal) < ((n : ℝ) : EReal) := by
    rw [← EReal.coe_zero, EReal.coe_lt_coe_iff]
    exact Nat.cast_pos.mpr (Nat.pos_of_ne_zero hn)
  show Scalar.select (BitVec.ofBool (decide ((0 : EReal) < ((n : ℝ) : EReal)))) a b = a
  rw [decide_eq_true h]
  rfl

theorem real_norm (n : ℕ) (x : ℕ → ℝ) (g : ℝ) (b : EReal) (r : ℕ) :
    Ideal.div ((x r : EReal) - (mean n x : EReal)) (Ideal.sqrt ((var n x : EReal) + Ideal.ofBits .f32 0x3727C5AC#32)) * (g : EReal) + b
      = ((scaled n x g r : ℝ) : EReal) + b := by
  rw [eps_word, ← EReal.coe_add, sqrt_real _ (add_nonneg (var_nonneg n x) eps_pos.le), ← EReal.coe_sub]
  show Ideal.div _ ((spread n x : ℝ) : EReal) * _ + _ = _
  rw [div_real _ _ (spread_pos n x).ne', ← EReal.coe_mul]
  rfl

section rank4

variable (x : FVec Ideal S4x64x1024x16 .f32) (f : Fin 64 → ℕ → ℝ) (hx : ∀ b o q k, x (ix4 b o q k) = (f o (row b q k) : EReal))

include hx

theorem mean4_apply (o : Fin 64) : mean4 x (ix4 0 o 0 0) = (mean 65536 (f o) : EReal) := by
  show Ideal.div (sums4 x (ix4 0 o 0 0)) (Ideal.ofBits .f32 0x47800000#32) = _
  rw [show sums4 x (ix4 0 o 0 0) = _ from (chan4 _ o).trans (reduce4 x f hx o), rows_word, div_real _ _ (by norm_num)]
  rfl

theorem dev4_apply (b : Fin 4) (o : Fin 64) (q : Fin 1024) (k : Fin 16) :
    dev4 x (ix4 b o q k) = ((f o (row b q k) - mean 65536 (f o) : ℝ) : EReal) := by
  show x (ix4 b o q k) - broadcastInDim S4x64x1024x16 ![0, 1, 2, 3] bcast_S1x64x1x1_S4x64x1024x16_0_1_2_3 (mean4 x) (ix4 b o q k) = _
  rw [spread4, mean4_apply x f hx, hx, EReal.coe_sub]

theorem var4_apply (o : Fin 64) : var4 x (ix4 0 o 0 0) = (var 65536 (f o) : EReal) := by
  have hs := reduce4 (mulf (dev4 x) (dev4 x)) (fun o r => (f o r - mean 65536 (f o)) * (f o r - mean 65536 (f o)))
    (fun b o q k => by
      show dev4 x (ix4 b o q k) * dev4 x (ix4 b o q k) = _
      rw [dev4_apply x f hx, EReal.coe_mul]) o
  show Scalar.select (FloatOps.cmpf (F := Ideal) (φ := .f32) .ogt (count4 _) (Ideal.ofBits .f32 0x00000000#32))
    (Ideal.div (sums4 (mulf (dev4 x) (dev4 x)) (ix4 0 o 0 0)) (count4 _)) _ = _
  rw [count4_eq, guard 65536 (by decide), show sums4 (mulf (dev4 x) (dev4 x)) (ix4 0 o 0 0) = _ from (chan4 _ o).trans hs, div_real _ _ (by norm_num)]
  rfl

theorem norm4_apply (g b : FVec Ideal S64 .f32) (g' : Fin 64 → ℝ) (hg : ∀ o, g (ix1 o) = (g' o : EReal))
    (i : Fin 4) (o : Fin 64) (q : Fin 1024) (k : Fin 16) :
    norm4 x g b (ix4 i o q k) = ((scaled 65536 (f o) (g' o) (row i q k) : ℝ) : EReal) + b (ix1 o) := by
  show Ideal.div (x (ix4 i o q k) - broadcastInDim S4x64x1024x16 ![0, 1, 2, 3] bcast_S1x64x1x1_S4x64x1024x16_0_1_2_3 (mean4 x) (ix4 i o q k))
      (broadcastInDim S4x64x1024x16 ![0, 1, 2, 3] bcast_S1x64x1x1_S4x64x1024x16_0_1_2_3
        (Host.sqrt (addf (var4 x) (broadcastInDim S1x64x1x1 ![] bcast_S_S1x64x1x1 (constant S_ .f32 0x3727C5AC#32)))) (ix4 i o q k))
      * broadcastInDim S4x64x1024x16 ![0, 1, 2, 3] bcast_S1x64x1x1_S4x64x1024x16_0_1_2_3 (broadcastInDim S1x64x1x1 ![1] bcast_S64_S1x64x1x1_1 g) (ix4 i o q k)
    + broadcastInDim S4x64x1024x16 ![0, 1, 2, 3] bcast_S1x64x1x1_S4x64x1024x16_0_1_2_3 (broadcastInDim S1x64x1x1 ![1] bcast_S64_S1x64x1x1_1 b) (ix4 i o q k) = _
  rw [spread4, spread4, spread4, spread4, chan4, chan4, mean4_apply x f hx, hx, hg]
  show Ideal.div _ (Ideal.sqrt (var4 x (ix4 0 o 0 0) + Ideal.ofBits .f32 0x3727C5AC#32)) * _ + _ = _
  rw [var4_apply x f hx]
  exact real_norm 65536 (f o) (g' o) (b (ix1 o)) (row i q k)

end rank4

/-! ## The same over the points -/

abbrev sums3 (x : FVec Ideal S4x64x1024 .f32) : FVec Ideal S1x64x1 .f32 :=
  broadcastInDim S1x64x1 ![1] bcast_S64_S1x64x1_1 (Host.reduceAdd x (constant S_ .f32 0x00000000#32) reducesTo_S4x64x1024_S64_d0_2 h_S_)
abbrev mean3 (x : FVec Ideal S4x64x1024 .f32) : FVec Ideal S1x64x1 .f32 :=
  Host.divf (sums3 x)
    (broadcastInDim S1x64x1 ![] bcast_S_S1x64x1 (constant S_ .f32 0x45800000#32))
abbrev dev3 (x : FVec Ideal S4x64x1024 .f32) : FVec Ideal S4x64x1024 .f32 :=
  subf x (broadcastInDim S4x64x1024 ![0, 1, 2] bcast_S1x64x1_S4x64x1024_0_1_2 (mean3 x))
abbrev count3 : FVec Ideal S_ .f32 := subf (constant S_ .f32 0x45800000#32) (sitofp .f32 (constantI S_ 32 0#32))
abbrev var3 (x : FVec Ideal S4x64x1024 .f32) : FVec Ideal S1x64x1 .f32 :=
  select (broadcastInDim S1x64x1 ![] bcast_S_S1x64x1 (cmpf .ogt count3 (constant S_ .f32 0x00000000#32)))
    (Host.divf (sums3 (mulf (dev3 x) (dev3 x)))
      (broadcastInDim S1x64x1 ![] bcast_S_S1x64x1 count3))
    (broadcastInDim S1x64x1 ![] bcast_S_S1x64x1 (id (constant S_ .f32 0x7FC00000#32)))
abbrev norm3 (x : FVec Ideal S4x64x1024 .f32) (g b : FVec Ideal S64 .f32) : FVec Ideal S4x64x1024 .f32 :=
  addf (mulf (Host.divf (subf x (broadcastInDim S4x64x1024 ![0, 1, 2] bcast_S1x64x1_S4x64x1024_0_1_2 (mean3 x)))
      (broadcastInDim S4x64x1024 ![0, 1, 2] bcast_S1x64x1_S4x64x1024_0_1_2
        (Host.sqrt (addf (var3 x) (broadcastInDim S1x64x1 ![] bcast_S_S1x64x1 (constant S_ .f32 0x3727C5AC#32))))))
      (broadcastInDim S4x64x1024 ![0, 1, 2] bcast_S1x64x1_S4x64x1024_0_1_2 (broadcastInDim S1x64x1 ![1] bcast_S64_S1x64x1_1 g)))
    (broadcastInDim S4x64x1024 ![0, 1, 2] bcast_S1x64x1_S4x64x1024_0_1_2 (broadcastInDim S1x64x1 ![1] bcast_S64_S1x64x1_1 b))

theorem spread3 (x : FVec Ideal S1x64x1 .f32) (b : Fin 4) (o : Fin 64) (q : Fin 1024) :
    broadcastInDim S4x64x1024 ![0, 1, 2] bcast_S1x64x1_S4x64x1024_0_1_2 x (ix3 b o q) = x (ix3 0 o 0) := by
  pointwise

theorem chan3 (x : FVec Ideal S64 .f32) (o : Fin 64) :
    broadcastInDim S1x64x1 ![1] bcast_S64_S1x64x1_1 x (ix3 0 o 0) = x (ix1 o) := by
  pointwise

theorem count3_eq (j : S_.Idx) : count3 j = (((4096 : ℕ) : ℝ) : EReal) := by
  show Ideal.ofBits .f32 0x45800000#32 - ((0#32 : BitVec 32).toInt : ℝ) = _
  rw [points_word]
  simp

section rank3

variable (x : FVec Ideal S4x64x1024 .f32) (f : Fin 64 → ℕ → ℝ) (hx : ∀ b o q, x (ix3 b o q) = (f o (1024 * b.val + q.val) : EReal))

include hx

theorem mean3_apply (o : Fin 64) : mean3 x (ix3 0 o 0) = (mean 4096 (f o) : EReal) := by
  show Ideal.div (sums3 x (ix3 0 o 0)) (Ideal.ofBits .f32 0x45800000#32) = _
  rw [show sums3 x (ix3 0 o 0) = _ from (chan3 _ o).trans (reduce3 x f hx o), points_word, div_real _ _ (by norm_num)]
  rfl

theorem dev3_apply (b : Fin 4) (o : Fin 64) (q : Fin 1024) :
    dev3 x (ix3 b o q) = ((f o (1024 * b.val + q.val) - mean 4096 (f o) : ℝ) : EReal) := by
  show x (ix3 b o q) - broadcastInDim S4x64x1024 ![0, 1, 2] bcast_S1x64x1_S4x64x1024_0_1_2 (mean3 x) (ix3 b o q) = _
  rw [spread3, mean3_apply x f hx, hx, EReal.coe_sub]

theorem var3_apply (o : Fin 64) : var3 x (ix3 0 o 0) = (var 4096 (f o) : EReal) := by
  have hs := reduce3 (mulf (dev3 x) (dev3 x)) (fun o r => (f o r - mean 4096 (f o)) * (f o r - mean 4096 (f o)))
    (fun b o q => by
      show dev3 x (ix3 b o q) * dev3 x (ix3 b o q) = _
      rw [dev3_apply x f hx, EReal.coe_mul]) o
  show Scalar.select (FloatOps.cmpf (F := Ideal) (φ := .f32) .ogt (count3 _) (Ideal.ofBits .f32 0x00000000#32))
    (Ideal.div (sums3 (mulf (dev3 x) (dev3 x)) (ix3 0 o 0)) (count3 _)) _ = _
  rw [count3_eq, guard 4096 (by decide), show sums3 (mulf (dev3 x) (dev3 x)) (ix3 0 o 0) = _ from (chan3 _ o).trans hs, div_real _ _ (by norm_num)]
  rfl

theorem norm3_apply (g b : FVec Ideal S64 .f32) (g' : Fin 64 → ℝ) (hg : ∀ o, g (ix1 o) = (g' o : EReal))
    (i : Fin 4) (o : Fin 64) (q : Fin 1024) :
    norm3 x g b (ix3 i o q) = ((scaled 4096 (f o) (g' o) (1024 * i.val + q.val) : ℝ) : EReal) + b (ix1 o) := by
  show Ideal.div (x (ix3 i o q) - broadcastInDim S4x64x1024 ![0, 1, 2] bcast_S1x64x1_S4x64x1024_0_1_2 (mean3 x) (ix3 i o q))
      (broadcastInDim S4x64x1024 ![0, 1, 2] bcast_S1x64x1_S4x64x1024_0_1_2
        (Host.sqrt (addf (var3 x) (broadcastInDim S1x64x1 ![] bcast_S_S1x64x1 (constant S_ .f32 0x3727C5AC#32)))) (ix3 i o q))
      * broadcastInDim S4x64x1024 ![0, 1, 2] bcast_S1x64x1_S4x64x1024_0_1_2 (broadcastInDim S1x64x1 ![1] bcast_S64_S1x64x1_1 g) (ix3 i o q)
    + broadcastInDim S4x64x1024 ![0, 1, 2] bcast_S1x64x1_S4x64x1024_0_1_2 (broadcastInDim S1x64x1 ![1] bcast_S64_S1x64x1_1 b) (ix3 i o q) = _
  rw [spread3, spread3, spread3, spread3, chan3, chan3, mean3_apply x f hx, hx, hg]
  show Ideal.div _ (Ideal.sqrt (var3 x (ix3 0 o 0) + Ideal.ofBits .f32 0x3727C5AC#32)) * _ + _ = _
  rw [var3_apply x f hx]
  exact real_norm 4096 (f o) (g' o) (b (ix1 o)) (1024 * i.val + q.val)

end rank3

/-! ## The last steps: no value is infinite, so the steps that would put another in its place leave each alone -/

theorem low_word : Ideal.ofBits .f32 0xFF800000#32 = ⊥ := by simp [Ideal.ofBits, Ideal.ieee]
theorem high_word : Ideal.ofBits .f32 0x7F800000#32 = ⊤ := by simp [Ideal.ofBits, Ideal.ieee]

theorem differ (y : ℝ) (w a : EReal) (hw : w = ⊤ ∨ w = ⊥) :
    Scalar.select (FloatOps.cmpf (F := Ideal) (φ := .f32) .oeq (y : EReal) w) a (y : EReal) = (y : EReal) := by
  have hn : (y : EReal) ≠ w := by
    rcases hw with rfl | rfl
    · exact EReal.coe_ne_top y
    · exact EReal.coe_ne_bot y
  show Scalar.select (BitVec.ofBool (decide ((y : EReal) = w))) a (y : EReal) = _
  rw [decide_eq_false hn]
  rfl

theorem same (y a : EReal) : Scalar.select (FloatOps.cmpf (F := Ideal) (φ := .f32) .une y y) a y = y := by
  show Scalar.select (BitVec.ofBool (decide (y ≠ y))) a y = _
  rw [decide_eq_false (fun h => h rfl)]
  rfl

abbrev first (x : FVec Ideal S4x64x1024 .f32) : FVec Ideal S4x64x1024 .f32 :=
  select (cmpf .une x x) (broadcastInDim S4x64x1024 ![] bcast_S_S4x64x1024 (id (constant S_ .f32 0x00000000#32))) x
abbrev second (x : FVec Ideal S4x64x1024 .f32) : FVec Ideal S4x64x1024 .f32 :=
  select (cmpf .oeq x (broadcastInDim S4x64x1024 ![] bcast_S_S4x64x1024 (constant S_ .f32 0x7F800000#32)))
    (broadcastInDim S4x64x1024 ![] bcast_S_S4x64x1024 (constant S_ .f32 0x7F7FFFFF#32)) x
abbrev third (x : FVec Ideal S4x64x1024 .f32) : FVec Ideal S4x64x1024 .f32 :=
  select (cmpf .oeq x (broadcastInDim S4x64x1024 ![] bcast_S_S4x64x1024 (constant S_ .f32 0xFF800000#32)))
    (broadcastInDim S4x64x1024 ![] bcast_S_S4x64x1024 (constant S_ .f32 0xFF7FFFFF#32)) x

/-- What the reference ends with. -/
abbrev final (x y : FVec Ideal S4x64x1024 .f32) : FVec Ideal S4x64x1024 .f32 :=
  maximumf (addf (select (cmpf .oeq x (broadcastInDim S4x64x1024 ![] bcast_S_S4x64x1024 (constant S_ .f32 0xFF800000#32)))
    (broadcastInDim S4x64x1024 ![] bcast_S_S4x64x1024 (id (constant S_ .f32 0x00000000#32))) x) y)
    (broadcastInDim S4x64x1024 ![] bcast_S_S4x64x1024 (constant S_ .f32 0x00000000#32))

theorem first_apply (x : FVec Ideal S4x64x1024 .f32) (j : S4x64x1024.Idx) (y : ℝ) (hy : x j = (y : EReal)) : first x j = (y : EReal) :=
  (same (x j) _).trans hy

theorem second_apply (x : FVec Ideal S4x64x1024 .f32) (j : S4x64x1024.Idx) (y : ℝ) (hy : x j = (y : EReal)) : second x j = (y : EReal) := by
  show Scalar.select (FloatOps.cmpf (F := Ideal) (φ := .f32) .oeq (x j) (Ideal.ofBits .f32 0x7F800000#32)) (Ideal.ofBits .f32 0x7F7FFFFF#32) (x j) = _
  rw [hy]
  exact differ y _ _ (Or.inl high_word)

theorem third_apply (x : FVec Ideal S4x64x1024 .f32) (j : S4x64x1024.Idx) (y : ℝ) (hy : x j = (y : EReal)) : third x j = (y : EReal) := by
  show Scalar.select (FloatOps.cmpf (F := Ideal) (φ := .f32) .oeq (x j) (Ideal.ofBits .f32 0xFF800000#32)) (Ideal.ofBits .f32 0xFF7FFFFF#32) (x j) = _
  rw [hy]
  exact differ y _ _ (Or.inr low_word)

theorem last_apply (x z : FVec Ideal S4x64x1024 .f32) (j : S4x64x1024.Idx) (y : ℝ) (hy : x j = (y : EReal)) :
    final x z j = max ((y : EReal) + z j) 0 := by
  show max (Scalar.select (FloatOps.cmpf (F := Ideal) (φ := .f32) .oeq (x j) (Ideal.ofBits .f32 0xFF800000#32)) (Ideal.ofBits .f32 0x00000000#32) (x j) + z j)
    (Ideal.ofBits .f32 0x00000000#32) = _
  rw [hy, differ y _ _ (Or.inr low_word), zero_word]

/-! ## The layers -/

section layers

variable (V0 : Valuation τ sig (Elt Ideal)) (v : Values)
  (h : Holds (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7))
    (V0 (Proc.devRef .tc main_arg8)) (V0 (Proc.devRef .tc main_arg9)) (V0 (Proc.devRef .tc main_arg10)) v)

include h

theorem v3_apply (b : Fin 4) (e : Fin 64) (q : Fin 1024) :
    (res_main_v3 V0 : FVec Ideal S4x64x1024 .f32) (ix3 b e q) = (v.cf (1024 * b.val + q.val) e : EReal) :=
  (cf_apply _ b e q).trans (h.cf _ _)

theorem v8_apply (b : Fin 4) (o : Fin 64) (q : Fin 1024) (k : Fin 16) :
    (res_main_v8 V0 : FVec Ideal S4x64x1024x16 .f32) (ix4 b o q k) = (lin1 v o (row b q k) : EReal) := by
  have hr : row b q k / 16 = 1024 * b.val + q.val := by show (16 * (1024 * b.val + q.val) + k.val) / 16 = _; omega
  have e8 : res_main_v8 V0 = product (res_main_v3 V0) (V0 (Proc.devRef .tc main_arg0)) (V0 (Proc.devRef .tc main_arg2)) := rfl
  rw [e8]
  refine (product_apply _ _ _ b o q k).trans ?_
  unfold lin1
  rw [EReal.coe_add, ← coe_sum, ← coe_sum, add_comm, hr]
  refine congrArg₂ (· + ·) (Finset.sum_congr rfl fun e _ => ?_) (Finset.sum_congr rfl fun e _ => ?_)
  · rw [EReal.coe_mul, ← h.w1, ← h.nf ⟨row b q k, row_lt b q k⟩ e]
  · rw [EReal.coe_mul, ← h.w1]
    exact congrArg (· * _) (v3_apply V0 v h b e q)

theorem act_apply (b : Fin 4) (o : Fin 64) (q : Fin 1024) (k : Fin 16) :
    max (norm4 (res_main_v8 V0) (V0 (Proc.devRef .tc main_arg3)) (V0 (Proc.devRef .tc main_arg4)) (ix4 b o q k)) (Ideal.ofBits .f32 0x00000000#32)
      = (act v o (row b q k) : EReal) := by
  rw [norm4_apply _ (lin1 v) (v8_apply V0 v h) _ _ v.g1 h.g1, h.b1, zero_word, ← EReal.coe_zero, ← EReal.coe_add, max_real]
  rfl

theorem v29_apply (b : Fin 4) (o : Fin 64) (q : Fin 1024) (k : Fin 16) :
    (res_main_v29 V0 : FVec Ideal S4x64x1024x16 .f32) (ix4 b o q k) = (lin2 v o (row b q k) : EReal) := by
  refine (dot2_apply (maximumf (norm4 (res_main_v8 V0) (V0 (Proc.devRef .tc main_arg3)) (V0 (Proc.devRef .tc main_arg4)))
    (broadcastInDim S4x64x1024x16 ![] bcast_S_S4x64x1024x16 (constant S_ .f32 0x00000000#32))) _ b o q k).trans ?_
  unfold lin2
  rw [← coe_sum]
  refine Finset.sum_congr rfl fun e _ => ?_
  rw [EReal.coe_mul, ← h.w2, ← act_apply V0 v h]
  rfl

theorem v48_apply (b : Fin 4) (o : Fin 64) (q : Fin 1024) :
    (res_main_v48 V0 : FVec Ideal S4x64x1024 .f32) (ix3 b o q) = Layers.pool v o (1024 * b.val + q.val) := by
  refine (max_apply (norm4 (res_main_v29 V0) (V0 (Proc.devRef .tc main_arg6)) (V0 (Proc.devRef .tc main_arg7))) b o q).trans ?_
  unfold Layers.pool
  have hb : Ideal.ofBits .f32 0xFF800000#32 = ⊥ := by simp [Ideal.ofBits, Ideal.ieee]
  rw [hb]
  refine Finset.fold_congr fun k _ => ?_
  rw [norm4_apply _ (lin2 v) (v29_apply V0 v h) _ _ v.g2 h.g2, h.b2, ← EReal.coe_add]
  rfl

theorem v54_apply (b : Fin 4) (o : Fin 64) (q : Fin 1024) :
    (res_main_v54 V0 : FVec Ideal S4x64x1024 .f32) (ix3 b o q) = (skip v o (1024 * b.val + q.val) : EReal) := by
  refine (dot3_apply _ _ b o q).trans ?_
  unfold skip
  rw [← coe_sum]
  refine Finset.sum_congr rfl fun e _ => ?_
  rw [EReal.coe_mul, ← h.ws, v3_apply V0 v h]

theorem v49_apply (b : Fin 4) (o : Fin 64) (q : Fin 1024) :
    (res_main_v49 V0 : FVec Ideal S4x64x1024 .f32) (ix3 b o q) = Layers.pool v o (1024 * b.val + q.val) := by
  obtain ⟨y, hy⟩ := pool_real v o (1024 * b.val + q.val)
  rw [hy]
  have e : res_main_v49 V0 = third (second (first (res_main_v48 V0))) := rfl
  rw [e]
  exact third_apply _ _ y (second_apply _ _ y (first_apply _ _ y ((v48_apply V0 v h b o q).trans hy)))

theorem final_apply (b : Fin 4) (o : Fin 64) (q : Fin 1024) :
    final (res_main_v49 V0) (norm3 (res_main_v54 V0) (V0 (Proc.devRef .tc main_arg9)) (V0 (Proc.devRef .tc main_arg10))) (ix3 b o q)
      = Layers.result v o (1024 * b.val + q.val) := by
  obtain ⟨y, hy⟩ := pool_real v o (1024 * b.val + q.val)
  refine (last_apply _ _ _ y ((v49_apply V0 v h b o q).trans hy)).trans ?_
  unfold Layers.result
  rw [norm3_apply _ (skip v) (v54_apply V0 v h) _ _ v.gs h.gs, h.bs, hy]

end layers

open Idealize.SL.Sem Idealize.ShloMosaic.StableHlo in
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v74) = final (res_main_v49 (launchContents m c)) (norm3 (res_main_v54 (launchContents m c))
        (launchContents m c (Proc.devRef .tc main_arg9)) (launchContents m c (Proc.devRef .tc main_arg10)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  Value.run (F := Ideal) m ρ

end Cert.Proof.Layered

end
-- ==== Proof.LayersFinite.lean ====
/-
  The precondition of the layers, decoded: its bit is one only where no value is infinite, and then the arguments hold reals.
-/
module

public import proofs.«01_k».proof.Proof.LayersOut
public import proofs.«01_k».proof.Proof.Named
public import proofs.«01_k».proof.Proof.Gen.Pre_finite_values

@[expose] public section

noncomputable section

namespace Cert.Proof.Layers

open Idealize.ShloMosaic Cert.Pre_finite_values Cert.Pre_finite_values.Gen

/-- A value whose magnitude is below infinity is a real. -/
theorem real_of_bit (x : EReal)
    (h : FloatOps.cmpf (F := Ideal) (φ := .f32) .olt (max x (-x)) (Ideal.ofBits .f32 0x7F800000#32) = 1#1) : x = ((x.toReal : ℝ) : EReal) := by
  have hw : Ideal.ofBits .f32 0x7F800000#32 = ⊤ := by simp [Ideal.ofBits, Ideal.ieee]
  rw [hw] at h
  have h' : max x (-x) < ⊤ := of_decide_eq_true ((StableHlo.Predicate.ofBool_eq_one_iff _).mp h)
  refine (EReal.coe_toReal (fun e => ?_) (fun e => ?_)).symm
  · rw [e] at h'
    exact absurd (lt_of_le_of_lt (le_max_left _ _) h') (lt_irrefl _)
  · rw [e, EReal.neg_bot] at h'
    exact absurd (lt_of_le_of_lt (le_max_right _ _) h') (lt_irrefl _)

/-- The values an argument list holds. -/
def valuesOf (a0 : FVec Ideal S65536x64 .f32) (a1 : FVec Ideal S4096x64 .f32) (a2 : FVec Ideal S64x128 .f32) (a3 a4 : FVec Ideal S64 .f32)
    (a5 : FVec Ideal S64x64 .f32) (a6 a7 : FVec Ideal S64 .f32) (a8 : FVec Ideal S64x64 .f32) (a9 a10 : FVec Ideal S64 .f32) : Values where
  nf r k := EReal.toReal (a0 (ix2 ⟨r % 65536, Nat.mod_lt _ (by decide)⟩ k))
  cf r k := EReal.toReal (a1 (ix2 ⟨r % 4096, Nat.mod_lt _ (by decide)⟩ k))
  w1 o k := EReal.toReal (a2 (ix2 o k))
  g1 o := EReal.toReal (a3 (ix1 o))
  b1 o := EReal.toReal (a4 (ix1 o))
  w2 o k := EReal.toReal (a5 (ix2 o k))
  g2 o := EReal.toReal (a6 (ix1 o))
  b2 o := EReal.toReal (a7 (ix1 o))
  ws o k := EReal.toReal (a8 (ix2 o k))
  gs o := EReal.toReal (a9 (ix1 o))
  bs o := a10 (ix1 o)

theorem holds_of_fn (a0 : FVec Ideal S65536x64 .f32) (a1 : FVec Ideal S4096x64 .f32) (a2 : FVec Ideal S64x128 .f32) (a3 a4 : FVec Ideal S64 .f32)
    (a5 : FVec Ideal S64x64 .f32) (a6 a7 : FVec Ideal S64 .f32) (a8 : FVec Ideal S64x64 .f32) (a9 a10 : FVec Ideal S64 .f32)
    (h : fn (F := Ideal) a0 a1 a2 a3 a4 a5 a6 a7 a8 a9 a10 = fun _ => 1#1) :
    Holds a0 a1 a2 a3 a4 a5 a6 a7 a8 a9 a10 (valuesOf a0 a1 a2 a3 a4 a5 a6 a7 a8 a9 a10) := by
  haveI : Subsingleton S_.Idx := ⟨fun a b => funext fun i => i.elim0⟩
  have h0 := congrFun h (fun i => i.elim0)
  unfold fn fn_part1 fn_part2 at h0
  obtain ⟨h0, h9⟩ := Along.and_one _ _ h0
  obtain ⟨h0, h8⟩ := Along.and_one _ _ h0
  obtain ⟨h0, h7⟩ := Along.and_one _ _ h0
  obtain ⟨h0, h6⟩ := Along.and_one _ _ h0
  obtain ⟨h0, h5⟩ := Along.and_one _ _ h0
  obtain ⟨h0, h4⟩ := Along.and_one _ _ h0
  obtain ⟨h0, h3⟩ := Along.and_one _ _ h0
  obtain ⟨h0, h2⟩ := Along.and_one _ _ h0
  obtain ⟨h0, h1⟩ := Along.and_one _ _ h0
  exact {
    nf := fun r k => by
      have e : (⟨r.val % 65536, Nat.mod_lt _ (by decide)⟩ : Fin 65536) = r := Fin.ext (Nat.mod_eq_of_lt r.isLt)
      show a0 (ix2 r k) = ((EReal.toReal (a0 (ix2 ⟨r.val % 65536, Nat.mod_lt _ (by decide)⟩ k)) : ℝ) : EReal)
      rw [e]
      exact real_of_bit _ (Host.reduce_andi_all _ _ _ _ _ h0 (ix2 r k))
    cf := fun r k => by
      have e : (⟨r.val % 4096, Nat.mod_lt _ (by decide)⟩ : Fin 4096) = r := Fin.ext (Nat.mod_eq_of_lt r.isLt)
      show a1 (ix2 r k) = ((EReal.toReal (a1 (ix2 ⟨r.val % 4096, Nat.mod_lt _ (by decide)⟩ k)) : ℝ) : EReal)
      rw [e]
      exact real_of_bit _ (Host.reduce_andi_all _ _ _ _ _ h1 (ix2 r k))
    w1 := fun o k => real_of_bit _ (Host.reduce_andi_all _ _ _ _ _ h2 (ix2 o k))
    g1 := fun o => real_of_bit _ (Host.reduce_andi_all _ _ _ _ _ h3 (ix1 o))
    b1 := fun o => real_of_bit _ (Host.reduce_andi_all _ _ _ _ _ h4 (ix1 o))
    w2 := fun o k => real_of_bit _ (Host.reduce_andi_all _ _ _ _ _ h5 (ix2 o k))
    g2 := fun o => real_of_bit _ (Host.reduce_andi_all _ _ _ _ _ h6 (ix1 o))
    b2 := fun o => real_of_bit _ (Host.reduce_andi_all _ _ _ _ _ h7 (ix1 o))
    ws := fun o k => real_of_bit _ (Host.reduce_andi_all _ _ _ _ _ h8 (ix2 o k))
    gs := fun o => real_of_bit _ (Host.reduce_andi_all _ _ _ _ _ h9 (ix1 o))
    bs := fun _ => rfl }

end Cert.Proof.Layers

end
-- ==== Proof.NearestSpec.lean ====
/-
  The nearest points of one query: the least distance, then the least of the rest, one round after another, and that this is
  what a stable sort by distance puts first.
-/
module

public import proofs.«01_k».proof.Proof.SampleSpec
public import Idealize.ShloMosaic.Lib.SortPrefix
public import Idealize.ShloMosaic.Lib.SortFacts

@[expose] public section

noncomputable section

namespace Cert.Proof.Nearest

open Idealize.ShloMosaic Cert.Proof.Sampling

/-! ## The first point of least value -/

/-- The first point of least value. -/
def low (f : Fin 8192 → EReal) : Fin 8192 := first fun p => -f p

theorem low_le (f : Fin 8192 → EReal) (q : Fin 8192) : f (low f) ≤ f q :=
  EReal.neg_le_neg_iff.mp ((isFirst_first fun p => -f p).1 q)

theorem low_first (f : Fin 8192 → EReal) (q : Fin 8192) (h : f q = f (low f)) : low f ≤ q :=
  (isFirst_first fun p => -f p).2 q (congrArg (fun a : EReal => -a) h)

/-- The least value, as a fold. -/
theorem fold_min_low (f : Fin 8192 → EReal) : (Finset.univ : Finset (Fin 8192)).fold min ⊤ f = f (low f) := by
  refine le_antisymm ?_ ?_
  · rw [Finset.fold_min_le]
    exact Or.inr ⟨low f, Finset.mem_univ _, le_rfl⟩
  · rw [Finset.le_fold_min]
    exact ⟨le_top, fun q _ => low_le f q⟩

/-- The least word among the points of least value (8192 standing for the others) is the first such point's. -/
theorem least_word_low (f : Fin 8192 → EReal) (w : Fin 8192 → BitVec 32) (hw : ∀ p, w p = if f p = f (low f) then word p else 8192#32) (b : BitVec 32)
    (hb : 8192 ≤ b.toInt) : (Finset.univ : Finset (Fin 8192)).fold IntOp.minsi b w = word (low f) := by
  refine least_word (fun p => -f p) w (fun p => ?_) b hb
  rw [hw]
  by_cases h : f p = f (low f)
  · rw [if_pos h]
    exact (if_pos (congrArg (fun a : EReal => -a) h)).symm
  · rw [if_neg h]
    exact (if_neg fun e => h (neg_injective e)).symm

/-! ## Round after round -/

/-- The values with the point `s` put out of reach. -/
def without (f : Fin 8192 → EReal) (s : Fin 8192) : Fin 8192 → EReal := fun p => if p = s then ⊤ else f p

/-- The values left after `j` rounds. -/
def rest (f : Fin 8192 → EReal) : ℕ → Fin 8192 → EReal
  | 0 => f
  | j + 1 => without (rest f j) (low (rest f j))

/-- The point round `j` takes. -/
def near (f : Fin 8192 → EReal) (j : ℕ) : Fin 8192 := low (rest f j)

theorem rest_of_not_taken (f : Fin 8192 → EReal) (p : Fin 8192) : ∀ j, (∀ i, i < j → near f i ≠ p) → rest f j p = f p
  | 0, _ => rfl
  | j + 1, h => by
    show (if p = near f j then ⊤ else rest f j p) = f p
    rw [if_neg fun e => h j (Nat.lt_succ_self j) e.symm]
    exact rest_of_not_taken f p j fun i hi => h i (hi.trans (Nat.lt_succ_self j))

theorem rest_of_taken (f : Fin 8192 → EReal) (p : Fin 8192) : ∀ j i, i < j → near f i = p → rest f j p = ⊤
  | 0, _, hi, _ => absurd hi (Nat.not_lt_zero _)
  | j + 1, i, hi, h => by
    show (if p = near f j then ⊤ else rest f j p) = ⊤
    by_cases e : p = near f j
    · rw [if_pos e]
    · rw [if_neg e]
      refine rest_of_taken f p j i ?_ h
      rcases Nat.lt_succ_iff_lt_or_eq.mp hi with g | g
      · exact g
      · exact absurd (g ▸ h).symm e

/-- Fewer than all the points leave one. -/
theorem exists_not_taken (f : Fin 8192 → EReal) (j : ℕ) (hj : j < 8192) : ∃ p, ∀ i, i < j → near f i ≠ p := by
  by_contra hc
  push Not at hc
  have hs : Function.Surjective fun i : Fin j => near f i.val := fun p => by
    obtain ⟨i, hi, e⟩ := hc p
    exact ⟨⟨i, hi⟩, e⟩
  have := Fintype.card_le_of_surjective _ hs
  rw [Fintype.card_fin, Fintype.card_fin] at this
  omega

section Finite
variable (f : Fin 8192 → EReal) (hf : ∀ p, f p ≠ ⊤)
include hf

theorem near_not_taken (j : ℕ) (hj : j < 8192) (i : ℕ) (hi : i < j) : near f i ≠ near f j := by
  intro e
  obtain ⟨p, hp⟩ := exists_not_taken f j hj
  have h1 := low_le (rest f j) p
  rw [rest_of_not_taken f p j hp] at h1
  have h2 : rest f j (low (rest f j)) = ⊤ := rest_of_taken f _ j i hi e
  rw [h2, top_le_iff] at h1
  exact hf p h1

theorem rest_near (j : ℕ) (hj : j < 8192) : rest f j (near f j) = f (near f j) :=
  rest_of_not_taken f _ j fun i hi => near_not_taken f hf j hj i hi

/-- A point not taken before round `j` is not nearer than the one round `j` takes, and if as near, not before it. -/
theorem near_least (j : ℕ) (hj : j < 8192) (p : Fin 8192) (hp : ∀ i, i < j → near f i ≠ p) :
    f (near f j) ≤ f p ∧ (f p = f (near f j) → near f j ≤ p) := by
  have h1 := low_le (rest f j) p
  have h2 := low_first (rest f j) p
  rw [show low (rest f j) = near f j from rfl, rest_of_not_taken f p j hp, rest_near f hf j hj] at h1 h2
  exact ⟨h1, h2⟩

/-- By distance, and then by position. -/
abbrev byKeyThenPosition : Fin 8192 → Fin 8192 → Bool :=
  fun k k' => decide (f k < f k') || (decide (f k = f k') && decide (k < k'))

theorem near_sorted (i : Fin 16) (h : 16 ≤ 8192) : sortedFrom (byKeyThenPosition f) (i.castLE h) = near f i.val := by
  have hB : StrictTotalBefore (byKeyThenPosition f) :=
    StrictTotalBefore.of_key_then_position (fun a b : EReal => decide (a < b)) f (fun a => by simp)
      (fun a b c h g => by
        simp only [decide_eq_true_eq] at *
        exact h.trans g)
      (fun a b => by
        simp only [decide_eq_true_eq]
        exact lt_trichotomy a b)
  have key : ∀ (j : ℕ) (hj : j < 8192) (p : Fin 8192), (∀ i, i < j → near f i ≠ p) → byKeyThenPosition f p (near f j) = false := fun j hj p hp => by
    obtain ⟨h1, h2⟩ := near_least f hf j hj p hp
    have h3 : ¬ f p < f (near f j) := not_lt.mpr h1
    by_cases e : f p = f (near f j)
    · have h4 : ¬ p < near f j := not_lt.mpr (h2 e)
      simp [h3, h4]
    · simp [h3, e]
  have hinj : ∀ i j : Fin 16, i < j → near f i.val ≠ near f j.val := fun i j hij => near_not_taken f hf j.val (by have := j.isLt; omega) i.val hij
  refine hB.sortedFrom_eq_of_prefix h (fun i => near f i.val) (fun i j e => ?_) (fun i j hij => ?_) (fun i p hp => ?_) i
  · rcases lt_trichotomy i j with g | g | g
    · exact absurd e (hinj i j g)
    · exact g
    · exact absurd e.symm (hinj j i g)
  · refine key i.val (by have := i.isLt; omega) _ fun k hk => ?_
    exact near_not_taken f hf j.val (by have := j.isLt; omega) k (hk.trans hij)
  · exact key i.val (by have := i.isLt; omega) p fun k hk => hp ⟨k, by have := i.isLt; omega⟩

end Finite

/-! ## A stable sort needs no position in its comparison -/

theorem stableSort_key (f : Fin 8192 → EReal) : ∀ l : List (Fin 8192), l.Pairwise (· < ·) →
    stableSort (fun k k' => decide (f k < f k')) l = stableSort (byKeyThenPosition f) l
  | [], _ => rfl
  | a :: l, h => by
    rw [List.pairwise_cons] at h
    unfold stableSort
    rw [stableSort_key f l h.2]
    refine insertBefore_congr _ _ a _ fun b hb => ?_
    have hab := h.1 b ((perm_stableSort _ l).mem_iff.mp hb)
    simp [not_lt.mpr hab.le]

theorem sortedFrom_of_stableSort {n : ℕ} (B B' : Fin n → Fin n → Bool) (h : stableSort B (List.finRange n) = stableSort B' (List.finRange n)) :
    sortedFrom B = sortedFrom B' := by
  funext k
  unfold sortedFrom sortPositions
  simp only [List.get_eq_getElem, h]
  rfl

theorem sortedFrom_key (f : Fin 8192 → EReal) : sortedFrom (fun k k' => decide (f k < f k')) = sortedFrom (byKeyThenPosition f) :=
  sortedFrom_of_stableSort _ _ (stableSort_key f (List.finRange 8192) (List.pairwise_lt_finRange 8192))

/-- The stable sort by distance puts first what the rounds take. -/
theorem sorted_eq_near (f : Fin 8192 → EReal) (hf : ∀ p, f p ≠ ⊤) (i : Fin 16) (h : 16 ≤ 8192) :
    sortedFrom (fun k k' => decide (f k < f k')) (i.castLE h) = near f i.val := by
  rw [sortedFrom_key]
  exact near_sorted f hf i h

end Cert.Proof.Nearest

end
-- ==== Proof.NearestKernel.lean ====
/-
  The nearest points, as the program finds them: one round's arithmetic at a query's row, and so what sixteen rounds leave in
  the output block.
-/
module

public import proofs.«01_k».proof.Proof.NearestSpec
public import proofs.«01_k».proof.Proof.Gen.NearestIdeal.Frame
public import Idealize.ShloMosaic.Lib.Pointwise
public import Idealize.ShloMosaic.Lib.Pipeline.Value
public import Idealize.ShloMosaic.PureOps.Ideal.Laws
public import Idealize.ShloMosaic.PureOps.Reduce

@[expose] public section

set_option maxRecDepth 16384

noncomputable section

namespace Cert.Proof.Nearest

open Idealize.ShloMosaic Cert.NearestIdeal Cert.NearestIdeal.Gen Cert.Proof.Sampling

/-! ## One round -/

/-- The positions along a row. -/
abbrev places : IVec S128x8192 32 := iota .tc S128x8192 32 [1] iota_S128x8192_d1_w32

/-- Each row's least value. -/
abbrev least (d : FVec Ideal S128x8192 .f32) : FVec Ideal S128x1 .f32 :=
  shapeCast S128x1 (multiReduction .minimumf [1] S128 d 0x7F800000#32 reduces_S128x8192_S128 (.inl rfl) rfl) shapeCasts_S128_S128x1

/-- The positions where a row has its least value, and 8192 elsewhere. -/
abbrev among (d : FVec Ideal S128x8192 .f32) : IVec S128x8192 32 :=
  select (cmpf .oeq d (broadcastTo S128x8192 (least d) broadcasts_S128x1_S128x8192)) places (broadcast S128x8192 8192#32)

/-- The first position of each row's least value. -/
abbrev pick (d : FVec Ideal S128x8192 .f32) : IVec S128x1 32 :=
  shapeCast S128x1 (multiReductionI .minsi [1] S128 (among d) 2147483647#32 reduces_S128x8192_S128 rfl) shapeCasts_S128_S128x1

/-- The rows with the picked position put out of reach. -/
def step (d : FVec Ideal S128x8192 .f32) : FVec Ideal S128x8192 .f32 :=
  select (cmpi .eq places (broadcastTo S128x8192 (pick d) broadcasts_S128x1_S128x8192)) (broadcast S128x8192 (Scalar.ofBits (F := Ideal) .f32 0x7F800000#32)) d

/-- What a round stores. -/
def column (d : FVec Ideal S128x8192 .f32) : IVec S1x128x1 32 := shapeCast S1x128x1 (pick d) shapeCasts_S128x1_S1x128x1

/-- Positive infinity, read. -/
theorem inf_top : Ideal.ofBits .f32 0x7F800000#32 = ⊤ := by
  simp [Ideal.ofBits, Ideal.ieee, -EReal.coe_mul]

/-- The values of one row. -/
abbrev line (d : FVec Ideal S128x8192 .f32) (i : Fin 128) : Fin 8192 → EReal := fun p => d (ix2 i p)

theorem pick_apply (d : FVec Ideal S128x8192 .f32) (i : Fin 128) (z : Fin 1) : pick d (ix2 i z) = word (low (line d i)) := by
  unfold pick among least places
  pointwise
  rw [inf_top, fold_min_low (line d i)]
  exact least_word_low (line d i) _ (fun _ => rfl) _ (by decide)

theorem step_apply (d : FVec Ideal S128x8192 .f32) (i : Fin 128) (p : Fin 8192) : step d (ix2 i p) = without (line d i) (low (line d i)) p := by
  unfold step places
  have h := pick_apply d i 0
  generalize pick d = k at h
  pointwise
  rw [h, inf_top]
  unfold without IntOp.cmpi
  by_cases e : p = low (line d i)
  · rw [if_pos e, e]
    simp [Scalar.select]
  · have : word p ≠ word (low (line d i)) := fun g => e (Fin.ext (by rw [← word_toNat p, ← word_toNat (low _), g]))
    rw [if_neg e]
    dsimp only
    rw [beq_false_of_ne this]
    rfl

theorem column_apply (d : FVec Ideal S128x8192 .f32) (i : Fin 128) : column d (ix3 0 i 0) = word (low (line d i)) := by
  have h := pick_apply d i 0
  unfold column
  generalize pick d = k at h
  pointwise
  exact h

/-! ## The rounds -/

/-- The values after `j` rounds. -/
def state (d : FVec Ideal S128x8192 .f32) : ℕ → FVec Ideal S128x8192 .f32
  | 0 => d
  | j + 1 => step (state d j)

theorem state_apply (d : FVec Ideal S128x8192 .f32) (i : Fin 128) : ∀ j : ℕ, line (state d j) i = rest (line d i) j
  | 0 => rfl
  | j + 1 => by
    have h := state_apply d i j
    funext p
    show step (state d j) (ix2 i p) = without (rest (line d i) j) (low (rest (line d i) j)) p
    rw [step_apply, h]

theorem column_state (d : FVec Ideal S128x8192 .f32) (i : Fin 128) (j : ℕ) : column (state d j) (ix3 0 i 0) = word (near (line d i) j) := by
  rw [column_apply, state_apply]
  rfl

/-! ## The payloads, round by round -/

section Rounds
variable (d : FVec Ideal S128x8192 .f32)

theorem pay8_eq : k0_pay8 (pick d) = column d := rfl
theorem pay11_eq : k0_pay11 d places (pick d) = column (step d) := rfl
theorem pay14_eq : k0_pay14 d places (pick d) = column (step (step d)) := rfl
theorem pay15_eq : k0_pay15 d places (pick d) = step (step (step d)) := rfl
theorem pay16_eq : k0_pay16 d places (pick d) = least (step (step (step d))) := rfl
theorem pay18_eq : k0_pay18 places d (least d) = column d := rfl
theorem pay21_eq : k0_pay21 places d (least d) = column (step d) := rfl
theorem pay22_eq : k0_pay22 places d (least d) = step (step d) := rfl
theorem pay23_eq : k0_pay23 places d (least d) = pick (step (step d)) := rfl
theorem pay24_eq : k0_pay24 places d (least d) = column (step (step d)) := rfl
theorem pay27_eq : k0_pay27 places d (pick d) = column (step d) := rfl
theorem pay30_eq : k0_pay30 places d (pick d) = column (step (step d)) := rfl
theorem pay31_eq : k0_pay31 places d (pick d) = step (step (step d)) := rfl
theorem pay32_eq : k0_pay32 places d (pick d) = among (step (step (step d))) := rfl
theorem pay34_eq : k0_pay34 (among d) = column d := rfl
theorem pay37_eq : k0_pay37 places d (among d) = column (step d) := rfl
theorem pay38_eq : k0_pay38 places d (among d) = step (step d) := rfl
theorem pay40_eq : k0_pay40 places d (among d) = column (step (step d)) := rfl
/-- Where the picked position is. -/
abbrev here : IVec S128x8192 1 := cmpi .eq places (broadcastTo S128x8192 (pick d) broadcasts_S128x1_S128x8192)
theorem pay41_eq : k0_pay41 places d (among d) = here (step (step d)) := rfl
theorem pay45_eq : k0_pay45 places d (here d) (k0_pay42 (F := Ideal)) = column (step d) := rfl
theorem pay48_eq : k0_pay48 places d (here d) (k0_pay42 (F := Ideal)) = column (step (step d)) := rfl
theorem pay49_eq : k0_pay49 places d (here d) (k0_pay42 (F := Ideal)) = step (step (step d)) := rfl
theorem pay50_eq : k0_pay50 places d (here d) (k0_pay42 (F := Ideal)) = pick (step (step (step d))) := rfl
theorem pay1_eq : k0_pay1 (pick d) = column d := rfl
theorem pay4_eq : k0_pay4 places d (pick d) = column (step d) := rfl
theorem pay5_eq : k0_pay5 places d (pick d) = column (step (step d)) := rfl
end Rounds

/-! ## What the region leaves -/

/-- The distances the region starts from. -/
abbrev start (x0 : Vec Ideal S1x128x2 .f32) (x1 : Vec Ideal S1x2x8192 .f32) : FVec Ideal S128x8192 .f32 :=
  k0_pay6 (View.ld x0 r0_0) (View.ld x0 r0_1) (View.ld x1 r0_2) (View.ld x1 r0_3) (View.ld x0 r0_4) (View.ld x1 r0_5)

section Out
variable (x0 : Vec Ideal S1x128x2 .f32) (x1 : Vec Ideal S1x2x8192 .f32)

theorem pay51_eq : k0_pay51 x0 x1 = places := rfl
theorem pay52_eq : k0_pay52 x0 x1 = state (start x0 x1) 0 := rfl
theorem pay53_eq : k0_pay53 x0 x1 = pick (state (start x0 x1) 0) := rfl
theorem pay54_eq : k0_pay54 x0 x1 = state (start x0 x1) 3 := by
  unfold k0_pay54
  rw [pay51_eq, pay52_eq, pay53_eq]
  exact pay15_eq _
theorem pay55_eq : k0_pay55 x0 x1 = least (state (start x0 x1) 3) := by
  unfold k0_pay55
  rw [pay51_eq, pay52_eq, pay53_eq]
  exact pay16_eq _
theorem pay56_eq : k0_pay56 x0 x1 = state (start x0 x1) 5 := by
  unfold k0_pay56
  rw [pay51_eq, pay54_eq, pay55_eq]
  exact pay22_eq _
theorem pay57_eq : k0_pay57 x0 x1 = pick (state (start x0 x1) 5) := by
  unfold k0_pay57
  rw [pay51_eq, pay54_eq, pay55_eq]
  exact pay23_eq _
theorem pay58_eq : k0_pay58 x0 x1 = state (start x0 x1) 8 := by
  unfold k0_pay58
  rw [pay51_eq, pay56_eq, pay57_eq]
  exact pay31_eq _
theorem pay59_eq : k0_pay59 x0 x1 = among (state (start x0 x1) 8) := by
  unfold k0_pay59
  rw [pay51_eq, pay56_eq, pay57_eq]
  exact pay32_eq _
theorem pay60_eq : k0_pay60 x0 x1 = state (start x0 x1) 10 := by
  unfold k0_pay60
  rw [pay51_eq, pay58_eq, pay59_eq]
  exact pay38_eq _
theorem pay61_eq : k0_pay61 x0 x1 = here (state (start x0 x1) 10) := by
  unfold k0_pay61
  rw [pay51_eq, pay58_eq, pay59_eq]
  exact pay41_eq _
theorem pay62_eq : k0_pay62 x0 x1 = k0_pay42 (F := Ideal) := rfl
theorem pay63_eq : k0_pay63 x0 x1 = state (start x0 x1) 13 := by
  unfold k0_pay63
  rw [pay51_eq, pay60_eq, pay61_eq, pay62_eq]
  exact pay49_eq _
theorem pay64_eq : k0_pay64 x0 x1 = pick (state (start x0 x1) 13) := by
  unfold k0_pay64
  rw [pay51_eq, pay60_eq, pay61_eq, pay62_eq]
  exact pay50_eq _

/-- The output block holds, in column `j`, what round `j` stores. -/
theorem out_columns : out0_2 x0 x1 = View.canon (Val := Elt Ideal) [⟨r0_21, column (state (start x0 x1) 15)⟩, ⟨r0_20, column (state (start x0 x1) 14)⟩,
    ⟨r0_19, column (state (start x0 x1) 13)⟩, ⟨r0_18, column (state (start x0 x1) 12)⟩, ⟨r0_17, column (state (start x0 x1) 11)⟩,
    ⟨r0_16, column (state (start x0 x1) 10)⟩, ⟨r0_15, column (state (start x0 x1) 9)⟩, ⟨r0_14, column (state (start x0 x1) 8)⟩,
    ⟨r0_13, column (state (start x0 x1) 7)⟩, ⟨r0_12, column (state (start x0 x1) 6)⟩, ⟨r0_11, column (state (start x0 x1) 5)⟩,
    ⟨r0_10, column (state (start x0 x1) 4)⟩, ⟨r0_9, column (state (start x0 x1) 3)⟩, ⟨r0_8, column (state (start x0 x1) 2)⟩,
    ⟨r0_7, column (state (start x0 x1) 1)⟩, ⟨r0_6, column (state (start x0 x1) 0)⟩] := by
  unfold out0_2
  rw [pay51_eq, pay52_eq, pay53_eq, pay54_eq, pay55_eq, pay56_eq, pay57_eq, pay58_eq, pay59_eq, pay60_eq, pay61_eq, pay62_eq, pay63_eq, pay64_eq]
  rw [pay8_eq, pay11_eq, pay14_eq, pay18_eq, pay21_eq, pay24_eq, pay27_eq, pay30_eq, pay34_eq, pay37_eq, pay40_eq, pay45_eq, pay48_eq, pay1_eq, pay4_eq, pay5_eq]
  rfl

/-- What the output block should hold. -/
def found : Vec Ideal S1x128x16 .i32 := fun y => word (near (line (start x0 x1) (y 1)) (y 2).val)

theorem column_at (j : ℕ) (inb : ∀ a, (![0, 0, j] : Fin 3 → ℕ) a + S1x128x1.size a ≤ S1x128x16.size a) (x : S1x128x1.Idx) :
    column (state (start x0 x1) j) x = found x0 x1 ((Rect.unit (s := S1x128x16) ![0, 0, j] S1x128x1.size inb).emb x) := by
  obtain ⟨a, i, z, rfl⟩ : ∃ (a : Fin 1) (i : Fin 128) (z : Fin 1), x = ix3 a i z := ⟨_, _, _, ValueIdx.eq_ix3 x⟩
  have ha : a = 0 := Subsingleton.elim _ _
  have hz : z = 0 := Subsingleton.elim _ _
  subst ha hz
  rw [column_state]
  have h1 : (Rect.unit (s := S1x128x16) ![0, 0, j] S1x128x1.size inb).emb (ix3 (0 : Fin 1) i (0 : Fin 1)) 1 = i :=
    Fin.ext (by show 0 + 1 * i.val = i.val; omega)
  have h2 : ((Rect.unit (s := S1x128x16) ![0, 0, j] S1x128x1.size inb).emb (ix3 (0 : Fin 1) i (0 : Fin 1)) 2).val = j := by
    show j + 1 * 0 = j
    omega
  unfold found
  rw [h1, h2]

/-- A stored column agrees with what the block should hold. -/
def Agrees (p : View.Piece (Elt Ideal) S1x128x16 .i32) : Prop := ∀ x, p.2 x = found x0 x1 (p.1.emb x)

theorem agrees (j : ℕ) (inb : ∀ a, (![0, 0, j] : Fin 3 → ℕ) a + S1x128x1.size a ≤ S1x128x16.size a) : Agrees x0 x1 ⟨Rect.unit (s := S1x128x16) ![0, 0, j] S1x128x1.size inb, column (state (start x0 x1) j)⟩ := by
  unfold Agrees
  intro x
  dsimp only at x ⊢
  exact column_at x0 x1 j inb x

theorem all_agree : ∀ p ∈ ([⟨r0_21, column (state (start x0 x1) 15)⟩, ⟨r0_20, column (state (start x0 x1) 14)⟩,
    ⟨r0_19, column (state (start x0 x1) 13)⟩, ⟨r0_18, column (state (start x0 x1) 12)⟩, ⟨r0_17, column (state (start x0 x1) 11)⟩,
    ⟨r0_16, column (state (start x0 x1) 10)⟩, ⟨r0_15, column (state (start x0 x1) 9)⟩, ⟨r0_14, column (state (start x0 x1) 8)⟩,
    ⟨r0_13, column (state (start x0 x1) 7)⟩, ⟨r0_12, column (state (start x0 x1) 6)⟩, ⟨r0_11, column (state (start x0 x1) 5)⟩,
    ⟨r0_10, column (state (start x0 x1) 4)⟩, ⟨r0_9, column (state (start x0 x1) 3)⟩, ⟨r0_8, column (state (start x0 x1) 2)⟩,
    ⟨r0_7, column (state (start x0 x1) 1)⟩, ⟨r0_6, column (state (start x0 x1) 0)⟩] : List (View.Piece (Elt Ideal) S1x128x16 .i32)), Agrees x0 x1 p := by
  generalize hs : state (start x0 x1) = s
  have h : ∀ (j : ℕ) (inb : ∀ a, (![0, 0, j] : Fin 3 → ℕ) a + S1x128x1.size a ≤ S1x128x16.size a), Agrees x0 x1 ⟨Rect.unit (s := S1x128x16) ![0, 0, j] S1x128x1.size inb, column (s j)⟩ := fun j inb => hs ▸ agrees x0 x1 j inb
  simp only [List.forall_mem_cons]
  exact ⟨h 15 _, h 14 _, h 13 _, h 12 _, h 11 _, h 10 _, h 9 _, h 8 _, h 7 _, h 6 _, h 5 _, h 4 _, h 3 _, h 2 _, h 1 _, h 0 _,
    fun p hp => absurd hp List.not_mem_nil⟩

theorem out_apply : out0_2 x0 x1 = found x0 x1 := by
  rw [out_columns]
  funext y
  exact View.canon_apply_of_pieces (found x0 x1) _ (all_agree x0 x1) y (cover0_2 _ _ _ _ _ _ _ _ _ _ _ _ _ _ _ _ y)

end Out

end Cert.Proof.Nearest

end
-- ==== Proof.NearestOut.lean ====
/-
  The result of the program that finds the nearest points, by coordinates.
-/
module

public import proofs.«01_k».proof.Proof.NearestKernel
public import Idealize.ShloMosaic.Lib.StableHlo.ReadAt
public import Idealize.ShloMosaic.Lib.StableHlo.RunRead
public import Idealize.ShloMosaic.Lib.Pipeline.ValueKit

@[expose] public section

set_option maxRecDepth 16384

noncomputable section

namespace Cert.Proof.Nearest

open Idealize.ShloMosaic Idealize.ShloMosaic.TcCoe Cert.NearestIdeal Cert.NearestIdeal.Gen Cert.Proof.Sampling
open Idealize.SL.Sem

/-- The squared distance of two points of the plane, multiplied out. -/
def apart (q0 q1 r0 r1 : EReal) : EReal := ((q0 * q0 + q1 * q1) + (r0 * r0 + r1 * r1)) - Ideal.ofBits .f32 0x40000000#32 * (q0 * r0 + q1 * r1)

/-- The distances of the points from query `i` of batch `b`. -/
def aparts (q : S4x2x1024.Idx → EReal) (r : S4x2x8192.Idx → EReal) (b : Fin 4) (i : Fin 1024) (p : Fin 8192) : EReal :=
  apart (q (ix3 b 0 i)) (q (ix3 b 1 i)) (r (ix3 b 0 p)) (r (ix3 b 1 p))

/-- The `j`-th nearest point to query `i` of batch `b`. -/
def answer (q : S4x2x1024.Idx → EReal) (r : S4x2x8192.Idx → EReal) : S4x1024x16.Idx → BitVec 32 :=
  fun y => word (near (aparts q r (y 0) (y 1)) (y 2).val)

theorem zero_bits : Ideal.ofBits .f32 0x00000000#32 = 0 := by
  simp [Ideal.ofBits, Ideal.ieee]

/-! ## A block -/

theorem start_apply (x0 : Vec Ideal S1x128x2 .f32) (x1 : Vec Ideal S1x2x8192 .f32) (i : Fin 128) (p : Fin 8192) :
    start x0 x1 (ix2 i p) = apart (x0 (ix3 0 i 0)) (x0 (ix3 0 i 1)) (x1 (ix3 0 0 p)) (x1 (ix3 0 1 p)) := by
  unfold start k0_pay6 apart
  rw [View.ld_unit, View.ld_unit, View.ld_unit, View.ld_unit, View.ld_unit, View.ld_unit]
  pointwise
  rw [Fin.sum_univ_two]

variable (m : (ℓ : Loc nD τ sig) → Buf (Elt Ideal) ℓ) (ρ : Dev nD → PrngReg)

/-- The queries at launch. -/
abbrev queries (c : Dev nD) : Vec Ideal S4x2x1024 .f32 := m ((c : Thread nD τ).loc main_arg0)

/-- The points at launch. -/
abbrev points (c : Dev nD) : Vec Ideal S4x2x8192 .f32 := m ((c : Thread nD τ).loc main_arg1)

theorem V_main_v0 (c : Dev nD) : V m c main_v0 = transpose S4x1024x2 [0, 2, 1] (queries m c) transposes_S4x2x1024_S4x1024x2_0_2_1 := by
  show StableHlo.after hostOps0 _ (Proc.devRef .tc main_v0) = _
  simp only [hostOps0, List.flatten_cons, List.flatten_nil, List.append_nil]
  after_reads_simp

/-- The batch of a grid point. -/
abbrev batch (t : Fin cfg0.N) : Fin 4 := cfg0.grid.coords t 0
/-- The tile of a grid point. -/
abbrev tile (t : Fin cfg0.N) : Fin 8 := cfg0.grid.coords t 1
/-- The query of a grid point at row `i`. -/
abbrev query (t : Fin cfg0.N) (i : Fin 128) : Fin 1024 := ⟨(tile t).val * 128 + i.val, by have := (tile t).isLt; have := i.isLt; omega⟩

theorem word_of_batch (t : Fin cfg0.N) : (BitVec.ofNat 32 (batch t).val).toNat = (batch t).val := by
  have := (batch t).isLt
  rw [BitVec.toNat_ofNat]
  omega

theorem word_of_tile (t : Fin cfg0.N) : (BitVec.ofNat 32 (tile t).val).toNat = (tile t).val := by
  have := (tile t).isLt
  rw [BitVec.toNat_ofNat]
  omega

theorem iblk0_eq (c : Dev nD) (t : Fin cfg0.N) (i : Fin 128) (e : Fin 2) : iblk m c 0 t (ix3 (0 : Fin 1) i e) = queries m c (ix3 (batch t) e (query t i)) := by
  have h : (transpose S4x1024x2 [0, 2, 1] (queries m c) transposes_S4x2x1024_S4x1024x2_0_2_1) (ix3 (batch t) (query t i) e) = queries m c (ix3 (batch t) e (query t i)) := by
    generalize batch t = b
    generalize query t i = k
    pointwise
  rw [← h]
  unfold iblk
  rw [View.read_apply]
  refine (congrArg (V m c main_v0) (funext fun a => Fin.ext ?_)).trans (congrFun (V_main_v0 m c) (ix3 (batch t) (query t i) e))
  match a with
  | 0 =>
    show (BitVec.ofNat 32 (batch t).val).toNat * 1 + 1 * 0 = (batch t).val
    rw [word_of_batch]
    omega
  | 1 =>
    show (BitVec.ofNat 32 (tile t).val).toNat * 128 + 1 * i.val = (tile t).val * 128 + i.val
    rw [word_of_tile]
    omega
  | 2 =>
    show 0 * 2 + 1 * e.val = e.val
    omega

theorem iblk1_eq (c : Dev nD) (t : Fin cfg0.N) (e : Fin 2) (p : Fin 8192) : iblk m c 1 t (ix3 (0 : Fin 1) e p) = points m c (ix3 (batch t) e p) := by
  unfold iblk
  rw [View.read_apply]
  refine (congrArg (V m c main_arg1) (funext fun a => Fin.ext ?_)).trans (congrFun (V_main_arg1 m c) (ix3 (batch t) e p))
  match a with
  | 0 =>
    show (BitVec.ofNat 32 (batch t).val).toNat * 1 + 1 * 0 = (batch t).val
    rw [word_of_batch]
    omega
  | 1 =>
    show 0 * 2 + 1 * e.val = e.val
    omega
  | 2 =>
    show 0 * 8192 + 1 * p.val = p.val
    omega

theorem line_eq (c : Dev nD) (t : Fin cfg0.N) (i : Fin 128) :
    line (start (iblk m c 0 t) (iblk m c 1 t)) i = aparts (queries m c) (points m c) (batch t) (query t i) := by
  funext p
  show start (iblk m c 0 t) (iblk m c 1 t) (ix2 i p) = _
  refine (start_apply (iblk m c 0 t) (iblk m c 1 t) i p).trans ?_
  rw [iblk0_eq, iblk0_eq, iblk1_eq, iblk1_eq]
  rfl

theorem arr_eq (c : Dev nD) : (dats m 0 c).arrAt 2 cfg0.N = answer (queries m c) (points m c) :=
  (dats m 0 c).arrAt_eq_of_covers 2 (answer (queries m c) (points m c)) (by decide +kernel) (fun t _ y => by
    rw [after0_2, out_apply]
    obtain ⟨a, i, j, rfl⟩ : ∃ (a : Fin 1) (i : Fin 128) (j : Fin 16), y = ix3 a i j := ⟨_, _, _, ValueIdx.eq_ix3 y⟩
    have ha : a = 0 := Subsingleton.elim _ _
    subst ha
    have he : ((cfg0.win 2).blk t).view.emb (ix3 (0 : Fin 1) i j) = (ix3 (batch t) (query t i) j : S4x1024x16.Idx) := funext fun a => Fin.ext (by
      match a with
      | 0 =>
        show (BitVec.ofNat 32 (batch t).val).toNat * 1 + 1 * 0 = (batch t).val
        rw [word_of_batch]
        omega
      | 1 =>
        show (BitVec.ofNat 32 (tile t).val).toNat * 128 + 1 * i.val = (tile t).val * 128 + i.val
        rw [word_of_tile]
        omega
      | 2 =>
        show 0 * 16 + 1 * j.val = j.val
        omega)
    rw [he]
    show word (near (line (start (iblk m c 0 t) (iblk m c 1 t)) i) j.val) = word (near (aparts (queries m c) (points m c) (batch t) (query t i)) j.val)
    rw [line_eq])

/-- The run, its result read. -/
theorem run_nearest : θ_run defs (onTc (τ := τ) (main (F := Ideal))) ⟨m, fun _ => 0, ρ⟩ (fun r => ∀ c : Dev nD,
    r.2.mem ((c.tc : Thread nD τ).loc main_v1) = answer (queries m c) (points m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun _ h c => ⟨((h c).1 2).trans (arr_eq m c),
    ((h c).2 main_arg0 (Pipeline.mem_restRefs_of main_arg0 (by decide) (by decide))).trans (V_main_arg0 m c),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c)⟩) (run_main m ρ)

end Cert.Proof.Nearest

end
-- ==== Proof.NearestRef.lean ====
/-
  The reference of the nearest points, by coordinates: the distances written out, and the greatest of their negatives in order.
-/
module

public import proofs.«01_k».proof.Proof.NearestOut
public import proofs.«01_k».proof.Proof.Gen.NearestReferenceIdeal.Run

@[expose] public section

set_option maxRecDepth 16384

noncomputable section

namespace Cert.Proof.Near

open Idealize.ShloMosaic Idealize.ShloMosaic.TcCoe Cert.NearestReferenceIdeal Cert.NearestReferenceIdeal.Gen
open Cert.Proof.Nearest (apart aparts answer near sorted_eq_near)
open Cert.Proof.Sampling (word)

/-- The positions of the greatest, at an index: those a stable sort puts first. -/
theorem greatest_apply (x : FVec Ideal S4x1024x8192 .f32) (b : Fin 4) (i : Fin 1024) (j : Fin 16) :
    (Host.topK S4x1024x16 2 (FloatOps.cmpfTotal .gt) x sliceFits_S4x1024x8192_S4x1024x16).2 (ix3 b i j)
      = word (sortedFrom (fun k k' : Fin 8192 => decide ((x (ix3 b i k') : EReal) < x (ix3 b i k))) (j.castLE (by decide))) := by
  have along_eq : ∀ (l k : Fin 8192), Shape.Idx.along (s := S4x1024x8192) (ix3 b i l) 2 k = ix3 b i k := fun l k => by
    funext a
    match a with
    | 0 => rfl
    | 1 => rfl
    | 2 => rfl
  have sorted : ∀ l : Fin 8192, (Shape.Idx.along (s := S4x1024x8192) (ix3 b i l) 2
        (sortedFrom (fun k k' : Fin 8192 => FloatOps.cmpfTotal .gt (x (Shape.Idx.along (s := S4x1024x8192) (ix3 b i l) 2 k))
          (x (Shape.Idx.along (s := S4x1024x8192) (ix3 b i l) 2 k')) == 1#1) l) 2)
      = sortedFrom (fun k k' : Fin 8192 => decide ((x (ix3 b i k') : EReal) < x (ix3 b i k))) l := fun l => by
    refine (Function.update_self ..).trans ?_
    refine congrArg (fun B => sortedFrom B l) (funext fun k => funext fun k' => ?_)
    rw [along_eq, along_eq]
    show (BitVec.ofBool (decide ((x (ix3 b i k') : EReal) < x (ix3 b i k))) == 1#1) = _
    by_cases h : (x (ix3 b i k') : EReal) < x (ix3 b i k)
    · simp [h]
    · simp [h]
  have at_index : ∀ y : S4x1024x8192.Idx, y = ix3 b i (j.castLE (by decide)) →
      word ((Shape.Idx.along (s := S4x1024x8192) y 2
        (sortedFrom (fun k k' : Fin 8192 => FloatOps.cmpfTotal .gt (x (Shape.Idx.along (s := S4x1024x8192) y 2 k))
          (x (Shape.Idx.along (s := S4x1024x8192) y 2 k')) == 1#1) (y 2))) 2)
      = word (sortedFrom (fun k k' : Fin 8192 => decide ((x (ix3 b i k') : EReal) < x (ix3 b i k))) (j.castLE (by decide))) := fun y hy => by
    subst hy
    exact congrArg word (sorted _)
  refine at_index _ (funext fun a => Fin.ext ?_)
  match a with
  | 0 => exact Nat.zero_add _
  | 1 => exact Nat.zero_add _
  | 2 => exact Nat.zero_add _

section Arrays
variable (q : FVec Ideal S4x2x1024 .f32) (r : FVec Ideal S4x2x8192 .f32) (k : IVec S4x1x8192 1)

/-- The queries, a row each. -/
abbrev qRows : FVec Ideal S4x1024x2 .f32 := transpose S4x1024x2 [0, 2, 1] q transposes_S4x2x1024_S4x1024x2_0_2_1
/-- The points, a row each. -/
abbrev rRows : FVec Ideal S4x8192x2 .f32 := transpose S4x8192x2 [0, 2, 1] r transposes_S4x2x8192_S4x8192x2_0_2_1
/-- The queries' squared lengths. -/
abbrev qSquares : FVec Ideal S4x1024 .f32 := Host.reduceAdd (mulf (qRows q) (qRows q)) (constant S_ .f32 0x00000000#32) reducesTo_S4x1024x2_S4x1024_d2 h_S_
/-- The points' squared lengths. -/
abbrev rSquares : FVec Ideal S4x8192 .f32 := Host.reduceAdd (mulf (rRows r) (rRows r)) (constant S_ .f32 0x00000000#32) reducesTo_S4x8192x2_S4x8192_d2 h_S_
/-- The products of queries and points. -/
abbrev products : FVec Ideal S4x1024x8192 .f32 := Host.dotGeneral dot_S4x1024x2_S4x8192x2_S4x1024x8192_2_2_1_1_0_0 none (qRows q) (rRows r)
/-- The squared distances. -/
abbrev squares : FVec Ideal S4x1024x8192 .f32 :=
  subf (addf (broadcastInDim S4x1024x8192 ![0, 1, 2] bcast_S4x1024x1_S4x1024x8192_0_1_2 (broadcastInDim S4x1024x1 ![0, 1] bcast_S4x1024_S4x1024x1_0_1 (qSquares q)))
      (broadcastInDim S4x1024x8192 ![0, 1, 2] bcast_S4x1x8192_S4x1024x8192_0_1_2 (broadcastInDim S4x1x8192 ![0, 2] bcast_S4x8192_S4x1x8192_0_2 (rSquares r))))
    (mulf (broadcastInDim S4x1024x8192 ![] bcast_S_S4x1024x8192 (constant S_ .f32 0x40000000#32)) (products q r))
/-- Which points count. -/
abbrev counts : IVec S4x1024x8192 1 :=
  broadcastInDim S4x1024x8192 ![0, 1, 2] bcast_S4x1x8192_S4x1024x8192_0_1_2 (broadcastInDim S4x1x8192 ![0, 2] bcast_S4x8192_S4x1x8192_0_2 (shapeCast S4x8192 k shapeCasts_S4x1x8192_S4x8192))
/-- The negated squared distances of the points that count. -/
abbrev negated : FVec Ideal S4x1024x8192 .f32 :=
  Host.negf (select (counts k) (squares q r) (broadcastInDim S4x1024x8192 ![] bcast_S_S4x1024x8192 (id (constant S_ .f32 0x7F800000#32))))
/-- The positions of the greatest. -/
abbrev top : IVec S4x1024x16 32 := (Host.topK S4x1024x16 2 (FloatOps.cmpfTotal .gt) (negated q r k) sliceFits_S4x1024x8192_S4x1024x16).2

theorem qSquares_apply (b : Fin 4) (i : Fin 1024) : qSquares q (ix2 b i) = q (ix3 b 0 i) * q (ix3 b 0 i) + q (ix3 b 1 i) * q (ix3 b 1 i) := by
  pointwise
  rw [Fin.sum_univ_two]

theorem rSquares_apply (b : Fin 4) (p : Fin 8192) : rSquares r (ix2 b p) = r (ix3 b 0 p) * r (ix3 b 0 p) + r (ix3 b 1 p) * r (ix3 b 1 p) := by
  pointwise
  rw [Fin.sum_univ_two]

theorem products_apply (b : Fin 4) (i : Fin 1024) (p : Fin 8192) :
    products q r (ix3 b i p) = q (ix3 b 0 i) * r (ix3 b 0 p) + q (ix3 b 1 i) * r (ix3 b 1 p) := by
  pointwise
  rw [Fin.sum_univ_two]

theorem squares_apply (b : Fin 4) (i : Fin 1024) (p : Fin 8192) : squares q r (ix3 b i p) = aparts q r b i p := by
  have h1 := qSquares_apply q b i
  have h2 := rSquares_apply r b p
  have h3 := products_apply q r b i p
  unfold squares aparts apart
  generalize qSquares q = x at *
  generalize rSquares r = y at *
  generalize products q r = z at *
  pointwise
  rw [h1, h2, h3]

theorem negated_apply (hk : ∀ j, k j = 1#1) (b : Fin 4) (i : Fin 1024) (p : Fin 8192) : negated q r k (ix3 b i p) = -aparts q r b i p := by
  have h := squares_apply q r b i p
  unfold negated counts
  generalize squares q r = x at *
  pointwise
  rw [hk, h]
  rfl

theorem top_apply (hk : ∀ j, k j = 1#1) (hf : ∀ b i p, aparts q r b i p ≠ ⊤) (b : Fin 4) (i : Fin 1024) (j : Fin 16) :
    top q r k (ix3 b i j) = answer q r (ix3 b i j) := by
  have hn : negated q r k = fun y => -aparts q r (y 0) (y 1) (y 2) := funext fun y => by
    rw [show y = ix3 (y 0) (y 1) (y 2) from ValueIdx.eq_ix3 y]
    exact negated_apply q r k hk (y 0) (y 1) (y 2)
  unfold top
  rw [hn, greatest_apply]
  have hs := sorted_eq_near (aparts q r b i) (hf b i) j (by decide)
  unfold answer
  show word _ = word (near (aparts q r b i) j.val)
  rw [← hs]
  refine congrArg (fun B => word (sortedFrom B (j.castLE (by decide)))) (funext fun k => funext fun k' => ?_)
  exact decide_eq_decide.mpr EReal.neg_lt_neg_iff

theorem top_eq (hk : ∀ j, k j = 1#1) (hf : ∀ b i p, aparts q r b i p ≠ ⊤) : top q r k = answer q r := funext fun y => by
  rw [show y = ix3 (y 0) (y 1) (y 2) from ValueIdx.eq_ix3 y]
  exact top_apply q r k hk hf (y 0) (y 1) (y 2)

end Arrays

open Idealize.SL.Sem in
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_indices) = top (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.NearestReferenceIdeal.Value.run (F := Ideal) m ρ

end Cert.Proof.Near

end
-- ==== Proof.NearestFinite.lean ====
/-
  The precondition of the nearest points, decoded: where its bit is one the coordinates are reals and every point counts, so no
  distance is infinite.
-/
module

public import proofs.«01_k».proof.Proof.NearestOut
public import proofs.«01_k».proof.Proof.LayersFinite
public import proofs.«01_k».proof.Proof.Named
public import proofs.«01_k».proof.Proof.Gen.Pre_finite_points

@[expose] public section

noncomputable section

namespace Cert.Proof.Nearest

open Idealize.ShloMosaic Cert.Pre_finite_points Cert.Pre_finite_points.Gen
open Cert.Proof.Layers (real_of_bit)

/-- The word for two. -/
theorem two_word : Ideal.ofBits .f32 0x40000000#32 = ((2 : ℝ) : EReal) := by
  simp [Ideal.ofBits, Ideal.ieee, -EReal.coe_mul]
  norm_num

theorem apart_real (a b c d : ℝ) : apart a b c d ≠ ⊤ := by
  unfold apart
  rw [two_word]
  simp only [← EReal.coe_mul, ← EReal.coe_add, ← EReal.coe_sub]
  exact EReal.coe_ne_top _

theorem apart_finite {a b c d : EReal} (ha : a = ((EReal.toReal a : ℝ) : EReal)) (hb : b = ((EReal.toReal b : ℝ) : EReal))
    (hc : c = ((EReal.toReal c : ℝ) : EReal)) (hd : d = ((EReal.toReal d : ℝ) : EReal)) : apart a b c d ≠ ⊤ := by
  rw [ha, hb, hc, hd]
  exact apart_real _ _ _ _

theorem aparts_of_fn (q : FVec Ideal S4x2x1024 .f32) (r : FVec Ideal S4x2x8192 .f32) (k : IVec S4x1x8192 1)
    (h : fn (F := Ideal) q r k = fun _ => 1#1) : (∀ b i p, aparts q r b i p ≠ ⊤) ∧ ∀ j, k j = 1#1 := by
  haveI : Subsingleton S_.Idx := ⟨fun a b => funext fun i => i.elim0⟩
  have h0 := congrFun h (fun i => i.elim0)
  unfold fn at h0
  obtain ⟨h0, h2⟩ := Along.and_one _ _ h0
  obtain ⟨h0, h1⟩ := Along.and_one _ _ h0
  have hq : ∀ j, q j = ((EReal.toReal (q j) : ℝ) : EReal) := fun j => real_of_bit _ (Host.reduce_andi_all _ _ _ _ _ h0 j)
  have hr : ∀ j, r j = ((EReal.toReal (r j) : ℝ) : EReal) := fun j => real_of_bit _ (Host.reduce_andi_all _ _ _ _ _ h1 j)
  refine ⟨fun b i p => ?_, fun j => Host.reduce_andi_all _ _ _ _ _ h2 j⟩
  unfold aparts
  exact apart_finite (hq _) (hq _) (hr _) (hr _)

end Cert.Proof.Nearest

end
-- ==== Proof.lean ====
/-
  The claims about the gather of the point-cloud layer: the program and its idealization run and leave their arguments alone, the
  reference does, and the two programs' results are equal where every index names a point. And the same claims about the choice of
  its points: there the results are equal where every point counts. And the same about its layers: there the results are equal where
  no value is infinite. And the same about its search for the nearest points: there the results are equal where every point counts
  and no coordinate is infinite.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_rows_named
public import proofs.«01_k».proof.Proof.Gen.Pre_all_points
public import proofs.«01_k».proof.Proof.Gen.Sample
public import proofs.«01_k».proof.Proof.Gen.SampleIdeal
public import proofs.«01_k».proof.Proof.Gen.SampleIdeal.Frame
public import proofs.«01_k».proof.Proof.Gen.Sample.Frame
public import proofs.«01_k».proof.Proof.Gen.SampleReferenceIdeal
public import proofs.«01_k».proof.Proof.Gen.Layers
public import proofs.«01_k».proof.Proof.Gen.Layers.Frame
public import proofs.«01_k».proof.Proof.Gen.LayersIdeal
public import proofs.«01_k».proof.Proof.Gen.LayersIdeal.Frame
public import proofs.«01_k».proof.Proof.Gen.LayersReferenceIdeal
public import proofs.«01_k».proof.Proof.Gen.LayersReferenceIdeal.Run
public import proofs.«01_k».proof.Proof.Gen.Pre_finite_values
public import proofs.«01_k».proof.Proof.Gen.Nearest
public import proofs.«01_k».proof.Proof.Gen.Nearest.Frame
public import proofs.«01_k».proof.Proof.Gen.NearestIdeal
public import proofs.«01_k».proof.Proof.Gen.NearestIdeal.Frame
public import proofs.«01_k».proof.Proof.Gen.NearestReferenceIdeal
public import proofs.«01_k».proof.Proof.Gen.NearestReferenceIdeal.Run
public import proofs.«01_k».proof.Proof.Gen.Pre_finite_points
public import proofs.«01_k».proof.Proof.Read
public import proofs.«01_k».proof.Proof.Ref
public import proofs.«01_k».proof.Proof.Named
public import proofs.«01_k».proof.Proof.SampleOut
public import proofs.«01_k».proof.Proof.SampleRef
public import proofs.«01_k».proof.Proof.LayersRun
public import proofs.«01_k».proof.Proof.LayersRef
public import proofs.«01_k».proof.Proof.LayersFinite
public import proofs.«01_k».proof.Proof.NearestRef
public import proofs.«01_k».proof.Proof.NearestFinite
public import Idealize.ShloMosaic.Lib.Quiescent
public import Idealize.ShloMosaic.Adequacy
public import Idealize.ShloMosaic.Init

@[expose] public section

noncomputable section

namespace Cert.Proof

open Idealize.ShloMosaic Idealize.SL.Sem

section Ideal

open Cert.KernelIdeal

theorem named_ideal (m : (ℓ : Loc nD τ sig) → Buf (Elt Ideal) ℓ) (h : Cert.Pre_KernelIdeal m) (d : Dev nD) : Gather.Named m d :=
  have e := Along.named_of_fn _ _ _ (h d)
  ⟨fun _ _ => e.1 _, fun _ _ _ => e.2 _⟩

/-- Every array of the device is among those whose last contents the run gives. -/
theorem read {F : FTy → Type} [FloatOps F] {m : (ℓ : Loc nD τ sig) → Buf (Elt F) ℓ} {r : PUnit × MemSt nD τ sig (Elt F)} (h : Gather.QC m r) (c : Dev nD)
    (b : Ref sig .tc) (hb : Proc.tc.devRef (τ := τ) b ∈ Pipeline.ucRefs τ sig) :
    r.2.mem ((c.tc : Thread nD τ).loc b) = Gather.V₃ m c (Proc.tc.devRef b) := h.1 c _ hb

theorem args {F : FTy → Type} [FloatOps F] {m : (ℓ : Loc nD τ sig) → Buf (Elt F) ℓ} {r : PUnit × MemSt nD τ sig (Elt F)} (h : Gather.QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(read h c main_arg0 (by decide)).trans (Gather.V₃_arg0 m c), (read h c main_arg1 (by decide)).trans (Gather.V₃_arg1 m c),
    (read h c main_arg2 (by decide)).trans (Gather.V₃_arg2 m c)⟩

theorem frame_ideal : Cert.quiescent_KernelIdeal := fun m ρ hpre =>
  (θ_run Cert.KernelIdeal.defs _ _).mono (fun _ h => ⟨fun c => args h c, h.2⟩)
    (Gather.run_main (F := Ideal) m ρ (Gather.inRows_idx m (named_ideal m hpre)))

end Ideal

theorem frame_reference : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Along.run (F := Ideal) m ρ)

/-- The neighbours' rows, equal. -/
theorem rows_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) (h : Gather.Named m c)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Along.take16384 (F := Ideal) (m' ((c.tc : Thread Cert.ReferenceIdeal.nD Cert.ReferenceIdeal.τ).loc Cert.ReferenceIdeal.main_arg0)) (Along.nWords m' c)
      = Gather.V₃ m c (Proc.tc.devRef Cert.KernelIdeal.main_v18) := by
  have hW : ∀ (b : Fin 4) (r : Fin 16384) (z : Fin 1), (Along.nWords m' c : Cert.ReferenceIdeal.S4x16384x1.Idx → BitVec 32) (ValueIdx.ix3 b r z)
      = Gather.nix m c (ValueIdx.ix3 b ⟨r.val / 16, by omega⟩ ⟨r.val % 16, Nat.mod_lt _ (by decide)⟩) := fun b r z =>
    (Along.nWords_apply m' c b ⟨r.val / 16, by omega⟩ ⟨r.val % 16, Nat.mod_lt _ (by decide)⟩ r (by simp only; omega) z).trans (congrFun e2 _)
  have hB : ∀ j, ((Along.nWords m' c : Cert.ReferenceIdeal.S4x16384x1.Idx → BitVec 32) j).toNat < 8192 := fun j =>
    lt_of_eq_of_lt (congrArg BitVec.toNat ((congrArg (Along.nWords m' c) (ValueIdx.eq_ix3 j)).trans (hW (j 0) (j 1) (j 2)))) (h.2 _ _ _)
  funext j
  rw [show j = ValueIdx.ix2 (j 0) (j 1) from ValueIdx.eq_ix2 j]
  have hj : (j 0).val < 65536 := (j 0).isLt
  refine (Along.take16384_apply _ _ hB ⟨(j 0).val / 16384, by omega⟩ ⟨(j 0).val % 16384, Nat.mod_lt _ (by decide)⟩ (j 1) (j 0) (by simp only; omega)).trans ?_
  refine Eq.trans ?_ (Gather.out_neighbour m c h ⟨(j 0).val / 16384, by omega⟩ ⟨(j 0).val % 16384 / 16, by omega⟩ ⟨(j 0).val % 16384 % 16, Nat.mod_lt _ (by decide)⟩ (j 1) (j 0)
    (by simp only; omega)).symm
  refine (congrFun e0 _).trans ?_
  congr 2
  exact Fin.ext (congrArg BitVec.toNat (hW _ _ _))

/-- The centroids' rows, equal. -/
theorem centroids_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) (h : Gather.Named m c)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Along.take1024 (F := Ideal) (m' ((c.tc : Thread Cert.ReferenceIdeal.nD Cert.ReferenceIdeal.τ).loc Cert.ReferenceIdeal.main_arg0)) (Along.cWords m' c)
      = Gather.V₃ m c (Proc.tc.devRef Cert.KernelIdeal.main_v19) := by
  have hW : ∀ (b : Fin 4) (q : Fin 1024) (z : Fin 1), (Along.cWords m' c : Cert.ReferenceIdeal.S4x1024x1.Idx → BitVec 32) (ValueIdx.ix3 b q z)
      = Gather.cix m c (ValueIdx.ix2 b q) := fun b q z => (Along.cWords_apply m' c b q z).trans (congrFun e1 _)
  have hB : ∀ j, ((Along.cWords m' c : Cert.ReferenceIdeal.S4x1024x1.Idx → BitVec 32) j).toNat < 8192 := fun j =>
    lt_of_eq_of_lt (congrArg BitVec.toNat ((congrArg (Along.cWords m' c) (ValueIdx.eq_ix3 j)).trans (hW (j 0) (j 1) (j 2)))) (h.1 _ _)
  funext j
  rw [show j = ValueIdx.ix2 (j 0) (j 1) from ValueIdx.eq_ix2 j]
  have hj : (j 0).val < 4096 := (j 0).isLt
  refine (Along.take1024_apply _ _ hB ⟨(j 0).val / 1024, by omega⟩ ⟨(j 0).val % 1024, Nat.mod_lt _ (by decide)⟩ (j 1) (j 0) (by simp only; omega)).trans ?_
  refine Eq.trans ?_ (Gather.out_centroid m c h ⟨(j 0).val / 1024, by omega⟩ ⟨(j 0).val % 1024, Nat.mod_lt _ (by decide)⟩ (j 1) (j 0) (by simp only; omega)).symm
  refine (congrFun e0 _).trans ?_
  congr 2
  exact Fin.ext (congrArg BitVec.toNat (hW _ _ _))

theorem algebraic : Cert.algebraic_KernelIdeal_ReferenceIdeal := by
  intro m ρ m' ρ' hpre hag
  refine ⟨fun c => Gather.V₃ m c (Proc.tc.devRef Cert.KernelIdeal.main_v18), fun c => Gather.V₃ m c (Proc.tc.devRef Cert.KernelIdeal.main_v19), ?_, ?_⟩
  · exact (θ_run Cert.KernelIdeal.defs _ _).mono (fun _ h c => ⟨read h c _ (by decide), read h c _ (by decide), args h c⟩)
      (Gather.run_main (F := Ideal) m ρ (Gather.inRows_idx m (named_ideal m hpre)))
  · exact (θ_run Cert.ReferenceIdeal.defs _ _).mono
      (fun _ h c => ⟨(h c).1.trans (rows_eq m m' c (named_ideal m hpre c) (hag c).1 (hag c).2.2),
        (h c).2.1.trans (centroids_eq m m' c (named_ideal m hpre c) (hag c).1 (hag c).2.1), (h c).2.2⟩)
      (Along.run (F := Ideal) m' ρ')

theorem frame_kernel : Cert.quiescent_Kernel := fun m ρ hpre =>
  (θ_run Cert.KernelIdeal.defs _ _).mono (fun _ h => ⟨fun c => args (F := Bits) h c, h.2⟩)
    (Gather.run_main (F := Bits) m ρ (Gather.inRows_idx m fun d =>
      have e := Along.named_of_fn _ _ _ (hpre d)
      ⟨fun _ _ => e.1 _, fun _ _ _ => e.2 _⟩))

/-! ## The choice of the points -/

theorem frame_sample_reference : Cert.quiescent_SampleReferenceIdeal := fun m ρ _ =>
  (θ_run Cert.SampleReferenceIdeal.defs _ _).mono (fun r h => ⟨fun c => (h c).2.2.2, Idealize.ShloMosaic.sem_eq_zero_of_no_sems (by decide) r.2⟩)
    (Cert.SampleReferenceIdeal.Trip.run (F := Ideal) m ρ)

theorem mask_of_fn (x : FVec Ideal Cert.Pre_all_points.S4x2x8192 .f32) (k : IVec Cert.Pre_all_points.S4x1x8192 1)
    (h : Cert.Pre_all_points.fn (F := Ideal) x k = fun _ => 1#1) (j : Cert.Pre_all_points.S4x1x8192.Idx) : k j = 1#1 := by
  haveI : Subsingleton Cert.Pre_all_points.S_.Idx := ⟨fun a b => funext fun i => i.elim0⟩
  have h0 := congrFun h (fun i => i.elim0)
  unfold Cert.Pre_all_points.fn at h0
  exact Host.reduce_andi_all _ _ _ _ _ h0 j

/-- The points chosen, the same. -/
theorem sample_indices (m : (ℓ : Loc Cert.SampleIdeal.nD Cert.SampleIdeal.τ Cert.SampleIdeal.sig) → Buf (Elt Ideal) ℓ)
    (m' : (ℓ : Loc Cert.SampleReferenceIdeal.nD Cert.SampleReferenceIdeal.τ Cert.SampleReferenceIdeal.sig) → Buf (Elt Ideal) ℓ) (c : Dev Cert.SampleIdeal.nD)
    (e0 : Sampled.coords m' c = Sampling.points m c) (hm : ∀ j, Sampled.mask m' c j = 1#1) :
    Sampled.idxs (Sampled.atRound m' c 1024) = (Sampling.ended m c).2.1 := by
  funext j
  rw [show j = ValueIdx.ix2 (j 0) (j 1) from ValueIdx.eq_ix2 j]
  refine (Sampled.idxs_end m' c hm (j 0) (j 1)).trans ?_
  refine Eq.trans ?_ (Sampling.ended_idx m c (j 0) (j 1)).symm
  unfold Sampled.chosenAt
  rw [e0]
  rfl

/-- Their coordinates, the same. -/
theorem sample_coordinates (m : (ℓ : Loc Cert.SampleIdeal.nD Cert.SampleIdeal.τ Cert.SampleIdeal.sig) → Buf (Elt Ideal) ℓ)
    (m' : (ℓ : Loc Cert.SampleReferenceIdeal.nD Cert.SampleReferenceIdeal.τ Cert.SampleReferenceIdeal.sig) → Buf (Elt Ideal) ℓ) (c : Dev Cert.SampleIdeal.nD)
    (e0 : Sampled.coords m' c = Sampling.points m c) (hm : ∀ j, Sampled.mask m' c j = 1#1) :
    Cert.SampleReferenceIdeal.Trip.out_main_v7 (Sampled.atRound m' c 1024) = Sampling.stacked (Sampling.ended m c).2.2.1 (Sampling.ended m c).2.2.2 := by
  funext j
  rw [show j = ValueIdx.ix3 (j 0) (j 1) (j 2) from ValueIdx.eq_ix3 j]
  refine (Sampled.v7_end m' c hm (j 0) (j 1) (j 2)).trans ?_
  refine Eq.trans ?_ (Sampling.ended_stacked m c (j 0) (j 1) (j 2)).symm
  unfold Sampled.chosenAt
  rw [e0]
  rfl

theorem algebraic_sample : Cert.algebraic_SampleIdeal_SampleReferenceIdeal_pre_all_points := by
  intro m ρ m' ρ' hpre hag
  have e0 : ∀ c, Sampled.coords m' c = Sampling.points m c := fun c => (hag c).1
  have hm : ∀ c j, Sampled.mask m' c j = 1#1 := fun c j => (congrFun (hag c).2 j).trans (mask_of_fn _ _ (hpre c) j)
  refine ⟨fun c => (Sampling.ended m c).2.1, fun c => Sampling.stacked (Sampling.ended m c).2.2.1 (Sampling.ended m c).2.2.2,
    fun _ => broadcastInDim Cert.SampleIdeal.S4x1x1024 ![] Cert.SampleIdeal.Gen.bcast_S_S4x1x1024 (constantI Cert.SampleIdeal.S_ 1 1#1), ?_, ?_⟩
  · exact Sampling.run_sample m ρ
  · exact (θ_run Cert.SampleReferenceIdeal.defs _ _).mono
      (fun _ h c => ⟨(h c).1.trans (sample_indices m m' c (e0 c) (hm c)), (h c).2.1.trans (sample_coordinates m m' c (e0 c) (hm c)), (h c).2.2.1, (h c).2.2.2⟩)
      (Cert.SampleReferenceIdeal.Trip.run (F := Ideal) m' ρ')

/-! ## The layers -/

theorem frame_layers_reference : Cert.quiescent_LayersReferenceIdeal := fun m ρ _ =>
  (θ_run Cert.LayersReferenceIdeal.defs _ _).mono (fun r h => ⟨fun c => (h c).2, Idealize.ShloMosaic.sem_eq_zero_of_no_sems (by decide) r.2⟩)
    (Cert.LayersReferenceIdeal.Value.run (F := Ideal) m ρ)

/-- The layers' result, by coordinates. -/
def layered (v : Layers.Values) : FVec Ideal Cert.LayersIdeal.S4x64x1024 .f32 := fun j => Layers.result v (j 1) (1024 * (j 0).val + (j 2).val)

/-- The values the program is given. -/
def layersGiven (m : (ℓ : Loc Cert.LayersIdeal.nD Cert.LayersIdeal.τ Cert.LayersIdeal.sig) → Buf (Elt Ideal) ℓ) (c : Dev Cert.LayersIdeal.nD) : Layers.Values :=
  Layers.valuesOf (m ((c.tc : Thread Cert.LayersIdeal.nD Cert.LayersIdeal.τ).loc Cert.LayersIdeal.main_arg0))
    (m ((c.tc : Thread Cert.LayersIdeal.nD Cert.LayersIdeal.τ).loc Cert.LayersIdeal.main_arg1))
    (m ((c.tc : Thread Cert.LayersIdeal.nD Cert.LayersIdeal.τ).loc Cert.LayersIdeal.main_arg2))
    (m ((c.tc : Thread Cert.LayersIdeal.nD Cert.LayersIdeal.τ).loc Cert.LayersIdeal.main_arg3))
    (m ((c.tc : Thread Cert.LayersIdeal.nD Cert.LayersIdeal.τ).loc Cert.LayersIdeal.main_arg4))
    (m ((c.tc : Thread Cert.LayersIdeal.nD Cert.LayersIdeal.τ).loc Cert.LayersIdeal.main_arg5))
    (m ((c.tc : Thread Cert.LayersIdeal.nD Cert.LayersIdeal.τ).loc Cert.LayersIdeal.main_arg6))
    (m ((c.tc : Thread Cert.LayersIdeal.nD Cert.LayersIdeal.τ).loc Cert.LayersIdeal.main_arg7))
    (m ((c.tc : Thread Cert.LayersIdeal.nD Cert.LayersIdeal.τ).loc Cert.LayersIdeal.main_arg8))
    (m ((c.tc : Thread Cert.LayersIdeal.nD Cert.LayersIdeal.τ).loc Cert.LayersIdeal.main_arg9))
    (m ((c.tc : Thread Cert.LayersIdeal.nD Cert.LayersIdeal.τ).loc Cert.LayersIdeal.main_arg10))

/-- The program ends with it. -/
theorem layers_left (m : (ℓ : Loc Cert.LayersIdeal.nD Cert.LayersIdeal.τ Cert.LayersIdeal.sig) → Buf (Elt Ideal) ℓ) (ρ : Dev Cert.LayersIdeal.nD → PrngReg)
    (hpre : Cert.Pre_LayersIdeal_finite_values m) (c : Dev Cert.LayersIdeal.nD) :
    Cert.LayersIdeal.Gen.W7 m ρ c (Proc.devRef .tc Cert.LayersIdeal.main_v58) = layered (layersGiven m c) := by
  funext j
  rw [show j = ValueIdx.ix3 (j 0) (j 1) (j 2) from ValueIdx.eq_ix3 j]
  exact Layers.w7_v58 m ρ c (layersGiven m c) (Layers.holds_of_fn _ _ _ _ _ _ _ _ _ _ _ (hpre c)) (j 0) (j 1) (j 2)

/-- So does the reference. -/
theorem layers_right (m : (ℓ : Loc Cert.LayersIdeal.nD Cert.LayersIdeal.τ Cert.LayersIdeal.sig) → Buf (Elt Ideal) ℓ)
    (hpre : Cert.Pre_LayersIdeal_finite_values m) (c : Dev Cert.LayersIdeal.nD)
    (V0 : Valuation Cert.LayersReferenceIdeal.τ Cert.LayersReferenceIdeal.sig (Elt Ideal))
    (e0 : V0 (Proc.devRef .tc Cert.LayersReferenceIdeal.main_arg0) = m ((c.tc : Thread Cert.LayersIdeal.nD Cert.LayersIdeal.τ).loc Cert.LayersIdeal.main_arg0))
    (e1 : V0 (Proc.devRef .tc Cert.LayersReferenceIdeal.main_arg1) = m ((c.tc : Thread Cert.LayersIdeal.nD Cert.LayersIdeal.τ).loc Cert.LayersIdeal.main_arg1))
    (e2 : V0 (Proc.devRef .tc Cert.LayersReferenceIdeal.main_arg2) = m ((c.tc : Thread Cert.LayersIdeal.nD Cert.LayersIdeal.τ).loc Cert.LayersIdeal.main_arg2))
    (e3 : V0 (Proc.devRef .tc Cert.LayersReferenceIdeal.main_arg3) = m ((c.tc : Thread Cert.LayersIdeal.nD Cert.LayersIdeal.τ).loc Cert.LayersIdeal.main_arg3))
    (e4 : V0 (Proc.devRef .tc Cert.LayersReferenceIdeal.main_arg4) = m ((c.tc : Thread Cert.LayersIdeal.nD Cert.LayersIdeal.τ).loc Cert.LayersIdeal.main_arg4))
    (e5 : V0 (Proc.devRef .tc Cert.LayersReferenceIdeal.main_arg5) = m ((c.tc : Thread Cert.LayersIdeal.nD Cert.LayersIdeal.τ).loc Cert.LayersIdeal.main_arg5))
    (e6 : V0 (Proc.devRef .tc Cert.LayersReferenceIdeal.main_arg6) = m ((c.tc : Thread Cert.LayersIdeal.nD Cert.LayersIdeal.τ).loc Cert.LayersIdeal.main_arg6))
    (e7 : V0 (Proc.devRef .tc Cert.LayersReferenceIdeal.main_arg7) = m ((c.tc : Thread Cert.LayersIdeal.nD Cert.LayersIdeal.τ).loc Cert.LayersIdeal.main_arg7))
    (e8 : V0 (Proc.devRef .tc Cert.LayersReferenceIdeal.main_arg8) = m ((c.tc : Thread Cert.LayersIdeal.nD Cert.LayersIdeal.τ).loc Cert.LayersIdeal.main_arg8))
    (e9 : V0 (Proc.devRef .tc Cert.LayersReferenceIdeal.main_arg9) = m ((c.tc : Thread Cert.LayersIdeal.nD Cert.LayersIdeal.τ).loc Cert.LayersIdeal.main_arg9))
    (e10 : V0 (Proc.devRef .tc Cert.LayersReferenceIdeal.main_arg10) = m ((c.tc : Thread Cert.LayersIdeal.nD Cert.LayersIdeal.τ).loc Cert.LayersIdeal.main_arg10)) :
    Layered.final (Cert.LayersReferenceIdeal.Value.res_main_v49 V0) (Layered.norm3 (Cert.LayersReferenceIdeal.Value.res_main_v54 V0)
        (V0 (Proc.devRef .tc Cert.LayersReferenceIdeal.main_arg9)) (V0 (Proc.devRef .tc Cert.LayersReferenceIdeal.main_arg10)))
      = layered (layersGiven m c) := by
  have h := Layers.holds_of_fn _ _ _ _ _ _ _ _ _ _ _ (hpre c)
  rw [← e0, ← e1, ← e2, ← e3, ← e4, ← e5, ← e6, ← e7, ← e8, ← e9, ← e10] at h
  funext j
  rw [show j = ValueIdx.ix3 (j 0) (j 1) (j 2) from ValueIdx.eq_ix3 j]
  refine (Layered.final_apply V0 _ h (j 0) (j 1) (j 2)).trans ?_
  unfold layered layersGiven
  rw [← e0, ← e1, ← e2, ← e3, ← e4, ← e5, ← e6, ← e7, ← e8, ← e9, ← e10]

theorem algebraic_layers : Cert.algebraic_LayersIdeal_LayersReferenceIdeal_pre_finite_values := by
  intro m ρ m' ρ' hpre hag
  refine ⟨fun c => layered (layersGiven m c), ?_, ?_⟩
  · exact (θ_run Cert.LayersIdeal.defs _ _).mono (fun _ h c => ⟨(h c).1.trans (layers_left m ρ hpre c), (h c).2⟩) (Cert.LayersRun.run (F := Ideal) m ρ)
  · exact (θ_run Cert.LayersReferenceIdeal.defs _ _).mono
      (fun _ h c => by
        obtain ⟨e0, e1, e2, e3, e4, e5, e6, e7, e8, e9, e10⟩ := hag c
        exact ⟨(h c).1.trans (layers_right m hpre c (StableHlo.launchContents m' c) e0 e1 e2 e3 e4 e5 e6 e7 e8 e9 e10), (h c).2⟩)
      (Layered.run m' ρ')

/-! ## The search for the nearest points -/

theorem frame_nearest_reference : Cert.quiescent_NearestReferenceIdeal := fun m ρ _ =>
  (θ_run Cert.NearestReferenceIdeal.defs _ _).mono (fun r h => ⟨fun c => (h c).2, Idealize.ShloMosaic.sem_eq_zero_of_no_sems (by decide) r.2⟩)
    (Near.run m ρ)

/-- The points found, the same. -/
theorem nearest_right (q q' : FVec Ideal Cert.Pre_finite_points.S4x2x1024 .f32) (r r' : FVec Ideal Cert.Pre_finite_points.S4x2x8192 .f32)
    (k k' : IVec Cert.Pre_finite_points.S4x1x8192 1) (h : Cert.Pre_finite_points.fn (F := Ideal) q r k = fun _ => 1#1)
    (e0 : q' = q) (e1 : r' = r) (e2 : k' = k) : Near.top q' r' k' = Nearest.answer q r := by
  subst e0 e1 e2
  have hh := Nearest.aparts_of_fn _ _ _ h
  exact Near.top_eq _ _ _ hh.2 hh.1

theorem algebraic_nearest : Cert.algebraic_NearestIdeal_NearestReferenceIdeal_pre_finite_points := by
  intro m ρ m' ρ' hpre hag
  refine ⟨fun c => Nearest.answer (Nearest.queries m c) (Nearest.points m c), ?_, ?_⟩
  · exact Nearest.run_nearest m ρ
  · exact (θ_run Cert.NearestReferenceIdeal.defs _ _).mono
      (fun _ h c => ⟨(h c).1.trans (nearest_right _ _ _ _ _ _ (hpre c) (hag c).1 (hag c).2.1 (hag c).2.2), (h c).2⟩)
      (Near.run m' ρ')

theorem claim : Cert.Claim := ⟨Cert.Kernel.Gen.facts, Cert.KernelIdeal.Gen.facts, Cert.ReferenceIdeal.Gen.facts, Cert.Sample.Gen.facts,
  Cert.SampleIdeal.Gen.facts, Cert.SampleReferenceIdeal.Gen.facts, Cert.Layers.Gen.facts, Cert.LayersIdeal.Gen.facts, Cert.LayersReferenceIdeal.Gen.facts,
  Cert.Nearest.Gen.facts, Cert.NearestIdeal.Gen.facts, Cert.NearestReferenceIdeal.Gen.facts,
  Cert.Pre_rows_named.Gen.facts, Cert.Pre_all_points.Gen.facts, Cert.Pre_finite_values.Gen.facts, Cert.Pre_finite_points.Gen.facts,
  frame_kernel, frame_ideal, frame_reference, fun m ρ _ => frame_reference m ρ trivial,
  fun m ρ _ => Cert.Sample.Gen.frame m ρ, fun m ρ _ => Cert.SampleIdeal.Gen.frame m ρ, fun m ρ _ => Cert.SampleIdeal.Gen.frame m ρ,
  frame_sample_reference, fun m ρ _ => frame_sample_reference m ρ trivial,
  fun m ρ _ => Cert.Layers.Gen.frame m ρ, fun m ρ _ => Cert.LayersIdeal.Gen.frame m ρ, fun m ρ _ => Cert.LayersIdeal.Gen.frame m ρ,
  frame_layers_reference, fun m ρ _ => frame_layers_reference m ρ trivial,
  fun m ρ _ => Cert.Nearest.Gen.frame m ρ, fun m ρ _ => Cert.NearestIdeal.Gen.frame m ρ, fun m ρ _ => Cert.NearestIdeal.Gen.frame m ρ,
  frame_nearest_reference, fun m ρ _ => frame_nearest_reference m ρ trivial,
  trivial, algebraic, trivial, algebraic_sample, trivial, algebraic_layers, trivial, algebraic_nearest⟩

end Cert.Proof

end
